-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v745)) (v1 : (c : Dev Cert.KernelIdeal.nD) → Buf (Elt Ideal) ((c.tc : Thread Cert.KernelIdeal.nD Cert.KernelIdeal.τ).loc Cert.KernelIdeal.main_v746)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v745) = v0 c
          ∧ r.2.mem ((c.tc : Thread Cert.KernelIdeal.nD Cert.KernelIdeal.τ).loc Cert.KernelIdeal.main_v746) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_v258) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x20480x36x128 : Shape := ⟨4, ![2, 20480, 36, 128]⟩
abbrev S2x20480x18x128 : Shape := ⟨4, ![2, 20480, 18, 128]⟩
abbrev S2x36 : Shape := ⟨2, ![2, 36]⟩
abbrev S2x18 : Shape := ⟨2, ![2, 18]⟩
abbrev S36 : Shape := ⟨1, ![36]⟩
abbrev S_ : Shape := ⟨0, ![]⟩
abbrev S36x1 : Shape := ⟨2, ![36, 1]⟩
abbrev S2x36x20480x128 : Shape := ⟨4, ![2, 36, 20480, 128]⟩
abbrev S2x18x20480x128 : Shape := ⟨4, ![2, 18, 20480, 128]⟩
abbrev S2x18x2x20480x128 : Shape := ⟨5, ![2, 18, 2, 20480, 128]⟩
abbrev S2x36x10x2048x1x128 : Shape := ⟨6, ![2, 36, 10, 2048, 1, 128]⟩
abbrev S2x36x10x2048x128 : Shape := ⟨5, ![2, 36, 10, 2048, 128]⟩
abbrev S720x2048x128 : Shape := ⟨3, ![720, 2048, 128]⟩
abbrev S72x1 : Shape := ⟨2, ![72, 1]⟩
abbrev S72x10x1 : Shape := ⟨3, ![72, 10, 1]⟩
abbrev S720x1 : Shape := ⟨2, ![720, 1]⟩
abbrev S720x2048x1 : Shape := ⟨3, ![720, 2048, 1]⟩
abbrev S1x2048x128 : Shape := ⟨3, ![1, 2048, 128]⟩
abbrev S1x2048x1 : Shape := ⟨3, ![1, 2048, 1]⟩
abbrev S1x1 : Shape := ⟨2, ![1, 1]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩
abbrev S2048x128 : Shape := ⟨2, ![2048, 128]⟩
abbrev S256x2048 : Shape := ⟨2, ![256, 2048]⟩
abbrev S720x2048 : Shape := ⟨2, ![720, 2048]⟩
abbrev S2x36x10x2048x1 : Shape := ⟨5, ![2, 36, 10, 2048, 1]⟩
abbrev S1 : Shape := ⟨1, ![1]⟩
abbrev S1x36x1x1x1 : Shape := ⟨5, ![1, 36, 1, 1, 1]⟩
abbrev S2x36x20480 : Shape := ⟨3, ![2, 36, 20480]⟩
abbrev S1x36x1x1x1x1 : Shape := ⟨6, ![1, 36, 1, 1, 1, 1]⟩
abbrev S2x36x18432x128 : Shape := ⟨4, ![2, 36, 18432, 128]⟩
abbrev S2x36x3x2048x3x128 : Shape := ⟨6, ![2, 36, 3, 2048, 3, 128]⟩
abbrev S2x36x3x2048x1x128 : Shape := ⟨6, ![2, 36, 3, 2048, 1, 128]⟩
abbrev S2x36x3x2048x128 : Shape := ⟨5, ![2, 36, 3, 2048, 128]⟩
abbrev S216x2048x128 : Shape := ⟨3, ![216, 2048, 128]⟩
abbrev S72x3x1 : Shape := ⟨3, ![72, 3, 1]⟩
abbrev S216x1 : Shape := ⟨2, ![216, 1]⟩
abbrev S216x2048x1 : Shape := ⟨3, ![216, 2048, 1]⟩
abbrev S216x2048 : Shape := ⟨2, ![216, 2048]⟩
abbrev S2x36x3x2048x1 : Shape := ⟨5, ![2, 36, 3, 2048, 1]⟩
abbrev S3 : Shape := ⟨1, ![3]⟩
abbrev S1x3 : Shape := ⟨2, ![1, 3]⟩
abbrev S36x3 : Shape := ⟨2, ![36, 3]⟩
abbrev S1x36x1x1x3 : Shape := ⟨5, ![1, 36, 1, 1, 3]⟩
abbrev S2x36x3x2048x3 : Shape := ⟨5, ![2, 36, 3, 2048, 3]⟩
abbrev S2x36x18432 : Shape := ⟨3, ![2, 36, 18432]⟩
abbrev S1x36x1x1x3x1 : Shape := ⟨6, ![1, 36, 1, 1, 3, 1]⟩
abbrev S2x36x2048x128 : Shape := ⟨4, ![2, 36, 2048, 128]⟩
abbrev S2x36x2049x128 : Shape := ⟨4, ![2, 36, 2049, 128]⟩
abbrev S2x36x1x683x3x128 : Shape := ⟨6, ![2, 36, 1, 683, 3, 128]⟩
abbrev S2x36x1x683x1x128 : Shape := ⟨6, ![2, 36, 1, 683, 1, 128]⟩
abbrev S2x36x1x683x128 : Shape := ⟨5, ![2, 36, 1, 683, 128]⟩
abbrev S2x36x1x704x128 : Shape := ⟨5, ![2, 36, 1, 704, 128]⟩
abbrev S72x704x128 : Shape := ⟨3, ![72, 704, 128]⟩
abbrev S72x1x1 : Shape := ⟨3, ![72, 1, 1]⟩
abbrev S72x704x1 : Shape := ⟨3, ![72, 704, 1]⟩
abbrev S1x704x128 : Shape := ⟨3, ![1, 704, 128]⟩
abbrev S1x704x1 : Shape := ⟨3, ![1, 704, 1]⟩
abbrev S1x192x128 : Shape := ⟨3, ![1, 192, 128]⟩
abbrev S192x128 : Shape := ⟨2, ![192, 128]⟩
abbrev S704x128 : Shape := ⟨2, ![704, 128]⟩
abbrev S192x704 : Shape := ⟨2, ![192, 704]⟩
abbrev S192 : Shape := ⟨1, ![192]⟩
abbrev S192x1 : Shape := ⟨2, ![192, 1]⟩
abbrev S1x192x1 : Shape := ⟨3, ![1, 192, 1]⟩
abbrev S72x704 : Shape := ⟨2, ![72, 704]⟩
abbrev S72x683x128 : Shape := ⟨3, ![72, 683, 128]⟩
abbrev S72x683 : Shape := ⟨2, ![72, 683]⟩
abbrev S2x36x1x683x1 : Shape := ⟨5, ![2, 36, 1, 683, 1]⟩
abbrev S2x36x1x683x3 : Shape := ⟨5, ![2, 36, 1, 683, 3]⟩
abbrev S2x36x2049 : Shape := ⟨3, ![2, 36, 2049]⟩
abbrev S2x36x2048 : Shape := ⟨3, ![2, 36, 2048]⟩
abbrev S2x36x1x2048x9x128 : Shape := ⟨6, ![2, 36, 1, 2048, 9, 128]⟩
abbrev S2x36x1x2048x1x128 : Shape := ⟨6, ![2, 36, 1, 2048, 1, 128]⟩
abbrev S2x36x1x2048x128 : Shape := ⟨5, ![2, 36, 1, 2048, 128]⟩
abbrev S72x2048x128 : Shape := ⟨3, ![72, 2048, 128]⟩
abbrev S72x2048x1 : Shape := ⟨3, ![72, 2048, 1]⟩
abbrev S72x2048 : Shape := ⟨2, ![72, 2048]⟩
abbrev S2x36x1x2048x1 : Shape := ⟨5, ![2, 36, 1, 2048, 1]⟩
abbrev S9 : Shape := ⟨1, ![9]⟩
abbrev S1x9 : Shape := ⟨2, ![1, 9]⟩
abbrev S36x9 : Shape := ⟨2, ![36, 9]⟩
abbrev S1x36x1x1x9 : Shape := ⟨5, ![1, 36, 1, 1, 9]⟩
abbrev S2x36x1x2048x9 : Shape := ⟨5, ![2, 36, 1, 2048, 9]⟩
abbrev S1x36x1x1x9x1 : Shape := ⟨6, ![1, 36, 1, 1, 9, 1]⟩
abbrev S2x36x2052x128 : Shape := ⟨4, ![2, 36, 2052, 128]⟩
abbrev S2x36x1x228x9x128 : Shape := ⟨6, ![2, 36, 1, 228, 9, 128]⟩
abbrev S2x36x1x228x1x128 : Shape := ⟨6, ![2, 36, 1, 228, 1, 128]⟩
abbrev S2x36x1x228x128 : Shape := ⟨5, ![2, 36, 1, 228, 128]⟩
abbrev S2x36x1x256x128 : Shape := ⟨5, ![2, 36, 1, 256, 128]⟩
abbrev S72x256x128 : Shape := ⟨3, ![72, 256, 128]⟩
abbrev S72x256x1 : Shape := ⟨3, ![72, 256, 1]⟩
abbrev S72x256 : Shape := ⟨2, ![72, 256]⟩
abbrev S72x228x128 : Shape := ⟨3, ![72, 228, 128]⟩
abbrev S72x228 : Shape := ⟨2, ![72, 228]⟩
abbrev S2x36x1x228x1 : Shape := ⟨5, ![2, 36, 1, 228, 1]⟩
abbrev S2x36x1x228x9 : Shape := ⟨5, ![2, 36, 1, 228, 9]⟩
abbrev S2x36x2052 : Shape := ⟨3, ![2, 36, 2052]⟩
abbrev S1x2x36x20480 : Shape := ⟨4, ![1, 2, 36, 20480]⟩
abbrev S3x2x36x20480 : Shape := ⟨4, ![3, 2, 36, 20480]⟩
abbrev S2x36x20480x1 : Shape := ⟨4, ![2, 36, 20480, 1]⟩
abbrev S2x20480x4608 : Shape := ⟨3, ![2, 20480, 4608]⟩
abbrev S2x20480x36 : Shape := ⟨3, ![2, 20480, 36]⟩

abbrev nBuf : Space → Nat
  | .hbm => 2349
  | .vmem => 50
  | .smem => 10
  | _ => 0

abbrev hbmTy0_0 (i : Nat) : BufTy := match i % 128 with
  | 0 => ⟨S2x20480x36x128, .fp8e4m3⟩
  | 1 => ⟨S2x20480x18x128, .fp8e4m3⟩
  | 2 => ⟨S2x20480x18x128, .fp8e4m3⟩
  | 3 => ⟨S2x36, .f32⟩
  | 4 => ⟨S2x18, .f32⟩
  | 5 => ⟨S2x18, .f32⟩
  | 6 => ⟨S36, .i32⟩
  | 7 => ⟨S_, .i32⟩
  | 8 => ⟨S_, .i32⟩
  | 9 => ⟨S36, .i32⟩
  | 10 => ⟨S36, .i32⟩
  | 11 => ⟨S36, .i32⟩
  | 12 => ⟨S_, .i32⟩
  | 13 => ⟨S36, .i32⟩
  | 14 => ⟨S36, .i1⟩
  | 15 => ⟨S36, .i32⟩
  | 16 => ⟨S36, .i32⟩
  | 17 => ⟨S_, .i32⟩
  | 18 => ⟨S36, .i32⟩
  | 19 => ⟨S36, .i1⟩
  | 20 => ⟨S36, .i1⟩
  | 21 => ⟨S_, .i32⟩
  | 22 => ⟨S36, .i32⟩
  | 23 => ⟨S36, .i32⟩
  | 24 => ⟨S36, .i32⟩
  | 25 => ⟨S_, .i32⟩
  | 26 => ⟨S36, .i32⟩
  | 27 => ⟨S36, .i1⟩
  | 28 => ⟨S_, .i32⟩
  | 29 => ⟨S36, .i32⟩
  | 30 => ⟨S36, .i32⟩
  | 31 => ⟨S36, .i32⟩
  | 32 => ⟨S36x1, .i32⟩
  | 33 => ⟨S2x36, .f32⟩
  | 34 => ⟨S2x36, .f32⟩
  | 35 => ⟨S_, .f32⟩
  | 36 => ⟨S2x36, .f32⟩
  | 37 => ⟨S2x36, .f32⟩
  | 38 => ⟨S_, .i32⟩
  | 39 => ⟨S36, .i32⟩
  | 40 => ⟨S36, .i1⟩
  | 41 => ⟨S_, .i32⟩
  | 42 => ⟨S36, .i32⟩
  | 43 => ⟨S36, .i32⟩
  | 44 => ⟨S36, .i32⟩
  | 45 => ⟨S36x1, .i32⟩
  | 46 => ⟨S2x36, .f32⟩
  | 47 => ⟨S2x36x20480x128, .fp8e4m3⟩
  | 48 => ⟨S2x18x20480x128, .fp8e4m3⟩
  | 49 => ⟨S2x18x2x20480x128, .fp8e4m3⟩
  | 50 => ⟨S2x36x20480x128, .fp8e4m3⟩
  | 51 => ⟨S2x18x20480x128, .fp8e4m3⟩
  | 52 => ⟨S2x18x2x20480x128, .fp8e4m3⟩
  | 53 => ⟨S2x36x20480x128, .fp8e4m3⟩
  | 54 => ⟨S36, .i32⟩
  | 55 => ⟨S_, .i8⟩
  | 56 => ⟨S_, .fp8e4m3⟩
  | 57 => ⟨S2x36x20480x128, .fp8e4m3⟩
  | 58 => ⟨S2x36x10x2048x1x128, .fp8e4m3⟩
  | 59 => ⟨S2x36x10x2048x128, .fp8e4m3⟩
  | 60 => ⟨S_, .i8⟩
  | 61 => ⟨S_, .fp8e4m3⟩
  | 62 => ⟨S2x36x10x2048x128, .fp8e4m3⟩
  | 63 => ⟨S720x2048x128, .fp8e4m3⟩
  | 64 => ⟨S_, .i8⟩
  | 65 => ⟨S_, .fp8e4m3⟩
  | 66 => ⟨S2x36x20480x128, .fp8e4m3⟩
  | 67 => ⟨S2x36x10x2048x1x128, .fp8e4m3⟩
  | 68 => ⟨S2x36x10x2048x128, .fp8e4m3⟩
  | 69 => ⟨S_, .i8⟩
  | 70 => ⟨S_, .fp8e4m3⟩
  | 71 => ⟨S2x36x10x2048x128, .fp8e4m3⟩
  | 72 => ⟨S720x2048x128, .fp8e4m3⟩
  | 73 => ⟨S_, .i8⟩
  | 74 => ⟨S_, .fp8e4m3⟩
  | 75 => ⟨S2x36x20480x128, .fp8e4m3⟩
  | 76 => ⟨S2x36x10x2048x1x128, .fp8e4m3⟩
  | 77 => ⟨S2x36x10x2048x128, .fp8e4m3⟩
  | 78 => ⟨S_, .i8⟩
  | 79 => ⟨S_, .fp8e4m3⟩
  | 80 => ⟨S2x36x10x2048x128, .fp8e4m3⟩
  | 81 => ⟨S720x2048x128, .fp8e4m3⟩
  | 82 => ⟨S72x1, .f32⟩
  | 83 => ⟨S72x10x1, .f32⟩
  | 84 => ⟨S720x1, .f32⟩
  | 85 => ⟨S72x1, .f32⟩
  | 86 => ⟨S72x10x1, .f32⟩
  | 87 => ⟨S720x1, .f32⟩
  | 88 => ⟨S720x2048x128, .f32⟩
  | 89 => ⟨S720x2048x1, .f32⟩
  | 90 => ⟨S720x2048, .f32⟩
  | 91 => ⟨S2x36x10x2048x1x128, .f32⟩
  | 92 => ⟨S2x36x10x2048x1, .f32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S36, .i32⟩
  | 100 => ⟨S36, .i32⟩
  | 101 => ⟨S_, .i32⟩
  | 102 => ⟨S36, .i32⟩
  | 103 => ⟨S36, .i1⟩
  | 104 => ⟨S_, .i32⟩
  | 105 => ⟨S36, .i32⟩
  | 106 => ⟨S36, .i1⟩
  | 107 => ⟨S_, .i32⟩
  | 108 => ⟨S_, .i1⟩
  | 109 => ⟨S36, .i1⟩
  | 110 => ⟨S36, .i1⟩
  | 111 => ⟨S36, .i1⟩
  | 112 => ⟨S36, .i32⟩
  | 113 => ⟨S36, .i32⟩
  | 114 => ⟨S36, .i32⟩
  | 115 => ⟨S36x1, .i32⟩
  | 116 => ⟨S1, .i32⟩
  | 117 => ⟨S1x1, .i32⟩
  | 118 => ⟨S36x1, .i32⟩
  | 119 => ⟨S36x1, .i1⟩
  | 120 => ⟨S1x36x1x1x1, .i1⟩
  | 121 => ⟨S_, .f32⟩
  | 122 => ⟨S_, .f32⟩
  | 123 => ⟨S2x36x10x2048x1, .i1⟩
  | 124 => ⟨S2x36x10x2048x1, .f32⟩
  | 125 => ⟨S2x36x10x2048x1, .f32⟩
  | 126 => ⟨S2x36x20480, .f32⟩
  | 127 => ⟨S1x36x1x1x1x1, .i1⟩
  | _ => ⟨S2x20480x36x128, .fp8e4m3⟩

abbrev hbmTy0_1 (i : Nat) : BufTy := match i % 128 with
  | 0 => ⟨S_, .f32⟩
  | 1 => ⟨S_, .f32⟩
  | 2 => ⟨S2x36x10x2048x1x128, .i1⟩
  | 3 => ⟨S2x36x10x2048x1x128, .f32⟩
  | 4 => ⟨S2x36x10x2048x1x128, .f32⟩
  | 5 => ⟨S2x36x20480x128, .f32⟩
  | 6 => ⟨S36, .i32⟩
  | 7 => ⟨S2x36x18432x128, .fp8e4m3⟩
  | 8 => ⟨S_, .i8⟩
  | 9 => ⟨S_, .fp8e4m3⟩
  | 10 => ⟨S2x36x18432x128, .fp8e4m3⟩
  | 11 => ⟨S2x36x3x2048x3x128, .fp8e4m3⟩
  | 12 => ⟨S2x36x3x2048x1x128, .fp8e4m3⟩
  | 13 => ⟨S2x36x3x2048x128, .fp8e4m3⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S36, .i32⟩
  | 21 => ⟨S36, .i32⟩
  | 22 => ⟨S_, .i32⟩
  | 23 => ⟨S36, .i32⟩
  | 24 => ⟨S36, .i1⟩
  | 25 => ⟨S_, .i32⟩
  | 26 => ⟨S36, .i32⟩
  | 27 => ⟨S36, .i1⟩
  | 28 => ⟨S_, .i32⟩
  | 29 => ⟨S_, .i1⟩
  | 30 => ⟨S36, .i1⟩
  | 31 => ⟨S36, .i1⟩
  | 32 => ⟨S36, .i1⟩
  | 33 => ⟨S36, .i32⟩
  | 34 => ⟨S36, .i32⟩
  | 35 => ⟨S36, .i32⟩
  | 36 => ⟨S_, .i32⟩
  | 37 => ⟨S36, .i32⟩
  | 38 => ⟨S36, .i1⟩
  | 39 => ⟨S1x36x1x1x1, .i1⟩
  | 40 => ⟨S2x36x3x2048x1x128, .fp8e4m3⟩
  | 41 => ⟨S2x36x3x2048x128, .fp8e4m3⟩
  | 42 => ⟨S2x36x3x2048x128, .i1⟩
  | 43 => ⟨S2x36x3x2048x128, .fp8e4m3⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S36, .i32⟩
  | 51 => ⟨S36, .i32⟩
  | 52 => ⟨S_, .i32⟩
  | 53 => ⟨S36, .i32⟩
  | 54 => ⟨S36, .i1⟩
  | 55 => ⟨S_, .i32⟩
  | 56 => ⟨S36, .i32⟩
  | 57 => ⟨S36, .i1⟩
  | 58 => ⟨S_, .i32⟩
  | 59 => ⟨S_, .i1⟩
  | 60 => ⟨S36, .i1⟩
  | 61 => ⟨S36, .i1⟩
  | 62 => ⟨S36, .i1⟩
  | 63 => ⟨S36, .i32⟩
  | 64 => ⟨S36, .i32⟩
  | 65 => ⟨S36, .i32⟩
  | 66 => ⟨S_, .i32⟩
  | 67 => ⟨S36, .i32⟩
  | 68 => ⟨S36, .i1⟩
  | 69 => ⟨S1x36x1x1x1, .i1⟩
  | 70 => ⟨S2x36x3x2048x1x128, .fp8e4m3⟩
  | 71 => ⟨S2x36x3x2048x128, .fp8e4m3⟩
  | 72 => ⟨S2x36x3x2048x128, .i1⟩
  | 73 => ⟨S2x36x3x2048x128, .fp8e4m3⟩
  | 74 => ⟨S_, .i8⟩
  | 75 => ⟨S_, .fp8e4m3⟩
  | 76 => ⟨S2x36x3x2048x128, .fp8e4m3⟩
  | 77 => ⟨S216x2048x128, .fp8e4m3⟩
  | 78 => ⟨S2x36x18432x128, .fp8e4m3⟩
  | 79 => ⟨S_, .i8⟩
  | 80 => ⟨S_, .fp8e4m3⟩
  | 81 => ⟨S2x36x18432x128, .fp8e4m3⟩
  | 82 => ⟨S2x36x3x2048x3x128, .fp8e4m3⟩
  | 83 => ⟨S2x36x3x2048x1x128, .fp8e4m3⟩
  | 84 => ⟨S2x36x3x2048x128, .fp8e4m3⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S36, .i32⟩
  | 92 => ⟨S36, .i32⟩
  | 93 => ⟨S_, .i32⟩
  | 94 => ⟨S36, .i32⟩
  | 95 => ⟨S36, .i1⟩
  | 96 => ⟨S_, .i32⟩
  | 97 => ⟨S36, .i32⟩
  | 98 => ⟨S36, .i1⟩
  | 99 => ⟨S_, .i32⟩
  | 100 => ⟨S_, .i1⟩
  | 101 => ⟨S36, .i1⟩
  | 102 => ⟨S36, .i1⟩
  | 103 => ⟨S36, .i1⟩
  | 104 => ⟨S36, .i32⟩
  | 105 => ⟨S36, .i32⟩
  | 106 => ⟨S36, .i32⟩
  | 107 => ⟨S_, .i32⟩
  | 108 => ⟨S36, .i32⟩
  | 109 => ⟨S36, .i1⟩
  | 110 => ⟨S1x36x1x1x1, .i1⟩
  | 111 => ⟨S2x36x3x2048x1x128, .fp8e4m3⟩
  | 112 => ⟨S2x36x3x2048x128, .fp8e4m3⟩
  | 113 => ⟨S2x36x3x2048x128, .i1⟩
  | 114 => ⟨S2x36x3x2048x128, .fp8e4m3⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S36, .i32⟩
  | 122 => ⟨S36, .i32⟩
  | 123 => ⟨S_, .i32⟩
  | 124 => ⟨S36, .i32⟩
  | 125 => ⟨S36, .i1⟩
  | 126 => ⟨S_, .i32⟩
  | 127 => ⟨S36, .i32⟩
  | _ => ⟨S2x20480x36x128, .fp8e4m3⟩

abbrev hbmTy0_2 (i : Nat) : BufTy := match i % 128 with
  | 0 => ⟨S36, .i1⟩
  | 1 => ⟨S_, .i32⟩
  | 2 => ⟨S_, .i1⟩
  | 3 => ⟨S36, .i1⟩
  | 4 => ⟨S36, .i1⟩
  | 5 => ⟨S36, .i1⟩
  | 6 => ⟨S36, .i32⟩
  | 7 => ⟨S36, .i32⟩
  | 8 => ⟨S36, .i32⟩
  | 9 => ⟨S_, .i32⟩
  | 10 => ⟨S36, .i32⟩
  | 11 => ⟨S36, .i1⟩
  | 12 => ⟨S1x36x1x1x1, .i1⟩
  | 13 => ⟨S2x36x3x2048x1x128, .fp8e4m3⟩
  | 14 => ⟨S2x36x3x2048x128, .fp8e4m3⟩
  | 15 => ⟨S2x36x3x2048x128, .i1⟩
  | 16 => ⟨S2x36x3x2048x128, .fp8e4m3⟩
  | 17 => ⟨S_, .i8⟩
  | 18 => ⟨S_, .fp8e4m3⟩
  | 19 => ⟨S2x36x3x2048x128, .fp8e4m3⟩
  | 20 => ⟨S216x2048x128, .fp8e4m3⟩
  | 21 => ⟨S2x36x18432x128, .fp8e4m3⟩
  | 22 => ⟨S_, .i8⟩
  | 23 => ⟨S_, .fp8e4m3⟩
  | 24 => ⟨S2x36x18432x128, .fp8e4m3⟩
  | 25 => ⟨S2x36x3x2048x3x128, .fp8e4m3⟩
  | 26 => ⟨S2x36x3x2048x1x128, .fp8e4m3⟩
  | 27 => ⟨S2x36x3x2048x128, .fp8e4m3⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S36, .i32⟩
  | 35 => ⟨S36, .i32⟩
  | 36 => ⟨S_, .i32⟩
  | 37 => ⟨S36, .i32⟩
  | 38 => ⟨S36, .i1⟩
  | 39 => ⟨S_, .i32⟩
  | 40 => ⟨S36, .i32⟩
  | 41 => ⟨S36, .i1⟩
  | 42 => ⟨S_, .i32⟩
  | 43 => ⟨S_, .i1⟩
  | 44 => ⟨S36, .i1⟩
  | 45 => ⟨S36, .i1⟩
  | 46 => ⟨S36, .i1⟩
  | 47 => ⟨S36, .i32⟩
  | 48 => ⟨S36, .i32⟩
  | 49 => ⟨S36, .i32⟩
  | 50 => ⟨S_, .i32⟩
  | 51 => ⟨S36, .i32⟩
  | 52 => ⟨S36, .i1⟩
  | 53 => ⟨S1x36x1x1x1, .i1⟩
  | 54 => ⟨S2x36x3x2048x1x128, .fp8e4m3⟩
  | 55 => ⟨S2x36x3x2048x128, .fp8e4m3⟩
  | 56 => ⟨S2x36x3x2048x128, .i1⟩
  | 57 => ⟨S2x36x3x2048x128, .fp8e4m3⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S36, .i32⟩
  | 65 => ⟨S36, .i32⟩
  | 66 => ⟨S_, .i32⟩
  | 67 => ⟨S36, .i32⟩
  | 68 => ⟨S36, .i1⟩
  | 69 => ⟨S_, .i32⟩
  | 70 => ⟨S36, .i32⟩
  | 71 => ⟨S36, .i1⟩
  | 72 => ⟨S_, .i32⟩
  | 73 => ⟨S_, .i1⟩
  | 74 => ⟨S36, .i1⟩
  | 75 => ⟨S36, .i1⟩
  | 76 => ⟨S36, .i1⟩
  | 77 => ⟨S36, .i32⟩
  | 78 => ⟨S36, .i32⟩
  | 79 => ⟨S36, .i32⟩
  | 80 => ⟨S_, .i32⟩
  | 81 => ⟨S36, .i32⟩
  | 82 => ⟨S36, .i1⟩
  | 83 => ⟨S1x36x1x1x1, .i1⟩
  | 84 => ⟨S2x36x3x2048x1x128, .fp8e4m3⟩
  | 85 => ⟨S2x36x3x2048x128, .fp8e4m3⟩
  | 86 => ⟨S2x36x3x2048x128, .i1⟩
  | 87 => ⟨S2x36x3x2048x128, .fp8e4m3⟩
  | 88 => ⟨S_, .i8⟩
  | 89 => ⟨S_, .fp8e4m3⟩
  | 90 => ⟨S2x36x3x2048x128, .fp8e4m3⟩
  | 91 => ⟨S216x2048x128, .fp8e4m3⟩
  | 92 => ⟨S72x1, .f32⟩
  | 93 => ⟨S72x3x1, .f32⟩
  | 94 => ⟨S216x1, .f32⟩
  | 95 => ⟨S72x1, .f32⟩
  | 96 => ⟨S72x3x1, .f32⟩
  | 97 => ⟨S216x1, .f32⟩
  | 98 => ⟨S216x2048x128, .f32⟩
  | 99 => ⟨S216x2048x1, .f32⟩
  | 100 => ⟨S216x2048, .f32⟩
  | 101 => ⟨S2x36x3x2048x1x128, .f32⟩
  | 102 => ⟨S2x36x3x2048x1, .f32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S36, .i32⟩
  | 110 => ⟨S36, .i32⟩
  | 111 => ⟨S_, .i32⟩
  | 112 => ⟨S36, .i32⟩
  | 113 => ⟨S36, .i1⟩
  | 114 => ⟨S_, .i32⟩
  | 115 => ⟨S36, .i32⟩
  | 116 => ⟨S36, .i1⟩
  | 117 => ⟨S_, .i32⟩
  | 118 => ⟨S_, .i1⟩
  | 119 => ⟨S36, .i1⟩
  | 120 => ⟨S36, .i1⟩
  | 121 => ⟨S36, .i1⟩
  | 122 => ⟨S36, .i32⟩
  | 123 => ⟨S36, .i32⟩
  | 124 => ⟨S36, .i32⟩
  | 125 => ⟨S36x1, .i32⟩
  | 126 => ⟨S3, .i32⟩
  | 127 => ⟨S1x3, .i32⟩
  | _ => ⟨S2x20480x36x128, .fp8e4m3⟩

abbrev hbmTy0_3 (i : Nat) : BufTy := match i % 128 with
  | 0 => ⟨S36x3, .i32⟩
  | 1 => ⟨S36x3, .i32⟩
  | 2 => ⟨S36x3, .i1⟩
  | 3 => ⟨S1x36x1x1x3, .i1⟩
  | 4 => ⟨S_, .f32⟩
  | 5 => ⟨S_, .f32⟩
  | 6 => ⟨S2x36x3x2048x3, .i1⟩
  | 7 => ⟨S2x36x3x2048x3, .f32⟩
  | 8 => ⟨S2x36x3x2048x3, .f32⟩
  | 9 => ⟨S2x36x3x2048x3, .f32⟩
  | 10 => ⟨S2x36x18432, .f32⟩
  | 11 => ⟨S1x36x1x1x3x1, .i1⟩
  | 12 => ⟨S_, .f32⟩
  | 13 => ⟨S_, .f32⟩
  | 14 => ⟨S2x36x3x2048x3x128, .i1⟩
  | 15 => ⟨S2x36x3x2048x3x128, .f32⟩
  | 16 => ⟨S2x36x3x2048x3x128, .f32⟩
  | 17 => ⟨S2x36x3x2048x3x128, .f32⟩
  | 18 => ⟨S2x36x18432x128, .f32⟩
  | 19 => ⟨S2x36x2048x128, .fp8e4m3⟩
  | 20 => ⟨S_, .i8⟩
  | 21 => ⟨S_, .fp8e4m3⟩
  | 22 => ⟨S2x36x2049x128, .fp8e4m3⟩
  | 23 => ⟨S2x36x1x683x3x128, .fp8e4m3⟩
  | 24 => ⟨S2x36x1x683x1x128, .fp8e4m3⟩
  | 25 => ⟨S2x36x1x683x128, .fp8e4m3⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S36, .i32⟩
  | 33 => ⟨S36, .i32⟩
  | 34 => ⟨S_, .i32⟩
  | 35 => ⟨S36, .i32⟩
  | 36 => ⟨S36, .i1⟩
  | 37 => ⟨S_, .i32⟩
  | 38 => ⟨S36, .i32⟩
  | 39 => ⟨S36, .i1⟩
  | 40 => ⟨S_, .i32⟩
  | 41 => ⟨S_, .i1⟩
  | 42 => ⟨S36, .i1⟩
  | 43 => ⟨S36, .i1⟩
  | 44 => ⟨S36, .i1⟩
  | 45 => ⟨S36, .i32⟩
  | 46 => ⟨S36, .i32⟩
  | 47 => ⟨S36, .i32⟩
  | 48 => ⟨S_, .i32⟩
  | 49 => ⟨S36, .i32⟩
  | 50 => ⟨S36, .i1⟩
  | 51 => ⟨S1x36x1x1x1, .i1⟩
  | 52 => ⟨S2x36x1x683x1x128, .fp8e4m3⟩
  | 53 => ⟨S2x36x1x683x128, .fp8e4m3⟩
  | 54 => ⟨S2x36x1x683x128, .i1⟩
  | 55 => ⟨S2x36x1x683x128, .fp8e4m3⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S36, .i32⟩
  | 63 => ⟨S36, .i32⟩
  | 64 => ⟨S_, .i32⟩
  | 65 => ⟨S36, .i32⟩
  | 66 => ⟨S36, .i1⟩
  | 67 => ⟨S_, .i32⟩
  | 68 => ⟨S36, .i32⟩
  | 69 => ⟨S36, .i1⟩
  | 70 => ⟨S_, .i32⟩
  | 71 => ⟨S_, .i1⟩
  | 72 => ⟨S36, .i1⟩
  | 73 => ⟨S36, .i1⟩
  | 74 => ⟨S36, .i1⟩
  | 75 => ⟨S36, .i32⟩
  | 76 => ⟨S36, .i32⟩
  | 77 => ⟨S36, .i32⟩
  | 78 => ⟨S_, .i32⟩
  | 79 => ⟨S36, .i32⟩
  | 80 => ⟨S36, .i1⟩
  | 81 => ⟨S1x36x1x1x1, .i1⟩
  | 82 => ⟨S2x36x1x683x1x128, .fp8e4m3⟩
  | 83 => ⟨S2x36x1x683x128, .fp8e4m3⟩
  | 84 => ⟨S2x36x1x683x128, .i1⟩
  | 85 => ⟨S2x36x1x683x128, .fp8e4m3⟩
  | 86 => ⟨S_, .i8⟩
  | 87 => ⟨S_, .fp8e4m3⟩
  | 88 => ⟨S2x36x1x704x128, .fp8e4m3⟩
  | 89 => ⟨S72x704x128, .fp8e4m3⟩
  | 90 => ⟨S2x36x2048x128, .fp8e4m3⟩
  | 91 => ⟨S_, .i8⟩
  | 92 => ⟨S_, .fp8e4m3⟩
  | 93 => ⟨S2x36x2049x128, .fp8e4m3⟩
  | 94 => ⟨S2x36x1x683x3x128, .fp8e4m3⟩
  | 95 => ⟨S2x36x1x683x1x128, .fp8e4m3⟩
  | 96 => ⟨S2x36x1x683x128, .fp8e4m3⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S36, .i32⟩
  | 104 => ⟨S36, .i32⟩
  | 105 => ⟨S_, .i32⟩
  | 106 => ⟨S36, .i32⟩
  | 107 => ⟨S36, .i1⟩
  | 108 => ⟨S_, .i32⟩
  | 109 => ⟨S36, .i32⟩
  | 110 => ⟨S36, .i1⟩
  | 111 => ⟨S_, .i32⟩
  | 112 => ⟨S_, .i1⟩
  | 113 => ⟨S36, .i1⟩
  | 114 => ⟨S36, .i1⟩
  | 115 => ⟨S36, .i1⟩
  | 116 => ⟨S36, .i32⟩
  | 117 => ⟨S36, .i32⟩
  | 118 => ⟨S36, .i32⟩
  | 119 => ⟨S_, .i32⟩
  | 120 => ⟨S36, .i32⟩
  | 121 => ⟨S36, .i1⟩
  | 122 => ⟨S1x36x1x1x1, .i1⟩
  | 123 => ⟨S2x36x1x683x1x128, .fp8e4m3⟩
  | 124 => ⟨S2x36x1x683x128, .fp8e4m3⟩
  | 125 => ⟨S2x36x1x683x128, .i1⟩
  | 126 => ⟨S2x36x1x683x128, .fp8e4m3⟩
  | 127 => ⟨S_, .i32⟩
  | _ => ⟨S2x20480x36x128, .fp8e4m3⟩

abbrev hbmTy0_4 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S36, .i32⟩
  | 6 => ⟨S36, .i32⟩
  | 7 => ⟨S_, .i32⟩
  | 8 => ⟨S36, .i32⟩
  | 9 => ⟨S36, .i1⟩
  | 10 => ⟨S_, .i32⟩
  | 11 => ⟨S36, .i32⟩
  | 12 => ⟨S36, .i1⟩
  | 13 => ⟨S_, .i32⟩
  | 14 => ⟨S_, .i1⟩
  | 15 => ⟨S36, .i1⟩
  | 16 => ⟨S36, .i1⟩
  | 17 => ⟨S36, .i1⟩
  | 18 => ⟨S36, .i32⟩
  | 19 => ⟨S36, .i32⟩
  | 20 => ⟨S36, .i32⟩
  | 21 => ⟨S_, .i32⟩
  | 22 => ⟨S36, .i32⟩
  | 23 => ⟨S36, .i1⟩
  | 24 => ⟨S1x36x1x1x1, .i1⟩
  | 25 => ⟨S2x36x1x683x1x128, .fp8e4m3⟩
  | 26 => ⟨S2x36x1x683x128, .fp8e4m3⟩
  | 27 => ⟨S2x36x1x683x128, .i1⟩
  | 28 => ⟨S2x36x1x683x128, .fp8e4m3⟩
  | 29 => ⟨S_, .i8⟩
  | 30 => ⟨S_, .fp8e4m3⟩
  | 31 => ⟨S2x36x1x704x128, .fp8e4m3⟩
  | 32 => ⟨S72x704x128, .fp8e4m3⟩
  | 33 => ⟨S2x36x2048x128, .fp8e4m3⟩
  | 34 => ⟨S_, .i8⟩
  | 35 => ⟨S_, .fp8e4m3⟩
  | 36 => ⟨S2x36x2049x128, .fp8e4m3⟩
  | 37 => ⟨S2x36x1x683x3x128, .fp8e4m3⟩
  | 38 => ⟨S2x36x1x683x1x128, .fp8e4m3⟩
  | 39 => ⟨S2x36x1x683x128, .fp8e4m3⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S36, .i32⟩
  | 47 => ⟨S36, .i32⟩
  | 48 => ⟨S_, .i32⟩
  | 49 => ⟨S36, .i32⟩
  | 50 => ⟨S36, .i1⟩
  | 51 => ⟨S_, .i32⟩
  | 52 => ⟨S36, .i32⟩
  | 53 => ⟨S36, .i1⟩
  | 54 => ⟨S_, .i32⟩
  | 55 => ⟨S_, .i1⟩
  | 56 => ⟨S36, .i1⟩
  | 57 => ⟨S36, .i1⟩
  | 58 => ⟨S36, .i1⟩
  | 59 => ⟨S36, .i32⟩
  | 60 => ⟨S36, .i32⟩
  | 61 => ⟨S36, .i32⟩
  | 62 => ⟨S_, .i32⟩
  | 63 => ⟨S36, .i32⟩
  | 64 => ⟨S36, .i1⟩
  | 65 => ⟨S1x36x1x1x1, .i1⟩
  | 66 => ⟨S2x36x1x683x1x128, .fp8e4m3⟩
  | 67 => ⟨S2x36x1x683x128, .fp8e4m3⟩
  | 68 => ⟨S2x36x1x683x128, .i1⟩
  | 69 => ⟨S2x36x1x683x128, .fp8e4m3⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S36, .i32⟩
  | 77 => ⟨S36, .i32⟩
  | 78 => ⟨S_, .i32⟩
  | 79 => ⟨S36, .i32⟩
  | 80 => ⟨S36, .i1⟩
  | 81 => ⟨S_, .i32⟩
  | 82 => ⟨S36, .i32⟩
  | 83 => ⟨S36, .i1⟩
  | 84 => ⟨S_, .i32⟩
  | 85 => ⟨S_, .i1⟩
  | 86 => ⟨S36, .i1⟩
  | 87 => ⟨S36, .i1⟩
  | 88 => ⟨S36, .i1⟩
  | 89 => ⟨S36, .i32⟩
  | 90 => ⟨S36, .i32⟩
  | 91 => ⟨S36, .i32⟩
  | 92 => ⟨S_, .i32⟩
  | 93 => ⟨S36, .i32⟩
  | 94 => ⟨S36, .i1⟩
  | 95 => ⟨S1x36x1x1x1, .i1⟩
  | 96 => ⟨S2x36x1x683x1x128, .fp8e4m3⟩
  | 97 => ⟨S2x36x1x683x128, .fp8e4m3⟩
  | 98 => ⟨S2x36x1x683x128, .i1⟩
  | 99 => ⟨S2x36x1x683x128, .fp8e4m3⟩
  | 100 => ⟨S_, .i8⟩
  | 101 => ⟨S_, .fp8e4m3⟩
  | 102 => ⟨S2x36x1x704x128, .fp8e4m3⟩
  | 103 => ⟨S72x704x128, .fp8e4m3⟩
  | 104 => ⟨S72x1, .f32⟩
  | 105 => ⟨S72x1x1, .f32⟩
  | 106 => ⟨S72x1, .f32⟩
  | 107 => ⟨S72x1, .f32⟩
  | 108 => ⟨S72x1x1, .f32⟩
  | 109 => ⟨S72x1, .f32⟩
  | 110 => ⟨S72x704x128, .f32⟩
  | 111 => ⟨S72x704x1, .f32⟩
  | 112 => ⟨S72x704, .f32⟩
  | 113 => ⟨S72x683x128, .f32⟩
  | 114 => ⟨S2x36x1x683x1x128, .f32⟩
  | 115 => ⟨S72x683, .f32⟩
  | 116 => ⟨S2x36x1x683x1, .f32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S36, .i32⟩
  | 124 => ⟨S36, .i32⟩
  | 125 => ⟨S_, .i32⟩
  | 126 => ⟨S36, .i32⟩
  | 127 => ⟨S36, .i1⟩
  | _ => ⟨S2x20480x36x128, .fp8e4m3⟩

abbrev hbmTy0_5 (i : Nat) : BufTy := match i % 128 with
  | 0 => ⟨S_, .i32⟩
  | 1 => ⟨S36, .i32⟩
  | 2 => ⟨S36, .i1⟩
  | 3 => ⟨S_, .i32⟩
  | 4 => ⟨S_, .i1⟩
  | 5 => ⟨S36, .i1⟩
  | 6 => ⟨S36, .i1⟩
  | 7 => ⟨S36, .i1⟩
  | 8 => ⟨S36, .i32⟩
  | 9 => ⟨S36, .i32⟩
  | 10 => ⟨S36, .i32⟩
  | 11 => ⟨S36x1, .i32⟩
  | 12 => ⟨S3, .i32⟩
  | 13 => ⟨S1x3, .i32⟩
  | 14 => ⟨S36x3, .i32⟩
  | 15 => ⟨S36x3, .i32⟩
  | 16 => ⟨S36x3, .i1⟩
  | 17 => ⟨S1x36x1x1x3, .i1⟩
  | 18 => ⟨S_, .f32⟩
  | 19 => ⟨S_, .f32⟩
  | 20 => ⟨S2x36x1x683x3, .i1⟩
  | 21 => ⟨S2x36x1x683x3, .f32⟩
  | 22 => ⟨S2x36x1x683x3, .f32⟩
  | 23 => ⟨S2x36x1x683x3, .f32⟩
  | 24 => ⟨S2x36x2049, .f32⟩
  | 25 => ⟨S1x36x1x1x3x1, .i1⟩
  | 26 => ⟨S_, .f32⟩
  | 27 => ⟨S_, .f32⟩
  | 28 => ⟨S2x36x1x683x3x128, .i1⟩
  | 29 => ⟨S2x36x1x683x3x128, .f32⟩
  | 30 => ⟨S2x36x1x683x3x128, .f32⟩
  | 31 => ⟨S2x36x1x683x3x128, .f32⟩
  | 32 => ⟨S2x36x2049x128, .f32⟩
  | 33 => ⟨S2x36x2048x128, .f32⟩
  | 34 => ⟨S2x36x2048, .f32⟩
  | 35 => ⟨S2x36x20480x128, .f32⟩
  | 36 => ⟨S2x36x20480, .f32⟩
  | 37 => ⟨S36, .i32⟩
  | 38 => ⟨S2x36x18432x128, .fp8e4m3⟩
  | 39 => ⟨S_, .i8⟩
  | 40 => ⟨S_, .fp8e4m3⟩
  | 41 => ⟨S2x36x18432x128, .fp8e4m3⟩
  | 42 => ⟨S2x36x1x2048x9x128, .fp8e4m3⟩
  | 43 => ⟨S2x36x1x2048x1x128, .fp8e4m3⟩
  | 44 => ⟨S2x36x1x2048x128, .fp8e4m3⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S36, .i32⟩
  | 52 => ⟨S36, .i32⟩
  | 53 => ⟨S_, .i32⟩
  | 54 => ⟨S36, .i32⟩
  | 55 => ⟨S36, .i1⟩
  | 56 => ⟨S_, .i32⟩
  | 57 => ⟨S36, .i32⟩
  | 58 => ⟨S36, .i1⟩
  | 59 => ⟨S_, .i32⟩
  | 60 => ⟨S_, .i1⟩
  | 61 => ⟨S36, .i1⟩
  | 62 => ⟨S36, .i1⟩
  | 63 => ⟨S36, .i1⟩
  | 64 => ⟨S36, .i32⟩
  | 65 => ⟨S36, .i32⟩
  | 66 => ⟨S36, .i32⟩
  | 67 => ⟨S_, .i32⟩
  | 68 => ⟨S36, .i32⟩
  | 69 => ⟨S36, .i1⟩
  | 70 => ⟨S1x36x1x1x1, .i1⟩
  | 71 => ⟨S2x36x1x2048x1x128, .fp8e4m3⟩
  | 72 => ⟨S2x36x1x2048x128, .fp8e4m3⟩
  | 73 => ⟨S2x36x1x2048x128, .i1⟩
  | 74 => ⟨S2x36x1x2048x128, .fp8e4m3⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S36, .i32⟩
  | 82 => ⟨S36, .i32⟩
  | 83 => ⟨S_, .i32⟩
  | 84 => ⟨S36, .i32⟩
  | 85 => ⟨S36, .i1⟩
  | 86 => ⟨S_, .i32⟩
  | 87 => ⟨S36, .i32⟩
  | 88 => ⟨S36, .i1⟩
  | 89 => ⟨S_, .i32⟩
  | 90 => ⟨S_, .i1⟩
  | 91 => ⟨S36, .i1⟩
  | 92 => ⟨S36, .i1⟩
  | 93 => ⟨S36, .i1⟩
  | 94 => ⟨S36, .i32⟩
  | 95 => ⟨S36, .i32⟩
  | 96 => ⟨S36, .i32⟩
  | 97 => ⟨S_, .i32⟩
  | 98 => ⟨S36, .i32⟩
  | 99 => ⟨S36, .i1⟩
  | 100 => ⟨S1x36x1x1x1, .i1⟩
  | 101 => ⟨S2x36x1x2048x1x128, .fp8e4m3⟩
  | 102 => ⟨S2x36x1x2048x128, .fp8e4m3⟩
  | 103 => ⟨S2x36x1x2048x128, .i1⟩
  | 104 => ⟨S2x36x1x2048x128, .fp8e4m3⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S36, .i32⟩
  | 112 => ⟨S36, .i32⟩
  | 113 => ⟨S_, .i32⟩
  | 114 => ⟨S36, .i32⟩
  | 115 => ⟨S36, .i1⟩
  | 116 => ⟨S_, .i32⟩
  | 117 => ⟨S36, .i32⟩
  | 118 => ⟨S36, .i1⟩
  | 119 => ⟨S_, .i32⟩
  | 120 => ⟨S_, .i1⟩
  | 121 => ⟨S36, .i1⟩
  | 122 => ⟨S36, .i1⟩
  | 123 => ⟨S36, .i1⟩
  | 124 => ⟨S36, .i32⟩
  | 125 => ⟨S36, .i32⟩
  | 126 => ⟨S36, .i32⟩
  | 127 => ⟨S_, .i32⟩
  | _ => ⟨S2x20480x36x128, .fp8e4m3⟩

abbrev hbmTy0_6 (i : Nat) : BufTy := match i % 128 with
  | 0 => ⟨S36, .i32⟩
  | 1 => ⟨S36, .i1⟩
  | 2 => ⟨S1x36x1x1x1, .i1⟩
  | 3 => ⟨S2x36x1x2048x1x128, .fp8e4m3⟩
  | 4 => ⟨S2x36x1x2048x128, .fp8e4m3⟩
  | 5 => ⟨S2x36x1x2048x128, .i1⟩
  | 6 => ⟨S2x36x1x2048x128, .fp8e4m3⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S36, .i32⟩
  | 14 => ⟨S36, .i32⟩
  | 15 => ⟨S_, .i32⟩
  | 16 => ⟨S36, .i32⟩
  | 17 => ⟨S36, .i1⟩
  | 18 => ⟨S_, .i32⟩
  | 19 => ⟨S36, .i32⟩
  | 20 => ⟨S36, .i1⟩
  | 21 => ⟨S_, .i32⟩
  | 22 => ⟨S_, .i1⟩
  | 23 => ⟨S36, .i1⟩
  | 24 => ⟨S36, .i1⟩
  | 25 => ⟨S36, .i1⟩
  | 26 => ⟨S36, .i32⟩
  | 27 => ⟨S36, .i32⟩
  | 28 => ⟨S36, .i32⟩
  | 29 => ⟨S_, .i32⟩
  | 30 => ⟨S36, .i32⟩
  | 31 => ⟨S36, .i1⟩
  | 32 => ⟨S1x36x1x1x1, .i1⟩
  | 33 => ⟨S2x36x1x2048x1x128, .fp8e4m3⟩
  | 34 => ⟨S2x36x1x2048x128, .fp8e4m3⟩
  | 35 => ⟨S2x36x1x2048x128, .i1⟩
  | 36 => ⟨S2x36x1x2048x128, .fp8e4m3⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S36, .i32⟩
  | 44 => ⟨S36, .i32⟩
  | 45 => ⟨S_, .i32⟩
  | 46 => ⟨S36, .i32⟩
  | 47 => ⟨S36, .i1⟩
  | 48 => ⟨S_, .i32⟩
  | 49 => ⟨S36, .i32⟩
  | 50 => ⟨S36, .i1⟩
  | 51 => ⟨S_, .i32⟩
  | 52 => ⟨S_, .i1⟩
  | 53 => ⟨S36, .i1⟩
  | 54 => ⟨S36, .i1⟩
  | 55 => ⟨S36, .i1⟩
  | 56 => ⟨S36, .i32⟩
  | 57 => ⟨S36, .i32⟩
  | 58 => ⟨S36, .i32⟩
  | 59 => ⟨S_, .i32⟩
  | 60 => ⟨S36, .i32⟩
  | 61 => ⟨S36, .i1⟩
  | 62 => ⟨S1x36x1x1x1, .i1⟩
  | 63 => ⟨S2x36x1x2048x1x128, .fp8e4m3⟩
  | 64 => ⟨S2x36x1x2048x128, .fp8e4m3⟩
  | 65 => ⟨S2x36x1x2048x128, .i1⟩
  | 66 => ⟨S2x36x1x2048x128, .fp8e4m3⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S36, .i32⟩
  | 74 => ⟨S36, .i32⟩
  | 75 => ⟨S_, .i32⟩
  | 76 => ⟨S36, .i32⟩
  | 77 => ⟨S36, .i1⟩
  | 78 => ⟨S_, .i32⟩
  | 79 => ⟨S36, .i32⟩
  | 80 => ⟨S36, .i1⟩
  | 81 => ⟨S_, .i32⟩
  | 82 => ⟨S_, .i1⟩
  | 83 => ⟨S36, .i1⟩
  | 84 => ⟨S36, .i1⟩
  | 85 => ⟨S36, .i1⟩
  | 86 => ⟨S36, .i32⟩
  | 87 => ⟨S36, .i32⟩
  | 88 => ⟨S36, .i32⟩
  | 89 => ⟨S_, .i32⟩
  | 90 => ⟨S36, .i32⟩
  | 91 => ⟨S36, .i1⟩
  | 92 => ⟨S1x36x1x1x1, .i1⟩
  | 93 => ⟨S2x36x1x2048x1x128, .fp8e4m3⟩
  | 94 => ⟨S2x36x1x2048x128, .fp8e4m3⟩
  | 95 => ⟨S2x36x1x2048x128, .i1⟩
  | 96 => ⟨S2x36x1x2048x128, .fp8e4m3⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S36, .i32⟩
  | 104 => ⟨S36, .i32⟩
  | 105 => ⟨S_, .i32⟩
  | 106 => ⟨S36, .i32⟩
  | 107 => ⟨S36, .i1⟩
  | 108 => ⟨S_, .i32⟩
  | 109 => ⟨S36, .i32⟩
  | 110 => ⟨S36, .i1⟩
  | 111 => ⟨S_, .i32⟩
  | 112 => ⟨S_, .i1⟩
  | 113 => ⟨S36, .i1⟩
  | 114 => ⟨S36, .i1⟩
  | 115 => ⟨S36, .i1⟩
  | 116 => ⟨S36, .i32⟩
  | 117 => ⟨S36, .i32⟩
  | 118 => ⟨S36, .i32⟩
  | 119 => ⟨S_, .i32⟩
  | 120 => ⟨S36, .i32⟩
  | 121 => ⟨S36, .i1⟩
  | 122 => ⟨S1x36x1x1x1, .i1⟩
  | 123 => ⟨S2x36x1x2048x1x128, .fp8e4m3⟩
  | 124 => ⟨S2x36x1x2048x128, .fp8e4m3⟩
  | 125 => ⟨S2x36x1x2048x128, .i1⟩
  | 126 => ⟨S2x36x1x2048x128, .fp8e4m3⟩
  | 127 => ⟨S_, .i32⟩
  | _ => ⟨S2x20480x36x128, .fp8e4m3⟩

abbrev hbmTy0_7 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S36, .i32⟩
  | 6 => ⟨S36, .i32⟩
  | 7 => ⟨S_, .i32⟩
  | 8 => ⟨S36, .i32⟩
  | 9 => ⟨S36, .i1⟩
  | 10 => ⟨S_, .i32⟩
  | 11 => ⟨S36, .i32⟩
  | 12 => ⟨S36, .i1⟩
  | 13 => ⟨S_, .i32⟩
  | 14 => ⟨S_, .i1⟩
  | 15 => ⟨S36, .i1⟩
  | 16 => ⟨S36, .i1⟩
  | 17 => ⟨S36, .i1⟩
  | 18 => ⟨S36, .i32⟩
  | 19 => ⟨S36, .i32⟩
  | 20 => ⟨S36, .i32⟩
  | 21 => ⟨S_, .i32⟩
  | 22 => ⟨S36, .i32⟩
  | 23 => ⟨S36, .i1⟩
  | 24 => ⟨S1x36x1x1x1, .i1⟩
  | 25 => ⟨S2x36x1x2048x1x128, .fp8e4m3⟩
  | 26 => ⟨S2x36x1x2048x128, .fp8e4m3⟩
  | 27 => ⟨S2x36x1x2048x128, .i1⟩
  | 28 => ⟨S2x36x1x2048x128, .fp8e4m3⟩
  | 29 => ⟨S_, .i8⟩
  | 30 => ⟨S_, .fp8e4m3⟩
  | 31 => ⟨S2x36x1x2048x128, .fp8e4m3⟩
  | 32 => ⟨S72x2048x128, .fp8e4m3⟩
  | 33 => ⟨S2x36x18432x128, .fp8e4m3⟩
  | 34 => ⟨S_, .i8⟩
  | 35 => ⟨S_, .fp8e4m3⟩
  | 36 => ⟨S2x36x18432x128, .fp8e4m3⟩
  | 37 => ⟨S2x36x1x2048x9x128, .fp8e4m3⟩
  | 38 => ⟨S2x36x1x2048x1x128, .fp8e4m3⟩
  | 39 => ⟨S2x36x1x2048x128, .fp8e4m3⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S36, .i32⟩
  | 47 => ⟨S36, .i32⟩
  | 48 => ⟨S_, .i32⟩
  | 49 => ⟨S36, .i32⟩
  | 50 => ⟨S36, .i1⟩
  | 51 => ⟨S_, .i32⟩
  | 52 => ⟨S36, .i32⟩
  | 53 => ⟨S36, .i1⟩
  | 54 => ⟨S_, .i32⟩
  | 55 => ⟨S_, .i1⟩
  | 56 => ⟨S36, .i1⟩
  | 57 => ⟨S36, .i1⟩
  | 58 => ⟨S36, .i1⟩
  | 59 => ⟨S36, .i32⟩
  | 60 => ⟨S36, .i32⟩
  | 61 => ⟨S36, .i32⟩
  | 62 => ⟨S_, .i32⟩
  | 63 => ⟨S36, .i32⟩
  | 64 => ⟨S36, .i1⟩
  | 65 => ⟨S1x36x1x1x1, .i1⟩
  | 66 => ⟨S2x36x1x2048x1x128, .fp8e4m3⟩
  | 67 => ⟨S2x36x1x2048x128, .fp8e4m3⟩
  | 68 => ⟨S2x36x1x2048x128, .i1⟩
  | 69 => ⟨S2x36x1x2048x128, .fp8e4m3⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S36, .i32⟩
  | 77 => ⟨S36, .i32⟩
  | 78 => ⟨S_, .i32⟩
  | 79 => ⟨S36, .i32⟩
  | 80 => ⟨S36, .i1⟩
  | 81 => ⟨S_, .i32⟩
  | 82 => ⟨S36, .i32⟩
  | 83 => ⟨S36, .i1⟩
  | 84 => ⟨S_, .i32⟩
  | 85 => ⟨S_, .i1⟩
  | 86 => ⟨S36, .i1⟩
  | 87 => ⟨S36, .i1⟩
  | 88 => ⟨S36, .i1⟩
  | 89 => ⟨S36, .i32⟩
  | 90 => ⟨S36, .i32⟩
  | 91 => ⟨S36, .i32⟩
  | 92 => ⟨S_, .i32⟩
  | 93 => ⟨S36, .i32⟩
  | 94 => ⟨S36, .i1⟩
  | 95 => ⟨S1x36x1x1x1, .i1⟩
  | 96 => ⟨S2x36x1x2048x1x128, .fp8e4m3⟩
  | 97 => ⟨S2x36x1x2048x128, .fp8e4m3⟩
  | 98 => ⟨S2x36x1x2048x128, .i1⟩
  | 99 => ⟨S2x36x1x2048x128, .fp8e4m3⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S36, .i32⟩
  | 107 => ⟨S36, .i32⟩
  | 108 => ⟨S_, .i32⟩
  | 109 => ⟨S36, .i32⟩
  | 110 => ⟨S36, .i1⟩
  | 111 => ⟨S_, .i32⟩
  | 112 => ⟨S36, .i32⟩
  | 113 => ⟨S36, .i1⟩
  | 114 => ⟨S_, .i32⟩
  | 115 => ⟨S_, .i1⟩
  | 116 => ⟨S36, .i1⟩
  | 117 => ⟨S36, .i1⟩
  | 118 => ⟨S36, .i1⟩
  | 119 => ⟨S36, .i32⟩
  | 120 => ⟨S36, .i32⟩
  | 121 => ⟨S36, .i32⟩
  | 122 => ⟨S_, .i32⟩
  | 123 => ⟨S36, .i32⟩
  | 124 => ⟨S36, .i1⟩
  | 125 => ⟨S1x36x1x1x1, .i1⟩
  | 126 => ⟨S2x36x1x2048x1x128, .fp8e4m3⟩
  | 127 => ⟨S2x36x1x2048x128, .fp8e4m3⟩
  | _ => ⟨S2x20480x36x128, .fp8e4m3⟩

abbrev hbmTy0_8 (i : Nat) : BufTy := match i % 128 with
  | 0 => ⟨S2x36x1x2048x128, .i1⟩
  | 1 => ⟨S2x36x1x2048x128, .fp8e4m3⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S36, .i32⟩
  | 9 => ⟨S36, .i32⟩
  | 10 => ⟨S_, .i32⟩
  | 11 => ⟨S36, .i32⟩
  | 12 => ⟨S36, .i1⟩
  | 13 => ⟨S_, .i32⟩
  | 14 => ⟨S36, .i32⟩
  | 15 => ⟨S36, .i1⟩
  | 16 => ⟨S_, .i32⟩
  | 17 => ⟨S_, .i1⟩
  | 18 => ⟨S36, .i1⟩
  | 19 => ⟨S36, .i1⟩
  | 20 => ⟨S36, .i1⟩
  | 21 => ⟨S36, .i32⟩
  | 22 => ⟨S36, .i32⟩
  | 23 => ⟨S36, .i32⟩
  | 24 => ⟨S_, .i32⟩
  | 25 => ⟨S36, .i32⟩
  | 26 => ⟨S36, .i1⟩
  | 27 => ⟨S1x36x1x1x1, .i1⟩
  | 28 => ⟨S2x36x1x2048x1x128, .fp8e4m3⟩
  | 29 => ⟨S2x36x1x2048x128, .fp8e4m3⟩
  | 30 => ⟨S2x36x1x2048x128, .i1⟩
  | 31 => ⟨S2x36x1x2048x128, .fp8e4m3⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S36, .i32⟩
  | 39 => ⟨S36, .i32⟩
  | 40 => ⟨S_, .i32⟩
  | 41 => ⟨S36, .i32⟩
  | 42 => ⟨S36, .i1⟩
  | 43 => ⟨S_, .i32⟩
  | 44 => ⟨S36, .i32⟩
  | 45 => ⟨S36, .i1⟩
  | 46 => ⟨S_, .i32⟩
  | 47 => ⟨S_, .i1⟩
  | 48 => ⟨S36, .i1⟩
  | 49 => ⟨S36, .i1⟩
  | 50 => ⟨S36, .i1⟩
  | 51 => ⟨S36, .i32⟩
  | 52 => ⟨S36, .i32⟩
  | 53 => ⟨S36, .i32⟩
  | 54 => ⟨S_, .i32⟩
  | 55 => ⟨S36, .i32⟩
  | 56 => ⟨S36, .i1⟩
  | 57 => ⟨S1x36x1x1x1, .i1⟩
  | 58 => ⟨S2x36x1x2048x1x128, .fp8e4m3⟩
  | 59 => ⟨S2x36x1x2048x128, .fp8e4m3⟩
  | 60 => ⟨S2x36x1x2048x128, .i1⟩
  | 61 => ⟨S2x36x1x2048x128, .fp8e4m3⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S36, .i32⟩
  | 69 => ⟨S36, .i32⟩
  | 70 => ⟨S_, .i32⟩
  | 71 => ⟨S36, .i32⟩
  | 72 => ⟨S36, .i1⟩
  | 73 => ⟨S_, .i32⟩
  | 74 => ⟨S36, .i32⟩
  | 75 => ⟨S36, .i1⟩
  | 76 => ⟨S_, .i32⟩
  | 77 => ⟨S_, .i1⟩
  | 78 => ⟨S36, .i1⟩
  | 79 => ⟨S36, .i1⟩
  | 80 => ⟨S36, .i1⟩
  | 81 => ⟨S36, .i32⟩
  | 82 => ⟨S36, .i32⟩
  | 83 => ⟨S36, .i32⟩
  | 84 => ⟨S_, .i32⟩
  | 85 => ⟨S36, .i32⟩
  | 86 => ⟨S36, .i1⟩
  | 87 => ⟨S1x36x1x1x1, .i1⟩
  | 88 => ⟨S2x36x1x2048x1x128, .fp8e4m3⟩
  | 89 => ⟨S2x36x1x2048x128, .fp8e4m3⟩
  | 90 => ⟨S2x36x1x2048x128, .i1⟩
  | 91 => ⟨S2x36x1x2048x128, .fp8e4m3⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S36, .i32⟩
  | 99 => ⟨S36, .i32⟩
  | 100 => ⟨S_, .i32⟩
  | 101 => ⟨S36, .i32⟩
  | 102 => ⟨S36, .i1⟩
  | 103 => ⟨S_, .i32⟩
  | 104 => ⟨S36, .i32⟩
  | 105 => ⟨S36, .i1⟩
  | 106 => ⟨S_, .i32⟩
  | 107 => ⟨S_, .i1⟩
  | 108 => ⟨S36, .i1⟩
  | 109 => ⟨S36, .i1⟩
  | 110 => ⟨S36, .i1⟩
  | 111 => ⟨S36, .i32⟩
  | 112 => ⟨S36, .i32⟩
  | 113 => ⟨S36, .i32⟩
  | 114 => ⟨S_, .i32⟩
  | 115 => ⟨S36, .i32⟩
  | 116 => ⟨S36, .i1⟩
  | 117 => ⟨S1x36x1x1x1, .i1⟩
  | 118 => ⟨S2x36x1x2048x1x128, .fp8e4m3⟩
  | 119 => ⟨S2x36x1x2048x128, .fp8e4m3⟩
  | 120 => ⟨S2x36x1x2048x128, .i1⟩
  | 121 => ⟨S2x36x1x2048x128, .fp8e4m3⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S2x20480x36x128, .fp8e4m3⟩

abbrev hbmTy0_9 (i : Nat) : BufTy := match i % 128 with
  | 0 => ⟨S36, .i32⟩
  | 1 => ⟨S36, .i32⟩
  | 2 => ⟨S_, .i32⟩
  | 3 => ⟨S36, .i32⟩
  | 4 => ⟨S36, .i1⟩
  | 5 => ⟨S_, .i32⟩
  | 6 => ⟨S36, .i32⟩
  | 7 => ⟨S36, .i1⟩
  | 8 => ⟨S_, .i32⟩
  | 9 => ⟨S_, .i1⟩
  | 10 => ⟨S36, .i1⟩
  | 11 => ⟨S36, .i1⟩
  | 12 => ⟨S36, .i1⟩
  | 13 => ⟨S36, .i32⟩
  | 14 => ⟨S36, .i32⟩
  | 15 => ⟨S36, .i32⟩
  | 16 => ⟨S_, .i32⟩
  | 17 => ⟨S36, .i32⟩
  | 18 => ⟨S36, .i1⟩
  | 19 => ⟨S1x36x1x1x1, .i1⟩
  | 20 => ⟨S2x36x1x2048x1x128, .fp8e4m3⟩
  | 21 => ⟨S2x36x1x2048x128, .fp8e4m3⟩
  | 22 => ⟨S2x36x1x2048x128, .i1⟩
  | 23 => ⟨S2x36x1x2048x128, .fp8e4m3⟩
  | 24 => ⟨S_, .i8⟩
  | 25 => ⟨S_, .fp8e4m3⟩
  | 26 => ⟨S2x36x1x2048x128, .fp8e4m3⟩
  | 27 => ⟨S72x2048x128, .fp8e4m3⟩
  | 28 => ⟨S2x36x18432x128, .fp8e4m3⟩
  | 29 => ⟨S_, .i8⟩
  | 30 => ⟨S_, .fp8e4m3⟩
  | 31 => ⟨S2x36x18432x128, .fp8e4m3⟩
  | 32 => ⟨S2x36x1x2048x9x128, .fp8e4m3⟩
  | 33 => ⟨S2x36x1x2048x1x128, .fp8e4m3⟩
  | 34 => ⟨S2x36x1x2048x128, .fp8e4m3⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S36, .i32⟩
  | 42 => ⟨S36, .i32⟩
  | 43 => ⟨S_, .i32⟩
  | 44 => ⟨S36, .i32⟩
  | 45 => ⟨S36, .i1⟩
  | 46 => ⟨S_, .i32⟩
  | 47 => ⟨S36, .i32⟩
  | 48 => ⟨S36, .i1⟩
  | 49 => ⟨S_, .i32⟩
  | 50 => ⟨S_, .i1⟩
  | 51 => ⟨S36, .i1⟩
  | 52 => ⟨S36, .i1⟩
  | 53 => ⟨S36, .i1⟩
  | 54 => ⟨S36, .i32⟩
  | 55 => ⟨S36, .i32⟩
  | 56 => ⟨S36, .i32⟩
  | 57 => ⟨S_, .i32⟩
  | 58 => ⟨S36, .i32⟩
  | 59 => ⟨S36, .i1⟩
  | 60 => ⟨S1x36x1x1x1, .i1⟩
  | 61 => ⟨S2x36x1x2048x1x128, .fp8e4m3⟩
  | 62 => ⟨S2x36x1x2048x128, .fp8e4m3⟩
  | 63 => ⟨S2x36x1x2048x128, .i1⟩
  | 64 => ⟨S2x36x1x2048x128, .fp8e4m3⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S36, .i32⟩
  | 72 => ⟨S36, .i32⟩
  | 73 => ⟨S_, .i32⟩
  | 74 => ⟨S36, .i32⟩
  | 75 => ⟨S36, .i1⟩
  | 76 => ⟨S_, .i32⟩
  | 77 => ⟨S36, .i32⟩
  | 78 => ⟨S36, .i1⟩
  | 79 => ⟨S_, .i32⟩
  | 80 => ⟨S_, .i1⟩
  | 81 => ⟨S36, .i1⟩
  | 82 => ⟨S36, .i1⟩
  | 83 => ⟨S36, .i1⟩
  | 84 => ⟨S36, .i32⟩
  | 85 => ⟨S36, .i32⟩
  | 86 => ⟨S36, .i32⟩
  | 87 => ⟨S_, .i32⟩
  | 88 => ⟨S36, .i32⟩
  | 89 => ⟨S36, .i1⟩
  | 90 => ⟨S1x36x1x1x1, .i1⟩
  | 91 => ⟨S2x36x1x2048x1x128, .fp8e4m3⟩
  | 92 => ⟨S2x36x1x2048x128, .fp8e4m3⟩
  | 93 => ⟨S2x36x1x2048x128, .i1⟩
  | 94 => ⟨S2x36x1x2048x128, .fp8e4m3⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S36, .i32⟩
  | 102 => ⟨S36, .i32⟩
  | 103 => ⟨S_, .i32⟩
  | 104 => ⟨S36, .i32⟩
  | 105 => ⟨S36, .i1⟩
  | 106 => ⟨S_, .i32⟩
  | 107 => ⟨S36, .i32⟩
  | 108 => ⟨S36, .i1⟩
  | 109 => ⟨S_, .i32⟩
  | 110 => ⟨S_, .i1⟩
  | 111 => ⟨S36, .i1⟩
  | 112 => ⟨S36, .i1⟩
  | 113 => ⟨S36, .i1⟩
  | 114 => ⟨S36, .i32⟩
  | 115 => ⟨S36, .i32⟩
  | 116 => ⟨S36, .i32⟩
  | 117 => ⟨S_, .i32⟩
  | 118 => ⟨S36, .i32⟩
  | 119 => ⟨S36, .i1⟩
  | 120 => ⟨S1x36x1x1x1, .i1⟩
  | 121 => ⟨S2x36x1x2048x1x128, .fp8e4m3⟩
  | 122 => ⟨S2x36x1x2048x128, .fp8e4m3⟩
  | 123 => ⟨S2x36x1x2048x128, .i1⟩
  | 124 => ⟨S2x36x1x2048x128, .fp8e4m3⟩
  | 125 => ⟨S_, .i32⟩
  | 126 => ⟨S_, .i32⟩
  | 127 => ⟨S_, .i32⟩
  | _ => ⟨S2x20480x36x128, .fp8e4m3⟩

abbrev hbmTy0_10 (i : Nat) : BufTy := match i % 128 with
  | 0 => ⟨S_, .i1⟩
  | 1 => ⟨S_, .i32⟩
  | 2 => ⟨S_, .i32⟩
  | 3 => ⟨S36, .i32⟩
  | 4 => ⟨S36, .i32⟩
  | 5 => ⟨S_, .i32⟩
  | 6 => ⟨S36, .i32⟩
  | 7 => ⟨S36, .i1⟩
  | 8 => ⟨S_, .i32⟩
  | 9 => ⟨S36, .i32⟩
  | 10 => ⟨S36, .i1⟩
  | 11 => ⟨S_, .i32⟩
  | 12 => ⟨S_, .i1⟩
  | 13 => ⟨S36, .i1⟩
  | 14 => ⟨S36, .i1⟩
  | 15 => ⟨S36, .i1⟩
  | 16 => ⟨S36, .i32⟩
  | 17 => ⟨S36, .i32⟩
  | 18 => ⟨S36, .i32⟩
  | 19 => ⟨S_, .i32⟩
  | 20 => ⟨S36, .i32⟩
  | 21 => ⟨S36, .i1⟩
  | 22 => ⟨S1x36x1x1x1, .i1⟩
  | 23 => ⟨S2x36x1x2048x1x128, .fp8e4m3⟩
  | 24 => ⟨S2x36x1x2048x128, .fp8e4m3⟩
  | 25 => ⟨S2x36x1x2048x128, .i1⟩
  | 26 => ⟨S2x36x1x2048x128, .fp8e4m3⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S36, .i32⟩
  | 34 => ⟨S36, .i32⟩
  | 35 => ⟨S_, .i32⟩
  | 36 => ⟨S36, .i32⟩
  | 37 => ⟨S36, .i1⟩
  | 38 => ⟨S_, .i32⟩
  | 39 => ⟨S36, .i32⟩
  | 40 => ⟨S36, .i1⟩
  | 41 => ⟨S_, .i32⟩
  | 42 => ⟨S_, .i1⟩
  | 43 => ⟨S36, .i1⟩
  | 44 => ⟨S36, .i1⟩
  | 45 => ⟨S36, .i1⟩
  | 46 => ⟨S36, .i32⟩
  | 47 => ⟨S36, .i32⟩
  | 48 => ⟨S36, .i32⟩
  | 49 => ⟨S_, .i32⟩
  | 50 => ⟨S36, .i32⟩
  | 51 => ⟨S36, .i1⟩
  | 52 => ⟨S1x36x1x1x1, .i1⟩
  | 53 => ⟨S2x36x1x2048x1x128, .fp8e4m3⟩
  | 54 => ⟨S2x36x1x2048x128, .fp8e4m3⟩
  | 55 => ⟨S2x36x1x2048x128, .i1⟩
  | 56 => ⟨S2x36x1x2048x128, .fp8e4m3⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S36, .i32⟩
  | 64 => ⟨S36, .i32⟩
  | 65 => ⟨S_, .i32⟩
  | 66 => ⟨S36, .i32⟩
  | 67 => ⟨S36, .i1⟩
  | 68 => ⟨S_, .i32⟩
  | 69 => ⟨S36, .i32⟩
  | 70 => ⟨S36, .i1⟩
  | 71 => ⟨S_, .i32⟩
  | 72 => ⟨S_, .i1⟩
  | 73 => ⟨S36, .i1⟩
  | 74 => ⟨S36, .i1⟩
  | 75 => ⟨S36, .i1⟩
  | 76 => ⟨S36, .i32⟩
  | 77 => ⟨S36, .i32⟩
  | 78 => ⟨S36, .i32⟩
  | 79 => ⟨S_, .i32⟩
  | 80 => ⟨S36, .i32⟩
  | 81 => ⟨S36, .i1⟩
  | 82 => ⟨S1x36x1x1x1, .i1⟩
  | 83 => ⟨S2x36x1x2048x1x128, .fp8e4m3⟩
  | 84 => ⟨S2x36x1x2048x128, .fp8e4m3⟩
  | 85 => ⟨S2x36x1x2048x128, .i1⟩
  | 86 => ⟨S2x36x1x2048x128, .fp8e4m3⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S36, .i32⟩
  | 94 => ⟨S36, .i32⟩
  | 95 => ⟨S_, .i32⟩
  | 96 => ⟨S36, .i32⟩
  | 97 => ⟨S36, .i1⟩
  | 98 => ⟨S_, .i32⟩
  | 99 => ⟨S36, .i32⟩
  | 100 => ⟨S36, .i1⟩
  | 101 => ⟨S_, .i32⟩
  | 102 => ⟨S_, .i1⟩
  | 103 => ⟨S36, .i1⟩
  | 104 => ⟨S36, .i1⟩
  | 105 => ⟨S36, .i1⟩
  | 106 => ⟨S36, .i32⟩
  | 107 => ⟨S36, .i32⟩
  | 108 => ⟨S36, .i32⟩
  | 109 => ⟨S_, .i32⟩
  | 110 => ⟨S36, .i32⟩
  | 111 => ⟨S36, .i1⟩
  | 112 => ⟨S1x36x1x1x1, .i1⟩
  | 113 => ⟨S2x36x1x2048x1x128, .fp8e4m3⟩
  | 114 => ⟨S2x36x1x2048x128, .fp8e4m3⟩
  | 115 => ⟨S2x36x1x2048x128, .i1⟩
  | 116 => ⟨S2x36x1x2048x128, .fp8e4m3⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S36, .i32⟩
  | 124 => ⟨S36, .i32⟩
  | 125 => ⟨S_, .i32⟩
  | 126 => ⟨S36, .i32⟩
  | 127 => ⟨S36, .i1⟩
  | _ => ⟨S2x20480x36x128, .fp8e4m3⟩

abbrev hbmTy0_11 (i : Nat) : BufTy := match i % 128 with
  | 0 => ⟨S_, .i32⟩
  | 1 => ⟨S36, .i32⟩
  | 2 => ⟨S36, .i1⟩
  | 3 => ⟨S_, .i32⟩
  | 4 => ⟨S_, .i1⟩
  | 5 => ⟨S36, .i1⟩
  | 6 => ⟨S36, .i1⟩
  | 7 => ⟨S36, .i1⟩
  | 8 => ⟨S36, .i32⟩
  | 9 => ⟨S36, .i32⟩
  | 10 => ⟨S36, .i32⟩
  | 11 => ⟨S_, .i32⟩
  | 12 => ⟨S36, .i32⟩
  | 13 => ⟨S36, .i1⟩
  | 14 => ⟨S1x36x1x1x1, .i1⟩
  | 15 => ⟨S2x36x1x2048x1x128, .fp8e4m3⟩
  | 16 => ⟨S2x36x1x2048x128, .fp8e4m3⟩
  | 17 => ⟨S2x36x1x2048x128, .i1⟩
  | 18 => ⟨S2x36x1x2048x128, .fp8e4m3⟩
  | 19 => ⟨S_, .i8⟩
  | 20 => ⟨S_, .fp8e4m3⟩
  | 21 => ⟨S2x36x1x2048x128, .fp8e4m3⟩
  | 22 => ⟨S72x2048x128, .fp8e4m3⟩
  | 23 => ⟨S72x1, .f32⟩
  | 24 => ⟨S72x1x1, .f32⟩
  | 25 => ⟨S72x1, .f32⟩
  | 26 => ⟨S72x1, .f32⟩
  | 27 => ⟨S72x1x1, .f32⟩
  | 28 => ⟨S72x1, .f32⟩
  | 29 => ⟨S72x2048x128, .f32⟩
  | 30 => ⟨S72x2048x1, .f32⟩
  | 31 => ⟨S72x2048, .f32⟩
  | 32 => ⟨S2x36x1x2048x1x128, .f32⟩
  | 33 => ⟨S2x36x1x2048x1, .f32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S36, .i32⟩
  | 41 => ⟨S36, .i32⟩
  | 42 => ⟨S_, .i32⟩
  | 43 => ⟨S36, .i32⟩
  | 44 => ⟨S36, .i1⟩
  | 45 => ⟨S_, .i32⟩
  | 46 => ⟨S36, .i32⟩
  | 47 => ⟨S36, .i1⟩
  | 48 => ⟨S_, .i32⟩
  | 49 => ⟨S_, .i1⟩
  | 50 => ⟨S36, .i1⟩
  | 51 => ⟨S36, .i1⟩
  | 52 => ⟨S36, .i1⟩
  | 53 => ⟨S36, .i32⟩
  | 54 => ⟨S36, .i32⟩
  | 55 => ⟨S36, .i32⟩
  | 56 => ⟨S36x1, .i32⟩
  | 57 => ⟨S9, .i32⟩
  | 58 => ⟨S1x9, .i32⟩
  | 59 => ⟨S36x9, .i32⟩
  | 60 => ⟨S36x9, .i32⟩
  | 61 => ⟨S36x9, .i1⟩
  | 62 => ⟨S1x36x1x1x9, .i1⟩
  | 63 => ⟨S_, .f32⟩
  | 64 => ⟨S_, .f32⟩
  | 65 => ⟨S2x36x1x2048x9, .i1⟩
  | 66 => ⟨S2x36x1x2048x9, .f32⟩
  | 67 => ⟨S2x36x1x2048x9, .f32⟩
  | 68 => ⟨S2x36x1x2048x9, .f32⟩
  | 69 => ⟨S2x36x18432, .f32⟩
  | 70 => ⟨S1x36x1x1x9x1, .i1⟩
  | 71 => ⟨S_, .f32⟩
  | 72 => ⟨S_, .f32⟩
  | 73 => ⟨S2x36x1x2048x9x128, .i1⟩
  | 74 => ⟨S2x36x1x2048x9x128, .f32⟩
  | 75 => ⟨S2x36x1x2048x9x128, .f32⟩
  | 76 => ⟨S2x36x1x2048x9x128, .f32⟩
  | 77 => ⟨S2x36x18432x128, .f32⟩
  | 78 => ⟨S2x36x2048x128, .fp8e4m3⟩
  | 79 => ⟨S_, .i8⟩
  | 80 => ⟨S_, .fp8e4m3⟩
  | 81 => ⟨S2x36x2052x128, .fp8e4m3⟩
  | 82 => ⟨S2x36x1x228x9x128, .fp8e4m3⟩
  | 83 => ⟨S2x36x1x228x1x128, .fp8e4m3⟩
  | 84 => ⟨S2x36x1x228x128, .fp8e4m3⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S36, .i32⟩
  | 92 => ⟨S36, .i32⟩
  | 93 => ⟨S_, .i32⟩
  | 94 => ⟨S36, .i32⟩
  | 95 => ⟨S36, .i1⟩
  | 96 => ⟨S_, .i32⟩
  | 97 => ⟨S36, .i32⟩
  | 98 => ⟨S36, .i1⟩
  | 99 => ⟨S_, .i32⟩
  | 100 => ⟨S_, .i1⟩
  | 101 => ⟨S36, .i1⟩
  | 102 => ⟨S36, .i1⟩
  | 103 => ⟨S36, .i1⟩
  | 104 => ⟨S36, .i32⟩
  | 105 => ⟨S36, .i32⟩
  | 106 => ⟨S36, .i32⟩
  | 107 => ⟨S_, .i32⟩
  | 108 => ⟨S36, .i32⟩
  | 109 => ⟨S36, .i1⟩
  | 110 => ⟨S1x36x1x1x1, .i1⟩
  | 111 => ⟨S2x36x1x228x1x128, .fp8e4m3⟩
  | 112 => ⟨S2x36x1x228x128, .fp8e4m3⟩
  | 113 => ⟨S2x36x1x228x128, .i1⟩
  | 114 => ⟨S2x36x1x228x128, .fp8e4m3⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S36, .i32⟩
  | 122 => ⟨S36, .i32⟩
  | 123 => ⟨S_, .i32⟩
  | 124 => ⟨S36, .i32⟩
  | 125 => ⟨S36, .i1⟩
  | 126 => ⟨S_, .i32⟩
  | 127 => ⟨S36, .i32⟩
  | _ => ⟨S2x20480x36x128, .fp8e4m3⟩

abbrev hbmTy0_12 (i : Nat) : BufTy := match i % 128 with
  | 0 => ⟨S36, .i1⟩
  | 1 => ⟨S_, .i32⟩
  | 2 => ⟨S_, .i1⟩
  | 3 => ⟨S36, .i1⟩
  | 4 => ⟨S36, .i1⟩
  | 5 => ⟨S36, .i1⟩
  | 6 => ⟨S36, .i32⟩
  | 7 => ⟨S36, .i32⟩
  | 8 => ⟨S36, .i32⟩
  | 9 => ⟨S_, .i32⟩
  | 10 => ⟨S36, .i32⟩
  | 11 => ⟨S36, .i1⟩
  | 12 => ⟨S1x36x1x1x1, .i1⟩
  | 13 => ⟨S2x36x1x228x1x128, .fp8e4m3⟩
  | 14 => ⟨S2x36x1x228x128, .fp8e4m3⟩
  | 15 => ⟨S2x36x1x228x128, .i1⟩
  | 16 => ⟨S2x36x1x228x128, .fp8e4m3⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S36, .i32⟩
  | 24 => ⟨S36, .i32⟩
  | 25 => ⟨S_, .i32⟩
  | 26 => ⟨S36, .i32⟩
  | 27 => ⟨S36, .i1⟩
  | 28 => ⟨S_, .i32⟩
  | 29 => ⟨S36, .i32⟩
  | 30 => ⟨S36, .i1⟩
  | 31 => ⟨S_, .i32⟩
  | 32 => ⟨S_, .i1⟩
  | 33 => ⟨S36, .i1⟩
  | 34 => ⟨S36, .i1⟩
  | 35 => ⟨S36, .i1⟩
  | 36 => ⟨S36, .i32⟩
  | 37 => ⟨S36, .i32⟩
  | 38 => ⟨S36, .i32⟩
  | 39 => ⟨S_, .i32⟩
  | 40 => ⟨S36, .i32⟩
  | 41 => ⟨S36, .i1⟩
  | 42 => ⟨S1x36x1x1x1, .i1⟩
  | 43 => ⟨S2x36x1x228x1x128, .fp8e4m3⟩
  | 44 => ⟨S2x36x1x228x128, .fp8e4m3⟩
  | 45 => ⟨S2x36x1x228x128, .i1⟩
  | 46 => ⟨S2x36x1x228x128, .fp8e4m3⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S36, .i32⟩
  | 54 => ⟨S36, .i32⟩
  | 55 => ⟨S_, .i32⟩
  | 56 => ⟨S36, .i32⟩
  | 57 => ⟨S36, .i1⟩
  | 58 => ⟨S_, .i32⟩
  | 59 => ⟨S36, .i32⟩
  | 60 => ⟨S36, .i1⟩
  | 61 => ⟨S_, .i32⟩
  | 62 => ⟨S_, .i1⟩
  | 63 => ⟨S36, .i1⟩
  | 64 => ⟨S36, .i1⟩
  | 65 => ⟨S36, .i1⟩
  | 66 => ⟨S36, .i32⟩
  | 67 => ⟨S36, .i32⟩
  | 68 => ⟨S36, .i32⟩
  | 69 => ⟨S_, .i32⟩
  | 70 => ⟨S36, .i32⟩
  | 71 => ⟨S36, .i1⟩
  | 72 => ⟨S1x36x1x1x1, .i1⟩
  | 73 => ⟨S2x36x1x228x1x128, .fp8e4m3⟩
  | 74 => ⟨S2x36x1x228x128, .fp8e4m3⟩
  | 75 => ⟨S2x36x1x228x128, .i1⟩
  | 76 => ⟨S2x36x1x228x128, .fp8e4m3⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S36, .i32⟩
  | 84 => ⟨S36, .i32⟩
  | 85 => ⟨S_, .i32⟩
  | 86 => ⟨S36, .i32⟩
  | 87 => ⟨S36, .i1⟩
  | 88 => ⟨S_, .i32⟩
  | 89 => ⟨S36, .i32⟩
  | 90 => ⟨S36, .i1⟩
  | 91 => ⟨S_, .i32⟩
  | 92 => ⟨S_, .i1⟩
  | 93 => ⟨S36, .i1⟩
  | 94 => ⟨S36, .i1⟩
  | 95 => ⟨S36, .i1⟩
  | 96 => ⟨S36, .i32⟩
  | 97 => ⟨S36, .i32⟩
  | 98 => ⟨S36, .i32⟩
  | 99 => ⟨S_, .i32⟩
  | 100 => ⟨S36, .i32⟩
  | 101 => ⟨S36, .i1⟩
  | 102 => ⟨S1x36x1x1x1, .i1⟩
  | 103 => ⟨S2x36x1x228x1x128, .fp8e4m3⟩
  | 104 => ⟨S2x36x1x228x128, .fp8e4m3⟩
  | 105 => ⟨S2x36x1x228x128, .i1⟩
  | 106 => ⟨S2x36x1x228x128, .fp8e4m3⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S36, .i32⟩
  | 114 => ⟨S36, .i32⟩
  | 115 => ⟨S_, .i32⟩
  | 116 => ⟨S36, .i32⟩
  | 117 => ⟨S36, .i1⟩
  | 118 => ⟨S_, .i32⟩
  | 119 => ⟨S36, .i32⟩
  | 120 => ⟨S36, .i1⟩
  | 121 => ⟨S_, .i32⟩
  | 122 => ⟨S_, .i1⟩
  | 123 => ⟨S36, .i1⟩
  | 124 => ⟨S36, .i1⟩
  | 125 => ⟨S36, .i1⟩
  | 126 => ⟨S36, .i32⟩
  | 127 => ⟨S36, .i32⟩
  | _ => ⟨S2x20480x36x128, .fp8e4m3⟩

abbrev hbmTy0_13 (i : Nat) : BufTy := match i % 128 with
  | 0 => ⟨S36, .i32⟩
  | 1 => ⟨S_, .i32⟩
  | 2 => ⟨S36, .i32⟩
  | 3 => ⟨S36, .i1⟩
  | 4 => ⟨S1x36x1x1x1, .i1⟩
  | 5 => ⟨S2x36x1x228x1x128, .fp8e4m3⟩
  | 6 => ⟨S2x36x1x228x128, .fp8e4m3⟩
  | 7 => ⟨S2x36x1x228x128, .i1⟩
  | 8 => ⟨S2x36x1x228x128, .fp8e4m3⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S36, .i32⟩
  | 16 => ⟨S36, .i32⟩
  | 17 => ⟨S_, .i32⟩
  | 18 => ⟨S36, .i32⟩
  | 19 => ⟨S36, .i1⟩
  | 20 => ⟨S_, .i32⟩
  | 21 => ⟨S36, .i32⟩
  | 22 => ⟨S36, .i1⟩
  | 23 => ⟨S_, .i32⟩
  | 24 => ⟨S_, .i1⟩
  | 25 => ⟨S36, .i1⟩
  | 26 => ⟨S36, .i1⟩
  | 27 => ⟨S36, .i1⟩
  | 28 => ⟨S36, .i32⟩
  | 29 => ⟨S36, .i32⟩
  | 30 => ⟨S36, .i32⟩
  | 31 => ⟨S_, .i32⟩
  | 32 => ⟨S36, .i32⟩
  | 33 => ⟨S36, .i1⟩
  | 34 => ⟨S1x36x1x1x1, .i1⟩
  | 35 => ⟨S2x36x1x228x1x128, .fp8e4m3⟩
  | 36 => ⟨S2x36x1x228x128, .fp8e4m3⟩
  | 37 => ⟨S2x36x1x228x128, .i1⟩
  | 38 => ⟨S2x36x1x228x128, .fp8e4m3⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S36, .i32⟩
  | 46 => ⟨S36, .i32⟩
  | 47 => ⟨S_, .i32⟩
  | 48 => ⟨S36, .i32⟩
  | 49 => ⟨S36, .i1⟩
  | 50 => ⟨S_, .i32⟩
  | 51 => ⟨S36, .i32⟩
  | 52 => ⟨S36, .i1⟩
  | 53 => ⟨S_, .i32⟩
  | 54 => ⟨S_, .i1⟩
  | 55 => ⟨S36, .i1⟩
  | 56 => ⟨S36, .i1⟩
  | 57 => ⟨S36, .i1⟩
  | 58 => ⟨S36, .i32⟩
  | 59 => ⟨S36, .i32⟩
  | 60 => ⟨S36, .i32⟩
  | 61 => ⟨S_, .i32⟩
  | 62 => ⟨S36, .i32⟩
  | 63 => ⟨S36, .i1⟩
  | 64 => ⟨S1x36x1x1x1, .i1⟩
  | 65 => ⟨S2x36x1x228x1x128, .fp8e4m3⟩
  | 66 => ⟨S2x36x1x228x128, .fp8e4m3⟩
  | 67 => ⟨S2x36x1x228x128, .i1⟩
  | 68 => ⟨S2x36x1x228x128, .fp8e4m3⟩
  | 69 => ⟨S_, .i8⟩
  | 70 => ⟨S_, .fp8e4m3⟩
  | 71 => ⟨S2x36x1x256x128, .fp8e4m3⟩
  | 72 => ⟨S72x256x128, .fp8e4m3⟩
  | 73 => ⟨S2x36x2048x128, .fp8e4m3⟩
  | 74 => ⟨S_, .i8⟩
  | 75 => ⟨S_, .fp8e4m3⟩
  | 76 => ⟨S2x36x2052x128, .fp8e4m3⟩
  | 77 => ⟨S2x36x1x228x9x128, .fp8e4m3⟩
  | 78 => ⟨S2x36x1x228x1x128, .fp8e4m3⟩
  | 79 => ⟨S2x36x1x228x128, .fp8e4m3⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S36, .i32⟩
  | 87 => ⟨S36, .i32⟩
  | 88 => ⟨S_, .i32⟩
  | 89 => ⟨S36, .i32⟩
  | 90 => ⟨S36, .i1⟩
  | 91 => ⟨S_, .i32⟩
  | 92 => ⟨S36, .i32⟩
  | 93 => ⟨S36, .i1⟩
  | 94 => ⟨S_, .i32⟩
  | 95 => ⟨S_, .i1⟩
  | 96 => ⟨S36, .i1⟩
  | 97 => ⟨S36, .i1⟩
  | 98 => ⟨S36, .i1⟩
  | 99 => ⟨S36, .i32⟩
  | 100 => ⟨S36, .i32⟩
  | 101 => ⟨S36, .i32⟩
  | 102 => ⟨S_, .i32⟩
  | 103 => ⟨S36, .i32⟩
  | 104 => ⟨S36, .i1⟩
  | 105 => ⟨S1x36x1x1x1, .i1⟩
  | 106 => ⟨S2x36x1x228x1x128, .fp8e4m3⟩
  | 107 => ⟨S2x36x1x228x128, .fp8e4m3⟩
  | 108 => ⟨S2x36x1x228x128, .i1⟩
  | 109 => ⟨S2x36x1x228x128, .fp8e4m3⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S36, .i32⟩
  | 117 => ⟨S36, .i32⟩
  | 118 => ⟨S_, .i32⟩
  | 119 => ⟨S36, .i32⟩
  | 120 => ⟨S36, .i1⟩
  | 121 => ⟨S_, .i32⟩
  | 122 => ⟨S36, .i32⟩
  | 123 => ⟨S36, .i1⟩
  | 124 => ⟨S_, .i32⟩
  | 125 => ⟨S_, .i1⟩
  | 126 => ⟨S36, .i1⟩
  | 127 => ⟨S36, .i1⟩
  | _ => ⟨S2x20480x36x128, .fp8e4m3⟩

abbrev hbmTy0_14 (i : Nat) : BufTy := match i % 128 with
  | 0 => ⟨S36, .i1⟩
  | 1 => ⟨S36, .i32⟩
  | 2 => ⟨S36, .i32⟩
  | 3 => ⟨S36, .i32⟩
  | 4 => ⟨S_, .i32⟩
  | 5 => ⟨S36, .i32⟩
  | 6 => ⟨S36, .i1⟩
  | 7 => ⟨S1x36x1x1x1, .i1⟩
  | 8 => ⟨S2x36x1x228x1x128, .fp8e4m3⟩
  | 9 => ⟨S2x36x1x228x128, .fp8e4m3⟩
  | 10 => ⟨S2x36x1x228x128, .i1⟩
  | 11 => ⟨S2x36x1x228x128, .fp8e4m3⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S36, .i32⟩
  | 19 => ⟨S36, .i32⟩
  | 20 => ⟨S_, .i32⟩
  | 21 => ⟨S36, .i32⟩
  | 22 => ⟨S36, .i1⟩
  | 23 => ⟨S_, .i32⟩
  | 24 => ⟨S36, .i32⟩
  | 25 => ⟨S36, .i1⟩
  | 26 => ⟨S_, .i32⟩
  | 27 => ⟨S_, .i1⟩
  | 28 => ⟨S36, .i1⟩
  | 29 => ⟨S36, .i1⟩
  | 30 => ⟨S36, .i1⟩
  | 31 => ⟨S36, .i32⟩
  | 32 => ⟨S36, .i32⟩
  | 33 => ⟨S36, .i32⟩
  | 34 => ⟨S_, .i32⟩
  | 35 => ⟨S36, .i32⟩
  | 36 => ⟨S36, .i1⟩
  | 37 => ⟨S1x36x1x1x1, .i1⟩
  | 38 => ⟨S2x36x1x228x1x128, .fp8e4m3⟩
  | 39 => ⟨S2x36x1x228x128, .fp8e4m3⟩
  | 40 => ⟨S2x36x1x228x128, .i1⟩
  | 41 => ⟨S2x36x1x228x128, .fp8e4m3⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S36, .i32⟩
  | 49 => ⟨S36, .i32⟩
  | 50 => ⟨S_, .i32⟩
  | 51 => ⟨S36, .i32⟩
  | 52 => ⟨S36, .i1⟩
  | 53 => ⟨S_, .i32⟩
  | 54 => ⟨S36, .i32⟩
  | 55 => ⟨S36, .i1⟩
  | 56 => ⟨S_, .i32⟩
  | 57 => ⟨S_, .i1⟩
  | 58 => ⟨S36, .i1⟩
  | 59 => ⟨S36, .i1⟩
  | 60 => ⟨S36, .i1⟩
  | 61 => ⟨S36, .i32⟩
  | 62 => ⟨S36, .i32⟩
  | 63 => ⟨S36, .i32⟩
  | 64 => ⟨S_, .i32⟩
  | 65 => ⟨S36, .i32⟩
  | 66 => ⟨S36, .i1⟩
  | 67 => ⟨S1x36x1x1x1, .i1⟩
  | 68 => ⟨S2x36x1x228x1x128, .fp8e4m3⟩
  | 69 => ⟨S2x36x1x228x128, .fp8e4m3⟩
  | 70 => ⟨S2x36x1x228x128, .i1⟩
  | 71 => ⟨S2x36x1x228x128, .fp8e4m3⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S36, .i32⟩
  | 79 => ⟨S36, .i32⟩
  | 80 => ⟨S_, .i32⟩
  | 81 => ⟨S36, .i32⟩
  | 82 => ⟨S36, .i1⟩
  | 83 => ⟨S_, .i32⟩
  | 84 => ⟨S36, .i32⟩
  | 85 => ⟨S36, .i1⟩
  | 86 => ⟨S_, .i32⟩
  | 87 => ⟨S_, .i1⟩
  | 88 => ⟨S36, .i1⟩
  | 89 => ⟨S36, .i1⟩
  | 90 => ⟨S36, .i1⟩
  | 91 => ⟨S36, .i32⟩
  | 92 => ⟨S36, .i32⟩
  | 93 => ⟨S36, .i32⟩
  | 94 => ⟨S_, .i32⟩
  | 95 => ⟨S36, .i32⟩
  | 96 => ⟨S36, .i1⟩
  | 97 => ⟨S1x36x1x1x1, .i1⟩
  | 98 => ⟨S2x36x1x228x1x128, .fp8e4m3⟩
  | 99 => ⟨S2x36x1x228x128, .fp8e4m3⟩
  | 100 => ⟨S2x36x1x228x128, .i1⟩
  | 101 => ⟨S2x36x1x228x128, .fp8e4m3⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S36, .i32⟩
  | 109 => ⟨S36, .i32⟩
  | 110 => ⟨S_, .i32⟩
  | 111 => ⟨S36, .i32⟩
  | 112 => ⟨S36, .i1⟩
  | 113 => ⟨S_, .i32⟩
  | 114 => ⟨S36, .i32⟩
  | 115 => ⟨S36, .i1⟩
  | 116 => ⟨S_, .i32⟩
  | 117 => ⟨S_, .i1⟩
  | 118 => ⟨S36, .i1⟩
  | 119 => ⟨S36, .i1⟩
  | 120 => ⟨S36, .i1⟩
  | 121 => ⟨S36, .i32⟩
  | 122 => ⟨S36, .i32⟩
  | 123 => ⟨S36, .i32⟩
  | 124 => ⟨S_, .i32⟩
  | 125 => ⟨S36, .i32⟩
  | 126 => ⟨S36, .i1⟩
  | 127 => ⟨S1x36x1x1x1, .i1⟩
  | _ => ⟨S2x20480x36x128, .fp8e4m3⟩

abbrev hbmTy0_15 (i : Nat) : BufTy := match i % 128 with
  | 0 => ⟨S2x36x1x228x1x128, .fp8e4m3⟩
  | 1 => ⟨S2x36x1x228x128, .fp8e4m3⟩
  | 2 => ⟨S2x36x1x228x128, .i1⟩
  | 3 => ⟨S2x36x1x228x128, .fp8e4m3⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S36, .i32⟩
  | 11 => ⟨S36, .i32⟩
  | 12 => ⟨S_, .i32⟩
  | 13 => ⟨S36, .i32⟩
  | 14 => ⟨S36, .i1⟩
  | 15 => ⟨S_, .i32⟩
  | 16 => ⟨S36, .i32⟩
  | 17 => ⟨S36, .i1⟩
  | 18 => ⟨S_, .i32⟩
  | 19 => ⟨S_, .i1⟩
  | 20 => ⟨S36, .i1⟩
  | 21 => ⟨S36, .i1⟩
  | 22 => ⟨S36, .i1⟩
  | 23 => ⟨S36, .i32⟩
  | 24 => ⟨S36, .i32⟩
  | 25 => ⟨S36, .i32⟩
  | 26 => ⟨S_, .i32⟩
  | 27 => ⟨S36, .i32⟩
  | 28 => ⟨S36, .i1⟩
  | 29 => ⟨S1x36x1x1x1, .i1⟩
  | 30 => ⟨S2x36x1x228x1x128, .fp8e4m3⟩
  | 31 => ⟨S2x36x1x228x128, .fp8e4m3⟩
  | 32 => ⟨S2x36x1x228x128, .i1⟩
  | 33 => ⟨S2x36x1x228x128, .fp8e4m3⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S36, .i32⟩
  | 41 => ⟨S36, .i32⟩
  | 42 => ⟨S_, .i32⟩
  | 43 => ⟨S36, .i32⟩
  | 44 => ⟨S36, .i1⟩
  | 45 => ⟨S_, .i32⟩
  | 46 => ⟨S36, .i32⟩
  | 47 => ⟨S36, .i1⟩
  | 48 => ⟨S_, .i32⟩
  | 49 => ⟨S_, .i1⟩
  | 50 => ⟨S36, .i1⟩
  | 51 => ⟨S36, .i1⟩
  | 52 => ⟨S36, .i1⟩
  | 53 => ⟨S36, .i32⟩
  | 54 => ⟨S36, .i32⟩
  | 55 => ⟨S36, .i32⟩
  | 56 => ⟨S_, .i32⟩
  | 57 => ⟨S36, .i32⟩
  | 58 => ⟨S36, .i1⟩
  | 59 => ⟨S1x36x1x1x1, .i1⟩
  | 60 => ⟨S2x36x1x228x1x128, .fp8e4m3⟩
  | 61 => ⟨S2x36x1x228x128, .fp8e4m3⟩
  | 62 => ⟨S2x36x1x228x128, .i1⟩
  | 63 => ⟨S2x36x1x228x128, .fp8e4m3⟩
  | 64 => ⟨S_, .i8⟩
  | 65 => ⟨S_, .fp8e4m3⟩
  | 66 => ⟨S2x36x1x256x128, .fp8e4m3⟩
  | 67 => ⟨S72x256x128, .fp8e4m3⟩
  | 68 => ⟨S2x36x2048x128, .fp8e4m3⟩
  | 69 => ⟨S_, .i8⟩
  | 70 => ⟨S_, .fp8e4m3⟩
  | 71 => ⟨S2x36x2052x128, .fp8e4m3⟩
  | 72 => ⟨S2x36x1x228x9x128, .fp8e4m3⟩
  | 73 => ⟨S2x36x1x228x1x128, .fp8e4m3⟩
  | 74 => ⟨S2x36x1x228x128, .fp8e4m3⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S36, .i32⟩
  | 82 => ⟨S36, .i32⟩
  | 83 => ⟨S_, .i32⟩
  | 84 => ⟨S36, .i32⟩
  | 85 => ⟨S36, .i1⟩
  | 86 => ⟨S_, .i32⟩
  | 87 => ⟨S36, .i32⟩
  | 88 => ⟨S36, .i1⟩
  | 89 => ⟨S_, .i32⟩
  | 90 => ⟨S_, .i1⟩
  | 91 => ⟨S36, .i1⟩
  | 92 => ⟨S36, .i1⟩
  | 93 => ⟨S36, .i1⟩
  | 94 => ⟨S36, .i32⟩
  | 95 => ⟨S36, .i32⟩
  | 96 => ⟨S36, .i32⟩
  | 97 => ⟨S_, .i32⟩
  | 98 => ⟨S36, .i32⟩
  | 99 => ⟨S36, .i1⟩
  | 100 => ⟨S1x36x1x1x1, .i1⟩
  | 101 => ⟨S2x36x1x228x1x128, .fp8e4m3⟩
  | 102 => ⟨S2x36x1x228x128, .fp8e4m3⟩
  | 103 => ⟨S2x36x1x228x128, .i1⟩
  | 104 => ⟨S2x36x1x228x128, .fp8e4m3⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S36, .i32⟩
  | 112 => ⟨S36, .i32⟩
  | 113 => ⟨S_, .i32⟩
  | 114 => ⟨S36, .i32⟩
  | 115 => ⟨S36, .i1⟩
  | 116 => ⟨S_, .i32⟩
  | 117 => ⟨S36, .i32⟩
  | 118 => ⟨S36, .i1⟩
  | 119 => ⟨S_, .i32⟩
  | 120 => ⟨S_, .i1⟩
  | 121 => ⟨S36, .i1⟩
  | 122 => ⟨S36, .i1⟩
  | 123 => ⟨S36, .i1⟩
  | 124 => ⟨S36, .i32⟩
  | 125 => ⟨S36, .i32⟩
  | 126 => ⟨S36, .i32⟩
  | 127 => ⟨S_, .i32⟩
  | _ => ⟨S2x20480x36x128, .fp8e4m3⟩

abbrev hbmTy0_16 (i : Nat) : BufTy := match i % 128 with
  | 0 => ⟨S36, .i32⟩
  | 1 => ⟨S36, .i1⟩
  | 2 => ⟨S1x36x1x1x1, .i1⟩
  | 3 => ⟨S2x36x1x228x1x128, .fp8e4m3⟩
  | 4 => ⟨S2x36x1x228x128, .fp8e4m3⟩
  | 5 => ⟨S2x36x1x228x128, .i1⟩
  | 6 => ⟨S2x36x1x228x128, .fp8e4m3⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S36, .i32⟩
  | 14 => ⟨S36, .i32⟩
  | 15 => ⟨S_, .i32⟩
  | 16 => ⟨S36, .i32⟩
  | 17 => ⟨S36, .i1⟩
  | 18 => ⟨S_, .i32⟩
  | 19 => ⟨S36, .i32⟩
  | 20 => ⟨S36, .i1⟩
  | 21 => ⟨S_, .i32⟩
  | 22 => ⟨S_, .i1⟩
  | 23 => ⟨S36, .i1⟩
  | 24 => ⟨S36, .i1⟩
  | 25 => ⟨S36, .i1⟩
  | 26 => ⟨S36, .i32⟩
  | 27 => ⟨S36, .i32⟩
  | 28 => ⟨S36, .i32⟩
  | 29 => ⟨S_, .i32⟩
  | 30 => ⟨S36, .i32⟩
  | 31 => ⟨S36, .i1⟩
  | 32 => ⟨S1x36x1x1x1, .i1⟩
  | 33 => ⟨S2x36x1x228x1x128, .fp8e4m3⟩
  | 34 => ⟨S2x36x1x228x128, .fp8e4m3⟩
  | 35 => ⟨S2x36x1x228x128, .i1⟩
  | 36 => ⟨S2x36x1x228x128, .fp8e4m3⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S36, .i32⟩
  | 44 => ⟨S36, .i32⟩
  | 45 => ⟨S_, .i32⟩
  | 46 => ⟨S36, .i32⟩
  | 47 => ⟨S36, .i1⟩
  | 48 => ⟨S_, .i32⟩
  | 49 => ⟨S36, .i32⟩
  | 50 => ⟨S36, .i1⟩
  | 51 => ⟨S_, .i32⟩
  | 52 => ⟨S_, .i1⟩
  | 53 => ⟨S36, .i1⟩
  | 54 => ⟨S36, .i1⟩
  | 55 => ⟨S36, .i1⟩
  | 56 => ⟨S36, .i32⟩
  | 57 => ⟨S36, .i32⟩
  | 58 => ⟨S36, .i32⟩
  | 59 => ⟨S_, .i32⟩
  | 60 => ⟨S36, .i32⟩
  | 61 => ⟨S36, .i1⟩
  | 62 => ⟨S1x36x1x1x1, .i1⟩
  | 63 => ⟨S2x36x1x228x1x128, .fp8e4m3⟩
  | 64 => ⟨S2x36x1x228x128, .fp8e4m3⟩
  | 65 => ⟨S2x36x1x228x128, .i1⟩
  | 66 => ⟨S2x36x1x228x128, .fp8e4m3⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S36, .i32⟩
  | 74 => ⟨S36, .i32⟩
  | 75 => ⟨S_, .i32⟩
  | 76 => ⟨S36, .i32⟩
  | 77 => ⟨S36, .i1⟩
  | 78 => ⟨S_, .i32⟩
  | 79 => ⟨S36, .i32⟩
  | 80 => ⟨S36, .i1⟩
  | 81 => ⟨S_, .i32⟩
  | 82 => ⟨S_, .i1⟩
  | 83 => ⟨S36, .i1⟩
  | 84 => ⟨S36, .i1⟩
  | 85 => ⟨S36, .i1⟩
  | 86 => ⟨S36, .i32⟩
  | 87 => ⟨S36, .i32⟩
  | 88 => ⟨S36, .i32⟩
  | 89 => ⟨S_, .i32⟩
  | 90 => ⟨S36, .i32⟩
  | 91 => ⟨S36, .i1⟩
  | 92 => ⟨S1x36x1x1x1, .i1⟩
  | 93 => ⟨S2x36x1x228x1x128, .fp8e4m3⟩
  | 94 => ⟨S2x36x1x228x128, .fp8e4m3⟩
  | 95 => ⟨S2x36x1x228x128, .i1⟩
  | 96 => ⟨S2x36x1x228x128, .fp8e4m3⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S36, .i32⟩
  | 104 => ⟨S36, .i32⟩
  | 105 => ⟨S_, .i32⟩
  | 106 => ⟨S36, .i32⟩
  | 107 => ⟨S36, .i1⟩
  | 108 => ⟨S_, .i32⟩
  | 109 => ⟨S36, .i32⟩
  | 110 => ⟨S36, .i1⟩
  | 111 => ⟨S_, .i32⟩
  | 112 => ⟨S_, .i1⟩
  | 113 => ⟨S36, .i1⟩
  | 114 => ⟨S36, .i1⟩
  | 115 => ⟨S36, .i1⟩
  | 116 => ⟨S36, .i32⟩
  | 117 => ⟨S36, .i32⟩
  | 118 => ⟨S36, .i32⟩
  | 119 => ⟨S_, .i32⟩
  | 120 => ⟨S36, .i32⟩
  | 121 => ⟨S36, .i1⟩
  | 122 => ⟨S1x36x1x1x1, .i1⟩
  | 123 => ⟨S2x36x1x228x1x128, .fp8e4m3⟩
  | 124 => ⟨S2x36x1x228x128, .fp8e4m3⟩
  | 125 => ⟨S2x36x1x228x128, .i1⟩
  | 126 => ⟨S2x36x1x228x128, .fp8e4m3⟩
  | 127 => ⟨S_, .i32⟩
  | _ => ⟨S2x20480x36x128, .fp8e4m3⟩

abbrev hbmTy0_17 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S36, .i32⟩
  | 6 => ⟨S36, .i32⟩
  | 7 => ⟨S_, .i32⟩
  | 8 => ⟨S36, .i32⟩
  | 9 => ⟨S36, .i1⟩
  | 10 => ⟨S_, .i32⟩
  | 11 => ⟨S36, .i32⟩
  | 12 => ⟨S36, .i1⟩
  | 13 => ⟨S_, .i32⟩
  | 14 => ⟨S_, .i1⟩
  | 15 => ⟨S36, .i1⟩
  | 16 => ⟨S36, .i1⟩
  | 17 => ⟨S36, .i1⟩
  | 18 => ⟨S36, .i32⟩
  | 19 => ⟨S36, .i32⟩
  | 20 => ⟨S36, .i32⟩
  | 21 => ⟨S_, .i32⟩
  | 22 => ⟨S36, .i32⟩
  | 23 => ⟨S36, .i1⟩
  | 24 => ⟨S1x36x1x1x1, .i1⟩
  | 25 => ⟨S2x36x1x228x1x128, .fp8e4m3⟩
  | 26 => ⟨S2x36x1x228x128, .fp8e4m3⟩
  | 27 => ⟨S2x36x1x228x128, .i1⟩
  | 28 => ⟨S2x36x1x228x128, .fp8e4m3⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S36, .i32⟩
  | 36 => ⟨S36, .i32⟩
  | 37 => ⟨S_, .i32⟩
  | 38 => ⟨S36, .i32⟩
  | 39 => ⟨S36, .i1⟩
  | 40 => ⟨S_, .i32⟩
  | 41 => ⟨S36, .i32⟩
  | 42 => ⟨S36, .i1⟩
  | 43 => ⟨S_, .i32⟩
  | 44 => ⟨S_, .i1⟩
  | 45 => ⟨S36, .i1⟩
  | 46 => ⟨S36, .i1⟩
  | 47 => ⟨S36, .i1⟩
  | 48 => ⟨S36, .i32⟩
  | 49 => ⟨S36, .i32⟩
  | 50 => ⟨S36, .i32⟩
  | 51 => ⟨S_, .i32⟩
  | 52 => ⟨S36, .i32⟩
  | 53 => ⟨S36, .i1⟩
  | 54 => ⟨S1x36x1x1x1, .i1⟩
  | 55 => ⟨S2x36x1x228x1x128, .fp8e4m3⟩
  | 56 => ⟨S2x36x1x228x128, .fp8e4m3⟩
  | 57 => ⟨S2x36x1x228x128, .i1⟩
  | 58 => ⟨S2x36x1x228x128, .fp8e4m3⟩
  | 59 => ⟨S_, .i8⟩
  | 60 => ⟨S_, .fp8e4m3⟩
  | 61 => ⟨S2x36x1x256x128, .fp8e4m3⟩
  | 62 => ⟨S72x256x128, .fp8e4m3⟩
  | 63 => ⟨S72x1, .f32⟩
  | 64 => ⟨S72x1x1, .f32⟩
  | 65 => ⟨S72x1, .f32⟩
  | 66 => ⟨S72x1, .f32⟩
  | 67 => ⟨S72x1x1, .f32⟩
  | 68 => ⟨S72x1, .f32⟩
  | 69 => ⟨S72x256x128, .f32⟩
  | 70 => ⟨S72x256x1, .f32⟩
  | 71 => ⟨S72x256, .f32⟩
  | 72 => ⟨S72x228x128, .f32⟩
  | 73 => ⟨S2x36x1x228x1x128, .f32⟩
  | 74 => ⟨S72x228, .f32⟩
  | 75 => ⟨S2x36x1x228x1, .f32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S36, .i32⟩
  | 83 => ⟨S36, .i32⟩
  | 84 => ⟨S_, .i32⟩
  | 85 => ⟨S36, .i32⟩
  | 86 => ⟨S36, .i1⟩
  | 87 => ⟨S_, .i32⟩
  | 88 => ⟨S36, .i32⟩
  | 89 => ⟨S36, .i1⟩
  | 90 => ⟨S_, .i32⟩
  | 91 => ⟨S_, .i1⟩
  | 92 => ⟨S36, .i1⟩
  | 93 => ⟨S36, .i1⟩
  | 94 => ⟨S36, .i1⟩
  | 95 => ⟨S36, .i32⟩
  | 96 => ⟨S36, .i32⟩
  | 97 => ⟨S36, .i32⟩
  | 98 => ⟨S36x1, .i32⟩
  | 99 => ⟨S9, .i32⟩
  | 100 => ⟨S1x9, .i32⟩
  | 101 => ⟨S36x9, .i32⟩
  | 102 => ⟨S36x9, .i32⟩
  | 103 => ⟨S36x9, .i1⟩
  | 104 => ⟨S1x36x1x1x9, .i1⟩
  | 105 => ⟨S_, .f32⟩
  | 106 => ⟨S_, .f32⟩
  | 107 => ⟨S2x36x1x228x9, .i1⟩
  | 108 => ⟨S2x36x1x228x9, .f32⟩
  | 109 => ⟨S2x36x1x228x9, .f32⟩
  | 110 => ⟨S2x36x1x228x9, .f32⟩
  | 111 => ⟨S2x36x2052, .f32⟩
  | 112 => ⟨S1x36x1x1x9x1, .i1⟩
  | 113 => ⟨S_, .f32⟩
  | 114 => ⟨S_, .f32⟩
  | 115 => ⟨S2x36x1x228x9x128, .i1⟩
  | 116 => ⟨S2x36x1x228x9x128, .f32⟩
  | 117 => ⟨S2x36x1x228x9x128, .f32⟩
  | 118 => ⟨S2x36x1x228x9x128, .f32⟩
  | 119 => ⟨S2x36x2052x128, .f32⟩
  | 120 => ⟨S2x36x2048x128, .f32⟩
  | 121 => ⟨S2x36x2048, .f32⟩
  | 122 => ⟨S2x36x20480x128, .f32⟩
  | 123 => ⟨S2x36x20480, .f32⟩
  | 124 => ⟨S1x2x36x20480, .f32⟩
  | 125 => ⟨S1x2x36x20480, .f32⟩
  | 126 => ⟨S1x2x36x20480, .f32⟩
  | 127 => ⟨S3x2x36x20480, .f32⟩
  | _ => ⟨S2x20480x36x128, .fp8e4m3⟩

abbrev hbmTy0_18 (i : Nat) : BufTy := match i % 128 with
  | 0 => ⟨S_, .f32⟩
  | 1 => ⟨S2x36x20480, .f32⟩
  | 2 => ⟨S_, .f32⟩
  | 3 => ⟨S2x36x20480, .f32⟩
  | 4 => ⟨S2x36x20480, .f32⟩
  | 5 => ⟨S2x36x20480, .f32⟩
  | 6 => ⟨S_, .f32⟩
  | 7 => ⟨S2x36x20480, .f32⟩
  | 8 => ⟨S2x36x20480, .i1⟩
  | 9 => ⟨S_, .f32⟩
  | 10 => ⟨S2x36x20480, .f32⟩
  | 11 => ⟨S2x36x20480, .f32⟩
  | 12 => ⟨S1x2x36x20480, .f32⟩
  | 13 => ⟨S3x2x36x20480, .f32⟩
  | 14 => ⟨S3x2x36x20480, .f32⟩
  | 15 => ⟨S3x2x36x20480, .f32⟩
  | 16 => ⟨S_, .f32⟩
  | 17 => ⟨S2x36x20480, .f32⟩
  | 18 => ⟨S2x36x20480, .f32⟩
  | 19 => ⟨S2x36x20480, .f32⟩
  | 20 => ⟨S2x36x20480, .f32⟩
  | 21 => ⟨S2x36x20480, .f32⟩
  | 22 => ⟨S2x36x20480, .f32⟩
  | 23 => ⟨S2x36x20480x1, .f32⟩
  | 24 => ⟨S2x36x20480x128, .f32⟩
  | 25 => ⟨S2x36x20480x128, .f32⟩
  | 26 => ⟨S_, .f32⟩
  | 27 => ⟨S2x36x20480x128, .f32⟩
  | 28 => ⟨S2x36x20480x128, .f32⟩
  | 29 => ⟨S2x36x20480, .f32⟩
  | 30 => ⟨S2x36x20480, .f32⟩
  | 31 => ⟨S2x36x20480x1, .f32⟩
  | 32 => ⟨S2x36x20480x128, .f32⟩
  | 33 => ⟨S2x36x20480x128, .f32⟩
  | 34 => ⟨S2x36x20480x128, .f32⟩
  | 35 => ⟨S2x36x20480, .f32⟩
  | 36 => ⟨S2x36x20480, .f32⟩
  | 37 => ⟨S2x36x20480x1, .f32⟩
  | 38 => ⟨S2x36x20480x128, .f32⟩
  | 39 => ⟨S2x36x20480x128, .f32⟩
  | 40 => ⟨S2x36x20480x128, .f32⟩
  | 41 => ⟨S2x20480x36x128, .f32⟩
  | 42 => ⟨S2x20480x4608, .f32⟩
  | 43 => ⟨S2x20480x4608, .bf16⟩
  | 44 => ⟨S2x20480x36, .f32⟩
  | _ => ⟨S2x20480x36x128, .fp8e4m3⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | _ => ⟨S2x20480x36x128, .fp8e4m3⟩

abbrev bufTy : (tb : Table) → Fin (tcTables nBuf tb) → BufTy
  | .hbm, ⟨i, _⟩ => hbmTy i
  | .local _ .vmem, ⟨0, _⟩ => ⟨S1x2048x128, .fp8e4m3⟩
  | .local _ .vmem, ⟨1, _⟩ => ⟨S1x2048x128, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x2048x128, .f32⟩
  | .local _ .vmem, ⟨7, _⟩ => ⟨S1x2048x128, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x128, .fp8e4m3⟩
  | .local _ .vmem, ⟨11, _⟩ => ⟨S1x2048x128, .fp8e4m3⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x2048x128, .fp8e4m3⟩
  | .local _ .vmem, ⟨15, _⟩ => ⟨S1x2048x128, .fp8e4m3⟩
  | .local _ .vmem, ⟨16, _⟩ => ⟨S1x2048x128, .f32⟩
  | .local _ .vmem, ⟨17, _⟩ => ⟨S1x2048x128, .f32⟩
  | .local _ .vmem, ⟨18, _⟩ => ⟨S1x2048x1, .f32⟩
  | .local _ .vmem, ⟨19, _⟩ => ⟨S1x2048x1, .f32⟩
  | .local _ .vmem, ⟨20, _⟩ => ⟨S1x704x128, .fp8e4m3⟩
  | .local _ .vmem, ⟨21, _⟩ => ⟨S1x704x128, .fp8e4m3⟩
  | .local _ .vmem, ⟨22, _⟩ => ⟨S1x704x128, .fp8e4m3⟩
  | .local _ .vmem, ⟨23, _⟩ => ⟨S1x704x128, .fp8e4m3⟩
  | .local _ .vmem, ⟨24, _⟩ => ⟨S1x704x128, .fp8e4m3⟩
  | .local _ .vmem, ⟨25, _⟩ => ⟨S1x704x128, .fp8e4m3⟩
  | .local _ .vmem, ⟨26, _⟩ => ⟨S1x704x128, .f32⟩
  | .local _ .vmem, ⟨27, _⟩ => ⟨S1x704x128, .f32⟩
  | .local _ .vmem, ⟨28, _⟩ => ⟨S1x704x1, .f32⟩
  | .local _ .vmem, ⟨29, _⟩ => ⟨S1x704x1, .f32⟩
  | .local _ .vmem, ⟨30, _⟩ => ⟨S1x2048x128, .fp8e4m3⟩
  | .local _ .vmem, ⟨31, _⟩ => ⟨S1x2048x128, .fp8e4m3⟩
  | .local _ .vmem, ⟨32, _⟩ => ⟨S1x2048x128, .fp8e4m3⟩
  | .local _ .vmem, ⟨33, _⟩ => ⟨S1x2048x128, .fp8e4m3⟩
  | .local _ .vmem, ⟨34, _⟩ => ⟨S1x2048x128, .fp8e4m3⟩
  | .local _ .vmem, ⟨35, _⟩ => ⟨S1x2048x128, .fp8e4m3⟩
  | .local _ .vmem, ⟨36, _⟩ => ⟨S1x2048x128, .f32⟩
  | .local _ .vmem, ⟨37, _⟩ => ⟨S1x2048x128, .f32⟩
  | .local _ .vmem, ⟨38, _⟩ => ⟨S1x2048x1, .f32⟩
  | .local _ .vmem, ⟨39, _⟩ => ⟨S1x2048x1, .f32⟩
  | .local _ .vmem, ⟨40, _⟩ => ⟨S1x256x128, .fp8e4m3⟩
  | .local _ .vmem, ⟨41, _⟩ => ⟨S1x256x128, .fp8e4m3⟩
  | .local _ .vmem, ⟨42, _⟩ => ⟨S1x256x128, .fp8e4m3⟩
  | .local _ .vmem, ⟨43, _⟩ => ⟨S1x256x128, .fp8e4m3⟩
  | .local _ .vmem, ⟨44, _⟩ => ⟨S1x256x128, .fp8e4m3⟩
  | .local _ .vmem, ⟨45, _⟩ => ⟨S1x256x128, .fp8e4m3⟩
  | .local _ .vmem, ⟨46, _⟩ => ⟨S1x256x128, .f32⟩
  | .local _ .vmem, ⟨47, _⟩ => ⟨S1x256x128, .f32⟩
  | .local _ .vmem, ⟨48, _⟩ => ⟨S1x256x1, .f32⟩
  | .local _ .vmem, ⟨49, _⟩ => ⟨S1x256x1, .f32⟩
  | .local _ .smem, ⟨0, _⟩ => ⟨S720x1, .f32⟩
  | .local _ .smem, ⟨1, _⟩ => ⟨S720x1, .f32⟩
  | .local _ .smem, ⟨2, _⟩ => ⟨S216x1, .f32⟩
  | .local _ .smem, ⟨3, _⟩ => ⟨S216x1, .f32⟩
  | .local _ .smem, ⟨4, _⟩ => ⟨S72x1, .f32⟩
  | .local _ .smem, ⟨5, _⟩ => ⟨S72x1, .f32⟩
  | .local _ .smem, ⟨6, _⟩ => ⟨S72x1, .f32⟩
  | .local _ .smem, ⟨7, _⟩ => ⟨S72x1, .f32⟩
  | .local _ .smem, ⟨8, _⟩ => ⟨S72x1, .f32⟩
  | .local _ .smem, ⟨9, _⟩ => ⟨S72x1, .f32⟩
  | _, _ => ⟨S2x20480x36x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54_0 : Ref sig .tc := ⟨.hbm, 88, rfl⟩
abbrev main_v54_1 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_10 : Ref sig .tc := ⟨.hbm, 93, rfl⟩
abbrev main_call1_v0 : Ref sig .tc := ⟨.hbm, 94, rfl⟩
abbrev main_call1_c : Ref sig .tc := ⟨.hbm, 95, rfl⟩
abbrev main_call1_v1 : Ref sig .tc := ⟨.hbm, 96, rfl⟩
abbrev main_call1_c_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_c_1 : Ref sig .tc := ⟨.hbm, 101, rfl⟩
abbrev main_call1_v5 : Ref sig .tc := ⟨.hbm, 102, rfl⟩
abbrev main_call1_v6 : Ref sig .tc := ⟨.hbm, 103, rfl⟩
abbrev main_call1_c_2 : Ref sig .tc := ⟨.hbm, 104, rfl⟩
abbrev main_call1_v7 : Ref sig .tc := ⟨.hbm, 105, rfl⟩
abbrev main_call1_v8 : Ref sig .tc := ⟨.hbm, 106, rfl⟩
abbrev main_call1_c_3 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_v12 : Ref sig .tc := ⟨.hbm, 111, rfl⟩
abbrev main_call1_v13 : Ref sig .tc := ⟨.hbm, 112, rfl⟩
abbrev main_call1_v14 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_11 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_cst_12 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_c_13 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_c_14 : Ref sig .tc := ⟨.hbm, 142, rfl⟩
abbrev main_call4_v0 : Ref sig .tc := ⟨.hbm, 143, rfl⟩
abbrev main_call4_c : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_c_1 : Ref sig .tc := ⟨.hbm, 150, rfl⟩
abbrev main_call4_v5 : Ref sig .tc := ⟨.hbm, 151, rfl⟩
abbrev main_call4_v6 : Ref sig .tc := ⟨.hbm, 152, rfl⟩
abbrev main_call4_c_2 : Ref sig .tc := ⟨.hbm, 153, rfl⟩
abbrev main_call4_v7 : Ref sig .tc := ⟨.hbm, 154, rfl⟩
abbrev main_call4_v8 : Ref sig .tc := ⟨.hbm, 155, rfl⟩
abbrev main_call4_c_3 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_v77 : Ref sig .tc := ⟨.hbm, 163, rfl⟩
abbrev main_c_15 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_call5_v0 : Ref sig .tc := ⟨.hbm, 170, rfl⟩
abbrev main_v83 : Ref sig .tc := ⟨.hbm, 171, rfl⟩
abbrev main_c_16 : Ref sig .tc := ⟨.hbm, 172, rfl⟩
abbrev main_call6_v0 : Ref sig .tc := ⟨.hbm, 173, rfl⟩
abbrev main_call6_c : Ref sig .tc := ⟨.hbm, 174, rfl⟩
abbrev main_call6_v1 : Ref sig .tc := ⟨.hbm, 175, rfl⟩
abbrev main_call6_c_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_c_1 : Ref sig .tc := ⟨.hbm, 180, rfl⟩
abbrev main_call6_v5 : Ref sig .tc := ⟨.hbm, 181, rfl⟩
abbrev main_call6_v6 : Ref sig .tc := ⟨.hbm, 182, rfl⟩
abbrev main_call6_c_2 : Ref sig .tc := ⟨.hbm, 183, rfl⟩
abbrev main_call6_v7 : Ref sig .tc := ⟨.hbm, 184, rfl⟩
abbrev main_call6_v8 : Ref sig .tc := ⟨.hbm, 185, rfl⟩
abbrev main_call6_c_3 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_v12 : Ref sig .tc := ⟨.hbm, 190, rfl⟩
abbrev main_call6_v13 : Ref sig .tc := ⟨.hbm, 191, rfl⟩
abbrev main_call6_v14 : Ref sig .tc := ⟨.hbm, 192, rfl⟩
abbrev main_v84 : Ref sig .tc := ⟨.hbm, 193, rfl⟩
abbrev main_c_17 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_call7_v0 : Ref sig .tc := ⟨.hbm, 200, rfl⟩
abbrev main_v90 : Ref sig .tc := ⟨.hbm, 201, rfl⟩
abbrev main_c_18 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_v94 : Ref sig .tc := ⟨.hbm, 206, rfl⟩
abbrev main_c_19 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_c_20 : Ref sig .tc := ⟨.hbm, 213, rfl⟩
abbrev main_call8_v0 : Ref sig .tc := ⟨.hbm, 214, rfl⟩
abbrev main_call8_c : Ref sig .tc := ⟨.hbm, 215, rfl⟩
abbrev main_call8_v1 : Ref sig .tc := ⟨.hbm, 216, rfl⟩
abbrev main_call8_c_0 : Ref sig .tc := ⟨.hbm, 217, rfl⟩
abbrev main_call8_v2 : Ref sig .tc := ⟨.hbm, 218, rfl⟩
abbrev main_call8_v3 : Ref sig .tc := ⟨.hbm, 219, rfl⟩
abbrev main_call8_v4 : Ref sig .tc := ⟨.hbm, 220, rfl⟩
abbrev main_call8_c_1 : Ref sig .tc := ⟨.hbm, 221, rfl⟩
abbrev main_call8_v5 : Ref sig .tc := ⟨.hbm, 222, rfl⟩
abbrev main_call8_v6 : Ref sig .tc := ⟨.hbm, 223, rfl⟩
abbrev main_call8_c_2 : Ref sig .tc := ⟨.hbm, 224, rfl⟩
abbrev main_call8_v7 : Ref sig .tc := ⟨.hbm, 225, rfl⟩
abbrev main_call8_v8 : Ref sig .tc := ⟨.hbm, 226, rfl⟩
abbrev main_call8_c_3 : Ref sig .tc := ⟨.hbm, 227, rfl⟩
abbrev main_call8_v9 : Ref sig .tc := ⟨.hbm, 228, rfl⟩
abbrev main_call8_v10 : Ref sig .tc := ⟨.hbm, 229, rfl⟩
abbrev main_call8_v11 : Ref sig .tc := ⟨.hbm, 230, rfl⟩
abbrev main_call8_v12 : Ref sig .tc := ⟨.hbm, 231, rfl⟩
abbrev main_call8_v13 : Ref sig .tc := ⟨.hbm, 232, rfl⟩
abbrev main_call8_v14 : Ref sig .tc := ⟨.hbm, 233, rfl⟩
abbrev main_v100 : Ref sig .tc := ⟨.hbm, 234, rfl⟩
abbrev main_c_21 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_call9_v0 : Ref sig .tc := ⟨.hbm, 241, rfl⟩
abbrev main_v106 : Ref sig .tc := ⟨.hbm, 242, rfl⟩
abbrev main_c_22 : Ref sig .tc := ⟨.hbm, 243, rfl⟩
abbrev main_call10_v0 : Ref sig .tc := ⟨.hbm, 244, rfl⟩
abbrev main_call10_c : Ref sig .tc := ⟨.hbm, 245, rfl⟩
abbrev main_call10_v1 : Ref sig .tc := ⟨.hbm, 246, rfl⟩
abbrev main_call10_c_0 : Ref sig .tc := ⟨.hbm, 247, rfl⟩
abbrev main_call10_v2 : Ref sig .tc := ⟨.hbm, 248, rfl⟩
abbrev main_call10_v3 : Ref sig .tc := ⟨.hbm, 249, rfl⟩
abbrev main_call10_v4 : Ref sig .tc := ⟨.hbm, 250, rfl⟩
abbrev main_call10_c_1 : Ref sig .tc := ⟨.hbm, 251, rfl⟩
abbrev main_call10_v5 : Ref sig .tc := ⟨.hbm, 252, rfl⟩
abbrev main_call10_v6 : Ref sig .tc := ⟨.hbm, 253, rfl⟩
abbrev main_call10_c_2 : Ref sig .tc := ⟨.hbm, 254, rfl⟩
abbrev main_call10_v7 : Ref sig .tc := ⟨.hbm, 255, rfl⟩
abbrev main_call10_v8 : Ref sig .tc := ⟨.hbm, 256, rfl⟩
abbrev main_call10_c_3 : Ref sig .tc := ⟨.hbm, 257, rfl⟩
abbrev main_call10_v9 : Ref sig .tc := ⟨.hbm, 258, rfl⟩
abbrev main_call10_v10 : Ref sig .tc := ⟨.hbm, 259, rfl⟩
abbrev main_call10_v11 : Ref sig .tc := ⟨.hbm, 260, rfl⟩
abbrev main_call10_v12 : Ref sig .tc := ⟨.hbm, 261, rfl⟩
abbrev main_call10_v13 : Ref sig .tc := ⟨.hbm, 262, rfl⟩
abbrev main_call10_v14 : Ref sig .tc := ⟨.hbm, 263, rfl⟩
abbrev main_v107 : Ref sig .tc := ⟨.hbm, 264, rfl⟩
abbrev main_c_23 : Ref sig .tc := ⟨.hbm, 265, rfl⟩
abbrev main_v108 : Ref sig .tc := ⟨.hbm, 266, rfl⟩
abbrev main_v109 : Ref sig .tc := ⟨.hbm, 267, rfl⟩
abbrev main_v110 : Ref sig .tc := ⟨.hbm, 268, rfl⟩
abbrev main_v111 : Ref sig .tc := ⟨.hbm, 269, rfl⟩
abbrev main_v112 : Ref sig .tc := ⟨.hbm, 270, rfl⟩
abbrev main_call11_v0 : Ref sig .tc := ⟨.hbm, 271, rfl⟩
abbrev main_v113 : Ref sig .tc := ⟨.hbm, 272, rfl⟩
abbrev main_c_24 : Ref sig .tc := ⟨.hbm, 273, rfl⟩
abbrev main_v114 : Ref sig .tc := ⟨.hbm, 274, rfl⟩
abbrev main_v115 : Ref sig .tc := ⟨.hbm, 275, rfl⟩
abbrev main_v116 : Ref sig .tc := ⟨.hbm, 276, rfl⟩
abbrev main_v117 : Ref sig .tc := ⟨.hbm, 277, rfl⟩
abbrev main_c_25 : Ref sig .tc := ⟨.hbm, 278, rfl⟩
abbrev main_v118 : Ref sig .tc := ⟨.hbm, 279, rfl⟩
abbrev main_v119 : Ref sig .tc := ⟨.hbm, 280, rfl⟩
abbrev main_v120 : Ref sig .tc := ⟨.hbm, 281, rfl⟩
abbrev main_v121 : Ref sig .tc := ⟨.hbm, 282, rfl⟩
abbrev main_v122 : Ref sig .tc := ⟨.hbm, 283, rfl⟩
abbrev main_c_26 : Ref sig .tc := ⟨.hbm, 284, rfl⟩
abbrev main_call12_v0 : Ref sig .tc := ⟨.hbm, 285, rfl⟩
abbrev main_call12_c : Ref sig .tc := ⟨.hbm, 286, rfl⟩
abbrev main_call12_v1 : Ref sig .tc := ⟨.hbm, 287, rfl⟩
abbrev main_call12_c_0 : Ref sig .tc := ⟨.hbm, 288, rfl⟩
abbrev main_call12_v2 : Ref sig .tc := ⟨.hbm, 289, rfl⟩
abbrev main_call12_v3 : Ref sig .tc := ⟨.hbm, 290, rfl⟩
abbrev main_call12_v4 : Ref sig .tc := ⟨.hbm, 291, rfl⟩
abbrev main_call12_c_1 : Ref sig .tc := ⟨.hbm, 292, rfl⟩
abbrev main_call12_v5 : Ref sig .tc := ⟨.hbm, 293, rfl⟩
abbrev main_call12_v6 : Ref sig .tc := ⟨.hbm, 294, rfl⟩
abbrev main_call12_c_2 : Ref sig .tc := ⟨.hbm, 295, rfl⟩
abbrev main_call12_v7 : Ref sig .tc := ⟨.hbm, 296, rfl⟩
abbrev main_call12_v8 : Ref sig .tc := ⟨.hbm, 297, rfl⟩
abbrev main_call12_c_3 : Ref sig .tc := ⟨.hbm, 298, rfl⟩
abbrev main_call12_v9 : Ref sig .tc := ⟨.hbm, 299, rfl⟩
abbrev main_call12_v10 : Ref sig .tc := ⟨.hbm, 300, rfl⟩
abbrev main_call12_v11 : Ref sig .tc := ⟨.hbm, 301, rfl⟩
abbrev main_call12_v12 : Ref sig .tc := ⟨.hbm, 302, rfl⟩
abbrev main_call12_v13 : Ref sig .tc := ⟨.hbm, 303, rfl⟩
abbrev main_call12_v14 : Ref sig .tc := ⟨.hbm, 304, rfl⟩
abbrev main_v123 : Ref sig .tc := ⟨.hbm, 305, rfl⟩
abbrev main_c_27 : Ref sig .tc := ⟨.hbm, 306, rfl⟩
abbrev main_v124 : Ref sig .tc := ⟨.hbm, 307, rfl⟩
abbrev main_v125 : Ref sig .tc := ⟨.hbm, 308, rfl⟩
abbrev main_v126 : Ref sig .tc := ⟨.hbm, 309, rfl⟩
abbrev main_v127 : Ref sig .tc := ⟨.hbm, 310, rfl⟩
abbrev main_v128 : Ref sig .tc := ⟨.hbm, 311, rfl⟩
abbrev main_call13_v0 : Ref sig .tc := ⟨.hbm, 312, rfl⟩
abbrev main_v129 : Ref sig .tc := ⟨.hbm, 313, rfl⟩
abbrev main_c_28 : Ref sig .tc := ⟨.hbm, 314, rfl⟩
abbrev main_call14_v0 : Ref sig .tc := ⟨.hbm, 315, rfl⟩
abbrev main_call14_c : Ref sig .tc := ⟨.hbm, 316, rfl⟩
abbrev main_call14_v1 : Ref sig .tc := ⟨.hbm, 317, rfl⟩
abbrev main_call14_c_0 : Ref sig .tc := ⟨.hbm, 318, rfl⟩
abbrev main_call14_v2 : Ref sig .tc := ⟨.hbm, 319, rfl⟩
abbrev main_call14_v3 : Ref sig .tc := ⟨.hbm, 320, rfl⟩
abbrev main_call14_v4 : Ref sig .tc := ⟨.hbm, 321, rfl⟩
abbrev main_call14_c_1 : Ref sig .tc := ⟨.hbm, 322, rfl⟩
abbrev main_call14_v5 : Ref sig .tc := ⟨.hbm, 323, rfl⟩
abbrev main_call14_v6 : Ref sig .tc := ⟨.hbm, 324, rfl⟩
abbrev main_call14_c_2 : Ref sig .tc := ⟨.hbm, 325, rfl⟩
abbrev main_call14_v7 : Ref sig .tc := ⟨.hbm, 326, rfl⟩
abbrev main_call14_v8 : Ref sig .tc := ⟨.hbm, 327, rfl⟩
abbrev main_call14_c_3 : Ref sig .tc := ⟨.hbm, 328, rfl⟩
abbrev main_call14_v9 : Ref sig .tc := ⟨.hbm, 329, rfl⟩
abbrev main_call14_v10 : Ref sig .tc := ⟨.hbm, 330, rfl⟩
abbrev main_call14_v11 : Ref sig .tc := ⟨.hbm, 331, rfl⟩
abbrev main_call14_v12 : Ref sig .tc := ⟨.hbm, 332, rfl⟩
abbrev main_call14_v13 : Ref sig .tc := ⟨.hbm, 333, rfl⟩
abbrev main_call14_v14 : Ref sig .tc := ⟨.hbm, 334, rfl⟩
abbrev main_v130 : Ref sig .tc := ⟨.hbm, 335, rfl⟩
abbrev main_c_29 : Ref sig .tc := ⟨.hbm, 336, rfl⟩
abbrev main_v131 : Ref sig .tc := ⟨.hbm, 337, rfl⟩
abbrev main_v132 : Ref sig .tc := ⟨.hbm, 338, rfl⟩
abbrev main_v133 : Ref sig .tc := ⟨.hbm, 339, rfl⟩
abbrev main_v134 : Ref sig .tc := ⟨.hbm, 340, rfl⟩
abbrev main_v135 : Ref sig .tc := ⟨.hbm, 341, rfl⟩
abbrev main_call15_v0 : Ref sig .tc := ⟨.hbm, 342, rfl⟩
abbrev main_v136 : Ref sig .tc := ⟨.hbm, 343, rfl⟩
abbrev main_c_30 : Ref sig .tc := ⟨.hbm, 344, rfl⟩
abbrev main_v137 : Ref sig .tc := ⟨.hbm, 345, rfl⟩
abbrev main_v138 : Ref sig .tc := ⟨.hbm, 346, rfl⟩
abbrev main_v139 : Ref sig .tc := ⟨.hbm, 347, rfl⟩
abbrev main_v140 : Ref sig .tc := ⟨.hbm, 348, rfl⟩
abbrev main_v141 : Ref sig .tc := ⟨.hbm, 349, rfl⟩
abbrev main_v142 : Ref sig .tc := ⟨.hbm, 350, rfl⟩
abbrev main_v143 : Ref sig .tc := ⟨.hbm, 351, rfl⟩
abbrev main_v144 : Ref sig .tc := ⟨.hbm, 352, rfl⟩
abbrev main_v145 : Ref sig .tc := ⟨.hbm, 353, rfl⟩
abbrev main_v146_0 : Ref sig .tc := ⟨.hbm, 354, rfl⟩
abbrev main_v146_1 : Ref sig .tc := ⟨.hbm, 355, rfl⟩
abbrev main_v147 : Ref sig .tc := ⟨.hbm, 356, rfl⟩
abbrev main_v148 : Ref sig .tc := ⟨.hbm, 357, rfl⟩
abbrev main_v149 : Ref sig .tc := ⟨.hbm, 358, rfl⟩
abbrev main_c_31 : Ref sig .tc := ⟨.hbm, 359, rfl⟩
abbrev main_call16_v0 : Ref sig .tc := ⟨.hbm, 360, rfl⟩
abbrev main_call16_c : Ref sig .tc := ⟨.hbm, 361, rfl⟩
abbrev main_call16_v1 : Ref sig .tc := ⟨.hbm, 362, rfl⟩
abbrev main_call16_c_0 : Ref sig .tc := ⟨.hbm, 363, rfl⟩
abbrev main_call16_v2 : Ref sig .tc := ⟨.hbm, 364, rfl⟩
abbrev main_call16_v3 : Ref sig .tc := ⟨.hbm, 365, rfl⟩
abbrev main_call16_v4 : Ref sig .tc := ⟨.hbm, 366, rfl⟩
abbrev main_call16_c_1 : Ref sig .tc := ⟨.hbm, 367, rfl⟩
abbrev main_call16_v5 : Ref sig .tc := ⟨.hbm, 368, rfl⟩
abbrev main_call16_v6 : Ref sig .tc := ⟨.hbm, 369, rfl⟩
abbrev main_call16_c_2 : Ref sig .tc := ⟨.hbm, 370, rfl⟩
abbrev main_call16_v7 : Ref sig .tc := ⟨.hbm, 371, rfl⟩
abbrev main_call16_v8 : Ref sig .tc := ⟨.hbm, 372, rfl⟩
abbrev main_call16_c_3 : Ref sig .tc := ⟨.hbm, 373, rfl⟩
abbrev main_call16_v9 : Ref sig .tc := ⟨.hbm, 374, rfl⟩
abbrev main_call16_v10 : Ref sig .tc := ⟨.hbm, 375, rfl⟩
abbrev main_call16_v11 : Ref sig .tc := ⟨.hbm, 376, rfl⟩
abbrev main_call16_v12 : Ref sig .tc := ⟨.hbm, 377, rfl⟩
abbrev main_call16_v13 : Ref sig .tc := ⟨.hbm, 378, rfl⟩
abbrev main_call16_v14 : Ref sig .tc := ⟨.hbm, 379, rfl⟩
abbrev main_v150 : Ref sig .tc := ⟨.hbm, 380, rfl⟩
abbrev main_v151 : Ref sig .tc := ⟨.hbm, 381, rfl⟩
abbrev main_v152 : Ref sig .tc := ⟨.hbm, 382, rfl⟩
abbrev main_v153 : Ref sig .tc := ⟨.hbm, 383, rfl⟩
abbrev main_v154 : Ref sig .tc := ⟨.hbm, 384, rfl⟩
abbrev main_v155 : Ref sig .tc := ⟨.hbm, 385, rfl⟩
abbrev main_v156 : Ref sig .tc := ⟨.hbm, 386, rfl⟩
abbrev main_v157 : Ref sig .tc := ⟨.hbm, 387, rfl⟩
abbrev main_cst_32 : Ref sig .tc := ⟨.hbm, 388, rfl⟩
abbrev main_call17_v0 : Ref sig .tc := ⟨.hbm, 389, rfl⟩
abbrev main_call17_v1 : Ref sig .tc := ⟨.hbm, 390, rfl⟩
abbrev main_call17_v2 : Ref sig .tc := ⟨.hbm, 391, rfl⟩
abbrev main_call17_v3 : Ref sig .tc := ⟨.hbm, 392, rfl⟩
abbrev main_v158 : Ref sig .tc := ⟨.hbm, 393, rfl⟩
abbrev main_v159 : Ref sig .tc := ⟨.hbm, 394, rfl⟩
abbrev main_v160 : Ref sig .tc := ⟨.hbm, 395, rfl⟩
abbrev main_cst_33 : Ref sig .tc := ⟨.hbm, 396, rfl⟩
abbrev main_call18_v0 : Ref sig .tc := ⟨.hbm, 397, rfl⟩
abbrev main_call18_v1 : Ref sig .tc := ⟨.hbm, 398, rfl⟩
abbrev main_call18_v2 : Ref sig .tc := ⟨.hbm, 399, rfl⟩
abbrev main_call18_v3 : Ref sig .tc := ⟨.hbm, 400, rfl⟩
abbrev main_v161 : Ref sig .tc := ⟨.hbm, 401, rfl⟩
abbrev main_v162 : Ref sig .tc := ⟨.hbm, 402, rfl⟩
abbrev main_v163 : Ref sig .tc := ⟨.hbm, 403, rfl⟩
abbrev main_c_34 : Ref sig .tc := ⟨.hbm, 404, rfl⟩
abbrev main_v164 : Ref sig .tc := ⟨.hbm, 405, rfl⟩
abbrev main_v165 : Ref sig .tc := ⟨.hbm, 406, rfl⟩
abbrev main_v166 : Ref sig .tc := ⟨.hbm, 407, rfl⟩
abbrev main_v167 : Ref sig .tc := ⟨.hbm, 408, rfl⟩
abbrev main_v168 : Ref sig .tc := ⟨.hbm, 409, rfl⟩
abbrev main_c_35 : Ref sig .tc := ⟨.hbm, 410, rfl⟩
abbrev main_call19_v0 : Ref sig .tc := ⟨.hbm, 411, rfl⟩
abbrev main_call19_c : Ref sig .tc := ⟨.hbm, 412, rfl⟩
abbrev main_call19_v1 : Ref sig .tc := ⟨.hbm, 413, rfl⟩
abbrev main_call19_c_0 : Ref sig .tc := ⟨.hbm, 414, rfl⟩
abbrev main_call19_v2 : Ref sig .tc := ⟨.hbm, 415, rfl⟩
abbrev main_call19_v3 : Ref sig .tc := ⟨.hbm, 416, rfl⟩
abbrev main_call19_v4 : Ref sig .tc := ⟨.hbm, 417, rfl⟩
abbrev main_call19_c_1 : Ref sig .tc := ⟨.hbm, 418, rfl⟩
abbrev main_call19_v5 : Ref sig .tc := ⟨.hbm, 419, rfl⟩
abbrev main_call19_v6 : Ref sig .tc := ⟨.hbm, 420, rfl⟩
abbrev main_call19_c_2 : Ref sig .tc := ⟨.hbm, 421, rfl⟩
abbrev main_call19_v7 : Ref sig .tc := ⟨.hbm, 422, rfl⟩
abbrev main_call19_v8 : Ref sig .tc := ⟨.hbm, 423, rfl⟩
abbrev main_call19_c_3 : Ref sig .tc := ⟨.hbm, 424, rfl⟩
abbrev main_call19_v9 : Ref sig .tc := ⟨.hbm, 425, rfl⟩
abbrev main_call19_v10 : Ref sig .tc := ⟨.hbm, 426, rfl⟩
abbrev main_call19_v11 : Ref sig .tc := ⟨.hbm, 427, rfl⟩
abbrev main_call19_v12 : Ref sig .tc := ⟨.hbm, 428, rfl⟩
abbrev main_call19_v13 : Ref sig .tc := ⟨.hbm, 429, rfl⟩
abbrev main_call19_v14 : Ref sig .tc := ⟨.hbm, 430, rfl⟩
abbrev main_v169 : Ref sig .tc := ⟨.hbm, 431, rfl⟩
abbrev main_c_36 : Ref sig .tc := ⟨.hbm, 432, rfl⟩
abbrev main_v170 : Ref sig .tc := ⟨.hbm, 433, rfl⟩
abbrev main_v171 : Ref sig .tc := ⟨.hbm, 434, rfl⟩
abbrev main_v172 : Ref sig .tc := ⟨.hbm, 435, rfl⟩
abbrev main_v173 : Ref sig .tc := ⟨.hbm, 436, rfl⟩
abbrev main_v174 : Ref sig .tc := ⟨.hbm, 437, rfl⟩
abbrev main_call20_v0 : Ref sig .tc := ⟨.hbm, 438, rfl⟩
abbrev main_v175 : Ref sig .tc := ⟨.hbm, 439, rfl⟩
abbrev main_c_37 : Ref sig .tc := ⟨.hbm, 440, rfl⟩
abbrev main_call21_v0 : Ref sig .tc := ⟨.hbm, 441, rfl⟩
abbrev main_call21_c : Ref sig .tc := ⟨.hbm, 442, rfl⟩
abbrev main_call21_v1 : Ref sig .tc := ⟨.hbm, 443, rfl⟩
abbrev main_call21_c_0 : Ref sig .tc := ⟨.hbm, 444, rfl⟩
abbrev main_call21_v2 : Ref sig .tc := ⟨.hbm, 445, rfl⟩
abbrev main_call21_v3 : Ref sig .tc := ⟨.hbm, 446, rfl⟩
abbrev main_call21_v4 : Ref sig .tc := ⟨.hbm, 447, rfl⟩
abbrev main_call21_c_1 : Ref sig .tc := ⟨.hbm, 448, rfl⟩
abbrev main_call21_v5 : Ref sig .tc := ⟨.hbm, 449, rfl⟩
abbrev main_call21_v6 : Ref sig .tc := ⟨.hbm, 450, rfl⟩
abbrev main_call21_c_2 : Ref sig .tc := ⟨.hbm, 451, rfl⟩
abbrev main_call21_v7 : Ref sig .tc := ⟨.hbm, 452, rfl⟩
abbrev main_call21_v8 : Ref sig .tc := ⟨.hbm, 453, rfl⟩
abbrev main_call21_c_3 : Ref sig .tc := ⟨.hbm, 454, rfl⟩
abbrev main_call21_v9 : Ref sig .tc := ⟨.hbm, 455, rfl⟩
abbrev main_call21_v10 : Ref sig .tc := ⟨.hbm, 456, rfl⟩
abbrev main_call21_v11 : Ref sig .tc := ⟨.hbm, 457, rfl⟩
abbrev main_call21_v12 : Ref sig .tc := ⟨.hbm, 458, rfl⟩
abbrev main_call21_v13 : Ref sig .tc := ⟨.hbm, 459, rfl⟩
abbrev main_call21_v14 : Ref sig .tc := ⟨.hbm, 460, rfl⟩
abbrev main_v176 : Ref sig .tc := ⟨.hbm, 461, rfl⟩
abbrev main_c_38 : Ref sig .tc := ⟨.hbm, 462, rfl⟩
abbrev main_v177 : Ref sig .tc := ⟨.hbm, 463, rfl⟩
abbrev main_v178 : Ref sig .tc := ⟨.hbm, 464, rfl⟩
abbrev main_v179 : Ref sig .tc := ⟨.hbm, 465, rfl⟩
abbrev main_v180 : Ref sig .tc := ⟨.hbm, 466, rfl⟩
abbrev main_v181 : Ref sig .tc := ⟨.hbm, 467, rfl⟩
abbrev main_call22_v0 : Ref sig .tc := ⟨.hbm, 468, rfl⟩
abbrev main_v182 : Ref sig .tc := ⟨.hbm, 469, rfl⟩
abbrev main_c_39 : Ref sig .tc := ⟨.hbm, 470, rfl⟩
abbrev main_v183 : Ref sig .tc := ⟨.hbm, 471, rfl⟩
abbrev main_v184 : Ref sig .tc := ⟨.hbm, 472, rfl⟩
abbrev main_v185 : Ref sig .tc := ⟨.hbm, 473, rfl⟩
abbrev main_v186 : Ref sig .tc := ⟨.hbm, 474, rfl⟩
abbrev main_c_40 : Ref sig .tc := ⟨.hbm, 475, rfl⟩
abbrev main_v187 : Ref sig .tc := ⟨.hbm, 476, rfl⟩
abbrev main_v188 : Ref sig .tc := ⟨.hbm, 477, rfl⟩
abbrev main_v189 : Ref sig .tc := ⟨.hbm, 478, rfl⟩
abbrev main_v190 : Ref sig .tc := ⟨.hbm, 479, rfl⟩
abbrev main_v191 : Ref sig .tc := ⟨.hbm, 480, rfl⟩
abbrev main_c_41 : Ref sig .tc := ⟨.hbm, 481, rfl⟩
abbrev main_call23_v0 : Ref sig .tc := ⟨.hbm, 482, rfl⟩
abbrev main_call23_c : Ref sig .tc := ⟨.hbm, 483, rfl⟩
abbrev main_call23_v1 : Ref sig .tc := ⟨.hbm, 484, rfl⟩
abbrev main_call23_c_0 : Ref sig .tc := ⟨.hbm, 485, rfl⟩
abbrev main_call23_v2 : Ref sig .tc := ⟨.hbm, 486, rfl⟩
abbrev main_call23_v3 : Ref sig .tc := ⟨.hbm, 487, rfl⟩
abbrev main_call23_v4 : Ref sig .tc := ⟨.hbm, 488, rfl⟩
abbrev main_call23_c_1 : Ref sig .tc := ⟨.hbm, 489, rfl⟩
abbrev main_call23_v5 : Ref sig .tc := ⟨.hbm, 490, rfl⟩
abbrev main_call23_v6 : Ref sig .tc := ⟨.hbm, 491, rfl⟩
abbrev main_call23_c_2 : Ref sig .tc := ⟨.hbm, 492, rfl⟩
abbrev main_call23_v7 : Ref sig .tc := ⟨.hbm, 493, rfl⟩
abbrev main_call23_v8 : Ref sig .tc := ⟨.hbm, 494, rfl⟩
abbrev main_call23_c_3 : Ref sig .tc := ⟨.hbm, 495, rfl⟩
abbrev main_call23_v9 : Ref sig .tc := ⟨.hbm, 496, rfl⟩
abbrev main_call23_v10 : Ref sig .tc := ⟨.hbm, 497, rfl⟩
abbrev main_call23_v11 : Ref sig .tc := ⟨.hbm, 498, rfl⟩
abbrev main_call23_v12 : Ref sig .tc := ⟨.hbm, 499, rfl⟩
abbrev main_call23_v13 : Ref sig .tc := ⟨.hbm, 500, rfl⟩
abbrev main_call23_v14 : Ref sig .tc := ⟨.hbm, 501, rfl⟩
abbrev main_v192 : Ref sig .tc := ⟨.hbm, 502, rfl⟩
abbrev main_c_42 : Ref sig .tc := ⟨.hbm, 503, rfl⟩
abbrev main_v193 : Ref sig .tc := ⟨.hbm, 504, rfl⟩
abbrev main_v194 : Ref sig .tc := ⟨.hbm, 505, rfl⟩
abbrev main_v195 : Ref sig .tc := ⟨.hbm, 506, rfl⟩
abbrev main_v196 : Ref sig .tc := ⟨.hbm, 507, rfl⟩
abbrev main_v197 : Ref sig .tc := ⟨.hbm, 508, rfl⟩
abbrev main_call24_v0 : Ref sig .tc := ⟨.hbm, 509, rfl⟩
abbrev main_v198 : Ref sig .tc := ⟨.hbm, 510, rfl⟩
abbrev main_c_43 : Ref sig .tc := ⟨.hbm, 511, rfl⟩
abbrev main_call25_v0 : Ref sig .tc := ⟨.hbm, 512, rfl⟩
abbrev main_call25_c : Ref sig .tc := ⟨.hbm, 513, rfl⟩
abbrev main_call25_v1 : Ref sig .tc := ⟨.hbm, 514, rfl⟩
abbrev main_call25_c_0 : Ref sig .tc := ⟨.hbm, 515, rfl⟩
abbrev main_call25_v2 : Ref sig .tc := ⟨.hbm, 516, rfl⟩
abbrev main_call25_v3 : Ref sig .tc := ⟨.hbm, 517, rfl⟩
abbrev main_call25_v4 : Ref sig .tc := ⟨.hbm, 518, rfl⟩
abbrev main_call25_c_1 : Ref sig .tc := ⟨.hbm, 519, rfl⟩
abbrev main_call25_v5 : Ref sig .tc := ⟨.hbm, 520, rfl⟩
abbrev main_call25_v6 : Ref sig .tc := ⟨.hbm, 521, rfl⟩
abbrev main_call25_c_2 : Ref sig .tc := ⟨.hbm, 522, rfl⟩
abbrev main_call25_v7 : Ref sig .tc := ⟨.hbm, 523, rfl⟩
abbrev main_call25_v8 : Ref sig .tc := ⟨.hbm, 524, rfl⟩
abbrev main_call25_c_3 : Ref sig .tc := ⟨.hbm, 525, rfl⟩
abbrev main_call25_v9 : Ref sig .tc := ⟨.hbm, 526, rfl⟩
abbrev main_call25_v10 : Ref sig .tc := ⟨.hbm, 527, rfl⟩
abbrev main_call25_v11 : Ref sig .tc := ⟨.hbm, 528, rfl⟩
abbrev main_call25_v12 : Ref sig .tc := ⟨.hbm, 529, rfl⟩
abbrev main_call25_v13 : Ref sig .tc := ⟨.hbm, 530, rfl⟩
abbrev main_call25_v14 : Ref sig .tc := ⟨.hbm, 531, rfl⟩
abbrev main_v199 : Ref sig .tc := ⟨.hbm, 532, rfl⟩
abbrev main_c_44 : Ref sig .tc := ⟨.hbm, 533, rfl⟩
abbrev main_v200 : Ref sig .tc := ⟨.hbm, 534, rfl⟩
abbrev main_v201 : Ref sig .tc := ⟨.hbm, 535, rfl⟩
abbrev main_v202 : Ref sig .tc := ⟨.hbm, 536, rfl⟩
abbrev main_v203 : Ref sig .tc := ⟨.hbm, 537, rfl⟩
abbrev main_v204 : Ref sig .tc := ⟨.hbm, 538, rfl⟩
abbrev main_call26_v0 : Ref sig .tc := ⟨.hbm, 539, rfl⟩
abbrev main_v205 : Ref sig .tc := ⟨.hbm, 540, rfl⟩
abbrev main_c_45 : Ref sig .tc := ⟨.hbm, 541, rfl⟩
abbrev main_v206 : Ref sig .tc := ⟨.hbm, 542, rfl⟩
abbrev main_v207 : Ref sig .tc := ⟨.hbm, 543, rfl⟩
abbrev main_v208 : Ref sig .tc := ⟨.hbm, 544, rfl⟩
abbrev main_v209 : Ref sig .tc := ⟨.hbm, 545, rfl⟩
abbrev main_c_46 : Ref sig .tc := ⟨.hbm, 546, rfl⟩
abbrev main_v210 : Ref sig .tc := ⟨.hbm, 547, rfl⟩
abbrev main_v211 : Ref sig .tc := ⟨.hbm, 548, rfl⟩
abbrev main_v212 : Ref sig .tc := ⟨.hbm, 549, rfl⟩
abbrev main_v213 : Ref sig .tc := ⟨.hbm, 550, rfl⟩
abbrev main_v214 : Ref sig .tc := ⟨.hbm, 551, rfl⟩
abbrev main_c_47 : Ref sig .tc := ⟨.hbm, 552, rfl⟩
abbrev main_call27_v0 : Ref sig .tc := ⟨.hbm, 553, rfl⟩
abbrev main_call27_c : Ref sig .tc := ⟨.hbm, 554, rfl⟩
abbrev main_call27_v1 : Ref sig .tc := ⟨.hbm, 555, rfl⟩
abbrev main_call27_c_0 : Ref sig .tc := ⟨.hbm, 556, rfl⟩
abbrev main_call27_v2 : Ref sig .tc := ⟨.hbm, 557, rfl⟩
abbrev main_call27_v3 : Ref sig .tc := ⟨.hbm, 558, rfl⟩
abbrev main_call27_v4 : Ref sig .tc := ⟨.hbm, 559, rfl⟩
abbrev main_call27_c_1 : Ref sig .tc := ⟨.hbm, 560, rfl⟩
abbrev main_call27_v5 : Ref sig .tc := ⟨.hbm, 561, rfl⟩
abbrev main_call27_v6 : Ref sig .tc := ⟨.hbm, 562, rfl⟩
abbrev main_call27_c_2 : Ref sig .tc := ⟨.hbm, 563, rfl⟩
abbrev main_call27_v7 : Ref sig .tc := ⟨.hbm, 564, rfl⟩
abbrev main_call27_v8 : Ref sig .tc := ⟨.hbm, 565, rfl⟩
abbrev main_call27_c_3 : Ref sig .tc := ⟨.hbm, 566, rfl⟩
abbrev main_call27_v9 : Ref sig .tc := ⟨.hbm, 567, rfl⟩
abbrev main_call27_v10 : Ref sig .tc := ⟨.hbm, 568, rfl⟩
abbrev main_call27_v11 : Ref sig .tc := ⟨.hbm, 569, rfl⟩
abbrev main_call27_v12 : Ref sig .tc := ⟨.hbm, 570, rfl⟩
abbrev main_call27_v13 : Ref sig .tc := ⟨.hbm, 571, rfl⟩
abbrev main_call27_v14 : Ref sig .tc := ⟨.hbm, 572, rfl⟩
abbrev main_v215 : Ref sig .tc := ⟨.hbm, 573, rfl⟩
abbrev main_c_48 : Ref sig .tc := ⟨.hbm, 574, rfl⟩
abbrev main_v216 : Ref sig .tc := ⟨.hbm, 575, rfl⟩
abbrev main_v217 : Ref sig .tc := ⟨.hbm, 576, rfl⟩
abbrev main_v218 : Ref sig .tc := ⟨.hbm, 577, rfl⟩
abbrev main_v219 : Ref sig .tc := ⟨.hbm, 578, rfl⟩
abbrev main_v220 : Ref sig .tc := ⟨.hbm, 579, rfl⟩
abbrev main_call28_v0 : Ref sig .tc := ⟨.hbm, 580, rfl⟩
abbrev main_v221 : Ref sig .tc := ⟨.hbm, 581, rfl⟩
abbrev main_c_49 : Ref sig .tc := ⟨.hbm, 582, rfl⟩
abbrev main_call29_v0 : Ref sig .tc := ⟨.hbm, 583, rfl⟩
abbrev main_call29_c : Ref sig .tc := ⟨.hbm, 584, rfl⟩
abbrev main_call29_v1 : Ref sig .tc := ⟨.hbm, 585, rfl⟩
abbrev main_call29_c_0 : Ref sig .tc := ⟨.hbm, 586, rfl⟩
abbrev main_call29_v2 : Ref sig .tc := ⟨.hbm, 587, rfl⟩
abbrev main_call29_v3 : Ref sig .tc := ⟨.hbm, 588, rfl⟩
abbrev main_call29_v4 : Ref sig .tc := ⟨.hbm, 589, rfl⟩
abbrev main_call29_c_1 : Ref sig .tc := ⟨.hbm, 590, rfl⟩
abbrev main_call29_v5 : Ref sig .tc := ⟨.hbm, 591, rfl⟩
abbrev main_call29_v6 : Ref sig .tc := ⟨.hbm, 592, rfl⟩
abbrev main_call29_c_2 : Ref sig .tc := ⟨.hbm, 593, rfl⟩
abbrev main_call29_v7 : Ref sig .tc := ⟨.hbm, 594, rfl⟩
abbrev main_call29_v8 : Ref sig .tc := ⟨.hbm, 595, rfl⟩
abbrev main_call29_c_3 : Ref sig .tc := ⟨.hbm, 596, rfl⟩
abbrev main_call29_v9 : Ref sig .tc := ⟨.hbm, 597, rfl⟩
abbrev main_call29_v10 : Ref sig .tc := ⟨.hbm, 598, rfl⟩
abbrev main_call29_v11 : Ref sig .tc := ⟨.hbm, 599, rfl⟩
abbrev main_call29_v12 : Ref sig .tc := ⟨.hbm, 600, rfl⟩
abbrev main_call29_v13 : Ref sig .tc := ⟨.hbm, 601, rfl⟩
abbrev main_call29_v14 : Ref sig .tc := ⟨.hbm, 602, rfl⟩
abbrev main_v222 : Ref sig .tc := ⟨.hbm, 603, rfl⟩
abbrev main_c_50 : Ref sig .tc := ⟨.hbm, 604, rfl⟩
abbrev main_v223 : Ref sig .tc := ⟨.hbm, 605, rfl⟩
abbrev main_v224 : Ref sig .tc := ⟨.hbm, 606, rfl⟩
abbrev main_v225 : Ref sig .tc := ⟨.hbm, 607, rfl⟩
abbrev main_v226 : Ref sig .tc := ⟨.hbm, 608, rfl⟩
abbrev main_v227 : Ref sig .tc := ⟨.hbm, 609, rfl⟩
abbrev main_call30_v0 : Ref sig .tc := ⟨.hbm, 610, rfl⟩
abbrev main_v228 : Ref sig .tc := ⟨.hbm, 611, rfl⟩
abbrev main_c_51 : Ref sig .tc := ⟨.hbm, 612, rfl⟩
abbrev main_v229 : Ref sig .tc := ⟨.hbm, 613, rfl⟩
abbrev main_v230 : Ref sig .tc := ⟨.hbm, 614, rfl⟩
abbrev main_v231 : Ref sig .tc := ⟨.hbm, 615, rfl⟩
abbrev main_v232 : Ref sig .tc := ⟨.hbm, 616, rfl⟩
abbrev main_v233 : Ref sig .tc := ⟨.hbm, 617, rfl⟩
abbrev main_v234 : Ref sig .tc := ⟨.hbm, 618, rfl⟩
abbrev main_v235 : Ref sig .tc := ⟨.hbm, 619, rfl⟩
abbrev main_v236 : Ref sig .tc := ⟨.hbm, 620, rfl⟩
abbrev main_v237 : Ref sig .tc := ⟨.hbm, 621, rfl⟩
abbrev main_v238_0 : Ref sig .tc := ⟨.hbm, 622, rfl⟩
abbrev main_v238_1 : Ref sig .tc := ⟨.hbm, 623, rfl⟩
abbrev main_v239 : Ref sig .tc := ⟨.hbm, 624, rfl⟩
abbrev main_v240 : Ref sig .tc := ⟨.hbm, 625, rfl⟩
abbrev main_v241 : Ref sig .tc := ⟨.hbm, 626, rfl⟩
abbrev main_v242 : Ref sig .tc := ⟨.hbm, 627, rfl⟩
abbrev main_v243 : Ref sig .tc := ⟨.hbm, 628, rfl⟩
abbrev main_c_52 : Ref sig .tc := ⟨.hbm, 629, rfl⟩
abbrev main_call31_v0 : Ref sig .tc := ⟨.hbm, 630, rfl⟩
abbrev main_call31_c : Ref sig .tc := ⟨.hbm, 631, rfl⟩
abbrev main_call31_v1 : Ref sig .tc := ⟨.hbm, 632, rfl⟩
abbrev main_call31_c_0 : Ref sig .tc := ⟨.hbm, 633, rfl⟩
abbrev main_call31_v2 : Ref sig .tc := ⟨.hbm, 634, rfl⟩
abbrev main_call31_v3 : Ref sig .tc := ⟨.hbm, 635, rfl⟩
abbrev main_call31_v4 : Ref sig .tc := ⟨.hbm, 636, rfl⟩
abbrev main_call31_c_1 : Ref sig .tc := ⟨.hbm, 637, rfl⟩
abbrev main_call31_v5 : Ref sig .tc := ⟨.hbm, 638, rfl⟩
abbrev main_call31_v6 : Ref sig .tc := ⟨.hbm, 639, rfl⟩
abbrev main_call31_c_2 : Ref sig .tc := ⟨.hbm, 640, rfl⟩
abbrev main_call31_v7 : Ref sig .tc := ⟨.hbm, 641, rfl⟩
abbrev main_call31_v8 : Ref sig .tc := ⟨.hbm, 642, rfl⟩
abbrev main_call31_c_3 : Ref sig .tc := ⟨.hbm, 643, rfl⟩
abbrev main_call31_v9 : Ref sig .tc := ⟨.hbm, 644, rfl⟩
abbrev main_call31_v10 : Ref sig .tc := ⟨.hbm, 645, rfl⟩
abbrev main_call31_v11 : Ref sig .tc := ⟨.hbm, 646, rfl⟩
abbrev main_call31_v12 : Ref sig .tc := ⟨.hbm, 647, rfl⟩
abbrev main_call31_v13 : Ref sig .tc := ⟨.hbm, 648, rfl⟩
abbrev main_call31_v14 : Ref sig .tc := ⟨.hbm, 649, rfl⟩
abbrev main_v244 : Ref sig .tc := ⟨.hbm, 650, rfl⟩
abbrev main_v245 : Ref sig .tc := ⟨.hbm, 651, rfl⟩
abbrev main_v246 : Ref sig .tc := ⟨.hbm, 652, rfl⟩
abbrev main_v247 : Ref sig .tc := ⟨.hbm, 653, rfl⟩
abbrev main_v248 : Ref sig .tc := ⟨.hbm, 654, rfl⟩
abbrev main_v249 : Ref sig .tc := ⟨.hbm, 655, rfl⟩
abbrev main_v250 : Ref sig .tc := ⟨.hbm, 656, rfl⟩
abbrev main_v251 : Ref sig .tc := ⟨.hbm, 657, rfl⟩
abbrev main_cst_53 : Ref sig .tc := ⟨.hbm, 658, rfl⟩
abbrev main_call32_v0 : Ref sig .tc := ⟨.hbm, 659, rfl⟩
abbrev main_call32_v1 : Ref sig .tc := ⟨.hbm, 660, rfl⟩
abbrev main_call32_v2 : Ref sig .tc := ⟨.hbm, 661, rfl⟩
abbrev main_call32_v3 : Ref sig .tc := ⟨.hbm, 662, rfl⟩
abbrev main_v252 : Ref sig .tc := ⟨.hbm, 663, rfl⟩
abbrev main_v253 : Ref sig .tc := ⟨.hbm, 664, rfl⟩
abbrev main_v254 : Ref sig .tc := ⟨.hbm, 665, rfl⟩
abbrev main_cst_54 : Ref sig .tc := ⟨.hbm, 666, rfl⟩
abbrev main_call33_v0 : Ref sig .tc := ⟨.hbm, 667, rfl⟩
abbrev main_call33_v1 : Ref sig .tc := ⟨.hbm, 668, rfl⟩
abbrev main_call33_v2 : Ref sig .tc := ⟨.hbm, 669, rfl⟩
abbrev main_call33_v3 : Ref sig .tc := ⟨.hbm, 670, rfl⟩
abbrev main_v255 : Ref sig .tc := ⟨.hbm, 671, rfl⟩
abbrev main_v256 : Ref sig .tc := ⟨.hbm, 672, rfl⟩
abbrev main_v257 : Ref sig .tc := ⟨.hbm, 673, rfl⟩
abbrev main_v258 : Ref sig .tc := ⟨.hbm, 674, rfl⟩
abbrev main_v259 : Ref sig .tc := ⟨.hbm, 675, rfl⟩
abbrev main_v260 : Ref sig .tc := ⟨.hbm, 676, rfl⟩
abbrev main_v261 : Ref sig .tc := ⟨.hbm, 677, rfl⟩
abbrev main_v262 : Ref sig .tc := ⟨.hbm, 678, rfl⟩
abbrev main_c_55 : Ref sig .tc := ⟨.hbm, 679, rfl⟩
abbrev main_v263 : Ref sig .tc := ⟨.hbm, 680, rfl⟩
abbrev main_v264 : Ref sig .tc := ⟨.hbm, 681, rfl⟩
abbrev main_v265 : Ref sig .tc := ⟨.hbm, 682, rfl⟩
abbrev main_v266 : Ref sig .tc := ⟨.hbm, 683, rfl⟩
abbrev main_v267 : Ref sig .tc := ⟨.hbm, 684, rfl⟩
abbrev main_c_56 : Ref sig .tc := ⟨.hbm, 685, rfl⟩
abbrev main_call34_v0 : Ref sig .tc := ⟨.hbm, 686, rfl⟩
abbrev main_call34_c : Ref sig .tc := ⟨.hbm, 687, rfl⟩
abbrev main_call34_v1 : Ref sig .tc := ⟨.hbm, 688, rfl⟩
abbrev main_call34_c_0 : Ref sig .tc := ⟨.hbm, 689, rfl⟩
abbrev main_call34_v2 : Ref sig .tc := ⟨.hbm, 690, rfl⟩
abbrev main_call34_v3 : Ref sig .tc := ⟨.hbm, 691, rfl⟩
abbrev main_call34_v4 : Ref sig .tc := ⟨.hbm, 692, rfl⟩
abbrev main_call34_c_1 : Ref sig .tc := ⟨.hbm, 693, rfl⟩
abbrev main_call34_v5 : Ref sig .tc := ⟨.hbm, 694, rfl⟩
abbrev main_call34_v6 : Ref sig .tc := ⟨.hbm, 695, rfl⟩
abbrev main_call34_c_2 : Ref sig .tc := ⟨.hbm, 696, rfl⟩
abbrev main_call34_v7 : Ref sig .tc := ⟨.hbm, 697, rfl⟩
abbrev main_call34_v8 : Ref sig .tc := ⟨.hbm, 698, rfl⟩
abbrev main_call34_c_3 : Ref sig .tc := ⟨.hbm, 699, rfl⟩
abbrev main_call34_v9 : Ref sig .tc := ⟨.hbm, 700, rfl⟩
abbrev main_call34_v10 : Ref sig .tc := ⟨.hbm, 701, rfl⟩
abbrev main_call34_v11 : Ref sig .tc := ⟨.hbm, 702, rfl⟩
abbrev main_call34_v12 : Ref sig .tc := ⟨.hbm, 703, rfl⟩
abbrev main_call34_v13 : Ref sig .tc := ⟨.hbm, 704, rfl⟩
abbrev main_call34_v14 : Ref sig .tc := ⟨.hbm, 705, rfl⟩
abbrev main_v268 : Ref sig .tc := ⟨.hbm, 706, rfl⟩
abbrev main_c_57 : Ref sig .tc := ⟨.hbm, 707, rfl⟩
abbrev main_v269 : Ref sig .tc := ⟨.hbm, 708, rfl⟩
abbrev main_v270 : Ref sig .tc := ⟨.hbm, 709, rfl⟩
abbrev main_v271 : Ref sig .tc := ⟨.hbm, 710, rfl⟩
abbrev main_v272 : Ref sig .tc := ⟨.hbm, 711, rfl⟩
abbrev main_v273 : Ref sig .tc := ⟨.hbm, 712, rfl⟩
abbrev main_call35_v0 : Ref sig .tc := ⟨.hbm, 713, rfl⟩
abbrev main_v274 : Ref sig .tc := ⟨.hbm, 714, rfl⟩
abbrev main_c_58 : Ref sig .tc := ⟨.hbm, 715, rfl⟩
abbrev main_call36_v0 : Ref sig .tc := ⟨.hbm, 716, rfl⟩
abbrev main_call36_c : Ref sig .tc := ⟨.hbm, 717, rfl⟩
abbrev main_call36_v1 : Ref sig .tc := ⟨.hbm, 718, rfl⟩
abbrev main_call36_c_0 : Ref sig .tc := ⟨.hbm, 719, rfl⟩
abbrev main_call36_v2 : Ref sig .tc := ⟨.hbm, 720, rfl⟩
abbrev main_call36_v3 : Ref sig .tc := ⟨.hbm, 721, rfl⟩
abbrev main_call36_v4 : Ref sig .tc := ⟨.hbm, 722, rfl⟩
abbrev main_call36_c_1 : Ref sig .tc := ⟨.hbm, 723, rfl⟩
abbrev main_call36_v5 : Ref sig .tc := ⟨.hbm, 724, rfl⟩
abbrev main_call36_v6 : Ref sig .tc := ⟨.hbm, 725, rfl⟩
abbrev main_call36_c_2 : Ref sig .tc := ⟨.hbm, 726, rfl⟩
abbrev main_call36_v7 : Ref sig .tc := ⟨.hbm, 727, rfl⟩
abbrev main_call36_v8 : Ref sig .tc := ⟨.hbm, 728, rfl⟩
abbrev main_call36_c_3 : Ref sig .tc := ⟨.hbm, 729, rfl⟩
abbrev main_call36_v9 : Ref sig .tc := ⟨.hbm, 730, rfl⟩
abbrev main_call36_v10 : Ref sig .tc := ⟨.hbm, 731, rfl⟩
abbrev main_call36_v11 : Ref sig .tc := ⟨.hbm, 732, rfl⟩
abbrev main_call36_v12 : Ref sig .tc := ⟨.hbm, 733, rfl⟩
abbrev main_call36_v13 : Ref sig .tc := ⟨.hbm, 734, rfl⟩
abbrev main_call36_v14 : Ref sig .tc := ⟨.hbm, 735, rfl⟩
abbrev main_v275 : Ref sig .tc := ⟨.hbm, 736, rfl⟩
abbrev main_c_59 : Ref sig .tc := ⟨.hbm, 737, rfl⟩
abbrev main_v276 : Ref sig .tc := ⟨.hbm, 738, rfl⟩
abbrev main_v277 : Ref sig .tc := ⟨.hbm, 739, rfl⟩
abbrev main_v278 : Ref sig .tc := ⟨.hbm, 740, rfl⟩
abbrev main_v279 : Ref sig .tc := ⟨.hbm, 741, rfl⟩
abbrev main_v280 : Ref sig .tc := ⟨.hbm, 742, rfl⟩
abbrev main_call37_v0 : Ref sig .tc := ⟨.hbm, 743, rfl⟩
abbrev main_v281 : Ref sig .tc := ⟨.hbm, 744, rfl⟩
abbrev main_c_60 : Ref sig .tc := ⟨.hbm, 745, rfl⟩
abbrev main_call38_v0 : Ref sig .tc := ⟨.hbm, 746, rfl⟩
abbrev main_call38_c : Ref sig .tc := ⟨.hbm, 747, rfl⟩
abbrev main_call38_v1 : Ref sig .tc := ⟨.hbm, 748, rfl⟩
abbrev main_call38_c_0 : Ref sig .tc := ⟨.hbm, 749, rfl⟩
abbrev main_call38_v2 : Ref sig .tc := ⟨.hbm, 750, rfl⟩
abbrev main_call38_v3 : Ref sig .tc := ⟨.hbm, 751, rfl⟩
abbrev main_call38_v4 : Ref sig .tc := ⟨.hbm, 752, rfl⟩
abbrev main_call38_c_1 : Ref sig .tc := ⟨.hbm, 753, rfl⟩
abbrev main_call38_v5 : Ref sig .tc := ⟨.hbm, 754, rfl⟩
abbrev main_call38_v6 : Ref sig .tc := ⟨.hbm, 755, rfl⟩
abbrev main_call38_c_2 : Ref sig .tc := ⟨.hbm, 756, rfl⟩
abbrev main_call38_v7 : Ref sig .tc := ⟨.hbm, 757, rfl⟩
abbrev main_call38_v8 : Ref sig .tc := ⟨.hbm, 758, rfl⟩
abbrev main_call38_c_3 : Ref sig .tc := ⟨.hbm, 759, rfl⟩
abbrev main_call38_v9 : Ref sig .tc := ⟨.hbm, 760, rfl⟩
abbrev main_call38_v10 : Ref sig .tc := ⟨.hbm, 761, rfl⟩
abbrev main_call38_v11 : Ref sig .tc := ⟨.hbm, 762, rfl⟩
abbrev main_call38_v12 : Ref sig .tc := ⟨.hbm, 763, rfl⟩
abbrev main_call38_v13 : Ref sig .tc := ⟨.hbm, 764, rfl⟩
abbrev main_call38_v14 : Ref sig .tc := ⟨.hbm, 765, rfl⟩
abbrev main_v282 : Ref sig .tc := ⟨.hbm, 766, rfl⟩
abbrev main_c_61 : Ref sig .tc := ⟨.hbm, 767, rfl⟩
abbrev main_v283 : Ref sig .tc := ⟨.hbm, 768, rfl⟩
abbrev main_v284 : Ref sig .tc := ⟨.hbm, 769, rfl⟩
abbrev main_v285 : Ref sig .tc := ⟨.hbm, 770, rfl⟩
abbrev main_v286 : Ref sig .tc := ⟨.hbm, 771, rfl⟩
abbrev main_v287 : Ref sig .tc := ⟨.hbm, 772, rfl⟩
abbrev main_call39_v0 : Ref sig .tc := ⟨.hbm, 773, rfl⟩
abbrev main_v288 : Ref sig .tc := ⟨.hbm, 774, rfl⟩
abbrev main_c_62 : Ref sig .tc := ⟨.hbm, 775, rfl⟩
abbrev main_call40_v0 : Ref sig .tc := ⟨.hbm, 776, rfl⟩
abbrev main_call40_c : Ref sig .tc := ⟨.hbm, 777, rfl⟩
abbrev main_call40_v1 : Ref sig .tc := ⟨.hbm, 778, rfl⟩
abbrev main_call40_c_0 : Ref sig .tc := ⟨.hbm, 779, rfl⟩
abbrev main_call40_v2 : Ref sig .tc := ⟨.hbm, 780, rfl⟩
abbrev main_call40_v3 : Ref sig .tc := ⟨.hbm, 781, rfl⟩
abbrev main_call40_v4 : Ref sig .tc := ⟨.hbm, 782, rfl⟩
abbrev main_call40_c_1 : Ref sig .tc := ⟨.hbm, 783, rfl⟩
abbrev main_call40_v5 : Ref sig .tc := ⟨.hbm, 784, rfl⟩
abbrev main_call40_v6 : Ref sig .tc := ⟨.hbm, 785, rfl⟩
abbrev main_call40_c_2 : Ref sig .tc := ⟨.hbm, 786, rfl⟩
abbrev main_call40_v7 : Ref sig .tc := ⟨.hbm, 787, rfl⟩
abbrev main_call40_v8 : Ref sig .tc := ⟨.hbm, 788, rfl⟩
abbrev main_call40_c_3 : Ref sig .tc := ⟨.hbm, 789, rfl⟩
abbrev main_call40_v9 : Ref sig .tc := ⟨.hbm, 790, rfl⟩
abbrev main_call40_v10 : Ref sig .tc := ⟨.hbm, 791, rfl⟩
abbrev main_call40_v11 : Ref sig .tc := ⟨.hbm, 792, rfl⟩
abbrev main_call40_v12 : Ref sig .tc := ⟨.hbm, 793, rfl⟩
abbrev main_call40_v13 : Ref sig .tc := ⟨.hbm, 794, rfl⟩
abbrev main_call40_v14 : Ref sig .tc := ⟨.hbm, 795, rfl⟩
abbrev main_v289 : Ref sig .tc := ⟨.hbm, 796, rfl⟩
abbrev main_c_63 : Ref sig .tc := ⟨.hbm, 797, rfl⟩
abbrev main_v290 : Ref sig .tc := ⟨.hbm, 798, rfl⟩
abbrev main_v291 : Ref sig .tc := ⟨.hbm, 799, rfl⟩
abbrev main_v292 : Ref sig .tc := ⟨.hbm, 800, rfl⟩
abbrev main_v293 : Ref sig .tc := ⟨.hbm, 801, rfl⟩
abbrev main_v294 : Ref sig .tc := ⟨.hbm, 802, rfl⟩
abbrev main_call41_v0 : Ref sig .tc := ⟨.hbm, 803, rfl⟩
abbrev main_v295 : Ref sig .tc := ⟨.hbm, 804, rfl⟩
abbrev main_c_64 : Ref sig .tc := ⟨.hbm, 805, rfl⟩
abbrev main_call42_v0 : Ref sig .tc := ⟨.hbm, 806, rfl⟩
abbrev main_call42_c : Ref sig .tc := ⟨.hbm, 807, rfl⟩
abbrev main_call42_v1 : Ref sig .tc := ⟨.hbm, 808, rfl⟩
abbrev main_call42_c_0 : Ref sig .tc := ⟨.hbm, 809, rfl⟩
abbrev main_call42_v2 : Ref sig .tc := ⟨.hbm, 810, rfl⟩
abbrev main_call42_v3 : Ref sig .tc := ⟨.hbm, 811, rfl⟩
abbrev main_call42_v4 : Ref sig .tc := ⟨.hbm, 812, rfl⟩
abbrev main_call42_c_1 : Ref sig .tc := ⟨.hbm, 813, rfl⟩
abbrev main_call42_v5 : Ref sig .tc := ⟨.hbm, 814, rfl⟩
abbrev main_call42_v6 : Ref sig .tc := ⟨.hbm, 815, rfl⟩
abbrev main_call42_c_2 : Ref sig .tc := ⟨.hbm, 816, rfl⟩
abbrev main_call42_v7 : Ref sig .tc := ⟨.hbm, 817, rfl⟩
abbrev main_call42_v8 : Ref sig .tc := ⟨.hbm, 818, rfl⟩
abbrev main_call42_c_3 : Ref sig .tc := ⟨.hbm, 819, rfl⟩
abbrev main_call42_v9 : Ref sig .tc := ⟨.hbm, 820, rfl⟩
abbrev main_call42_v10 : Ref sig .tc := ⟨.hbm, 821, rfl⟩
abbrev main_call42_v11 : Ref sig .tc := ⟨.hbm, 822, rfl⟩
abbrev main_call42_v12 : Ref sig .tc := ⟨.hbm, 823, rfl⟩
abbrev main_call42_v13 : Ref sig .tc := ⟨.hbm, 824, rfl⟩
abbrev main_call42_v14 : Ref sig .tc := ⟨.hbm, 825, rfl⟩
abbrev main_v296 : Ref sig .tc := ⟨.hbm, 826, rfl⟩
abbrev main_c_65 : Ref sig .tc := ⟨.hbm, 827, rfl⟩
abbrev main_v297 : Ref sig .tc := ⟨.hbm, 828, rfl⟩
abbrev main_v298 : Ref sig .tc := ⟨.hbm, 829, rfl⟩
abbrev main_v299 : Ref sig .tc := ⟨.hbm, 830, rfl⟩
abbrev main_v300 : Ref sig .tc := ⟨.hbm, 831, rfl⟩
abbrev main_v301 : Ref sig .tc := ⟨.hbm, 832, rfl⟩
abbrev main_call43_v0 : Ref sig .tc := ⟨.hbm, 833, rfl⟩
abbrev main_v302 : Ref sig .tc := ⟨.hbm, 834, rfl⟩
abbrev main_c_66 : Ref sig .tc := ⟨.hbm, 835, rfl⟩
abbrev main_call44_v0 : Ref sig .tc := ⟨.hbm, 836, rfl⟩
abbrev main_call44_c : Ref sig .tc := ⟨.hbm, 837, rfl⟩
abbrev main_call44_v1 : Ref sig .tc := ⟨.hbm, 838, rfl⟩
abbrev main_call44_c_0 : Ref sig .tc := ⟨.hbm, 839, rfl⟩
abbrev main_call44_v2 : Ref sig .tc := ⟨.hbm, 840, rfl⟩
abbrev main_call44_v3 : Ref sig .tc := ⟨.hbm, 841, rfl⟩
abbrev main_call44_v4 : Ref sig .tc := ⟨.hbm, 842, rfl⟩
abbrev main_call44_c_1 : Ref sig .tc := ⟨.hbm, 843, rfl⟩
abbrev main_call44_v5 : Ref sig .tc := ⟨.hbm, 844, rfl⟩
abbrev main_call44_v6 : Ref sig .tc := ⟨.hbm, 845, rfl⟩
abbrev main_call44_c_2 : Ref sig .tc := ⟨.hbm, 846, rfl⟩
abbrev main_call44_v7 : Ref sig .tc := ⟨.hbm, 847, rfl⟩
abbrev main_call44_v8 : Ref sig .tc := ⟨.hbm, 848, rfl⟩
abbrev main_call44_c_3 : Ref sig .tc := ⟨.hbm, 849, rfl⟩
abbrev main_call44_v9 : Ref sig .tc := ⟨.hbm, 850, rfl⟩
abbrev main_call44_v10 : Ref sig .tc := ⟨.hbm, 851, rfl⟩
abbrev main_call44_v11 : Ref sig .tc := ⟨.hbm, 852, rfl⟩
abbrev main_call44_v12 : Ref sig .tc := ⟨.hbm, 853, rfl⟩
abbrev main_call44_v13 : Ref sig .tc := ⟨.hbm, 854, rfl⟩
abbrev main_call44_v14 : Ref sig .tc := ⟨.hbm, 855, rfl⟩
abbrev main_v303 : Ref sig .tc := ⟨.hbm, 856, rfl⟩
abbrev main_c_67 : Ref sig .tc := ⟨.hbm, 857, rfl⟩
abbrev main_v304 : Ref sig .tc := ⟨.hbm, 858, rfl⟩
abbrev main_v305 : Ref sig .tc := ⟨.hbm, 859, rfl⟩
abbrev main_v306 : Ref sig .tc := ⟨.hbm, 860, rfl⟩
abbrev main_v307 : Ref sig .tc := ⟨.hbm, 861, rfl⟩
abbrev main_v308 : Ref sig .tc := ⟨.hbm, 862, rfl⟩
abbrev main_call45_v0 : Ref sig .tc := ⟨.hbm, 863, rfl⟩
abbrev main_v309 : Ref sig .tc := ⟨.hbm, 864, rfl⟩
abbrev main_c_68 : Ref sig .tc := ⟨.hbm, 865, rfl⟩
abbrev main_call46_v0 : Ref sig .tc := ⟨.hbm, 866, rfl⟩
abbrev main_call46_c : Ref sig .tc := ⟨.hbm, 867, rfl⟩
abbrev main_call46_v1 : Ref sig .tc := ⟨.hbm, 868, rfl⟩
abbrev main_call46_c_0 : Ref sig .tc := ⟨.hbm, 869, rfl⟩
abbrev main_call46_v2 : Ref sig .tc := ⟨.hbm, 870, rfl⟩
abbrev main_call46_v3 : Ref sig .tc := ⟨.hbm, 871, rfl⟩
abbrev main_call46_v4 : Ref sig .tc := ⟨.hbm, 872, rfl⟩
abbrev main_call46_c_1 : Ref sig .tc := ⟨.hbm, 873, rfl⟩
abbrev main_call46_v5 : Ref sig .tc := ⟨.hbm, 874, rfl⟩
abbrev main_call46_v6 : Ref sig .tc := ⟨.hbm, 875, rfl⟩
abbrev main_call46_c_2 : Ref sig .tc := ⟨.hbm, 876, rfl⟩
abbrev main_call46_v7 : Ref sig .tc := ⟨.hbm, 877, rfl⟩
abbrev main_call46_v8 : Ref sig .tc := ⟨.hbm, 878, rfl⟩
abbrev main_call46_c_3 : Ref sig .tc := ⟨.hbm, 879, rfl⟩
abbrev main_call46_v9 : Ref sig .tc := ⟨.hbm, 880, rfl⟩
abbrev main_call46_v10 : Ref sig .tc := ⟨.hbm, 881, rfl⟩
abbrev main_call46_v11 : Ref sig .tc := ⟨.hbm, 882, rfl⟩
abbrev main_call46_v12 : Ref sig .tc := ⟨.hbm, 883, rfl⟩
abbrev main_call46_v13 : Ref sig .tc := ⟨.hbm, 884, rfl⟩
abbrev main_call46_v14 : Ref sig .tc := ⟨.hbm, 885, rfl⟩
abbrev main_v310 : Ref sig .tc := ⟨.hbm, 886, rfl⟩
abbrev main_c_69 : Ref sig .tc := ⟨.hbm, 887, rfl⟩
abbrev main_v311 : Ref sig .tc := ⟨.hbm, 888, rfl⟩
abbrev main_v312 : Ref sig .tc := ⟨.hbm, 889, rfl⟩
abbrev main_v313 : Ref sig .tc := ⟨.hbm, 890, rfl⟩
abbrev main_v314 : Ref sig .tc := ⟨.hbm, 891, rfl⟩
abbrev main_v315 : Ref sig .tc := ⟨.hbm, 892, rfl⟩
abbrev main_call47_v0 : Ref sig .tc := ⟨.hbm, 893, rfl⟩
abbrev main_v316 : Ref sig .tc := ⟨.hbm, 894, rfl⟩
abbrev main_c_70 : Ref sig .tc := ⟨.hbm, 895, rfl⟩
abbrev main_call48_v0 : Ref sig .tc := ⟨.hbm, 896, rfl⟩
abbrev main_call48_c : Ref sig .tc := ⟨.hbm, 897, rfl⟩
abbrev main_call48_v1 : Ref sig .tc := ⟨.hbm, 898, rfl⟩
abbrev main_call48_c_0 : Ref sig .tc := ⟨.hbm, 899, rfl⟩
abbrev main_call48_v2 : Ref sig .tc := ⟨.hbm, 900, rfl⟩
abbrev main_call48_v3 : Ref sig .tc := ⟨.hbm, 901, rfl⟩
abbrev main_call48_v4 : Ref sig .tc := ⟨.hbm, 902, rfl⟩
abbrev main_call48_c_1 : Ref sig .tc := ⟨.hbm, 903, rfl⟩
abbrev main_call48_v5 : Ref sig .tc := ⟨.hbm, 904, rfl⟩
abbrev main_call48_v6 : Ref sig .tc := ⟨.hbm, 905, rfl⟩
abbrev main_call48_c_2 : Ref sig .tc := ⟨.hbm, 906, rfl⟩
abbrev main_call48_v7 : Ref sig .tc := ⟨.hbm, 907, rfl⟩
abbrev main_call48_v8 : Ref sig .tc := ⟨.hbm, 908, rfl⟩
abbrev main_call48_c_3 : Ref sig .tc := ⟨.hbm, 909, rfl⟩
abbrev main_call48_v9 : Ref sig .tc := ⟨.hbm, 910, rfl⟩
abbrev main_call48_v10 : Ref sig .tc := ⟨.hbm, 911, rfl⟩
abbrev main_call48_v11 : Ref sig .tc := ⟨.hbm, 912, rfl⟩
abbrev main_call48_v12 : Ref sig .tc := ⟨.hbm, 913, rfl⟩
abbrev main_call48_v13 : Ref sig .tc := ⟨.hbm, 914, rfl⟩
abbrev main_call48_v14 : Ref sig .tc := ⟨.hbm, 915, rfl⟩
abbrev main_v317 : Ref sig .tc := ⟨.hbm, 916, rfl⟩
abbrev main_c_71 : Ref sig .tc := ⟨.hbm, 917, rfl⟩
abbrev main_v318 : Ref sig .tc := ⟨.hbm, 918, rfl⟩
abbrev main_v319 : Ref sig .tc := ⟨.hbm, 919, rfl⟩
abbrev main_v320 : Ref sig .tc := ⟨.hbm, 920, rfl⟩
abbrev main_v321 : Ref sig .tc := ⟨.hbm, 921, rfl⟩
abbrev main_v322 : Ref sig .tc := ⟨.hbm, 922, rfl⟩
abbrev main_call49_v0 : Ref sig .tc := ⟨.hbm, 923, rfl⟩
abbrev main_v323 : Ref sig .tc := ⟨.hbm, 924, rfl⟩
abbrev main_c_72 : Ref sig .tc := ⟨.hbm, 925, rfl⟩
abbrev main_v324 : Ref sig .tc := ⟨.hbm, 926, rfl⟩
abbrev main_v325 : Ref sig .tc := ⟨.hbm, 927, rfl⟩
abbrev main_v326 : Ref sig .tc := ⟨.hbm, 928, rfl⟩
abbrev main_v327 : Ref sig .tc := ⟨.hbm, 929, rfl⟩
abbrev main_c_73 : Ref sig .tc := ⟨.hbm, 930, rfl⟩
abbrev main_v328 : Ref sig .tc := ⟨.hbm, 931, rfl⟩
abbrev main_v329 : Ref sig .tc := ⟨.hbm, 932, rfl⟩
abbrev main_v330 : Ref sig .tc := ⟨.hbm, 933, rfl⟩
abbrev main_v331 : Ref sig .tc := ⟨.hbm, 934, rfl⟩
abbrev main_v332 : Ref sig .tc := ⟨.hbm, 935, rfl⟩
abbrev main_c_74 : Ref sig .tc := ⟨.hbm, 936, rfl⟩
abbrev main_call50_v0 : Ref sig .tc := ⟨.hbm, 937, rfl⟩
abbrev main_call50_c : Ref sig .tc := ⟨.hbm, 938, rfl⟩
abbrev main_call50_v1 : Ref sig .tc := ⟨.hbm, 939, rfl⟩
abbrev main_call50_c_0 : Ref sig .tc := ⟨.hbm, 940, rfl⟩
abbrev main_call50_v2 : Ref sig .tc := ⟨.hbm, 941, rfl⟩
abbrev main_call50_v3 : Ref sig .tc := ⟨.hbm, 942, rfl⟩
abbrev main_call50_v4 : Ref sig .tc := ⟨.hbm, 943, rfl⟩
abbrev main_call50_c_1 : Ref sig .tc := ⟨.hbm, 944, rfl⟩
abbrev main_call50_v5 : Ref sig .tc := ⟨.hbm, 945, rfl⟩
abbrev main_call50_v6 : Ref sig .tc := ⟨.hbm, 946, rfl⟩
abbrev main_call50_c_2 : Ref sig .tc := ⟨.hbm, 947, rfl⟩
abbrev main_call50_v7 : Ref sig .tc := ⟨.hbm, 948, rfl⟩
abbrev main_call50_v8 : Ref sig .tc := ⟨.hbm, 949, rfl⟩
abbrev main_call50_c_3 : Ref sig .tc := ⟨.hbm, 950, rfl⟩
abbrev main_call50_v9 : Ref sig .tc := ⟨.hbm, 951, rfl⟩
abbrev main_call50_v10 : Ref sig .tc := ⟨.hbm, 952, rfl⟩
abbrev main_call50_v11 : Ref sig .tc := ⟨.hbm, 953, rfl⟩
abbrev main_call50_v12 : Ref sig .tc := ⟨.hbm, 954, rfl⟩
abbrev main_call50_v13 : Ref sig .tc := ⟨.hbm, 955, rfl⟩
abbrev main_call50_v14 : Ref sig .tc := ⟨.hbm, 956, rfl⟩
abbrev main_v333 : Ref sig .tc := ⟨.hbm, 957, rfl⟩
abbrev main_c_75 : Ref sig .tc := ⟨.hbm, 958, rfl⟩
abbrev main_v334 : Ref sig .tc := ⟨.hbm, 959, rfl⟩
abbrev main_v335 : Ref sig .tc := ⟨.hbm, 960, rfl⟩
abbrev main_v336 : Ref sig .tc := ⟨.hbm, 961, rfl⟩
abbrev main_v337 : Ref sig .tc := ⟨.hbm, 962, rfl⟩
abbrev main_v338 : Ref sig .tc := ⟨.hbm, 963, rfl⟩
abbrev main_call51_v0 : Ref sig .tc := ⟨.hbm, 964, rfl⟩
abbrev main_v339 : Ref sig .tc := ⟨.hbm, 965, rfl⟩
abbrev main_c_76 : Ref sig .tc := ⟨.hbm, 966, rfl⟩
abbrev main_call52_v0 : Ref sig .tc := ⟨.hbm, 967, rfl⟩
abbrev main_call52_c : Ref sig .tc := ⟨.hbm, 968, rfl⟩
abbrev main_call52_v1 : Ref sig .tc := ⟨.hbm, 969, rfl⟩
abbrev main_call52_c_0 : Ref sig .tc := ⟨.hbm, 970, rfl⟩
abbrev main_call52_v2 : Ref sig .tc := ⟨.hbm, 971, rfl⟩
abbrev main_call52_v3 : Ref sig .tc := ⟨.hbm, 972, rfl⟩
abbrev main_call52_v4 : Ref sig .tc := ⟨.hbm, 973, rfl⟩
abbrev main_call52_c_1 : Ref sig .tc := ⟨.hbm, 974, rfl⟩
abbrev main_call52_v5 : Ref sig .tc := ⟨.hbm, 975, rfl⟩
abbrev main_call52_v6 : Ref sig .tc := ⟨.hbm, 976, rfl⟩
abbrev main_call52_c_2 : Ref sig .tc := ⟨.hbm, 977, rfl⟩
abbrev main_call52_v7 : Ref sig .tc := ⟨.hbm, 978, rfl⟩
abbrev main_call52_v8 : Ref sig .tc := ⟨.hbm, 979, rfl⟩
abbrev main_call52_c_3 : Ref sig .tc := ⟨.hbm, 980, rfl⟩
abbrev main_call52_v9 : Ref sig .tc := ⟨.hbm, 981, rfl⟩
abbrev main_call52_v10 : Ref sig .tc := ⟨.hbm, 982, rfl⟩
abbrev main_call52_v11 : Ref sig .tc := ⟨.hbm, 983, rfl⟩
abbrev main_call52_v12 : Ref sig .tc := ⟨.hbm, 984, rfl⟩
abbrev main_call52_v13 : Ref sig .tc := ⟨.hbm, 985, rfl⟩
abbrev main_call52_v14 : Ref sig .tc := ⟨.hbm, 986, rfl⟩
abbrev main_v340 : Ref sig .tc := ⟨.hbm, 987, rfl⟩
abbrev main_c_77 : Ref sig .tc := ⟨.hbm, 988, rfl⟩
abbrev main_v341 : Ref sig .tc := ⟨.hbm, 989, rfl⟩
abbrev main_v342 : Ref sig .tc := ⟨.hbm, 990, rfl⟩
abbrev main_v343 : Ref sig .tc := ⟨.hbm, 991, rfl⟩
abbrev main_v344 : Ref sig .tc := ⟨.hbm, 992, rfl⟩
abbrev main_v345 : Ref sig .tc := ⟨.hbm, 993, rfl⟩
abbrev main_call53_v0 : Ref sig .tc := ⟨.hbm, 994, rfl⟩
abbrev main_v346 : Ref sig .tc := ⟨.hbm, 995, rfl⟩
abbrev main_c_78 : Ref sig .tc := ⟨.hbm, 996, rfl⟩
abbrev main_call54_v0 : Ref sig .tc := ⟨.hbm, 997, rfl⟩
abbrev main_call54_c : Ref sig .tc := ⟨.hbm, 998, rfl⟩
abbrev main_call54_v1 : Ref sig .tc := ⟨.hbm, 999, rfl⟩
abbrev main_call54_c_0 : Ref sig .tc := ⟨.hbm, 1000, rfl⟩
abbrev main_call54_v2 : Ref sig .tc := ⟨.hbm, 1001, rfl⟩
abbrev main_call54_v3 : Ref sig .tc := ⟨.hbm, 1002, rfl⟩
abbrev main_call54_v4 : Ref sig .tc := ⟨.hbm, 1003, rfl⟩
abbrev main_call54_c_1 : Ref sig .tc := ⟨.hbm, 1004, rfl⟩
abbrev main_call54_v5 : Ref sig .tc := ⟨.hbm, 1005, rfl⟩
abbrev main_call54_v6 : Ref sig .tc := ⟨.hbm, 1006, rfl⟩
abbrev main_call54_c_2 : Ref sig .tc := ⟨.hbm, 1007, rfl⟩
abbrev main_call54_v7 : Ref sig .tc := ⟨.hbm, 1008, rfl⟩
abbrev main_call54_v8 : Ref sig .tc := ⟨.hbm, 1009, rfl⟩
abbrev main_call54_c_3 : Ref sig .tc := ⟨.hbm, 1010, rfl⟩
abbrev main_call54_v9 : Ref sig .tc := ⟨.hbm, 1011, rfl⟩
abbrev main_call54_v10 : Ref sig .tc := ⟨.hbm, 1012, rfl⟩
abbrev main_call54_v11 : Ref sig .tc := ⟨.hbm, 1013, rfl⟩
abbrev main_call54_v12 : Ref sig .tc := ⟨.hbm, 1014, rfl⟩
abbrev main_call54_v13 : Ref sig .tc := ⟨.hbm, 1015, rfl⟩
abbrev main_call54_v14 : Ref sig .tc := ⟨.hbm, 1016, rfl⟩
abbrev main_v347 : Ref sig .tc := ⟨.hbm, 1017, rfl⟩
abbrev main_c_79 : Ref sig .tc := ⟨.hbm, 1018, rfl⟩
abbrev main_v348 : Ref sig .tc := ⟨.hbm, 1019, rfl⟩
abbrev main_v349 : Ref sig .tc := ⟨.hbm, 1020, rfl⟩
abbrev main_v350 : Ref sig .tc := ⟨.hbm, 1021, rfl⟩
abbrev main_v351 : Ref sig .tc := ⟨.hbm, 1022, rfl⟩
abbrev main_v352 : Ref sig .tc := ⟨.hbm, 1023, rfl⟩
abbrev main_call55_v0 : Ref sig .tc := ⟨.hbm, 1024, rfl⟩
abbrev main_v353 : Ref sig .tc := ⟨.hbm, 1025, rfl⟩
abbrev main_c_80 : Ref sig .tc := ⟨.hbm, 1026, rfl⟩
abbrev main_call56_v0 : Ref sig .tc := ⟨.hbm, 1027, rfl⟩
abbrev main_call56_c : Ref sig .tc := ⟨.hbm, 1028, rfl⟩
abbrev main_call56_v1 : Ref sig .tc := ⟨.hbm, 1029, rfl⟩
abbrev main_call56_c_0 : Ref sig .tc := ⟨.hbm, 1030, rfl⟩
abbrev main_call56_v2 : Ref sig .tc := ⟨.hbm, 1031, rfl⟩
abbrev main_call56_v3 : Ref sig .tc := ⟨.hbm, 1032, rfl⟩
abbrev main_call56_v4 : Ref sig .tc := ⟨.hbm, 1033, rfl⟩
abbrev main_call56_c_1 : Ref sig .tc := ⟨.hbm, 1034, rfl⟩
abbrev main_call56_v5 : Ref sig .tc := ⟨.hbm, 1035, rfl⟩
abbrev main_call56_v6 : Ref sig .tc := ⟨.hbm, 1036, rfl⟩
abbrev main_call56_c_2 : Ref sig .tc := ⟨.hbm, 1037, rfl⟩
abbrev main_call56_v7 : Ref sig .tc := ⟨.hbm, 1038, rfl⟩
abbrev main_call56_v8 : Ref sig .tc := ⟨.hbm, 1039, rfl⟩
abbrev main_call56_c_3 : Ref sig .tc := ⟨.hbm, 1040, rfl⟩
abbrev main_call56_v9 : Ref sig .tc := ⟨.hbm, 1041, rfl⟩
abbrev main_call56_v10 : Ref sig .tc := ⟨.hbm, 1042, rfl⟩
abbrev main_call56_v11 : Ref sig .tc := ⟨.hbm, 1043, rfl⟩
abbrev main_call56_v12 : Ref sig .tc := ⟨.hbm, 1044, rfl⟩
abbrev main_call56_v13 : Ref sig .tc := ⟨.hbm, 1045, rfl⟩
abbrev main_call56_v14 : Ref sig .tc := ⟨.hbm, 1046, rfl⟩
abbrev main_v354 : Ref sig .tc := ⟨.hbm, 1047, rfl⟩
abbrev main_c_81 : Ref sig .tc := ⟨.hbm, 1048, rfl⟩
abbrev main_v355 : Ref sig .tc := ⟨.hbm, 1049, rfl⟩
abbrev main_v356 : Ref sig .tc := ⟨.hbm, 1050, rfl⟩
abbrev main_v357 : Ref sig .tc := ⟨.hbm, 1051, rfl⟩
abbrev main_v358 : Ref sig .tc := ⟨.hbm, 1052, rfl⟩
abbrev main_v359 : Ref sig .tc := ⟨.hbm, 1053, rfl⟩
abbrev main_call57_v0 : Ref sig .tc := ⟨.hbm, 1054, rfl⟩
abbrev main_v360 : Ref sig .tc := ⟨.hbm, 1055, rfl⟩
abbrev main_c_82 : Ref sig .tc := ⟨.hbm, 1056, rfl⟩
abbrev main_call58_v0 : Ref sig .tc := ⟨.hbm, 1057, rfl⟩
abbrev main_call58_c : Ref sig .tc := ⟨.hbm, 1058, rfl⟩
abbrev main_call58_v1 : Ref sig .tc := ⟨.hbm, 1059, rfl⟩
abbrev main_call58_c_0 : Ref sig .tc := ⟨.hbm, 1060, rfl⟩
abbrev main_call58_v2 : Ref sig .tc := ⟨.hbm, 1061, rfl⟩
abbrev main_call58_v3 : Ref sig .tc := ⟨.hbm, 1062, rfl⟩
abbrev main_call58_v4 : Ref sig .tc := ⟨.hbm, 1063, rfl⟩
abbrev main_call58_c_1 : Ref sig .tc := ⟨.hbm, 1064, rfl⟩
abbrev main_call58_v5 : Ref sig .tc := ⟨.hbm, 1065, rfl⟩
abbrev main_call58_v6 : Ref sig .tc := ⟨.hbm, 1066, rfl⟩
abbrev main_call58_c_2 : Ref sig .tc := ⟨.hbm, 1067, rfl⟩
abbrev main_call58_v7 : Ref sig .tc := ⟨.hbm, 1068, rfl⟩
abbrev main_call58_v8 : Ref sig .tc := ⟨.hbm, 1069, rfl⟩
abbrev main_call58_c_3 : Ref sig .tc := ⟨.hbm, 1070, rfl⟩
abbrev main_call58_v9 : Ref sig .tc := ⟨.hbm, 1071, rfl⟩
abbrev main_call58_v10 : Ref sig .tc := ⟨.hbm, 1072, rfl⟩
abbrev main_call58_v11 : Ref sig .tc := ⟨.hbm, 1073, rfl⟩
abbrev main_call58_v12 : Ref sig .tc := ⟨.hbm, 1074, rfl⟩
abbrev main_call58_v13 : Ref sig .tc := ⟨.hbm, 1075, rfl⟩
abbrev main_call58_v14 : Ref sig .tc := ⟨.hbm, 1076, rfl⟩
abbrev main_v361 : Ref sig .tc := ⟨.hbm, 1077, rfl⟩
abbrev main_c_83 : Ref sig .tc := ⟨.hbm, 1078, rfl⟩
abbrev main_v362 : Ref sig .tc := ⟨.hbm, 1079, rfl⟩
abbrev main_v363 : Ref sig .tc := ⟨.hbm, 1080, rfl⟩
abbrev main_v364 : Ref sig .tc := ⟨.hbm, 1081, rfl⟩
abbrev main_v365 : Ref sig .tc := ⟨.hbm, 1082, rfl⟩
abbrev main_v366 : Ref sig .tc := ⟨.hbm, 1083, rfl⟩
abbrev main_call59_v0 : Ref sig .tc := ⟨.hbm, 1084, rfl⟩
abbrev main_v367 : Ref sig .tc := ⟨.hbm, 1085, rfl⟩
abbrev main_c_84 : Ref sig .tc := ⟨.hbm, 1086, rfl⟩
abbrev main_call60_v0 : Ref sig .tc := ⟨.hbm, 1087, rfl⟩
abbrev main_call60_c : Ref sig .tc := ⟨.hbm, 1088, rfl⟩
abbrev main_call60_v1 : Ref sig .tc := ⟨.hbm, 1089, rfl⟩
abbrev main_call60_c_0 : Ref sig .tc := ⟨.hbm, 1090, rfl⟩
abbrev main_call60_v2 : Ref sig .tc := ⟨.hbm, 1091, rfl⟩
abbrev main_call60_v3 : Ref sig .tc := ⟨.hbm, 1092, rfl⟩
abbrev main_call60_v4 : Ref sig .tc := ⟨.hbm, 1093, rfl⟩
abbrev main_call60_c_1 : Ref sig .tc := ⟨.hbm, 1094, rfl⟩
abbrev main_call60_v5 : Ref sig .tc := ⟨.hbm, 1095, rfl⟩
abbrev main_call60_v6 : Ref sig .tc := ⟨.hbm, 1096, rfl⟩
abbrev main_call60_c_2 : Ref sig .tc := ⟨.hbm, 1097, rfl⟩
abbrev main_call60_v7 : Ref sig .tc := ⟨.hbm, 1098, rfl⟩
abbrev main_call60_v8 : Ref sig .tc := ⟨.hbm, 1099, rfl⟩
abbrev main_call60_c_3 : Ref sig .tc := ⟨.hbm, 1100, rfl⟩
abbrev main_call60_v9 : Ref sig .tc := ⟨.hbm, 1101, rfl⟩
abbrev main_call60_v10 : Ref sig .tc := ⟨.hbm, 1102, rfl⟩
abbrev main_call60_v11 : Ref sig .tc := ⟨.hbm, 1103, rfl⟩
abbrev main_call60_v12 : Ref sig .tc := ⟨.hbm, 1104, rfl⟩
abbrev main_call60_v13 : Ref sig .tc := ⟨.hbm, 1105, rfl⟩
abbrev main_call60_v14 : Ref sig .tc := ⟨.hbm, 1106, rfl⟩
abbrev main_v368 : Ref sig .tc := ⟨.hbm, 1107, rfl⟩
abbrev main_c_85 : Ref sig .tc := ⟨.hbm, 1108, rfl⟩
abbrev main_v369 : Ref sig .tc := ⟨.hbm, 1109, rfl⟩
abbrev main_v370 : Ref sig .tc := ⟨.hbm, 1110, rfl⟩
abbrev main_v371 : Ref sig .tc := ⟨.hbm, 1111, rfl⟩
abbrev main_v372 : Ref sig .tc := ⟨.hbm, 1112, rfl⟩
abbrev main_v373 : Ref sig .tc := ⟨.hbm, 1113, rfl⟩
abbrev main_call61_v0 : Ref sig .tc := ⟨.hbm, 1114, rfl⟩
abbrev main_v374 : Ref sig .tc := ⟨.hbm, 1115, rfl⟩
abbrev main_c_86 : Ref sig .tc := ⟨.hbm, 1116, rfl⟩
abbrev main_call62_v0 : Ref sig .tc := ⟨.hbm, 1117, rfl⟩
abbrev main_call62_c : Ref sig .tc := ⟨.hbm, 1118, rfl⟩
abbrev main_call62_v1 : Ref sig .tc := ⟨.hbm, 1119, rfl⟩
abbrev main_call62_c_0 : Ref sig .tc := ⟨.hbm, 1120, rfl⟩
abbrev main_call62_v2 : Ref sig .tc := ⟨.hbm, 1121, rfl⟩
abbrev main_call62_v3 : Ref sig .tc := ⟨.hbm, 1122, rfl⟩
abbrev main_call62_v4 : Ref sig .tc := ⟨.hbm, 1123, rfl⟩
abbrev main_call62_c_1 : Ref sig .tc := ⟨.hbm, 1124, rfl⟩
abbrev main_call62_v5 : Ref sig .tc := ⟨.hbm, 1125, rfl⟩
abbrev main_call62_v6 : Ref sig .tc := ⟨.hbm, 1126, rfl⟩
abbrev main_call62_c_2 : Ref sig .tc := ⟨.hbm, 1127, rfl⟩
abbrev main_call62_v7 : Ref sig .tc := ⟨.hbm, 1128, rfl⟩
abbrev main_call62_v8 : Ref sig .tc := ⟨.hbm, 1129, rfl⟩
abbrev main_call62_c_3 : Ref sig .tc := ⟨.hbm, 1130, rfl⟩
abbrev main_call62_v9 : Ref sig .tc := ⟨.hbm, 1131, rfl⟩
abbrev main_call62_v10 : Ref sig .tc := ⟨.hbm, 1132, rfl⟩
abbrev main_call62_v11 : Ref sig .tc := ⟨.hbm, 1133, rfl⟩
abbrev main_call62_v12 : Ref sig .tc := ⟨.hbm, 1134, rfl⟩
abbrev main_call62_v13 : Ref sig .tc := ⟨.hbm, 1135, rfl⟩
abbrev main_call62_v14 : Ref sig .tc := ⟨.hbm, 1136, rfl⟩
abbrev main_v375 : Ref sig .tc := ⟨.hbm, 1137, rfl⟩
abbrev main_c_87 : Ref sig .tc := ⟨.hbm, 1138, rfl⟩
abbrev main_v376 : Ref sig .tc := ⟨.hbm, 1139, rfl⟩
abbrev main_v377 : Ref sig .tc := ⟨.hbm, 1140, rfl⟩
abbrev main_v378 : Ref sig .tc := ⟨.hbm, 1141, rfl⟩
abbrev main_v379 : Ref sig .tc := ⟨.hbm, 1142, rfl⟩
abbrev main_v380 : Ref sig .tc := ⟨.hbm, 1143, rfl⟩
abbrev main_call63_v0 : Ref sig .tc := ⟨.hbm, 1144, rfl⟩
abbrev main_v381 : Ref sig .tc := ⟨.hbm, 1145, rfl⟩
abbrev main_c_88 : Ref sig .tc := ⟨.hbm, 1146, rfl⟩
abbrev main_call64_v0 : Ref sig .tc := ⟨.hbm, 1147, rfl⟩
abbrev main_call64_c : Ref sig .tc := ⟨.hbm, 1148, rfl⟩
abbrev main_call64_v1 : Ref sig .tc := ⟨.hbm, 1149, rfl⟩
abbrev main_call64_c_0 : Ref sig .tc := ⟨.hbm, 1150, rfl⟩
abbrev main_call64_v2 : Ref sig .tc := ⟨.hbm, 1151, rfl⟩
abbrev main_call64_v3 : Ref sig .tc := ⟨.hbm, 1152, rfl⟩
abbrev main_call64_v4 : Ref sig .tc := ⟨.hbm, 1153, rfl⟩
abbrev main_call64_c_1 : Ref sig .tc := ⟨.hbm, 1154, rfl⟩
abbrev main_call64_v5 : Ref sig .tc := ⟨.hbm, 1155, rfl⟩
abbrev main_call64_v6 : Ref sig .tc := ⟨.hbm, 1156, rfl⟩
abbrev main_call64_c_2 : Ref sig .tc := ⟨.hbm, 1157, rfl⟩
abbrev main_call64_v7 : Ref sig .tc := ⟨.hbm, 1158, rfl⟩
abbrev main_call64_v8 : Ref sig .tc := ⟨.hbm, 1159, rfl⟩
abbrev main_call64_c_3 : Ref sig .tc := ⟨.hbm, 1160, rfl⟩
abbrev main_call64_v9 : Ref sig .tc := ⟨.hbm, 1161, rfl⟩
abbrev main_call64_v10 : Ref sig .tc := ⟨.hbm, 1162, rfl⟩
abbrev main_call64_v11 : Ref sig .tc := ⟨.hbm, 1163, rfl⟩
abbrev main_call64_v12 : Ref sig .tc := ⟨.hbm, 1164, rfl⟩
abbrev main_call64_v13 : Ref sig .tc := ⟨.hbm, 1165, rfl⟩
abbrev main_call64_v14 : Ref sig .tc := ⟨.hbm, 1166, rfl⟩
abbrev main_v382 : Ref sig .tc := ⟨.hbm, 1167, rfl⟩
abbrev main_c_89 : Ref sig .tc := ⟨.hbm, 1168, rfl⟩
abbrev main_v383 : Ref sig .tc := ⟨.hbm, 1169, rfl⟩
abbrev main_v384 : Ref sig .tc := ⟨.hbm, 1170, rfl⟩
abbrev main_v385 : Ref sig .tc := ⟨.hbm, 1171, rfl⟩
abbrev main_v386 : Ref sig .tc := ⟨.hbm, 1172, rfl⟩
abbrev main_v387 : Ref sig .tc := ⟨.hbm, 1173, rfl⟩
abbrev main_call65_v0 : Ref sig .tc := ⟨.hbm, 1174, rfl⟩
abbrev main_v388 : Ref sig .tc := ⟨.hbm, 1175, rfl⟩
abbrev main_c_90 : Ref sig .tc := ⟨.hbm, 1176, rfl⟩
abbrev main_v389 : Ref sig .tc := ⟨.hbm, 1177, rfl⟩
abbrev main_v390 : Ref sig .tc := ⟨.hbm, 1178, rfl⟩
abbrev main_v391 : Ref sig .tc := ⟨.hbm, 1179, rfl⟩
abbrev main_v392 : Ref sig .tc := ⟨.hbm, 1180, rfl⟩
abbrev main_c_91 : Ref sig .tc := ⟨.hbm, 1181, rfl⟩
abbrev main_v393 : Ref sig .tc := ⟨.hbm, 1182, rfl⟩
abbrev main_v394 : Ref sig .tc := ⟨.hbm, 1183, rfl⟩
abbrev main_v395 : Ref sig .tc := ⟨.hbm, 1184, rfl⟩
abbrev main_v396 : Ref sig .tc := ⟨.hbm, 1185, rfl⟩
abbrev main_v397 : Ref sig .tc := ⟨.hbm, 1186, rfl⟩
abbrev main_c_92 : Ref sig .tc := ⟨.hbm, 1187, rfl⟩
abbrev main_call66_v0 : Ref sig .tc := ⟨.hbm, 1188, rfl⟩
abbrev main_call66_c : Ref sig .tc := ⟨.hbm, 1189, rfl⟩
abbrev main_call66_v1 : Ref sig .tc := ⟨.hbm, 1190, rfl⟩
abbrev main_call66_c_0 : Ref sig .tc := ⟨.hbm, 1191, rfl⟩
abbrev main_call66_v2 : Ref sig .tc := ⟨.hbm, 1192, rfl⟩
abbrev main_call66_v3 : Ref sig .tc := ⟨.hbm, 1193, rfl⟩
abbrev main_call66_v4 : Ref sig .tc := ⟨.hbm, 1194, rfl⟩
abbrev main_call66_c_1 : Ref sig .tc := ⟨.hbm, 1195, rfl⟩
abbrev main_call66_v5 : Ref sig .tc := ⟨.hbm, 1196, rfl⟩
abbrev main_call66_v6 : Ref sig .tc := ⟨.hbm, 1197, rfl⟩
abbrev main_call66_c_2 : Ref sig .tc := ⟨.hbm, 1198, rfl⟩
abbrev main_call66_v7 : Ref sig .tc := ⟨.hbm, 1199, rfl⟩
abbrev main_call66_v8 : Ref sig .tc := ⟨.hbm, 1200, rfl⟩
abbrev main_call66_c_3 : Ref sig .tc := ⟨.hbm, 1201, rfl⟩
abbrev main_call66_v9 : Ref sig .tc := ⟨.hbm, 1202, rfl⟩
abbrev main_call66_v10 : Ref sig .tc := ⟨.hbm, 1203, rfl⟩
abbrev main_call66_v11 : Ref sig .tc := ⟨.hbm, 1204, rfl⟩
abbrev main_call66_v12 : Ref sig .tc := ⟨.hbm, 1205, rfl⟩
abbrev main_call66_v13 : Ref sig .tc := ⟨.hbm, 1206, rfl⟩
abbrev main_call66_v14 : Ref sig .tc := ⟨.hbm, 1207, rfl⟩
abbrev main_v398 : Ref sig .tc := ⟨.hbm, 1208, rfl⟩
abbrev main_c_93 : Ref sig .tc := ⟨.hbm, 1209, rfl⟩
abbrev main_v399 : Ref sig .tc := ⟨.hbm, 1210, rfl⟩
abbrev main_v400 : Ref sig .tc := ⟨.hbm, 1211, rfl⟩
abbrev main_v401 : Ref sig .tc := ⟨.hbm, 1212, rfl⟩
abbrev main_v402 : Ref sig .tc := ⟨.hbm, 1213, rfl⟩
abbrev main_v403 : Ref sig .tc := ⟨.hbm, 1214, rfl⟩
abbrev main_call67_v0 : Ref sig .tc := ⟨.hbm, 1215, rfl⟩
abbrev main_v404 : Ref sig .tc := ⟨.hbm, 1216, rfl⟩
abbrev main_c_94 : Ref sig .tc := ⟨.hbm, 1217, rfl⟩
abbrev main_call68_v0 : Ref sig .tc := ⟨.hbm, 1218, rfl⟩
abbrev main_call68_c : Ref sig .tc := ⟨.hbm, 1219, rfl⟩
abbrev main_call68_v1 : Ref sig .tc := ⟨.hbm, 1220, rfl⟩
abbrev main_call68_c_0 : Ref sig .tc := ⟨.hbm, 1221, rfl⟩
abbrev main_call68_v2 : Ref sig .tc := ⟨.hbm, 1222, rfl⟩
abbrev main_call68_v3 : Ref sig .tc := ⟨.hbm, 1223, rfl⟩
abbrev main_call68_v4 : Ref sig .tc := ⟨.hbm, 1224, rfl⟩
abbrev main_call68_c_1 : Ref sig .tc := ⟨.hbm, 1225, rfl⟩
abbrev main_call68_v5 : Ref sig .tc := ⟨.hbm, 1226, rfl⟩
abbrev main_call68_v6 : Ref sig .tc := ⟨.hbm, 1227, rfl⟩
abbrev main_call68_c_2 : Ref sig .tc := ⟨.hbm, 1228, rfl⟩
abbrev main_call68_v7 : Ref sig .tc := ⟨.hbm, 1229, rfl⟩
abbrev main_call68_v8 : Ref sig .tc := ⟨.hbm, 1230, rfl⟩
abbrev main_call68_c_3 : Ref sig .tc := ⟨.hbm, 1231, rfl⟩
abbrev main_call68_v9 : Ref sig .tc := ⟨.hbm, 1232, rfl⟩
abbrev main_call68_v10 : Ref sig .tc := ⟨.hbm, 1233, rfl⟩
abbrev main_call68_v11 : Ref sig .tc := ⟨.hbm, 1234, rfl⟩
abbrev main_call68_v12 : Ref sig .tc := ⟨.hbm, 1235, rfl⟩
abbrev main_call68_v13 : Ref sig .tc := ⟨.hbm, 1236, rfl⟩
abbrev main_call68_v14 : Ref sig .tc := ⟨.hbm, 1237, rfl⟩
abbrev main_v405 : Ref sig .tc := ⟨.hbm, 1238, rfl⟩
abbrev main_c_95 : Ref sig .tc := ⟨.hbm, 1239, rfl⟩
abbrev main_v406 : Ref sig .tc := ⟨.hbm, 1240, rfl⟩
abbrev main_v407 : Ref sig .tc := ⟨.hbm, 1241, rfl⟩
abbrev main_v408 : Ref sig .tc := ⟨.hbm, 1242, rfl⟩
abbrev main_v409 : Ref sig .tc := ⟨.hbm, 1243, rfl⟩
abbrev main_v410 : Ref sig .tc := ⟨.hbm, 1244, rfl⟩
abbrev main_call69_v0 : Ref sig .tc := ⟨.hbm, 1245, rfl⟩
abbrev main_v411 : Ref sig .tc := ⟨.hbm, 1246, rfl⟩
abbrev main_c_96 : Ref sig .tc := ⟨.hbm, 1247, rfl⟩
abbrev main_call70_v0 : Ref sig .tc := ⟨.hbm, 1248, rfl⟩
abbrev main_call70_c : Ref sig .tc := ⟨.hbm, 1249, rfl⟩
abbrev main_call70_v1 : Ref sig .tc := ⟨.hbm, 1250, rfl⟩
abbrev main_call70_c_0 : Ref sig .tc := ⟨.hbm, 1251, rfl⟩
abbrev main_call70_v2 : Ref sig .tc := ⟨.hbm, 1252, rfl⟩
abbrev main_call70_v3 : Ref sig .tc := ⟨.hbm, 1253, rfl⟩
abbrev main_call70_v4 : Ref sig .tc := ⟨.hbm, 1254, rfl⟩
abbrev main_call70_c_1 : Ref sig .tc := ⟨.hbm, 1255, rfl⟩
abbrev main_call70_v5 : Ref sig .tc := ⟨.hbm, 1256, rfl⟩
abbrev main_call70_v6 : Ref sig .tc := ⟨.hbm, 1257, rfl⟩
abbrev main_call70_c_2 : Ref sig .tc := ⟨.hbm, 1258, rfl⟩
abbrev main_call70_v7 : Ref sig .tc := ⟨.hbm, 1259, rfl⟩
abbrev main_call70_v8 : Ref sig .tc := ⟨.hbm, 1260, rfl⟩
abbrev main_call70_c_3 : Ref sig .tc := ⟨.hbm, 1261, rfl⟩
abbrev main_call70_v9 : Ref sig .tc := ⟨.hbm, 1262, rfl⟩
abbrev main_call70_v10 : Ref sig .tc := ⟨.hbm, 1263, rfl⟩
abbrev main_call70_v11 : Ref sig .tc := ⟨.hbm, 1264, rfl⟩
abbrev main_call70_v12 : Ref sig .tc := ⟨.hbm, 1265, rfl⟩
abbrev main_call70_v13 : Ref sig .tc := ⟨.hbm, 1266, rfl⟩
abbrev main_call70_v14 : Ref sig .tc := ⟨.hbm, 1267, rfl⟩
abbrev main_v412 : Ref sig .tc := ⟨.hbm, 1268, rfl⟩
abbrev main_c_97 : Ref sig .tc := ⟨.hbm, 1269, rfl⟩
abbrev main_v413 : Ref sig .tc := ⟨.hbm, 1270, rfl⟩
abbrev main_v414 : Ref sig .tc := ⟨.hbm, 1271, rfl⟩
abbrev main_v415 : Ref sig .tc := ⟨.hbm, 1272, rfl⟩
abbrev main_v416 : Ref sig .tc := ⟨.hbm, 1273, rfl⟩
abbrev main_v417 : Ref sig .tc := ⟨.hbm, 1274, rfl⟩
abbrev main_call71_v0 : Ref sig .tc := ⟨.hbm, 1275, rfl⟩
abbrev main_v418 : Ref sig .tc := ⟨.hbm, 1276, rfl⟩
abbrev main_c_98 : Ref sig .tc := ⟨.hbm, 1277, rfl⟩
abbrev main_call72_v0 : Ref sig .tc := ⟨.hbm, 1278, rfl⟩
abbrev main_call72_c : Ref sig .tc := ⟨.hbm, 1279, rfl⟩
abbrev main_call72_v1 : Ref sig .tc := ⟨.hbm, 1280, rfl⟩
abbrev main_call72_c_0 : Ref sig .tc := ⟨.hbm, 1281, rfl⟩
abbrev main_call72_v2 : Ref sig .tc := ⟨.hbm, 1282, rfl⟩
abbrev main_call72_v3 : Ref sig .tc := ⟨.hbm, 1283, rfl⟩
abbrev main_call72_v4 : Ref sig .tc := ⟨.hbm, 1284, rfl⟩
abbrev main_call72_c_1 : Ref sig .tc := ⟨.hbm, 1285, rfl⟩
abbrev main_call72_v5 : Ref sig .tc := ⟨.hbm, 1286, rfl⟩
abbrev main_call72_v6 : Ref sig .tc := ⟨.hbm, 1287, rfl⟩
abbrev main_call72_c_2 : Ref sig .tc := ⟨.hbm, 1288, rfl⟩
abbrev main_call72_v7 : Ref sig .tc := ⟨.hbm, 1289, rfl⟩
abbrev main_call72_v8 : Ref sig .tc := ⟨.hbm, 1290, rfl⟩
abbrev main_call72_c_3 : Ref sig .tc := ⟨.hbm, 1291, rfl⟩
abbrev main_call72_v9 : Ref sig .tc := ⟨.hbm, 1292, rfl⟩
abbrev main_call72_v10 : Ref sig .tc := ⟨.hbm, 1293, rfl⟩
abbrev main_call72_v11 : Ref sig .tc := ⟨.hbm, 1294, rfl⟩
abbrev main_call72_v12 : Ref sig .tc := ⟨.hbm, 1295, rfl⟩
abbrev main_call72_v13 : Ref sig .tc := ⟨.hbm, 1296, rfl⟩
abbrev main_call72_v14 : Ref sig .tc := ⟨.hbm, 1297, rfl⟩
abbrev main_v419 : Ref sig .tc := ⟨.hbm, 1298, rfl⟩
abbrev main_c_99 : Ref sig .tc := ⟨.hbm, 1299, rfl⟩
abbrev main_v420 : Ref sig .tc := ⟨.hbm, 1300, rfl⟩
abbrev main_v421 : Ref sig .tc := ⟨.hbm, 1301, rfl⟩
abbrev main_v422 : Ref sig .tc := ⟨.hbm, 1302, rfl⟩
abbrev main_v423 : Ref sig .tc := ⟨.hbm, 1303, rfl⟩
abbrev main_v424 : Ref sig .tc := ⟨.hbm, 1304, rfl⟩
abbrev main_call73_v0 : Ref sig .tc := ⟨.hbm, 1305, rfl⟩
abbrev main_v425 : Ref sig .tc := ⟨.hbm, 1306, rfl⟩
abbrev main_c_100 : Ref sig .tc := ⟨.hbm, 1307, rfl⟩
abbrev main_call74_v0 : Ref sig .tc := ⟨.hbm, 1308, rfl⟩
abbrev main_call74_c : Ref sig .tc := ⟨.hbm, 1309, rfl⟩
abbrev main_call74_v1 : Ref sig .tc := ⟨.hbm, 1310, rfl⟩
abbrev main_call74_c_0 : Ref sig .tc := ⟨.hbm, 1311, rfl⟩
abbrev main_call74_v2 : Ref sig .tc := ⟨.hbm, 1312, rfl⟩
abbrev main_call74_v3 : Ref sig .tc := ⟨.hbm, 1313, rfl⟩
abbrev main_call74_v4 : Ref sig .tc := ⟨.hbm, 1314, rfl⟩
abbrev main_call74_c_1 : Ref sig .tc := ⟨.hbm, 1315, rfl⟩
abbrev main_call74_v5 : Ref sig .tc := ⟨.hbm, 1316, rfl⟩
abbrev main_call74_v6 : Ref sig .tc := ⟨.hbm, 1317, rfl⟩
abbrev main_call74_c_2 : Ref sig .tc := ⟨.hbm, 1318, rfl⟩
abbrev main_call74_v7 : Ref sig .tc := ⟨.hbm, 1319, rfl⟩
abbrev main_call74_v8 : Ref sig .tc := ⟨.hbm, 1320, rfl⟩
abbrev main_call74_c_3 : Ref sig .tc := ⟨.hbm, 1321, rfl⟩
abbrev main_call74_v9 : Ref sig .tc := ⟨.hbm, 1322, rfl⟩
abbrev main_call74_v10 : Ref sig .tc := ⟨.hbm, 1323, rfl⟩
abbrev main_call74_v11 : Ref sig .tc := ⟨.hbm, 1324, rfl⟩
abbrev main_call74_v12 : Ref sig .tc := ⟨.hbm, 1325, rfl⟩
abbrev main_call74_v13 : Ref sig .tc := ⟨.hbm, 1326, rfl⟩
abbrev main_call74_v14 : Ref sig .tc := ⟨.hbm, 1327, rfl⟩
abbrev main_v426 : Ref sig .tc := ⟨.hbm, 1328, rfl⟩
abbrev main_c_101 : Ref sig .tc := ⟨.hbm, 1329, rfl⟩
abbrev main_v427 : Ref sig .tc := ⟨.hbm, 1330, rfl⟩
abbrev main_v428 : Ref sig .tc := ⟨.hbm, 1331, rfl⟩
abbrev main_v429 : Ref sig .tc := ⟨.hbm, 1332, rfl⟩
abbrev main_v430 : Ref sig .tc := ⟨.hbm, 1333, rfl⟩
abbrev main_v431 : Ref sig .tc := ⟨.hbm, 1334, rfl⟩
abbrev main_call75_v0 : Ref sig .tc := ⟨.hbm, 1335, rfl⟩
abbrev main_v432 : Ref sig .tc := ⟨.hbm, 1336, rfl⟩
abbrev main_c_102 : Ref sig .tc := ⟨.hbm, 1337, rfl⟩
abbrev main_call76_v0 : Ref sig .tc := ⟨.hbm, 1338, rfl⟩
abbrev main_call76_c : Ref sig .tc := ⟨.hbm, 1339, rfl⟩
abbrev main_call76_v1 : Ref sig .tc := ⟨.hbm, 1340, rfl⟩
abbrev main_call76_c_0 : Ref sig .tc := ⟨.hbm, 1341, rfl⟩
abbrev main_call76_v2 : Ref sig .tc := ⟨.hbm, 1342, rfl⟩
abbrev main_call76_v3 : Ref sig .tc := ⟨.hbm, 1343, rfl⟩
abbrev main_call76_v4 : Ref sig .tc := ⟨.hbm, 1344, rfl⟩
abbrev main_call76_c_1 : Ref sig .tc := ⟨.hbm, 1345, rfl⟩
abbrev main_call76_v5 : Ref sig .tc := ⟨.hbm, 1346, rfl⟩
abbrev main_call76_v6 : Ref sig .tc := ⟨.hbm, 1347, rfl⟩
abbrev main_call76_c_2 : Ref sig .tc := ⟨.hbm, 1348, rfl⟩
abbrev main_call76_v7 : Ref sig .tc := ⟨.hbm, 1349, rfl⟩
abbrev main_call76_v8 : Ref sig .tc := ⟨.hbm, 1350, rfl⟩
abbrev main_call76_c_3 : Ref sig .tc := ⟨.hbm, 1351, rfl⟩
abbrev main_call76_v9 : Ref sig .tc := ⟨.hbm, 1352, rfl⟩
abbrev main_call76_v10 : Ref sig .tc := ⟨.hbm, 1353, rfl⟩
abbrev main_call76_v11 : Ref sig .tc := ⟨.hbm, 1354, rfl⟩
abbrev main_call76_v12 : Ref sig .tc := ⟨.hbm, 1355, rfl⟩
abbrev main_call76_v13 : Ref sig .tc := ⟨.hbm, 1356, rfl⟩
abbrev main_call76_v14 : Ref sig .tc := ⟨.hbm, 1357, rfl⟩
abbrev main_v433 : Ref sig .tc := ⟨.hbm, 1358, rfl⟩
abbrev main_c_103 : Ref sig .tc := ⟨.hbm, 1359, rfl⟩
abbrev main_v434 : Ref sig .tc := ⟨.hbm, 1360, rfl⟩
abbrev main_v435 : Ref sig .tc := ⟨.hbm, 1361, rfl⟩
abbrev main_v436 : Ref sig .tc := ⟨.hbm, 1362, rfl⟩
abbrev main_v437 : Ref sig .tc := ⟨.hbm, 1363, rfl⟩
abbrev main_v438 : Ref sig .tc := ⟨.hbm, 1364, rfl⟩
abbrev main_call77_v0 : Ref sig .tc := ⟨.hbm, 1365, rfl⟩
abbrev main_v439 : Ref sig .tc := ⟨.hbm, 1366, rfl⟩
abbrev main_c_104 : Ref sig .tc := ⟨.hbm, 1367, rfl⟩
abbrev main_call78_v0 : Ref sig .tc := ⟨.hbm, 1368, rfl⟩
abbrev main_call78_c : Ref sig .tc := ⟨.hbm, 1369, rfl⟩
abbrev main_call78_v1 : Ref sig .tc := ⟨.hbm, 1370, rfl⟩
abbrev main_call78_c_0 : Ref sig .tc := ⟨.hbm, 1371, rfl⟩
abbrev main_call78_v2 : Ref sig .tc := ⟨.hbm, 1372, rfl⟩
abbrev main_call78_v3 : Ref sig .tc := ⟨.hbm, 1373, rfl⟩
abbrev main_call78_v4 : Ref sig .tc := ⟨.hbm, 1374, rfl⟩
abbrev main_call78_c_1 : Ref sig .tc := ⟨.hbm, 1375, rfl⟩
abbrev main_call78_v5 : Ref sig .tc := ⟨.hbm, 1376, rfl⟩
abbrev main_call78_v6 : Ref sig .tc := ⟨.hbm, 1377, rfl⟩
abbrev main_call78_c_2 : Ref sig .tc := ⟨.hbm, 1378, rfl⟩
abbrev main_call78_v7 : Ref sig .tc := ⟨.hbm, 1379, rfl⟩
abbrev main_call78_v8 : Ref sig .tc := ⟨.hbm, 1380, rfl⟩
abbrev main_call78_c_3 : Ref sig .tc := ⟨.hbm, 1381, rfl⟩
abbrev main_call78_v9 : Ref sig .tc := ⟨.hbm, 1382, rfl⟩
abbrev main_call78_v10 : Ref sig .tc := ⟨.hbm, 1383, rfl⟩
abbrev main_call78_v11 : Ref sig .tc := ⟨.hbm, 1384, rfl⟩
abbrev main_call78_v12 : Ref sig .tc := ⟨.hbm, 1385, rfl⟩
abbrev main_call78_v13 : Ref sig .tc := ⟨.hbm, 1386, rfl⟩
abbrev main_call78_v14 : Ref sig .tc := ⟨.hbm, 1387, rfl⟩
abbrev main_v440 : Ref sig .tc := ⟨.hbm, 1388, rfl⟩
abbrev main_c_105 : Ref sig .tc := ⟨.hbm, 1389, rfl⟩
abbrev main_v441 : Ref sig .tc := ⟨.hbm, 1390, rfl⟩
abbrev main_v442 : Ref sig .tc := ⟨.hbm, 1391, rfl⟩
abbrev main_v443 : Ref sig .tc := ⟨.hbm, 1392, rfl⟩
abbrev main_v444 : Ref sig .tc := ⟨.hbm, 1393, rfl⟩
abbrev main_v445 : Ref sig .tc := ⟨.hbm, 1394, rfl⟩
abbrev main_call79_v0 : Ref sig .tc := ⟨.hbm, 1395, rfl⟩
abbrev main_v446 : Ref sig .tc := ⟨.hbm, 1396, rfl⟩
abbrev main_c_106 : Ref sig .tc := ⟨.hbm, 1397, rfl⟩
abbrev main_call80_v0 : Ref sig .tc := ⟨.hbm, 1398, rfl⟩
abbrev main_call80_c : Ref sig .tc := ⟨.hbm, 1399, rfl⟩
abbrev main_call80_v1 : Ref sig .tc := ⟨.hbm, 1400, rfl⟩
abbrev main_call80_c_0 : Ref sig .tc := ⟨.hbm, 1401, rfl⟩
abbrev main_call80_v2 : Ref sig .tc := ⟨.hbm, 1402, rfl⟩
abbrev main_call80_v3 : Ref sig .tc := ⟨.hbm, 1403, rfl⟩
abbrev main_call80_v4 : Ref sig .tc := ⟨.hbm, 1404, rfl⟩
abbrev main_call80_c_1 : Ref sig .tc := ⟨.hbm, 1405, rfl⟩
abbrev main_call80_v5 : Ref sig .tc := ⟨.hbm, 1406, rfl⟩
abbrev main_call80_v6 : Ref sig .tc := ⟨.hbm, 1407, rfl⟩
abbrev main_call80_c_2 : Ref sig .tc := ⟨.hbm, 1408, rfl⟩
abbrev main_call80_v7 : Ref sig .tc := ⟨.hbm, 1409, rfl⟩
abbrev main_call80_v8 : Ref sig .tc := ⟨.hbm, 1410, rfl⟩
abbrev main_call80_c_3 : Ref sig .tc := ⟨.hbm, 1411, rfl⟩
abbrev main_call80_v9 : Ref sig .tc := ⟨.hbm, 1412, rfl⟩
abbrev main_call80_v10 : Ref sig .tc := ⟨.hbm, 1413, rfl⟩
abbrev main_call80_v11 : Ref sig .tc := ⟨.hbm, 1414, rfl⟩
abbrev main_call80_v12 : Ref sig .tc := ⟨.hbm, 1415, rfl⟩
abbrev main_call80_v13 : Ref sig .tc := ⟨.hbm, 1416, rfl⟩
abbrev main_call80_v14 : Ref sig .tc := ⟨.hbm, 1417, rfl⟩
abbrev main_v447 : Ref sig .tc := ⟨.hbm, 1418, rfl⟩
abbrev main_c_107 : Ref sig .tc := ⟨.hbm, 1419, rfl⟩
abbrev main_v448 : Ref sig .tc := ⟨.hbm, 1420, rfl⟩
abbrev main_v449 : Ref sig .tc := ⟨.hbm, 1421, rfl⟩
abbrev main_v450 : Ref sig .tc := ⟨.hbm, 1422, rfl⟩
abbrev main_v451 : Ref sig .tc := ⟨.hbm, 1423, rfl⟩
abbrev main_v452 : Ref sig .tc := ⟨.hbm, 1424, rfl⟩
abbrev main_call81_v0 : Ref sig .tc := ⟨.hbm, 1425, rfl⟩
abbrev main_v453 : Ref sig .tc := ⟨.hbm, 1426, rfl⟩
abbrev main_c_108 : Ref sig .tc := ⟨.hbm, 1427, rfl⟩
abbrev main_v454 : Ref sig .tc := ⟨.hbm, 1428, rfl⟩
abbrev main_v455 : Ref sig .tc := ⟨.hbm, 1429, rfl⟩
abbrev main_v456 : Ref sig .tc := ⟨.hbm, 1430, rfl⟩
abbrev main_v457 : Ref sig .tc := ⟨.hbm, 1431, rfl⟩
abbrev main_v458 : Ref sig .tc := ⟨.hbm, 1432, rfl⟩
abbrev main_v459 : Ref sig .tc := ⟨.hbm, 1433, rfl⟩
abbrev main_v460 : Ref sig .tc := ⟨.hbm, 1434, rfl⟩
abbrev main_v461 : Ref sig .tc := ⟨.hbm, 1435, rfl⟩
abbrev main_v462 : Ref sig .tc := ⟨.hbm, 1436, rfl⟩
abbrev main_v463_0 : Ref sig .tc := ⟨.hbm, 1437, rfl⟩
abbrev main_v463_1 : Ref sig .tc := ⟨.hbm, 1438, rfl⟩
abbrev main_v464 : Ref sig .tc := ⟨.hbm, 1439, rfl⟩
abbrev main_v465 : Ref sig .tc := ⟨.hbm, 1440, rfl⟩
abbrev main_v466 : Ref sig .tc := ⟨.hbm, 1441, rfl⟩
abbrev main_c_109 : Ref sig .tc := ⟨.hbm, 1442, rfl⟩
abbrev main_call82_v0 : Ref sig .tc := ⟨.hbm, 1443, rfl⟩
abbrev main_call82_c : Ref sig .tc := ⟨.hbm, 1444, rfl⟩
abbrev main_call82_v1 : Ref sig .tc := ⟨.hbm, 1445, rfl⟩
abbrev main_call82_c_0 : Ref sig .tc := ⟨.hbm, 1446, rfl⟩
abbrev main_call82_v2 : Ref sig .tc := ⟨.hbm, 1447, rfl⟩
abbrev main_call82_v3 : Ref sig .tc := ⟨.hbm, 1448, rfl⟩
abbrev main_call82_v4 : Ref sig .tc := ⟨.hbm, 1449, rfl⟩
abbrev main_call82_c_1 : Ref sig .tc := ⟨.hbm, 1450, rfl⟩
abbrev main_call82_v5 : Ref sig .tc := ⟨.hbm, 1451, rfl⟩
abbrev main_call82_v6 : Ref sig .tc := ⟨.hbm, 1452, rfl⟩
abbrev main_call82_c_2 : Ref sig .tc := ⟨.hbm, 1453, rfl⟩
abbrev main_call82_v7 : Ref sig .tc := ⟨.hbm, 1454, rfl⟩
abbrev main_call82_v8 : Ref sig .tc := ⟨.hbm, 1455, rfl⟩
abbrev main_call82_c_3 : Ref sig .tc := ⟨.hbm, 1456, rfl⟩
abbrev main_call82_v9 : Ref sig .tc := ⟨.hbm, 1457, rfl⟩
abbrev main_call82_v10 : Ref sig .tc := ⟨.hbm, 1458, rfl⟩
abbrev main_call82_v11 : Ref sig .tc := ⟨.hbm, 1459, rfl⟩
abbrev main_call82_v12 : Ref sig .tc := ⟨.hbm, 1460, rfl⟩
abbrev main_call82_v13 : Ref sig .tc := ⟨.hbm, 1461, rfl⟩
abbrev main_call82_v14 : Ref sig .tc := ⟨.hbm, 1462, rfl⟩
abbrev main_v467 : Ref sig .tc := ⟨.hbm, 1463, rfl⟩
abbrev main_v468 : Ref sig .tc := ⟨.hbm, 1464, rfl⟩
abbrev main_v469 : Ref sig .tc := ⟨.hbm, 1465, rfl⟩
abbrev main_v470 : Ref sig .tc := ⟨.hbm, 1466, rfl⟩
abbrev main_v471 : Ref sig .tc := ⟨.hbm, 1467, rfl⟩
abbrev main_v472 : Ref sig .tc := ⟨.hbm, 1468, rfl⟩
abbrev main_v473 : Ref sig .tc := ⟨.hbm, 1469, rfl⟩
abbrev main_v474 : Ref sig .tc := ⟨.hbm, 1470, rfl⟩
abbrev main_cst_110 : Ref sig .tc := ⟨.hbm, 1471, rfl⟩
abbrev main_call83_v0 : Ref sig .tc := ⟨.hbm, 1472, rfl⟩
abbrev main_call83_v1 : Ref sig .tc := ⟨.hbm, 1473, rfl⟩
abbrev main_call83_v2 : Ref sig .tc := ⟨.hbm, 1474, rfl⟩
abbrev main_call83_v3 : Ref sig .tc := ⟨.hbm, 1475, rfl⟩
abbrev main_v475 : Ref sig .tc := ⟨.hbm, 1476, rfl⟩
abbrev main_v476 : Ref sig .tc := ⟨.hbm, 1477, rfl⟩
abbrev main_v477 : Ref sig .tc := ⟨.hbm, 1478, rfl⟩
abbrev main_cst_111 : Ref sig .tc := ⟨.hbm, 1479, rfl⟩
abbrev main_call84_v0 : Ref sig .tc := ⟨.hbm, 1480, rfl⟩
abbrev main_call84_v1 : Ref sig .tc := ⟨.hbm, 1481, rfl⟩
abbrev main_call84_v2 : Ref sig .tc := ⟨.hbm, 1482, rfl⟩
abbrev main_call84_v3 : Ref sig .tc := ⟨.hbm, 1483, rfl⟩
abbrev main_v478 : Ref sig .tc := ⟨.hbm, 1484, rfl⟩
abbrev main_v479 : Ref sig .tc := ⟨.hbm, 1485, rfl⟩
abbrev main_v480 : Ref sig .tc := ⟨.hbm, 1486, rfl⟩
abbrev main_c_112 : Ref sig .tc := ⟨.hbm, 1487, rfl⟩
abbrev main_v481 : Ref sig .tc := ⟨.hbm, 1488, rfl⟩
abbrev main_v482 : Ref sig .tc := ⟨.hbm, 1489, rfl⟩
abbrev main_v483 : Ref sig .tc := ⟨.hbm, 1490, rfl⟩
abbrev main_v484 : Ref sig .tc := ⟨.hbm, 1491, rfl⟩
abbrev main_v485 : Ref sig .tc := ⟨.hbm, 1492, rfl⟩
abbrev main_c_113 : Ref sig .tc := ⟨.hbm, 1493, rfl⟩
abbrev main_call85_v0 : Ref sig .tc := ⟨.hbm, 1494, rfl⟩
abbrev main_call85_c : Ref sig .tc := ⟨.hbm, 1495, rfl⟩
abbrev main_call85_v1 : Ref sig .tc := ⟨.hbm, 1496, rfl⟩
abbrev main_call85_c_0 : Ref sig .tc := ⟨.hbm, 1497, rfl⟩
abbrev main_call85_v2 : Ref sig .tc := ⟨.hbm, 1498, rfl⟩
abbrev main_call85_v3 : Ref sig .tc := ⟨.hbm, 1499, rfl⟩
abbrev main_call85_v4 : Ref sig .tc := ⟨.hbm, 1500, rfl⟩
abbrev main_call85_c_1 : Ref sig .tc := ⟨.hbm, 1501, rfl⟩
abbrev main_call85_v5 : Ref sig .tc := ⟨.hbm, 1502, rfl⟩
abbrev main_call85_v6 : Ref sig .tc := ⟨.hbm, 1503, rfl⟩
abbrev main_call85_c_2 : Ref sig .tc := ⟨.hbm, 1504, rfl⟩
abbrev main_call85_v7 : Ref sig .tc := ⟨.hbm, 1505, rfl⟩
abbrev main_call85_v8 : Ref sig .tc := ⟨.hbm, 1506, rfl⟩
abbrev main_call85_c_3 : Ref sig .tc := ⟨.hbm, 1507, rfl⟩
abbrev main_call85_v9 : Ref sig .tc := ⟨.hbm, 1508, rfl⟩
abbrev main_call85_v10 : Ref sig .tc := ⟨.hbm, 1509, rfl⟩
abbrev main_call85_v11 : Ref sig .tc := ⟨.hbm, 1510, rfl⟩
abbrev main_call85_v12 : Ref sig .tc := ⟨.hbm, 1511, rfl⟩
abbrev main_call85_v13 : Ref sig .tc := ⟨.hbm, 1512, rfl⟩
abbrev main_call85_v14 : Ref sig .tc := ⟨.hbm, 1513, rfl⟩
abbrev main_v486 : Ref sig .tc := ⟨.hbm, 1514, rfl⟩
abbrev main_c_114 : Ref sig .tc := ⟨.hbm, 1515, rfl⟩
abbrev main_v487 : Ref sig .tc := ⟨.hbm, 1516, rfl⟩
abbrev main_v488 : Ref sig .tc := ⟨.hbm, 1517, rfl⟩
abbrev main_v489 : Ref sig .tc := ⟨.hbm, 1518, rfl⟩
abbrev main_v490 : Ref sig .tc := ⟨.hbm, 1519, rfl⟩
abbrev main_v491 : Ref sig .tc := ⟨.hbm, 1520, rfl⟩
abbrev main_call86_v0 : Ref sig .tc := ⟨.hbm, 1521, rfl⟩
abbrev main_v492 : Ref sig .tc := ⟨.hbm, 1522, rfl⟩
abbrev main_c_115 : Ref sig .tc := ⟨.hbm, 1523, rfl⟩
abbrev main_call87_v0 : Ref sig .tc := ⟨.hbm, 1524, rfl⟩
abbrev main_call87_c : Ref sig .tc := ⟨.hbm, 1525, rfl⟩
abbrev main_call87_v1 : Ref sig .tc := ⟨.hbm, 1526, rfl⟩
abbrev main_call87_c_0 : Ref sig .tc := ⟨.hbm, 1527, rfl⟩
abbrev main_call87_v2 : Ref sig .tc := ⟨.hbm, 1528, rfl⟩
abbrev main_call87_v3 : Ref sig .tc := ⟨.hbm, 1529, rfl⟩
abbrev main_call87_v4 : Ref sig .tc := ⟨.hbm, 1530, rfl⟩
abbrev main_call87_c_1 : Ref sig .tc := ⟨.hbm, 1531, rfl⟩
abbrev main_call87_v5 : Ref sig .tc := ⟨.hbm, 1532, rfl⟩
abbrev main_call87_v6 : Ref sig .tc := ⟨.hbm, 1533, rfl⟩
abbrev main_call87_c_2 : Ref sig .tc := ⟨.hbm, 1534, rfl⟩
abbrev main_call87_v7 : Ref sig .tc := ⟨.hbm, 1535, rfl⟩
abbrev main_call87_v8 : Ref sig .tc := ⟨.hbm, 1536, rfl⟩
abbrev main_call87_c_3 : Ref sig .tc := ⟨.hbm, 1537, rfl⟩
abbrev main_call87_v9 : Ref sig .tc := ⟨.hbm, 1538, rfl⟩
abbrev main_call87_v10 : Ref sig .tc := ⟨.hbm, 1539, rfl⟩
abbrev main_call87_v11 : Ref sig .tc := ⟨.hbm, 1540, rfl⟩
abbrev main_call87_v12 : Ref sig .tc := ⟨.hbm, 1541, rfl⟩
abbrev main_call87_v13 : Ref sig .tc := ⟨.hbm, 1542, rfl⟩
abbrev main_call87_v14 : Ref sig .tc := ⟨.hbm, 1543, rfl⟩
abbrev main_v493 : Ref sig .tc := ⟨.hbm, 1544, rfl⟩
abbrev main_c_116 : Ref sig .tc := ⟨.hbm, 1545, rfl⟩
abbrev main_v494 : Ref sig .tc := ⟨.hbm, 1546, rfl⟩
abbrev main_v495 : Ref sig .tc := ⟨.hbm, 1547, rfl⟩
abbrev main_v496 : Ref sig .tc := ⟨.hbm, 1548, rfl⟩
abbrev main_v497 : Ref sig .tc := ⟨.hbm, 1549, rfl⟩
abbrev main_v498 : Ref sig .tc := ⟨.hbm, 1550, rfl⟩
abbrev main_call88_v0 : Ref sig .tc := ⟨.hbm, 1551, rfl⟩
abbrev main_v499 : Ref sig .tc := ⟨.hbm, 1552, rfl⟩
abbrev main_c_117 : Ref sig .tc := ⟨.hbm, 1553, rfl⟩
abbrev main_call89_v0 : Ref sig .tc := ⟨.hbm, 1554, rfl⟩
abbrev main_call89_c : Ref sig .tc := ⟨.hbm, 1555, rfl⟩
abbrev main_call89_v1 : Ref sig .tc := ⟨.hbm, 1556, rfl⟩
abbrev main_call89_c_0 : Ref sig .tc := ⟨.hbm, 1557, rfl⟩
abbrev main_call89_v2 : Ref sig .tc := ⟨.hbm, 1558, rfl⟩
abbrev main_call89_v3 : Ref sig .tc := ⟨.hbm, 1559, rfl⟩
abbrev main_call89_v4 : Ref sig .tc := ⟨.hbm, 1560, rfl⟩
abbrev main_call89_c_1 : Ref sig .tc := ⟨.hbm, 1561, rfl⟩
abbrev main_call89_v5 : Ref sig .tc := ⟨.hbm, 1562, rfl⟩
abbrev main_call89_v6 : Ref sig .tc := ⟨.hbm, 1563, rfl⟩
abbrev main_call89_c_2 : Ref sig .tc := ⟨.hbm, 1564, rfl⟩
abbrev main_call89_v7 : Ref sig .tc := ⟨.hbm, 1565, rfl⟩
abbrev main_call89_v8 : Ref sig .tc := ⟨.hbm, 1566, rfl⟩
abbrev main_call89_c_3 : Ref sig .tc := ⟨.hbm, 1567, rfl⟩
abbrev main_call89_v9 : Ref sig .tc := ⟨.hbm, 1568, rfl⟩
abbrev main_call89_v10 : Ref sig .tc := ⟨.hbm, 1569, rfl⟩
abbrev main_call89_v11 : Ref sig .tc := ⟨.hbm, 1570, rfl⟩
abbrev main_call89_v12 : Ref sig .tc := ⟨.hbm, 1571, rfl⟩
abbrev main_call89_v13 : Ref sig .tc := ⟨.hbm, 1572, rfl⟩
abbrev main_call89_v14 : Ref sig .tc := ⟨.hbm, 1573, rfl⟩
abbrev main_v500 : Ref sig .tc := ⟨.hbm, 1574, rfl⟩
abbrev main_c_118 : Ref sig .tc := ⟨.hbm, 1575, rfl⟩
abbrev main_v501 : Ref sig .tc := ⟨.hbm, 1576, rfl⟩
abbrev main_v502 : Ref sig .tc := ⟨.hbm, 1577, rfl⟩
abbrev main_v503 : Ref sig .tc := ⟨.hbm, 1578, rfl⟩
abbrev main_v504 : Ref sig .tc := ⟨.hbm, 1579, rfl⟩
abbrev main_v505 : Ref sig .tc := ⟨.hbm, 1580, rfl⟩
abbrev main_call90_v0 : Ref sig .tc := ⟨.hbm, 1581, rfl⟩
abbrev main_v506 : Ref sig .tc := ⟨.hbm, 1582, rfl⟩
abbrev main_c_119 : Ref sig .tc := ⟨.hbm, 1583, rfl⟩
abbrev main_call91_v0 : Ref sig .tc := ⟨.hbm, 1584, rfl⟩
abbrev main_call91_c : Ref sig .tc := ⟨.hbm, 1585, rfl⟩
abbrev main_call91_v1 : Ref sig .tc := ⟨.hbm, 1586, rfl⟩
abbrev main_call91_c_0 : Ref sig .tc := ⟨.hbm, 1587, rfl⟩
abbrev main_call91_v2 : Ref sig .tc := ⟨.hbm, 1588, rfl⟩
abbrev main_call91_v3 : Ref sig .tc := ⟨.hbm, 1589, rfl⟩
abbrev main_call91_v4 : Ref sig .tc := ⟨.hbm, 1590, rfl⟩
abbrev main_call91_c_1 : Ref sig .tc := ⟨.hbm, 1591, rfl⟩
abbrev main_call91_v5 : Ref sig .tc := ⟨.hbm, 1592, rfl⟩
abbrev main_call91_v6 : Ref sig .tc := ⟨.hbm, 1593, rfl⟩
abbrev main_call91_c_2 : Ref sig .tc := ⟨.hbm, 1594, rfl⟩
abbrev main_call91_v7 : Ref sig .tc := ⟨.hbm, 1595, rfl⟩
abbrev main_call91_v8 : Ref sig .tc := ⟨.hbm, 1596, rfl⟩
abbrev main_call91_c_3 : Ref sig .tc := ⟨.hbm, 1597, rfl⟩
abbrev main_call91_v9 : Ref sig .tc := ⟨.hbm, 1598, rfl⟩
abbrev main_call91_v10 : Ref sig .tc := ⟨.hbm, 1599, rfl⟩
abbrev main_call91_v11 : Ref sig .tc := ⟨.hbm, 1600, rfl⟩
abbrev main_call91_v12 : Ref sig .tc := ⟨.hbm, 1601, rfl⟩
abbrev main_call91_v13 : Ref sig .tc := ⟨.hbm, 1602, rfl⟩
abbrev main_call91_v14 : Ref sig .tc := ⟨.hbm, 1603, rfl⟩
abbrev main_v507 : Ref sig .tc := ⟨.hbm, 1604, rfl⟩
abbrev main_c_120 : Ref sig .tc := ⟨.hbm, 1605, rfl⟩
abbrev main_v508 : Ref sig .tc := ⟨.hbm, 1606, rfl⟩
abbrev main_v509 : Ref sig .tc := ⟨.hbm, 1607, rfl⟩
abbrev main_v510 : Ref sig .tc := ⟨.hbm, 1608, rfl⟩
abbrev main_v511 : Ref sig .tc := ⟨.hbm, 1609, rfl⟩
abbrev main_v512 : Ref sig .tc := ⟨.hbm, 1610, rfl⟩
abbrev main_call92_v0 : Ref sig .tc := ⟨.hbm, 1611, rfl⟩
abbrev main_v513 : Ref sig .tc := ⟨.hbm, 1612, rfl⟩
abbrev main_c_121 : Ref sig .tc := ⟨.hbm, 1613, rfl⟩
abbrev main_call93_v0 : Ref sig .tc := ⟨.hbm, 1614, rfl⟩
abbrev main_call93_c : Ref sig .tc := ⟨.hbm, 1615, rfl⟩
abbrev main_call93_v1 : Ref sig .tc := ⟨.hbm, 1616, rfl⟩
abbrev main_call93_c_0 : Ref sig .tc := ⟨.hbm, 1617, rfl⟩
abbrev main_call93_v2 : Ref sig .tc := ⟨.hbm, 1618, rfl⟩
abbrev main_call93_v3 : Ref sig .tc := ⟨.hbm, 1619, rfl⟩
abbrev main_call93_v4 : Ref sig .tc := ⟨.hbm, 1620, rfl⟩
abbrev main_call93_c_1 : Ref sig .tc := ⟨.hbm, 1621, rfl⟩
abbrev main_call93_v5 : Ref sig .tc := ⟨.hbm, 1622, rfl⟩
abbrev main_call93_v6 : Ref sig .tc := ⟨.hbm, 1623, rfl⟩
abbrev main_call93_c_2 : Ref sig .tc := ⟨.hbm, 1624, rfl⟩
abbrev main_call93_v7 : Ref sig .tc := ⟨.hbm, 1625, rfl⟩
abbrev main_call93_v8 : Ref sig .tc := ⟨.hbm, 1626, rfl⟩
abbrev main_call93_c_3 : Ref sig .tc := ⟨.hbm, 1627, rfl⟩
abbrev main_call93_v9 : Ref sig .tc := ⟨.hbm, 1628, rfl⟩
abbrev main_call93_v10 : Ref sig .tc := ⟨.hbm, 1629, rfl⟩
abbrev main_call93_v11 : Ref sig .tc := ⟨.hbm, 1630, rfl⟩
abbrev main_call93_v12 : Ref sig .tc := ⟨.hbm, 1631, rfl⟩
abbrev main_call93_v13 : Ref sig .tc := ⟨.hbm, 1632, rfl⟩
abbrev main_call93_v14 : Ref sig .tc := ⟨.hbm, 1633, rfl⟩
abbrev main_v514 : Ref sig .tc := ⟨.hbm, 1634, rfl⟩
abbrev main_c_122 : Ref sig .tc := ⟨.hbm, 1635, rfl⟩
abbrev main_v515 : Ref sig .tc := ⟨.hbm, 1636, rfl⟩
abbrev main_v516 : Ref sig .tc := ⟨.hbm, 1637, rfl⟩
abbrev main_v517 : Ref sig .tc := ⟨.hbm, 1638, rfl⟩
abbrev main_v518 : Ref sig .tc := ⟨.hbm, 1639, rfl⟩
abbrev main_v519 : Ref sig .tc := ⟨.hbm, 1640, rfl⟩
abbrev main_call94_v0 : Ref sig .tc := ⟨.hbm, 1641, rfl⟩
abbrev main_v520 : Ref sig .tc := ⟨.hbm, 1642, rfl⟩
abbrev main_c_123 : Ref sig .tc := ⟨.hbm, 1643, rfl⟩
abbrev main_call95_v0 : Ref sig .tc := ⟨.hbm, 1644, rfl⟩
abbrev main_call95_c : Ref sig .tc := ⟨.hbm, 1645, rfl⟩
abbrev main_call95_v1 : Ref sig .tc := ⟨.hbm, 1646, rfl⟩
abbrev main_call95_c_0 : Ref sig .tc := ⟨.hbm, 1647, rfl⟩
abbrev main_call95_v2 : Ref sig .tc := ⟨.hbm, 1648, rfl⟩
abbrev main_call95_v3 : Ref sig .tc := ⟨.hbm, 1649, rfl⟩
abbrev main_call95_v4 : Ref sig .tc := ⟨.hbm, 1650, rfl⟩
abbrev main_call95_c_1 : Ref sig .tc := ⟨.hbm, 1651, rfl⟩
abbrev main_call95_v5 : Ref sig .tc := ⟨.hbm, 1652, rfl⟩
abbrev main_call95_v6 : Ref sig .tc := ⟨.hbm, 1653, rfl⟩
abbrev main_call95_c_2 : Ref sig .tc := ⟨.hbm, 1654, rfl⟩
abbrev main_call95_v7 : Ref sig .tc := ⟨.hbm, 1655, rfl⟩
abbrev main_call95_v8 : Ref sig .tc := ⟨.hbm, 1656, rfl⟩
abbrev main_call95_c_3 : Ref sig .tc := ⟨.hbm, 1657, rfl⟩
abbrev main_call95_v9 : Ref sig .tc := ⟨.hbm, 1658, rfl⟩
abbrev main_call95_v10 : Ref sig .tc := ⟨.hbm, 1659, rfl⟩
abbrev main_call95_v11 : Ref sig .tc := ⟨.hbm, 1660, rfl⟩
abbrev main_call95_v12 : Ref sig .tc := ⟨.hbm, 1661, rfl⟩
abbrev main_call95_v13 : Ref sig .tc := ⟨.hbm, 1662, rfl⟩
abbrev main_call95_v14 : Ref sig .tc := ⟨.hbm, 1663, rfl⟩
abbrev main_v521 : Ref sig .tc := ⟨.hbm, 1664, rfl⟩
abbrev main_c_124 : Ref sig .tc := ⟨.hbm, 1665, rfl⟩
abbrev main_v522 : Ref sig .tc := ⟨.hbm, 1666, rfl⟩
abbrev main_v523 : Ref sig .tc := ⟨.hbm, 1667, rfl⟩
abbrev main_v524 : Ref sig .tc := ⟨.hbm, 1668, rfl⟩
abbrev main_v525 : Ref sig .tc := ⟨.hbm, 1669, rfl⟩
abbrev main_v526 : Ref sig .tc := ⟨.hbm, 1670, rfl⟩
abbrev main_call96_v0 : Ref sig .tc := ⟨.hbm, 1671, rfl⟩
abbrev main_v527 : Ref sig .tc := ⟨.hbm, 1672, rfl⟩
abbrev main_c_125 : Ref sig .tc := ⟨.hbm, 1673, rfl⟩
abbrev main_call97_v0 : Ref sig .tc := ⟨.hbm, 1674, rfl⟩
abbrev main_call97_c : Ref sig .tc := ⟨.hbm, 1675, rfl⟩
abbrev main_call97_v1 : Ref sig .tc := ⟨.hbm, 1676, rfl⟩
abbrev main_call97_c_0 : Ref sig .tc := ⟨.hbm, 1677, rfl⟩
abbrev main_call97_v2 : Ref sig .tc := ⟨.hbm, 1678, rfl⟩
abbrev main_call97_v3 : Ref sig .tc := ⟨.hbm, 1679, rfl⟩
abbrev main_call97_v4 : Ref sig .tc := ⟨.hbm, 1680, rfl⟩
abbrev main_call97_c_1 : Ref sig .tc := ⟨.hbm, 1681, rfl⟩
abbrev main_call97_v5 : Ref sig .tc := ⟨.hbm, 1682, rfl⟩
abbrev main_call97_v6 : Ref sig .tc := ⟨.hbm, 1683, rfl⟩
abbrev main_call97_c_2 : Ref sig .tc := ⟨.hbm, 1684, rfl⟩
abbrev main_call97_v7 : Ref sig .tc := ⟨.hbm, 1685, rfl⟩
abbrev main_call97_v8 : Ref sig .tc := ⟨.hbm, 1686, rfl⟩
abbrev main_call97_c_3 : Ref sig .tc := ⟨.hbm, 1687, rfl⟩
abbrev main_call97_v9 : Ref sig .tc := ⟨.hbm, 1688, rfl⟩
abbrev main_call97_v10 : Ref sig .tc := ⟨.hbm, 1689, rfl⟩
abbrev main_call97_v11 : Ref sig .tc := ⟨.hbm, 1690, rfl⟩
abbrev main_call97_v12 : Ref sig .tc := ⟨.hbm, 1691, rfl⟩
abbrev main_call97_v13 : Ref sig .tc := ⟨.hbm, 1692, rfl⟩
abbrev main_call97_v14 : Ref sig .tc := ⟨.hbm, 1693, rfl⟩
abbrev main_v528 : Ref sig .tc := ⟨.hbm, 1694, rfl⟩
abbrev main_c_126 : Ref sig .tc := ⟨.hbm, 1695, rfl⟩
abbrev main_v529 : Ref sig .tc := ⟨.hbm, 1696, rfl⟩
abbrev main_v530 : Ref sig .tc := ⟨.hbm, 1697, rfl⟩
abbrev main_v531 : Ref sig .tc := ⟨.hbm, 1698, rfl⟩
abbrev main_v532 : Ref sig .tc := ⟨.hbm, 1699, rfl⟩
abbrev main_v533 : Ref sig .tc := ⟨.hbm, 1700, rfl⟩
abbrev main_call98_v0 : Ref sig .tc := ⟨.hbm, 1701, rfl⟩
abbrev main_v534 : Ref sig .tc := ⟨.hbm, 1702, rfl⟩
abbrev main_c_127 : Ref sig .tc := ⟨.hbm, 1703, rfl⟩
abbrev main_call99_v0 : Ref sig .tc := ⟨.hbm, 1704, rfl⟩
abbrev main_call99_c : Ref sig .tc := ⟨.hbm, 1705, rfl⟩
abbrev main_call99_v1 : Ref sig .tc := ⟨.hbm, 1706, rfl⟩
abbrev main_call99_c_0 : Ref sig .tc := ⟨.hbm, 1707, rfl⟩
abbrev main_call99_v2 : Ref sig .tc := ⟨.hbm, 1708, rfl⟩
abbrev main_call99_v3 : Ref sig .tc := ⟨.hbm, 1709, rfl⟩
abbrev main_call99_v4 : Ref sig .tc := ⟨.hbm, 1710, rfl⟩
abbrev main_call99_c_1 : Ref sig .tc := ⟨.hbm, 1711, rfl⟩
abbrev main_call99_v5 : Ref sig .tc := ⟨.hbm, 1712, rfl⟩
abbrev main_call99_v6 : Ref sig .tc := ⟨.hbm, 1713, rfl⟩
abbrev main_call99_c_2 : Ref sig .tc := ⟨.hbm, 1714, rfl⟩
abbrev main_call99_v7 : Ref sig .tc := ⟨.hbm, 1715, rfl⟩
abbrev main_call99_v8 : Ref sig .tc := ⟨.hbm, 1716, rfl⟩
abbrev main_call99_c_3 : Ref sig .tc := ⟨.hbm, 1717, rfl⟩
abbrev main_call99_v9 : Ref sig .tc := ⟨.hbm, 1718, rfl⟩
abbrev main_call99_v10 : Ref sig .tc := ⟨.hbm, 1719, rfl⟩
abbrev main_call99_v11 : Ref sig .tc := ⟨.hbm, 1720, rfl⟩
abbrev main_call99_v12 : Ref sig .tc := ⟨.hbm, 1721, rfl⟩
abbrev main_call99_v13 : Ref sig .tc := ⟨.hbm, 1722, rfl⟩
abbrev main_call99_v14 : Ref sig .tc := ⟨.hbm, 1723, rfl⟩
abbrev main_v535 : Ref sig .tc := ⟨.hbm, 1724, rfl⟩
abbrev main_c_128 : Ref sig .tc := ⟨.hbm, 1725, rfl⟩
abbrev main_v536 : Ref sig .tc := ⟨.hbm, 1726, rfl⟩
abbrev main_v537 : Ref sig .tc := ⟨.hbm, 1727, rfl⟩
abbrev main_v538 : Ref sig .tc := ⟨.hbm, 1728, rfl⟩
abbrev main_v539 : Ref sig .tc := ⟨.hbm, 1729, rfl⟩
abbrev main_v540 : Ref sig .tc := ⟨.hbm, 1730, rfl⟩
abbrev main_call100_v0 : Ref sig .tc := ⟨.hbm, 1731, rfl⟩
abbrev main_v541 : Ref sig .tc := ⟨.hbm, 1732, rfl⟩
abbrev main_c_129 : Ref sig .tc := ⟨.hbm, 1733, rfl⟩
abbrev main_v542 : Ref sig .tc := ⟨.hbm, 1734, rfl⟩
abbrev main_v543 : Ref sig .tc := ⟨.hbm, 1735, rfl⟩
abbrev main_v544 : Ref sig .tc := ⟨.hbm, 1736, rfl⟩
abbrev main_v545 : Ref sig .tc := ⟨.hbm, 1737, rfl⟩
abbrev main_c_130 : Ref sig .tc := ⟨.hbm, 1738, rfl⟩
abbrev main_v546 : Ref sig .tc := ⟨.hbm, 1739, rfl⟩
abbrev main_v547 : Ref sig .tc := ⟨.hbm, 1740, rfl⟩
abbrev main_v548 : Ref sig .tc := ⟨.hbm, 1741, rfl⟩
abbrev main_v549 : Ref sig .tc := ⟨.hbm, 1742, rfl⟩
abbrev main_v550 : Ref sig .tc := ⟨.hbm, 1743, rfl⟩
abbrev main_c_131 : Ref sig .tc := ⟨.hbm, 1744, rfl⟩
abbrev main_call101_v0 : Ref sig .tc := ⟨.hbm, 1745, rfl⟩
abbrev main_call101_c : Ref sig .tc := ⟨.hbm, 1746, rfl⟩
abbrev main_call101_v1 : Ref sig .tc := ⟨.hbm, 1747, rfl⟩
abbrev main_call101_c_0 : Ref sig .tc := ⟨.hbm, 1748, rfl⟩
abbrev main_call101_v2 : Ref sig .tc := ⟨.hbm, 1749, rfl⟩
abbrev main_call101_v3 : Ref sig .tc := ⟨.hbm, 1750, rfl⟩
abbrev main_call101_v4 : Ref sig .tc := ⟨.hbm, 1751, rfl⟩
abbrev main_call101_c_1 : Ref sig .tc := ⟨.hbm, 1752, rfl⟩
abbrev main_call101_v5 : Ref sig .tc := ⟨.hbm, 1753, rfl⟩
abbrev main_call101_v6 : Ref sig .tc := ⟨.hbm, 1754, rfl⟩
abbrev main_call101_c_2 : Ref sig .tc := ⟨.hbm, 1755, rfl⟩
abbrev main_call101_v7 : Ref sig .tc := ⟨.hbm, 1756, rfl⟩
abbrev main_call101_v8 : Ref sig .tc := ⟨.hbm, 1757, rfl⟩
abbrev main_call101_c_3 : Ref sig .tc := ⟨.hbm, 1758, rfl⟩
abbrev main_call101_v9 : Ref sig .tc := ⟨.hbm, 1759, rfl⟩
abbrev main_call101_v10 : Ref sig .tc := ⟨.hbm, 1760, rfl⟩
abbrev main_call101_v11 : Ref sig .tc := ⟨.hbm, 1761, rfl⟩
abbrev main_call101_v12 : Ref sig .tc := ⟨.hbm, 1762, rfl⟩
abbrev main_call101_v13 : Ref sig .tc := ⟨.hbm, 1763, rfl⟩
abbrev main_call101_v14 : Ref sig .tc := ⟨.hbm, 1764, rfl⟩
abbrev main_v551 : Ref sig .tc := ⟨.hbm, 1765, rfl⟩
abbrev main_c_132 : Ref sig .tc := ⟨.hbm, 1766, rfl⟩
abbrev main_v552 : Ref sig .tc := ⟨.hbm, 1767, rfl⟩
abbrev main_v553 : Ref sig .tc := ⟨.hbm, 1768, rfl⟩
abbrev main_v554 : Ref sig .tc := ⟨.hbm, 1769, rfl⟩
abbrev main_v555 : Ref sig .tc := ⟨.hbm, 1770, rfl⟩
abbrev main_v556 : Ref sig .tc := ⟨.hbm, 1771, rfl⟩
abbrev main_call102_v0 : Ref sig .tc := ⟨.hbm, 1772, rfl⟩
abbrev main_v557 : Ref sig .tc := ⟨.hbm, 1773, rfl⟩
abbrev main_c_133 : Ref sig .tc := ⟨.hbm, 1774, rfl⟩
abbrev main_call103_v0 : Ref sig .tc := ⟨.hbm, 1775, rfl⟩
abbrev main_call103_c : Ref sig .tc := ⟨.hbm, 1776, rfl⟩
abbrev main_call103_v1 : Ref sig .tc := ⟨.hbm, 1777, rfl⟩
abbrev main_call103_c_0 : Ref sig .tc := ⟨.hbm, 1778, rfl⟩
abbrev main_call103_v2 : Ref sig .tc := ⟨.hbm, 1779, rfl⟩
abbrev main_call103_v3 : Ref sig .tc := ⟨.hbm, 1780, rfl⟩
abbrev main_call103_v4 : Ref sig .tc := ⟨.hbm, 1781, rfl⟩
abbrev main_call103_c_1 : Ref sig .tc := ⟨.hbm, 1782, rfl⟩
abbrev main_call103_v5 : Ref sig .tc := ⟨.hbm, 1783, rfl⟩
abbrev main_call103_v6 : Ref sig .tc := ⟨.hbm, 1784, rfl⟩
abbrev main_call103_c_2 : Ref sig .tc := ⟨.hbm, 1785, rfl⟩
abbrev main_call103_v7 : Ref sig .tc := ⟨.hbm, 1786, rfl⟩
abbrev main_call103_v8 : Ref sig .tc := ⟨.hbm, 1787, rfl⟩
abbrev main_call103_c_3 : Ref sig .tc := ⟨.hbm, 1788, rfl⟩
abbrev main_call103_v9 : Ref sig .tc := ⟨.hbm, 1789, rfl⟩
abbrev main_call103_v10 : Ref sig .tc := ⟨.hbm, 1790, rfl⟩
abbrev main_call103_v11 : Ref sig .tc := ⟨.hbm, 1791, rfl⟩
abbrev main_call103_v12 : Ref sig .tc := ⟨.hbm, 1792, rfl⟩
abbrev main_call103_v13 : Ref sig .tc := ⟨.hbm, 1793, rfl⟩
abbrev main_call103_v14 : Ref sig .tc := ⟨.hbm, 1794, rfl⟩
abbrev main_v558 : Ref sig .tc := ⟨.hbm, 1795, rfl⟩
abbrev main_c_134 : Ref sig .tc := ⟨.hbm, 1796, rfl⟩
abbrev main_v559 : Ref sig .tc := ⟨.hbm, 1797, rfl⟩
abbrev main_v560 : Ref sig .tc := ⟨.hbm, 1798, rfl⟩
abbrev main_v561 : Ref sig .tc := ⟨.hbm, 1799, rfl⟩
abbrev main_v562 : Ref sig .tc := ⟨.hbm, 1800, rfl⟩
abbrev main_v563 : Ref sig .tc := ⟨.hbm, 1801, rfl⟩
abbrev main_call104_v0 : Ref sig .tc := ⟨.hbm, 1802, rfl⟩
abbrev main_v564 : Ref sig .tc := ⟨.hbm, 1803, rfl⟩
abbrev main_c_135 : Ref sig .tc := ⟨.hbm, 1804, rfl⟩
abbrev main_call105_v0 : Ref sig .tc := ⟨.hbm, 1805, rfl⟩
abbrev main_call105_c : Ref sig .tc := ⟨.hbm, 1806, rfl⟩
abbrev main_call105_v1 : Ref sig .tc := ⟨.hbm, 1807, rfl⟩
abbrev main_call105_c_0 : Ref sig .tc := ⟨.hbm, 1808, rfl⟩
abbrev main_call105_v2 : Ref sig .tc := ⟨.hbm, 1809, rfl⟩
abbrev main_call105_v3 : Ref sig .tc := ⟨.hbm, 1810, rfl⟩
abbrev main_call105_v4 : Ref sig .tc := ⟨.hbm, 1811, rfl⟩
abbrev main_call105_c_1 : Ref sig .tc := ⟨.hbm, 1812, rfl⟩
abbrev main_call105_v5 : Ref sig .tc := ⟨.hbm, 1813, rfl⟩
abbrev main_call105_v6 : Ref sig .tc := ⟨.hbm, 1814, rfl⟩
abbrev main_call105_c_2 : Ref sig .tc := ⟨.hbm, 1815, rfl⟩
abbrev main_call105_v7 : Ref sig .tc := ⟨.hbm, 1816, rfl⟩
abbrev main_call105_v8 : Ref sig .tc := ⟨.hbm, 1817, rfl⟩
abbrev main_call105_c_3 : Ref sig .tc := ⟨.hbm, 1818, rfl⟩
abbrev main_call105_v9 : Ref sig .tc := ⟨.hbm, 1819, rfl⟩
abbrev main_call105_v10 : Ref sig .tc := ⟨.hbm, 1820, rfl⟩
abbrev main_call105_v11 : Ref sig .tc := ⟨.hbm, 1821, rfl⟩
abbrev main_call105_v12 : Ref sig .tc := ⟨.hbm, 1822, rfl⟩
abbrev main_call105_v13 : Ref sig .tc := ⟨.hbm, 1823, rfl⟩
abbrev main_call105_v14 : Ref sig .tc := ⟨.hbm, 1824, rfl⟩
abbrev main_v565 : Ref sig .tc := ⟨.hbm, 1825, rfl⟩
abbrev main_c_136 : Ref sig .tc := ⟨.hbm, 1826, rfl⟩
abbrev main_v566 : Ref sig .tc := ⟨.hbm, 1827, rfl⟩
abbrev main_v567 : Ref sig .tc := ⟨.hbm, 1828, rfl⟩
abbrev main_v568 : Ref sig .tc := ⟨.hbm, 1829, rfl⟩
abbrev main_v569 : Ref sig .tc := ⟨.hbm, 1830, rfl⟩
abbrev main_v570 : Ref sig .tc := ⟨.hbm, 1831, rfl⟩
abbrev main_call106_v0 : Ref sig .tc := ⟨.hbm, 1832, rfl⟩
abbrev main_v571 : Ref sig .tc := ⟨.hbm, 1833, rfl⟩
abbrev main_c_137 : Ref sig .tc := ⟨.hbm, 1834, rfl⟩
abbrev main_call107_v0 : Ref sig .tc := ⟨.hbm, 1835, rfl⟩
abbrev main_call107_c : Ref sig .tc := ⟨.hbm, 1836, rfl⟩
abbrev main_call107_v1 : Ref sig .tc := ⟨.hbm, 1837, rfl⟩
abbrev main_call107_c_0 : Ref sig .tc := ⟨.hbm, 1838, rfl⟩
abbrev main_call107_v2 : Ref sig .tc := ⟨.hbm, 1839, rfl⟩
abbrev main_call107_v3 : Ref sig .tc := ⟨.hbm, 1840, rfl⟩
abbrev main_call107_v4 : Ref sig .tc := ⟨.hbm, 1841, rfl⟩
abbrev main_call107_c_1 : Ref sig .tc := ⟨.hbm, 1842, rfl⟩
abbrev main_call107_v5 : Ref sig .tc := ⟨.hbm, 1843, rfl⟩
abbrev main_call107_v6 : Ref sig .tc := ⟨.hbm, 1844, rfl⟩
abbrev main_call107_c_2 : Ref sig .tc := ⟨.hbm, 1845, rfl⟩
abbrev main_call107_v7 : Ref sig .tc := ⟨.hbm, 1846, rfl⟩
abbrev main_call107_v8 : Ref sig .tc := ⟨.hbm, 1847, rfl⟩
abbrev main_call107_c_3 : Ref sig .tc := ⟨.hbm, 1848, rfl⟩
abbrev main_call107_v9 : Ref sig .tc := ⟨.hbm, 1849, rfl⟩
abbrev main_call107_v10 : Ref sig .tc := ⟨.hbm, 1850, rfl⟩
abbrev main_call107_v11 : Ref sig .tc := ⟨.hbm, 1851, rfl⟩
abbrev main_call107_v12 : Ref sig .tc := ⟨.hbm, 1852, rfl⟩
abbrev main_call107_v13 : Ref sig .tc := ⟨.hbm, 1853, rfl⟩
abbrev main_call107_v14 : Ref sig .tc := ⟨.hbm, 1854, rfl⟩
abbrev main_v572 : Ref sig .tc := ⟨.hbm, 1855, rfl⟩
abbrev main_c_138 : Ref sig .tc := ⟨.hbm, 1856, rfl⟩
abbrev main_v573 : Ref sig .tc := ⟨.hbm, 1857, rfl⟩
abbrev main_v574 : Ref sig .tc := ⟨.hbm, 1858, rfl⟩
abbrev main_v575 : Ref sig .tc := ⟨.hbm, 1859, rfl⟩
abbrev main_v576 : Ref sig .tc := ⟨.hbm, 1860, rfl⟩
abbrev main_v577 : Ref sig .tc := ⟨.hbm, 1861, rfl⟩
abbrev main_call108_v0 : Ref sig .tc := ⟨.hbm, 1862, rfl⟩
abbrev main_v578 : Ref sig .tc := ⟨.hbm, 1863, rfl⟩
abbrev main_c_139 : Ref sig .tc := ⟨.hbm, 1864, rfl⟩
abbrev main_call109_v0 : Ref sig .tc := ⟨.hbm, 1865, rfl⟩
abbrev main_call109_c : Ref sig .tc := ⟨.hbm, 1866, rfl⟩
abbrev main_call109_v1 : Ref sig .tc := ⟨.hbm, 1867, rfl⟩
abbrev main_call109_c_0 : Ref sig .tc := ⟨.hbm, 1868, rfl⟩
abbrev main_call109_v2 : Ref sig .tc := ⟨.hbm, 1869, rfl⟩
abbrev main_call109_v3 : Ref sig .tc := ⟨.hbm, 1870, rfl⟩
abbrev main_call109_v4 : Ref sig .tc := ⟨.hbm, 1871, rfl⟩
abbrev main_call109_c_1 : Ref sig .tc := ⟨.hbm, 1872, rfl⟩
abbrev main_call109_v5 : Ref sig .tc := ⟨.hbm, 1873, rfl⟩
abbrev main_call109_v6 : Ref sig .tc := ⟨.hbm, 1874, rfl⟩
abbrev main_call109_c_2 : Ref sig .tc := ⟨.hbm, 1875, rfl⟩
abbrev main_call109_v7 : Ref sig .tc := ⟨.hbm, 1876, rfl⟩
abbrev main_call109_v8 : Ref sig .tc := ⟨.hbm, 1877, rfl⟩
abbrev main_call109_c_3 : Ref sig .tc := ⟨.hbm, 1878, rfl⟩
abbrev main_call109_v9 : Ref sig .tc := ⟨.hbm, 1879, rfl⟩
abbrev main_call109_v10 : Ref sig .tc := ⟨.hbm, 1880, rfl⟩
abbrev main_call109_v11 : Ref sig .tc := ⟨.hbm, 1881, rfl⟩
abbrev main_call109_v12 : Ref sig .tc := ⟨.hbm, 1882, rfl⟩
abbrev main_call109_v13 : Ref sig .tc := ⟨.hbm, 1883, rfl⟩
abbrev main_call109_v14 : Ref sig .tc := ⟨.hbm, 1884, rfl⟩
abbrev main_v579 : Ref sig .tc := ⟨.hbm, 1885, rfl⟩
abbrev main_c_140 : Ref sig .tc := ⟨.hbm, 1886, rfl⟩
abbrev main_v580 : Ref sig .tc := ⟨.hbm, 1887, rfl⟩
abbrev main_v581 : Ref sig .tc := ⟨.hbm, 1888, rfl⟩
abbrev main_v582 : Ref sig .tc := ⟨.hbm, 1889, rfl⟩
abbrev main_v583 : Ref sig .tc := ⟨.hbm, 1890, rfl⟩
abbrev main_v584 : Ref sig .tc := ⟨.hbm, 1891, rfl⟩
abbrev main_call110_v0 : Ref sig .tc := ⟨.hbm, 1892, rfl⟩
abbrev main_v585 : Ref sig .tc := ⟨.hbm, 1893, rfl⟩
abbrev main_c_141 : Ref sig .tc := ⟨.hbm, 1894, rfl⟩
abbrev main_call111_v0 : Ref sig .tc := ⟨.hbm, 1895, rfl⟩
abbrev main_call111_c : Ref sig .tc := ⟨.hbm, 1896, rfl⟩
abbrev main_call111_v1 : Ref sig .tc := ⟨.hbm, 1897, rfl⟩
abbrev main_call111_c_0 : Ref sig .tc := ⟨.hbm, 1898, rfl⟩
abbrev main_call111_v2 : Ref sig .tc := ⟨.hbm, 1899, rfl⟩
abbrev main_call111_v3 : Ref sig .tc := ⟨.hbm, 1900, rfl⟩
abbrev main_call111_v4 : Ref sig .tc := ⟨.hbm, 1901, rfl⟩
abbrev main_call111_c_1 : Ref sig .tc := ⟨.hbm, 1902, rfl⟩
abbrev main_call111_v5 : Ref sig .tc := ⟨.hbm, 1903, rfl⟩
abbrev main_call111_v6 : Ref sig .tc := ⟨.hbm, 1904, rfl⟩
abbrev main_call111_c_2 : Ref sig .tc := ⟨.hbm, 1905, rfl⟩
abbrev main_call111_v7 : Ref sig .tc := ⟨.hbm, 1906, rfl⟩
abbrev main_call111_v8 : Ref sig .tc := ⟨.hbm, 1907, rfl⟩
abbrev main_call111_c_3 : Ref sig .tc := ⟨.hbm, 1908, rfl⟩
abbrev main_call111_v9 : Ref sig .tc := ⟨.hbm, 1909, rfl⟩
abbrev main_call111_v10 : Ref sig .tc := ⟨.hbm, 1910, rfl⟩
abbrev main_call111_v11 : Ref sig .tc := ⟨.hbm, 1911, rfl⟩
abbrev main_call111_v12 : Ref sig .tc := ⟨.hbm, 1912, rfl⟩
abbrev main_call111_v13 : Ref sig .tc := ⟨.hbm, 1913, rfl⟩
abbrev main_call111_v14 : Ref sig .tc := ⟨.hbm, 1914, rfl⟩
abbrev main_v586 : Ref sig .tc := ⟨.hbm, 1915, rfl⟩
abbrev main_c_142 : Ref sig .tc := ⟨.hbm, 1916, rfl⟩
abbrev main_v587 : Ref sig .tc := ⟨.hbm, 1917, rfl⟩
abbrev main_v588 : Ref sig .tc := ⟨.hbm, 1918, rfl⟩
abbrev main_v589 : Ref sig .tc := ⟨.hbm, 1919, rfl⟩
abbrev main_v590 : Ref sig .tc := ⟨.hbm, 1920, rfl⟩
abbrev main_v591 : Ref sig .tc := ⟨.hbm, 1921, rfl⟩
abbrev main_call112_v0 : Ref sig .tc := ⟨.hbm, 1922, rfl⟩
abbrev main_v592 : Ref sig .tc := ⟨.hbm, 1923, rfl⟩
abbrev main_c_143 : Ref sig .tc := ⟨.hbm, 1924, rfl⟩
abbrev main_call113_v0 : Ref sig .tc := ⟨.hbm, 1925, rfl⟩
abbrev main_call113_c : Ref sig .tc := ⟨.hbm, 1926, rfl⟩
abbrev main_call113_v1 : Ref sig .tc := ⟨.hbm, 1927, rfl⟩
abbrev main_call113_c_0 : Ref sig .tc := ⟨.hbm, 1928, rfl⟩
abbrev main_call113_v2 : Ref sig .tc := ⟨.hbm, 1929, rfl⟩
abbrev main_call113_v3 : Ref sig .tc := ⟨.hbm, 1930, rfl⟩
abbrev main_call113_v4 : Ref sig .tc := ⟨.hbm, 1931, rfl⟩
abbrev main_call113_c_1 : Ref sig .tc := ⟨.hbm, 1932, rfl⟩
abbrev main_call113_v5 : Ref sig .tc := ⟨.hbm, 1933, rfl⟩
abbrev main_call113_v6 : Ref sig .tc := ⟨.hbm, 1934, rfl⟩
abbrev main_call113_c_2 : Ref sig .tc := ⟨.hbm, 1935, rfl⟩
abbrev main_call113_v7 : Ref sig .tc := ⟨.hbm, 1936, rfl⟩
abbrev main_call113_v8 : Ref sig .tc := ⟨.hbm, 1937, rfl⟩
abbrev main_call113_c_3 : Ref sig .tc := ⟨.hbm, 1938, rfl⟩
abbrev main_call113_v9 : Ref sig .tc := ⟨.hbm, 1939, rfl⟩
abbrev main_call113_v10 : Ref sig .tc := ⟨.hbm, 1940, rfl⟩
abbrev main_call113_v11 : Ref sig .tc := ⟨.hbm, 1941, rfl⟩
abbrev main_call113_v12 : Ref sig .tc := ⟨.hbm, 1942, rfl⟩
abbrev main_call113_v13 : Ref sig .tc := ⟨.hbm, 1943, rfl⟩
abbrev main_call113_v14 : Ref sig .tc := ⟨.hbm, 1944, rfl⟩
abbrev main_v593 : Ref sig .tc := ⟨.hbm, 1945, rfl⟩
abbrev main_c_144 : Ref sig .tc := ⟨.hbm, 1946, rfl⟩
abbrev main_v594 : Ref sig .tc := ⟨.hbm, 1947, rfl⟩
abbrev main_v595 : Ref sig .tc := ⟨.hbm, 1948, rfl⟩
abbrev main_v596 : Ref sig .tc := ⟨.hbm, 1949, rfl⟩
abbrev main_v597 : Ref sig .tc := ⟨.hbm, 1950, rfl⟩
abbrev main_v598 : Ref sig .tc := ⟨.hbm, 1951, rfl⟩
abbrev main_call114_v0 : Ref sig .tc := ⟨.hbm, 1952, rfl⟩
abbrev main_v599 : Ref sig .tc := ⟨.hbm, 1953, rfl⟩
abbrev main_c_145 : Ref sig .tc := ⟨.hbm, 1954, rfl⟩
abbrev main_call115_v0 : Ref sig .tc := ⟨.hbm, 1955, rfl⟩
abbrev main_call115_c : Ref sig .tc := ⟨.hbm, 1956, rfl⟩
abbrev main_call115_v1 : Ref sig .tc := ⟨.hbm, 1957, rfl⟩
abbrev main_call115_c_0 : Ref sig .tc := ⟨.hbm, 1958, rfl⟩
abbrev main_call115_v2 : Ref sig .tc := ⟨.hbm, 1959, rfl⟩
abbrev main_call115_v3 : Ref sig .tc := ⟨.hbm, 1960, rfl⟩
abbrev main_call115_v4 : Ref sig .tc := ⟨.hbm, 1961, rfl⟩
abbrev main_call115_c_1 : Ref sig .tc := ⟨.hbm, 1962, rfl⟩
abbrev main_call115_v5 : Ref sig .tc := ⟨.hbm, 1963, rfl⟩
abbrev main_call115_v6 : Ref sig .tc := ⟨.hbm, 1964, rfl⟩
abbrev main_call115_c_2 : Ref sig .tc := ⟨.hbm, 1965, rfl⟩
abbrev main_call115_v7 : Ref sig .tc := ⟨.hbm, 1966, rfl⟩
abbrev main_call115_v8 : Ref sig .tc := ⟨.hbm, 1967, rfl⟩
abbrev main_call115_c_3 : Ref sig .tc := ⟨.hbm, 1968, rfl⟩
abbrev main_call115_v9 : Ref sig .tc := ⟨.hbm, 1969, rfl⟩
abbrev main_call115_v10 : Ref sig .tc := ⟨.hbm, 1970, rfl⟩
abbrev main_call115_v11 : Ref sig .tc := ⟨.hbm, 1971, rfl⟩
abbrev main_call115_v12 : Ref sig .tc := ⟨.hbm, 1972, rfl⟩
abbrev main_call115_v13 : Ref sig .tc := ⟨.hbm, 1973, rfl⟩
abbrev main_call115_v14 : Ref sig .tc := ⟨.hbm, 1974, rfl⟩
abbrev main_v600 : Ref sig .tc := ⟨.hbm, 1975, rfl⟩
abbrev main_c_146 : Ref sig .tc := ⟨.hbm, 1976, rfl⟩
abbrev main_v601 : Ref sig .tc := ⟨.hbm, 1977, rfl⟩
abbrev main_v602 : Ref sig .tc := ⟨.hbm, 1978, rfl⟩
abbrev main_v603 : Ref sig .tc := ⟨.hbm, 1979, rfl⟩
abbrev main_v604 : Ref sig .tc := ⟨.hbm, 1980, rfl⟩
abbrev main_v605 : Ref sig .tc := ⟨.hbm, 1981, rfl⟩
abbrev main_call116_v0 : Ref sig .tc := ⟨.hbm, 1982, rfl⟩
abbrev main_v606 : Ref sig .tc := ⟨.hbm, 1983, rfl⟩
abbrev main_c_147 : Ref sig .tc := ⟨.hbm, 1984, rfl⟩
abbrev main_v607 : Ref sig .tc := ⟨.hbm, 1985, rfl⟩
abbrev main_v608 : Ref sig .tc := ⟨.hbm, 1986, rfl⟩
abbrev main_v609 : Ref sig .tc := ⟨.hbm, 1987, rfl⟩
abbrev main_v610 : Ref sig .tc := ⟨.hbm, 1988, rfl⟩
abbrev main_c_148 : Ref sig .tc := ⟨.hbm, 1989, rfl⟩
abbrev main_v611 : Ref sig .tc := ⟨.hbm, 1990, rfl⟩
abbrev main_v612 : Ref sig .tc := ⟨.hbm, 1991, rfl⟩
abbrev main_v613 : Ref sig .tc := ⟨.hbm, 1992, rfl⟩
abbrev main_v614 : Ref sig .tc := ⟨.hbm, 1993, rfl⟩
abbrev main_v615 : Ref sig .tc := ⟨.hbm, 1994, rfl⟩
abbrev main_c_149 : Ref sig .tc := ⟨.hbm, 1995, rfl⟩
abbrev main_call117_v0 : Ref sig .tc := ⟨.hbm, 1996, rfl⟩
abbrev main_call117_c : Ref sig .tc := ⟨.hbm, 1997, rfl⟩
abbrev main_call117_v1 : Ref sig .tc := ⟨.hbm, 1998, rfl⟩
abbrev main_call117_c_0 : Ref sig .tc := ⟨.hbm, 1999, rfl⟩
abbrev main_call117_v2 : Ref sig .tc := ⟨.hbm, 2000, rfl⟩
abbrev main_call117_v3 : Ref sig .tc := ⟨.hbm, 2001, rfl⟩
abbrev main_call117_v4 : Ref sig .tc := ⟨.hbm, 2002, rfl⟩
abbrev main_call117_c_1 : Ref sig .tc := ⟨.hbm, 2003, rfl⟩
abbrev main_call117_v5 : Ref sig .tc := ⟨.hbm, 2004, rfl⟩
abbrev main_call117_v6 : Ref sig .tc := ⟨.hbm, 2005, rfl⟩
abbrev main_call117_c_2 : Ref sig .tc := ⟨.hbm, 2006, rfl⟩
abbrev main_call117_v7 : Ref sig .tc := ⟨.hbm, 2007, rfl⟩
abbrev main_call117_v8 : Ref sig .tc := ⟨.hbm, 2008, rfl⟩
abbrev main_call117_c_3 : Ref sig .tc := ⟨.hbm, 2009, rfl⟩
abbrev main_call117_v9 : Ref sig .tc := ⟨.hbm, 2010, rfl⟩
abbrev main_call117_v10 : Ref sig .tc := ⟨.hbm, 2011, rfl⟩
abbrev main_call117_v11 : Ref sig .tc := ⟨.hbm, 2012, rfl⟩
abbrev main_call117_v12 : Ref sig .tc := ⟨.hbm, 2013, rfl⟩
abbrev main_call117_v13 : Ref sig .tc := ⟨.hbm, 2014, rfl⟩
abbrev main_call117_v14 : Ref sig .tc := ⟨.hbm, 2015, rfl⟩
abbrev main_v616 : Ref sig .tc := ⟨.hbm, 2016, rfl⟩
abbrev main_c_150 : Ref sig .tc := ⟨.hbm, 2017, rfl⟩
abbrev main_v617 : Ref sig .tc := ⟨.hbm, 2018, rfl⟩
abbrev main_v618 : Ref sig .tc := ⟨.hbm, 2019, rfl⟩
abbrev main_v619 : Ref sig .tc := ⟨.hbm, 2020, rfl⟩
abbrev main_v620 : Ref sig .tc := ⟨.hbm, 2021, rfl⟩
abbrev main_v621 : Ref sig .tc := ⟨.hbm, 2022, rfl⟩
abbrev main_call118_v0 : Ref sig .tc := ⟨.hbm, 2023, rfl⟩
abbrev main_v622 : Ref sig .tc := ⟨.hbm, 2024, rfl⟩
abbrev main_c_151 : Ref sig .tc := ⟨.hbm, 2025, rfl⟩
abbrev main_call119_v0 : Ref sig .tc := ⟨.hbm, 2026, rfl⟩
abbrev main_call119_c : Ref sig .tc := ⟨.hbm, 2027, rfl⟩
abbrev main_call119_v1 : Ref sig .tc := ⟨.hbm, 2028, rfl⟩
abbrev main_call119_c_0 : Ref sig .tc := ⟨.hbm, 2029, rfl⟩
abbrev main_call119_v2 : Ref sig .tc := ⟨.hbm, 2030, rfl⟩
abbrev main_call119_v3 : Ref sig .tc := ⟨.hbm, 2031, rfl⟩
abbrev main_call119_v4 : Ref sig .tc := ⟨.hbm, 2032, rfl⟩
abbrev main_call119_c_1 : Ref sig .tc := ⟨.hbm, 2033, rfl⟩
abbrev main_call119_v5 : Ref sig .tc := ⟨.hbm, 2034, rfl⟩
abbrev main_call119_v6 : Ref sig .tc := ⟨.hbm, 2035, rfl⟩
abbrev main_call119_c_2 : Ref sig .tc := ⟨.hbm, 2036, rfl⟩
abbrev main_call119_v7 : Ref sig .tc := ⟨.hbm, 2037, rfl⟩
abbrev main_call119_v8 : Ref sig .tc := ⟨.hbm, 2038, rfl⟩
abbrev main_call119_c_3 : Ref sig .tc := ⟨.hbm, 2039, rfl⟩
abbrev main_call119_v9 : Ref sig .tc := ⟨.hbm, 2040, rfl⟩
abbrev main_call119_v10 : Ref sig .tc := ⟨.hbm, 2041, rfl⟩
abbrev main_call119_v11 : Ref sig .tc := ⟨.hbm, 2042, rfl⟩
abbrev main_call119_v12 : Ref sig .tc := ⟨.hbm, 2043, rfl⟩
abbrev main_call119_v13 : Ref sig .tc := ⟨.hbm, 2044, rfl⟩
abbrev main_call119_v14 : Ref sig .tc := ⟨.hbm, 2045, rfl⟩
abbrev main_v623 : Ref sig .tc := ⟨.hbm, 2046, rfl⟩
abbrev main_c_152 : Ref sig .tc := ⟨.hbm, 2047, rfl⟩
abbrev main_v624 : Ref sig .tc := ⟨.hbm, 2048, rfl⟩
abbrev main_v625 : Ref sig .tc := ⟨.hbm, 2049, rfl⟩
abbrev main_v626 : Ref sig .tc := ⟨.hbm, 2050, rfl⟩
abbrev main_v627 : Ref sig .tc := ⟨.hbm, 2051, rfl⟩
abbrev main_v628 : Ref sig .tc := ⟨.hbm, 2052, rfl⟩
abbrev main_call120_v0 : Ref sig .tc := ⟨.hbm, 2053, rfl⟩
abbrev main_v629 : Ref sig .tc := ⟨.hbm, 2054, rfl⟩
abbrev main_c_153 : Ref sig .tc := ⟨.hbm, 2055, rfl⟩
abbrev main_call121_v0 : Ref sig .tc := ⟨.hbm, 2056, rfl⟩
abbrev main_call121_c : Ref sig .tc := ⟨.hbm, 2057, rfl⟩
abbrev main_call121_v1 : Ref sig .tc := ⟨.hbm, 2058, rfl⟩
abbrev main_call121_c_0 : Ref sig .tc := ⟨.hbm, 2059, rfl⟩
abbrev main_call121_v2 : Ref sig .tc := ⟨.hbm, 2060, rfl⟩
abbrev main_call121_v3 : Ref sig .tc := ⟨.hbm, 2061, rfl⟩
abbrev main_call121_v4 : Ref sig .tc := ⟨.hbm, 2062, rfl⟩
abbrev main_call121_c_1 : Ref sig .tc := ⟨.hbm, 2063, rfl⟩
abbrev main_call121_v5 : Ref sig .tc := ⟨.hbm, 2064, rfl⟩
abbrev main_call121_v6 : Ref sig .tc := ⟨.hbm, 2065, rfl⟩
abbrev main_call121_c_2 : Ref sig .tc := ⟨.hbm, 2066, rfl⟩
abbrev main_call121_v7 : Ref sig .tc := ⟨.hbm, 2067, rfl⟩
abbrev main_call121_v8 : Ref sig .tc := ⟨.hbm, 2068, rfl⟩
abbrev main_call121_c_3 : Ref sig .tc := ⟨.hbm, 2069, rfl⟩
abbrev main_call121_v9 : Ref sig .tc := ⟨.hbm, 2070, rfl⟩
abbrev main_call121_v10 : Ref sig .tc := ⟨.hbm, 2071, rfl⟩
abbrev main_call121_v11 : Ref sig .tc := ⟨.hbm, 2072, rfl⟩
abbrev main_call121_v12 : Ref sig .tc := ⟨.hbm, 2073, rfl⟩
abbrev main_call121_v13 : Ref sig .tc := ⟨.hbm, 2074, rfl⟩
abbrev main_call121_v14 : Ref sig .tc := ⟨.hbm, 2075, rfl⟩
abbrev main_v630 : Ref sig .tc := ⟨.hbm, 2076, rfl⟩
abbrev main_c_154 : Ref sig .tc := ⟨.hbm, 2077, rfl⟩
abbrev main_v631 : Ref sig .tc := ⟨.hbm, 2078, rfl⟩
abbrev main_v632 : Ref sig .tc := ⟨.hbm, 2079, rfl⟩
abbrev main_v633 : Ref sig .tc := ⟨.hbm, 2080, rfl⟩
abbrev main_v634 : Ref sig .tc := ⟨.hbm, 2081, rfl⟩
abbrev main_v635 : Ref sig .tc := ⟨.hbm, 2082, rfl⟩
abbrev main_call122_v0 : Ref sig .tc := ⟨.hbm, 2083, rfl⟩
abbrev main_v636 : Ref sig .tc := ⟨.hbm, 2084, rfl⟩
abbrev main_c_155 : Ref sig .tc := ⟨.hbm, 2085, rfl⟩
abbrev main_call123_v0 : Ref sig .tc := ⟨.hbm, 2086, rfl⟩
abbrev main_call123_c : Ref sig .tc := ⟨.hbm, 2087, rfl⟩
abbrev main_call123_v1 : Ref sig .tc := ⟨.hbm, 2088, rfl⟩
abbrev main_call123_c_0 : Ref sig .tc := ⟨.hbm, 2089, rfl⟩
abbrev main_call123_v2 : Ref sig .tc := ⟨.hbm, 2090, rfl⟩
abbrev main_call123_v3 : Ref sig .tc := ⟨.hbm, 2091, rfl⟩
abbrev main_call123_v4 : Ref sig .tc := ⟨.hbm, 2092, rfl⟩
abbrev main_call123_c_1 : Ref sig .tc := ⟨.hbm, 2093, rfl⟩
abbrev main_call123_v5 : Ref sig .tc := ⟨.hbm, 2094, rfl⟩
abbrev main_call123_v6 : Ref sig .tc := ⟨.hbm, 2095, rfl⟩
abbrev main_call123_c_2 : Ref sig .tc := ⟨.hbm, 2096, rfl⟩
abbrev main_call123_v7 : Ref sig .tc := ⟨.hbm, 2097, rfl⟩
abbrev main_call123_v8 : Ref sig .tc := ⟨.hbm, 2098, rfl⟩
abbrev main_call123_c_3 : Ref sig .tc := ⟨.hbm, 2099, rfl⟩
abbrev main_call123_v9 : Ref sig .tc := ⟨.hbm, 2100, rfl⟩
abbrev main_call123_v10 : Ref sig .tc := ⟨.hbm, 2101, rfl⟩
abbrev main_call123_v11 : Ref sig .tc := ⟨.hbm, 2102, rfl⟩
abbrev main_call123_v12 : Ref sig .tc := ⟨.hbm, 2103, rfl⟩
abbrev main_call123_v13 : Ref sig .tc := ⟨.hbm, 2104, rfl⟩
abbrev main_call123_v14 : Ref sig .tc := ⟨.hbm, 2105, rfl⟩
abbrev main_v637 : Ref sig .tc := ⟨.hbm, 2106, rfl⟩
abbrev main_c_156 : Ref sig .tc := ⟨.hbm, 2107, rfl⟩
abbrev main_v638 : Ref sig .tc := ⟨.hbm, 2108, rfl⟩
abbrev main_v639 : Ref sig .tc := ⟨.hbm, 2109, rfl⟩
abbrev main_v640 : Ref sig .tc := ⟨.hbm, 2110, rfl⟩
abbrev main_v641 : Ref sig .tc := ⟨.hbm, 2111, rfl⟩
abbrev main_v642 : Ref sig .tc := ⟨.hbm, 2112, rfl⟩
abbrev main_call124_v0 : Ref sig .tc := ⟨.hbm, 2113, rfl⟩
abbrev main_v643 : Ref sig .tc := ⟨.hbm, 2114, rfl⟩
abbrev main_c_157 : Ref sig .tc := ⟨.hbm, 2115, rfl⟩
abbrev main_call125_v0 : Ref sig .tc := ⟨.hbm, 2116, rfl⟩
abbrev main_call125_c : Ref sig .tc := ⟨.hbm, 2117, rfl⟩
abbrev main_call125_v1 : Ref sig .tc := ⟨.hbm, 2118, rfl⟩
abbrev main_call125_c_0 : Ref sig .tc := ⟨.hbm, 2119, rfl⟩
abbrev main_call125_v2 : Ref sig .tc := ⟨.hbm, 2120, rfl⟩
abbrev main_call125_v3 : Ref sig .tc := ⟨.hbm, 2121, rfl⟩
abbrev main_call125_v4 : Ref sig .tc := ⟨.hbm, 2122, rfl⟩
abbrev main_call125_c_1 : Ref sig .tc := ⟨.hbm, 2123, rfl⟩
abbrev main_call125_v5 : Ref sig .tc := ⟨.hbm, 2124, rfl⟩
abbrev main_call125_v6 : Ref sig .tc := ⟨.hbm, 2125, rfl⟩
abbrev main_call125_c_2 : Ref sig .tc := ⟨.hbm, 2126, rfl⟩
abbrev main_call125_v7 : Ref sig .tc := ⟨.hbm, 2127, rfl⟩
abbrev main_call125_v8 : Ref sig .tc := ⟨.hbm, 2128, rfl⟩
abbrev main_call125_c_3 : Ref sig .tc := ⟨.hbm, 2129, rfl⟩
abbrev main_call125_v9 : Ref sig .tc := ⟨.hbm, 2130, rfl⟩
abbrev main_call125_v10 : Ref sig .tc := ⟨.hbm, 2131, rfl⟩
abbrev main_call125_v11 : Ref sig .tc := ⟨.hbm, 2132, rfl⟩
abbrev main_call125_v12 : Ref sig .tc := ⟨.hbm, 2133, rfl⟩
abbrev main_call125_v13 : Ref sig .tc := ⟨.hbm, 2134, rfl⟩
abbrev main_call125_v14 : Ref sig .tc := ⟨.hbm, 2135, rfl⟩
abbrev main_v644 : Ref sig .tc := ⟨.hbm, 2136, rfl⟩
abbrev main_c_158 : Ref sig .tc := ⟨.hbm, 2137, rfl⟩
abbrev main_v645 : Ref sig .tc := ⟨.hbm, 2138, rfl⟩
abbrev main_v646 : Ref sig .tc := ⟨.hbm, 2139, rfl⟩
abbrev main_v647 : Ref sig .tc := ⟨.hbm, 2140, rfl⟩
abbrev main_v648 : Ref sig .tc := ⟨.hbm, 2141, rfl⟩
abbrev main_v649 : Ref sig .tc := ⟨.hbm, 2142, rfl⟩
abbrev main_call126_v0 : Ref sig .tc := ⟨.hbm, 2143, rfl⟩
abbrev main_v650 : Ref sig .tc := ⟨.hbm, 2144, rfl⟩
abbrev main_c_159 : Ref sig .tc := ⟨.hbm, 2145, rfl⟩
abbrev main_call127_v0 : Ref sig .tc := ⟨.hbm, 2146, rfl⟩
abbrev main_call127_c : Ref sig .tc := ⟨.hbm, 2147, rfl⟩
abbrev main_call127_v1 : Ref sig .tc := ⟨.hbm, 2148, rfl⟩
abbrev main_call127_c_0 : Ref sig .tc := ⟨.hbm, 2149, rfl⟩
abbrev main_call127_v2 : Ref sig .tc := ⟨.hbm, 2150, rfl⟩
abbrev main_call127_v3 : Ref sig .tc := ⟨.hbm, 2151, rfl⟩
abbrev main_call127_v4 : Ref sig .tc := ⟨.hbm, 2152, rfl⟩
abbrev main_call127_c_1 : Ref sig .tc := ⟨.hbm, 2153, rfl⟩
abbrev main_call127_v5 : Ref sig .tc := ⟨.hbm, 2154, rfl⟩
abbrev main_call127_v6 : Ref sig .tc := ⟨.hbm, 2155, rfl⟩
abbrev main_call127_c_2 : Ref sig .tc := ⟨.hbm, 2156, rfl⟩
abbrev main_call127_v7 : Ref sig .tc := ⟨.hbm, 2157, rfl⟩
abbrev main_call127_v8 : Ref sig .tc := ⟨.hbm, 2158, rfl⟩
abbrev main_call127_c_3 : Ref sig .tc := ⟨.hbm, 2159, rfl⟩
abbrev main_call127_v9 : Ref sig .tc := ⟨.hbm, 2160, rfl⟩
abbrev main_call127_v10 : Ref sig .tc := ⟨.hbm, 2161, rfl⟩
abbrev main_call127_v11 : Ref sig .tc := ⟨.hbm, 2162, rfl⟩
abbrev main_call127_v12 : Ref sig .tc := ⟨.hbm, 2163, rfl⟩
abbrev main_call127_v13 : Ref sig .tc := ⟨.hbm, 2164, rfl⟩
abbrev main_call127_v14 : Ref sig .tc := ⟨.hbm, 2165, rfl⟩
abbrev main_v651 : Ref sig .tc := ⟨.hbm, 2166, rfl⟩
abbrev main_c_160 : Ref sig .tc := ⟨.hbm, 2167, rfl⟩
abbrev main_v652 : Ref sig .tc := ⟨.hbm, 2168, rfl⟩
abbrev main_v653 : Ref sig .tc := ⟨.hbm, 2169, rfl⟩
abbrev main_v654 : Ref sig .tc := ⟨.hbm, 2170, rfl⟩
abbrev main_v655 : Ref sig .tc := ⟨.hbm, 2171, rfl⟩
abbrev main_v656 : Ref sig .tc := ⟨.hbm, 2172, rfl⟩
abbrev main_call128_v0 : Ref sig .tc := ⟨.hbm, 2173, rfl⟩
abbrev main_v657 : Ref sig .tc := ⟨.hbm, 2174, rfl⟩
abbrev main_c_161 : Ref sig .tc := ⟨.hbm, 2175, rfl⟩
abbrev main_call129_v0 : Ref sig .tc := ⟨.hbm, 2176, rfl⟩
abbrev main_call129_c : Ref sig .tc := ⟨.hbm, 2177, rfl⟩
abbrev main_call129_v1 : Ref sig .tc := ⟨.hbm, 2178, rfl⟩
abbrev main_call129_c_0 : Ref sig .tc := ⟨.hbm, 2179, rfl⟩
abbrev main_call129_v2 : Ref sig .tc := ⟨.hbm, 2180, rfl⟩
abbrev main_call129_v3 : Ref sig .tc := ⟨.hbm, 2181, rfl⟩
abbrev main_call129_v4 : Ref sig .tc := ⟨.hbm, 2182, rfl⟩
abbrev main_call129_c_1 : Ref sig .tc := ⟨.hbm, 2183, rfl⟩
abbrev main_call129_v5 : Ref sig .tc := ⟨.hbm, 2184, rfl⟩
abbrev main_call129_v6 : Ref sig .tc := ⟨.hbm, 2185, rfl⟩
abbrev main_call129_c_2 : Ref sig .tc := ⟨.hbm, 2186, rfl⟩
abbrev main_call129_v7 : Ref sig .tc := ⟨.hbm, 2187, rfl⟩
abbrev main_call129_v8 : Ref sig .tc := ⟨.hbm, 2188, rfl⟩
abbrev main_call129_c_3 : Ref sig .tc := ⟨.hbm, 2189, rfl⟩
abbrev main_call129_v9 : Ref sig .tc := ⟨.hbm, 2190, rfl⟩
abbrev main_call129_v10 : Ref sig .tc := ⟨.hbm, 2191, rfl⟩
abbrev main_call129_v11 : Ref sig .tc := ⟨.hbm, 2192, rfl⟩
abbrev main_call129_v12 : Ref sig .tc := ⟨.hbm, 2193, rfl⟩
abbrev main_call129_v13 : Ref sig .tc := ⟨.hbm, 2194, rfl⟩
abbrev main_call129_v14 : Ref sig .tc := ⟨.hbm, 2195, rfl⟩
abbrev main_v658 : Ref sig .tc := ⟨.hbm, 2196, rfl⟩
abbrev main_c_162 : Ref sig .tc := ⟨.hbm, 2197, rfl⟩
abbrev main_v659 : Ref sig .tc := ⟨.hbm, 2198, rfl⟩
abbrev main_v660 : Ref sig .tc := ⟨.hbm, 2199, rfl⟩
abbrev main_v661 : Ref sig .tc := ⟨.hbm, 2200, rfl⟩
abbrev main_v662 : Ref sig .tc := ⟨.hbm, 2201, rfl⟩
abbrev main_v663 : Ref sig .tc := ⟨.hbm, 2202, rfl⟩
abbrev main_call130_v0 : Ref sig .tc := ⟨.hbm, 2203, rfl⟩
abbrev main_v664 : Ref sig .tc := ⟨.hbm, 2204, rfl⟩
abbrev main_c_163 : Ref sig .tc := ⟨.hbm, 2205, rfl⟩
abbrev main_call131_v0 : Ref sig .tc := ⟨.hbm, 2206, rfl⟩
abbrev main_call131_c : Ref sig .tc := ⟨.hbm, 2207, rfl⟩
abbrev main_call131_v1 : Ref sig .tc := ⟨.hbm, 2208, rfl⟩
abbrev main_call131_c_0 : Ref sig .tc := ⟨.hbm, 2209, rfl⟩
abbrev main_call131_v2 : Ref sig .tc := ⟨.hbm, 2210, rfl⟩
abbrev main_call131_v3 : Ref sig .tc := ⟨.hbm, 2211, rfl⟩
abbrev main_call131_v4 : Ref sig .tc := ⟨.hbm, 2212, rfl⟩
abbrev main_call131_c_1 : Ref sig .tc := ⟨.hbm, 2213, rfl⟩
abbrev main_call131_v5 : Ref sig .tc := ⟨.hbm, 2214, rfl⟩
abbrev main_call131_v6 : Ref sig .tc := ⟨.hbm, 2215, rfl⟩
abbrev main_call131_c_2 : Ref sig .tc := ⟨.hbm, 2216, rfl⟩
abbrev main_call131_v7 : Ref sig .tc := ⟨.hbm, 2217, rfl⟩
abbrev main_call131_v8 : Ref sig .tc := ⟨.hbm, 2218, rfl⟩
abbrev main_call131_c_3 : Ref sig .tc := ⟨.hbm, 2219, rfl⟩
abbrev main_call131_v9 : Ref sig .tc := ⟨.hbm, 2220, rfl⟩
abbrev main_call131_v10 : Ref sig .tc := ⟨.hbm, 2221, rfl⟩
abbrev main_call131_v11 : Ref sig .tc := ⟨.hbm, 2222, rfl⟩
abbrev main_call131_v12 : Ref sig .tc := ⟨.hbm, 2223, rfl⟩
abbrev main_call131_v13 : Ref sig .tc := ⟨.hbm, 2224, rfl⟩
abbrev main_call131_v14 : Ref sig .tc := ⟨.hbm, 2225, rfl⟩
abbrev main_v665 : Ref sig .tc := ⟨.hbm, 2226, rfl⟩
abbrev main_c_164 : Ref sig .tc := ⟨.hbm, 2227, rfl⟩
abbrev main_v666 : Ref sig .tc := ⟨.hbm, 2228, rfl⟩
abbrev main_v667 : Ref sig .tc := ⟨.hbm, 2229, rfl⟩
abbrev main_v668 : Ref sig .tc := ⟨.hbm, 2230, rfl⟩
abbrev main_v669 : Ref sig .tc := ⟨.hbm, 2231, rfl⟩
abbrev main_v670 : Ref sig .tc := ⟨.hbm, 2232, rfl⟩
abbrev main_call132_v0 : Ref sig .tc := ⟨.hbm, 2233, rfl⟩
abbrev main_v671 : Ref sig .tc := ⟨.hbm, 2234, rfl⟩
abbrev main_c_165 : Ref sig .tc := ⟨.hbm, 2235, rfl⟩
abbrev main_v672 : Ref sig .tc := ⟨.hbm, 2236, rfl⟩
abbrev main_v673 : Ref sig .tc := ⟨.hbm, 2237, rfl⟩
abbrev main_v674 : Ref sig .tc := ⟨.hbm, 2238, rfl⟩
abbrev main_v675 : Ref sig .tc := ⟨.hbm, 2239, rfl⟩
abbrev main_v676 : Ref sig .tc := ⟨.hbm, 2240, rfl⟩
abbrev main_v677 : Ref sig .tc := ⟨.hbm, 2241, rfl⟩
abbrev main_v678 : Ref sig .tc := ⟨.hbm, 2242, rfl⟩
abbrev main_v679 : Ref sig .tc := ⟨.hbm, 2243, rfl⟩
abbrev main_v680 : Ref sig .tc := ⟨.hbm, 2244, rfl⟩
abbrev main_v681_0 : Ref sig .tc := ⟨.hbm, 2245, rfl⟩
abbrev main_v681_1 : Ref sig .tc := ⟨.hbm, 2246, rfl⟩
abbrev main_v682 : Ref sig .tc := ⟨.hbm, 2247, rfl⟩
abbrev main_v683 : Ref sig .tc := ⟨.hbm, 2248, rfl⟩
abbrev main_v684 : Ref sig .tc := ⟨.hbm, 2249, rfl⟩
abbrev main_v685 : Ref sig .tc := ⟨.hbm, 2250, rfl⟩
abbrev main_v686 : Ref sig .tc := ⟨.hbm, 2251, rfl⟩
abbrev main_c_166 : Ref sig .tc := ⟨.hbm, 2252, rfl⟩
abbrev main_call133_v0 : Ref sig .tc := ⟨.hbm, 2253, rfl⟩
abbrev main_call133_c : Ref sig .tc := ⟨.hbm, 2254, rfl⟩
abbrev main_call133_v1 : Ref sig .tc := ⟨.hbm, 2255, rfl⟩
abbrev main_call133_c_0 : Ref sig .tc := ⟨.hbm, 2256, rfl⟩
abbrev main_call133_v2 : Ref sig .tc := ⟨.hbm, 2257, rfl⟩
abbrev main_call133_v3 : Ref sig .tc := ⟨.hbm, 2258, rfl⟩
abbrev main_call133_v4 : Ref sig .tc := ⟨.hbm, 2259, rfl⟩
abbrev main_call133_c_1 : Ref sig .tc := ⟨.hbm, 2260, rfl⟩
abbrev main_call133_v5 : Ref sig .tc := ⟨.hbm, 2261, rfl⟩
abbrev main_call133_v6 : Ref sig .tc := ⟨.hbm, 2262, rfl⟩
abbrev main_call133_c_2 : Ref sig .tc := ⟨.hbm, 2263, rfl⟩
abbrev main_call133_v7 : Ref sig .tc := ⟨.hbm, 2264, rfl⟩
abbrev main_call133_v8 : Ref sig .tc := ⟨.hbm, 2265, rfl⟩
abbrev main_call133_c_3 : Ref sig .tc := ⟨.hbm, 2266, rfl⟩
abbrev main_call133_v9 : Ref sig .tc := ⟨.hbm, 2267, rfl⟩
abbrev main_call133_v10 : Ref sig .tc := ⟨.hbm, 2268, rfl⟩
abbrev main_call133_v11 : Ref sig .tc := ⟨.hbm, 2269, rfl⟩
abbrev main_call133_v12 : Ref sig .tc := ⟨.hbm, 2270, rfl⟩
abbrev main_call133_v13 : Ref sig .tc := ⟨.hbm, 2271, rfl⟩
abbrev main_call133_v14 : Ref sig .tc := ⟨.hbm, 2272, rfl⟩
abbrev main_v687 : Ref sig .tc := ⟨.hbm, 2273, rfl⟩
abbrev main_v688 : Ref sig .tc := ⟨.hbm, 2274, rfl⟩
abbrev main_v689 : Ref sig .tc := ⟨.hbm, 2275, rfl⟩
abbrev main_v690 : Ref sig .tc := ⟨.hbm, 2276, rfl⟩
abbrev main_v691 : Ref sig .tc := ⟨.hbm, 2277, rfl⟩
abbrev main_v692 : Ref sig .tc := ⟨.hbm, 2278, rfl⟩
abbrev main_v693 : Ref sig .tc := ⟨.hbm, 2279, rfl⟩
abbrev main_v694 : Ref sig .tc := ⟨.hbm, 2280, rfl⟩
abbrev main_cst_167 : Ref sig .tc := ⟨.hbm, 2281, rfl⟩
abbrev main_call134_v0 : Ref sig .tc := ⟨.hbm, 2282, rfl⟩
abbrev main_call134_v1 : Ref sig .tc := ⟨.hbm, 2283, rfl⟩
abbrev main_call134_v2 : Ref sig .tc := ⟨.hbm, 2284, rfl⟩
abbrev main_call134_v3 : Ref sig .tc := ⟨.hbm, 2285, rfl⟩
abbrev main_v695 : Ref sig .tc := ⟨.hbm, 2286, rfl⟩
abbrev main_v696 : Ref sig .tc := ⟨.hbm, 2287, rfl⟩
abbrev main_v697 : Ref sig .tc := ⟨.hbm, 2288, rfl⟩
abbrev main_cst_168 : Ref sig .tc := ⟨.hbm, 2289, rfl⟩
abbrev main_call135_v0 : Ref sig .tc := ⟨.hbm, 2290, rfl⟩
abbrev main_call135_v1 : Ref sig .tc := ⟨.hbm, 2291, rfl⟩
abbrev main_call135_v2 : Ref sig .tc := ⟨.hbm, 2292, rfl⟩
abbrev main_call135_v3 : Ref sig .tc := ⟨.hbm, 2293, rfl⟩
abbrev main_v698 : Ref sig .tc := ⟨.hbm, 2294, rfl⟩
abbrev main_v699 : Ref sig .tc := ⟨.hbm, 2295, rfl⟩
abbrev main_v700 : Ref sig .tc := ⟨.hbm, 2296, rfl⟩
abbrev main_v701 : Ref sig .tc := ⟨.hbm, 2297, rfl⟩
abbrev main_v702 : Ref sig .tc := ⟨.hbm, 2298, rfl⟩
abbrev main_v703 : Ref sig .tc := ⟨.hbm, 2299, rfl⟩
abbrev main_v704 : Ref sig .tc := ⟨.hbm, 2300, rfl⟩
abbrev main_v705 : Ref sig .tc := ⟨.hbm, 2301, rfl⟩
abbrev main_v706 : Ref sig .tc := ⟨.hbm, 2302, rfl⟩
abbrev main_v707 : Ref sig .tc := ⟨.hbm, 2303, rfl⟩
abbrev main_cst_169 : Ref sig .tc := ⟨.hbm, 2304, rfl⟩
abbrev main_v708 : Ref sig .tc := ⟨.hbm, 2305, rfl⟩
abbrev main_cst_170 : Ref sig .tc := ⟨.hbm, 2306, rfl⟩
abbrev main_v709 : Ref sig .tc := ⟨.hbm, 2307, rfl⟩
abbrev main_v710 : Ref sig .tc := ⟨.hbm, 2308, rfl⟩
abbrev main_v711 : Ref sig .tc := ⟨.hbm, 2309, rfl⟩
abbrev main_cst_171 : Ref sig .tc := ⟨.hbm, 2310, rfl⟩
abbrev main_v712 : Ref sig .tc := ⟨.hbm, 2311, rfl⟩
abbrev main_v713 : Ref sig .tc := ⟨.hbm, 2312, rfl⟩
abbrev main_cst_172 : Ref sig .tc := ⟨.hbm, 2313, rfl⟩
abbrev main_v714 : Ref sig .tc := ⟨.hbm, 2314, rfl⟩
abbrev main_v715 : Ref sig .tc := ⟨.hbm, 2315, rfl⟩
abbrev main_v716 : Ref sig .tc := ⟨.hbm, 2316, rfl⟩
abbrev main_v717 : Ref sig .tc := ⟨.hbm, 2317, rfl⟩
abbrev main_v718 : Ref sig .tc := ⟨.hbm, 2318, rfl⟩
abbrev main_v719 : Ref sig .tc := ⟨.hbm, 2319, rfl⟩
abbrev main_cst_173 : Ref sig .tc := ⟨.hbm, 2320, rfl⟩
abbrev main_v720 : Ref sig .tc := ⟨.hbm, 2321, rfl⟩
abbrev main_v721 : Ref sig .tc := ⟨.hbm, 2322, rfl⟩
abbrev main_v722 : Ref sig .tc := ⟨.hbm, 2323, rfl⟩
abbrev main_v723 : Ref sig .tc := ⟨.hbm, 2324, rfl⟩
abbrev main_v724 : Ref sig .tc := ⟨.hbm, 2325, rfl⟩
abbrev main_v725 : Ref sig .tc := ⟨.hbm, 2326, rfl⟩
abbrev main_v726 : Ref sig .tc := ⟨.hbm, 2327, rfl⟩
abbrev main_v727 : Ref sig .tc := ⟨.hbm, 2328, rfl⟩
abbrev main_v728 : Ref sig .tc := ⟨.hbm, 2329, rfl⟩
abbrev main_cst_174 : Ref sig .tc := ⟨.hbm, 2330, rfl⟩
abbrev main_v729 : Ref sig .tc := ⟨.hbm, 2331, rfl⟩
abbrev main_v730 : Ref sig .tc := ⟨.hbm, 2332, rfl⟩
abbrev main_v731 : Ref sig .tc := ⟨.hbm, 2333, rfl⟩
abbrev main_v732 : Ref sig .tc := ⟨.hbm, 2334, rfl⟩
abbrev main_v733 : Ref sig .tc := ⟨.hbm, 2335, rfl⟩
abbrev main_v734 : Ref sig .tc := ⟨.hbm, 2336, rfl⟩
abbrev main_v735 : Ref sig .tc := ⟨.hbm, 2337, rfl⟩
abbrev main_v736 : Ref sig .tc := ⟨.hbm, 2338, rfl⟩
abbrev main_v737 : Ref sig .tc := ⟨.hbm, 2339, rfl⟩
abbrev main_v738 : Ref sig .tc := ⟨.hbm, 2340, rfl⟩
abbrev main_v739 : Ref sig .tc := ⟨.hbm, 2341, rfl⟩
abbrev main_v740 : Ref sig .tc := ⟨.hbm, 2342, rfl⟩
abbrev main_v741 : Ref sig .tc := ⟨.hbm, 2343, rfl⟩
abbrev main_v742 : Ref sig .tc := ⟨.hbm, 2344, rfl⟩
abbrev main_v743 : Ref sig .tc := ⟨.hbm, 2345, rfl⟩
abbrev main_v744 : Ref sig .tc := ⟨.hbm, 2346, rfl⟩
abbrev main_v745 : Ref sig .tc := ⟨.hbm, 2347, rfl⟩
abbrev main_v746 : Ref sig .tc := ⟨.hbm, 2348, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc1_stg1_0 : Ref sig .tc := ⟨.smem, 3, rfl⟩
abbrev cc2_stg0_0 : Ref sig .tc := ⟨.smem, 4, rfl⟩
abbrev cc2_stg1_0 : Ref sig .tc := ⟨.smem, 5, rfl⟩
abbrev cc3_stg0_0 : Ref sig .tc := ⟨.smem, 6, rfl⟩
abbrev cc3_stg1_0 : Ref sig .tc := ⟨.smem, 7, rfl⟩
abbrev cc4_stg0_0 : Ref sig .tc := ⟨.smem, 8, rfl⟩
abbrev cc4_stg1_0 : Ref sig .tc := ⟨.smem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem1_0 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem1_0 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc4_sem6_0 : DmaSem sig := 58
abbrev cc4_sem6_1 : DmaSem sig := 59

abbrev nD : Nat := 1
abbrev τ : Topo := Topo.v7x

variable {F : FTy → Type} [FloatOps F]

abbrev grid0 : Pipeline.Grid := ⟨1, ![720], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S720x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S720x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![216], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S216x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S216x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2048x128 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![72], ![false]⟩

def k2_off1 (i : grid2.Coords) : Fin 2 → Nat :=
  let arg0 : BitVec 32 := BitVec.ofNat 32 (i 0).val
  let v0 : Index := Scalar.indexCast arg0
  let c0 : Index := 0#32
  ![v0.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S72x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S72x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x704x128 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x704x128 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x704x128 .fp8e4m3 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x704x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x704x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![72], ![false]⟩

def k3_off1 (i : grid3.Coords) : Fin 2 → Nat :=
  let arg0 : BitVec 32 := BitVec.ofNat 32 (i 0).val
  let v0 : Index := Scalar.indexCast arg0
  let c0 : Index := 0#32
  ![v0.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .smem S72x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .smem S72x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x2048x128 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048x128 .fp8e4m3 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x2048x128 .fp8e4m3 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x2048x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![72], ![false]⟩

def k4_off1 (i : grid4.Coords) : Fin 2 → Nat :=
  let arg0 : BitVec 32 := BitVec.ofNat 32 (i 0).val
  let v0 : Index := Scalar.indexCast arg0
  let c0 : Index := 0#32
  ![v0.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .smem S72x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .smem S72x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x256x128 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256x128 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x256x128 .fp8e4m3 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x256x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x256x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]
-- ==== ReferenceIdeal.lean ====
abbrev S2x20480x36x128 : Shape := ⟨4, ![2, 20480, 36, 128]⟩
abbrev S2x20480x18x128 : Shape := ⟨4, ![2, 20480, 18, 128]⟩
abbrev S2x36 : Shape := ⟨2, ![2, 36]⟩
abbrev S2x18 : Shape := ⟨2, ![2, 18]⟩
abbrev S36 : Shape := ⟨1, ![36]⟩
abbrev S_ : Shape := ⟨0, ![]⟩
abbrev S36x1 : Shape := ⟨2, ![36, 1]⟩
abbrev S2x36x20480x128 : Shape := ⟨4, ![2, 36, 20480, 128]⟩
abbrev S2x18x20480x128 : Shape := ⟨4, ![2, 18, 20480, 128]⟩
abbrev S2x18x2x20480x128 : Shape := ⟨5, ![2, 18, 2, 20480, 128]⟩
abbrev S36x20480 : Shape := ⟨2, ![36, 20480]⟩
abbrev S20480x20480 : Shape := ⟨2, ![20480, 20480]⟩
abbrev S36x20480x1 : Shape := ⟨3, ![36, 20480, 1]⟩
abbrev S36x1x20480 : Shape := ⟨3, ![36, 1, 20480]⟩
abbrev S36x20480x20480 : Shape := ⟨3, ![36, 20480, 20480]⟩
abbrev S1x20480x20480 : Shape := ⟨3, ![1, 20480, 20480]⟩
abbrev S2x36x20480x20480 : Shape := ⟨4, ![2, 36, 20480, 20480]⟩
abbrev S1x36x20480x20480 : Shape := ⟨4, ![1, 36, 20480, 20480]⟩
abbrev S2x36x1x1 : Shape := ⟨4, ![2, 36, 1, 1]⟩
abbrev S2x36x20480 : Shape := ⟨3, ![2, 36, 20480]⟩
abbrev S2x36x20480x1 : Shape := ⟨4, ![2, 36, 20480, 1]⟩
abbrev S1x36x20480x1 : Shape := ⟨4, ![1, 36, 20480, 1]⟩
abbrev S1x36x20480 : Shape := ⟨3, ![1, 36, 20480]⟩
abbrev S1x2x36x20480 : Shape := ⟨4, ![1, 2, 36, 20480]⟩
abbrev S3x2x36x20480 : Shape := ⟨4, ![3, 2, 36, 20480]⟩
abbrev S2x20480x4608 : Shape := ⟨3, ![2, 20480, 4608]⟩
abbrev S2x20480x36 : Shape := ⟨3, ![2, 20480, 36]⟩

abbrev nBuf : Space → Nat
  | .hbm => 325
  | .vmem => 6
  | .smem => 0
  | _ => 0

abbrev hbmTy0_0 (i : Nat) : BufTy := match i % 128 with
  | 0 => ⟨S2x20480x36x128, .fp8e4m3⟩
  | 1 => ⟨S2x20480x18x128, .fp8e4m3⟩
  | 2 => ⟨S2x20480x18x128, .fp8e4m3⟩
  | 3 => ⟨S2x36, .f32⟩
  | 4 => ⟨S2x18, .f32⟩
  | 5 => ⟨S2x18, .f32⟩
  | 6 => ⟨S36, .i32⟩
  | 7 => ⟨S_, .i32⟩
  | 8 => ⟨S_, .i32⟩
  | 9 => ⟨S36, .i32⟩
  | 10 => ⟨S36, .i32⟩
  | 11 => ⟨S36, .i32⟩
  | 12 => ⟨S_, .i32⟩
  | 13 => ⟨S36, .i32⟩
  | 14 => ⟨S36, .i1⟩
  | 15 => ⟨S36, .i32⟩
  | 16 => ⟨S36, .i32⟩
  | 17 => ⟨S_, .i32⟩
  | 18 => ⟨S36, .i32⟩
  | 19 => ⟨S36, .i1⟩
  | 20 => ⟨S36, .i1⟩
  | 21 => ⟨S_, .i32⟩
  | 22 => ⟨S36, .i32⟩
  | 23 => ⟨S36, .i32⟩
  | 24 => ⟨S36, .i32⟩
  | 25 => ⟨S_, .i32⟩
  | 26 => ⟨S36, .i32⟩
  | 27 => ⟨S36, .i1⟩
  | 28 => ⟨S_, .i32⟩
  | 29 => ⟨S36, .i32⟩
  | 30 => ⟨S36, .i32⟩
  | 31 => ⟨S36, .i32⟩
  | 32 => ⟨S36x1, .i32⟩
  | 33 => ⟨S2x36, .f32⟩
  | 34 => ⟨S2x36, .f32⟩
  | 35 => ⟨S_, .f32⟩
  | 36 => ⟨S2x36, .f32⟩
  | 37 => ⟨S2x36, .f32⟩
  | 38 => ⟨S_, .i32⟩
  | 39 => ⟨S36, .i32⟩
  | 40 => ⟨S36, .i1⟩
  | 41 => ⟨S_, .i32⟩
  | 42 => ⟨S36, .i32⟩
  | 43 => ⟨S36, .i32⟩
  | 44 => ⟨S36, .i32⟩
  | 45 => ⟨S36x1, .i32⟩
  | 46 => ⟨S2x36, .f32⟩
  | 47 => ⟨S2x20480x36x128, .f32⟩
  | 48 => ⟨S2x20480x18x128, .f32⟩
  | 49 => ⟨S2x20480x18x128, .f32⟩
  | 50 => ⟨S2x36x20480x128, .f32⟩
  | 51 => ⟨S2x18x20480x128, .f32⟩
  | 52 => ⟨S2x18x2x20480x128, .f32⟩
  | 53 => ⟨S2x36x20480x128, .f32⟩
  | 54 => ⟨S2x18x20480x128, .f32⟩
  | 55 => ⟨S2x18x2x20480x128, .f32⟩
  | 56 => ⟨S2x36x20480x128, .f32⟩
  | 57 => ⟨S36x20480, .i32⟩
  | 58 => ⟨S36x20480, .i32⟩
  | 59 => ⟨S_, .i32⟩
  | 60 => ⟨S36x20480, .i32⟩
  | 61 => ⟨S36x20480, .i32⟩
  | 62 => ⟨S_, .i32⟩
  | 63 => ⟨S36x20480, .i32⟩
  | 64 => ⟨S36x20480, .i32⟩
  | 65 => ⟨S_, .i32⟩
  | 66 => ⟨S36x20480, .i32⟩
  | 67 => ⟨S36x20480, .i32⟩
  | 68 => ⟨S36x20480, .i1⟩
  | 69 => ⟨S20480x20480, .i32⟩
  | 70 => ⟨S20480x20480, .i32⟩
  | 71 => ⟨S_, .i32⟩
  | 72 => ⟨S20480x20480, .i32⟩
  | 73 => ⟨S20480x20480, .i32⟩
  | 74 => ⟨S_, .i32⟩
  | 75 => ⟨S20480x20480, .i32⟩
  | 76 => ⟨S20480x20480, .i32⟩
  | 77 => ⟨S20480x20480, .i1⟩
  | 78 => ⟨S36x20480x1, .i1⟩
  | 79 => ⟨S36x1x20480, .i1⟩
  | 80 => ⟨S36x20480x20480, .i1⟩
  | 81 => ⟨S36x20480x20480, .i1⟩
  | 82 => ⟨S36x20480x20480, .i1⟩
  | 83 => ⟨S1x20480x20480, .i1⟩
  | 84 => ⟨S36x20480x20480, .i1⟩
  | 85 => ⟨S36x20480x20480, .i1⟩
  | 86 => ⟨S20480x20480, .i1⟩
  | 87 => ⟨S1x20480x20480, .i1⟩
  | 88 => ⟨S36x20480x20480, .i1⟩
  | 89 => ⟨S36x20480x20480, .i1⟩
  | 90 => ⟨S2x36x20480x20480, .f32⟩
  | 91 => ⟨S1x36x20480x20480, .i1⟩
  | 92 => ⟨S2x36x1x1, .f32⟩
  | 93 => ⟨S2x36x20480x20480, .f32⟩
  | 94 => ⟨S2x36x20480x20480, .f32⟩
  | 95 => ⟨S2x36x20480x20480, .i1⟩
  | 96 => ⟨S_, .f32⟩
  | 97 => ⟨S2x36x20480x20480, .f32⟩
  | 98 => ⟨S2x36x20480x20480, .f32⟩
  | 99 => ⟨S_, .f32⟩
  | 100 => ⟨S2x36x20480, .f32⟩
  | 101 => ⟨S2x36x20480x1, .f32⟩
  | 102 => ⟨S2x36x20480x20480, .f32⟩
  | 103 => ⟨S2x36x20480x20480, .f32⟩
  | 104 => ⟨S2x36x20480x20480, .f32⟩
  | 105 => ⟨S_, .f32⟩
  | 106 => ⟨S2x36x20480, .f32⟩
  | 107 => ⟨S2x36x20480x1, .f32⟩
  | 108 => ⟨S2x36x20480x20480, .f32⟩
  | 109 => ⟨S2x36x20480x20480, .f32⟩
  | 110 => ⟨S2x36x20480x20480, .bf16⟩
  | 111 => ⟨S2x36x20480x128, .bf16⟩
  | 112 => ⟨S2x36x20480x128, .f32⟩
  | 113 => ⟨S2x36x1x1, .f32⟩
  | 114 => ⟨S2x36x20480x128, .f32⟩
  | 115 => ⟨S2x36x20480x128, .f32⟩
  | 116 => ⟨S2x36x20480, .f32⟩
  | 117 => ⟨S2x36x20480, .f32⟩
  | 118 => ⟨S2x36x20480, .f32⟩
  | 119 => ⟨S2x36x20480, .f32⟩
  | 120 => ⟨S1x36x20480x1, .i1⟩
  | 121 => ⟨S2x36x20480x128, .i1⟩
  | 122 => ⟨S_, .f32⟩
  | 123 => ⟨S2x36x20480x128, .f32⟩
  | 124 => ⟨S2x36x20480x128, .f32⟩
  | 125 => ⟨S1x36x20480, .i1⟩
  | 126 => ⟨S2x36x20480, .i1⟩
  | 127 => ⟨S_, .f32⟩
  | _ => ⟨S2x20480x36x128, .fp8e4m3⟩

abbrev hbmTy0_1 (i : Nat) : BufTy := match i % 128 with
  | 0 => ⟨S2x36x20480, .f32⟩
  | 1 => ⟨S2x36x20480, .f32⟩
  | 2 => ⟨S36x20480, .i32⟩
  | 3 => ⟨S36x20480, .i32⟩
  | 4 => ⟨S_, .i32⟩
  | 5 => ⟨S36x20480, .i32⟩
  | 6 => ⟨S36x20480, .i32⟩
  | 7 => ⟨S_, .i32⟩
  | 8 => ⟨S36x20480, .i32⟩
  | 9 => ⟨S36x20480, .i32⟩
  | 10 => ⟨S_, .i32⟩
  | 11 => ⟨S36x20480, .i32⟩
  | 12 => ⟨S36x20480, .i32⟩
  | 13 => ⟨S36x20480, .i1⟩
  | 14 => ⟨S20480x20480, .i32⟩
  | 15 => ⟨S20480x20480, .i32⟩
  | 16 => ⟨S_, .i32⟩
  | 17 => ⟨S20480x20480, .i32⟩
  | 18 => ⟨S20480x20480, .i32⟩
  | 19 => ⟨S_, .i32⟩
  | 20 => ⟨S20480x20480, .i32⟩
  | 21 => ⟨S20480x20480, .i32⟩
  | 22 => ⟨S20480x20480, .i1⟩
  | 23 => ⟨S36x20480x1, .i1⟩
  | 24 => ⟨S36x1x20480, .i1⟩
  | 25 => ⟨S36x20480x20480, .i1⟩
  | 26 => ⟨S36x20480x20480, .i1⟩
  | 27 => ⟨S36x20480x20480, .i1⟩
  | 28 => ⟨S1x20480x20480, .i1⟩
  | 29 => ⟨S36x20480x20480, .i1⟩
  | 30 => ⟨S36x20480x20480, .i1⟩
  | 31 => ⟨S20480x20480, .i1⟩
  | 32 => ⟨S1x20480x20480, .i1⟩
  | 33 => ⟨S36x20480x20480, .i1⟩
  | 34 => ⟨S36x20480x20480, .i1⟩
  | 35 => ⟨S2x36x20480x20480, .f32⟩
  | 36 => ⟨S1x36x20480x20480, .i1⟩
  | 37 => ⟨S2x36x1x1, .f32⟩
  | 38 => ⟨S2x36x20480x20480, .f32⟩
  | 39 => ⟨S2x36x20480x20480, .f32⟩
  | 40 => ⟨S2x36x20480x20480, .i1⟩
  | 41 => ⟨S_, .f32⟩
  | 42 => ⟨S2x36x20480x20480, .f32⟩
  | 43 => ⟨S2x36x20480x20480, .f32⟩
  | 44 => ⟨S_, .f32⟩
  | 45 => ⟨S2x36x20480, .f32⟩
  | 46 => ⟨S2x36x20480x1, .f32⟩
  | 47 => ⟨S2x36x20480x20480, .f32⟩
  | 48 => ⟨S2x36x20480x20480, .f32⟩
  | 49 => ⟨S2x36x20480x20480, .f32⟩
  | 50 => ⟨S_, .f32⟩
  | 51 => ⟨S2x36x20480, .f32⟩
  | 52 => ⟨S2x36x20480x1, .f32⟩
  | 53 => ⟨S2x36x20480x20480, .f32⟩
  | 54 => ⟨S2x36x20480x20480, .f32⟩
  | 55 => ⟨S2x36x20480x20480, .bf16⟩
  | 56 => ⟨S2x36x20480x128, .bf16⟩
  | 57 => ⟨S2x36x20480x128, .f32⟩
  | 58 => ⟨S2x36x1x1, .f32⟩
  | 59 => ⟨S2x36x20480x128, .f32⟩
  | 60 => ⟨S2x36x20480x128, .f32⟩
  | 61 => ⟨S2x36x20480, .f32⟩
  | 62 => ⟨S2x36x20480, .f32⟩
  | 63 => ⟨S2x36x20480, .f32⟩
  | 64 => ⟨S2x36x20480, .f32⟩
  | 65 => ⟨S1x36x20480x1, .i1⟩
  | 66 => ⟨S2x36x20480x128, .i1⟩
  | 67 => ⟨S_, .f32⟩
  | 68 => ⟨S2x36x20480x128, .f32⟩
  | 69 => ⟨S2x36x20480x128, .f32⟩
  | 70 => ⟨S1x36x20480, .i1⟩
  | 71 => ⟨S2x36x20480, .i1⟩
  | 72 => ⟨S_, .f32⟩
  | 73 => ⟨S2x36x20480, .f32⟩
  | 74 => ⟨S2x36x20480, .f32⟩
  | 75 => ⟨S36x20480, .i32⟩
  | 76 => ⟨S36x20480, .i32⟩
  | 77 => ⟨S_, .i32⟩
  | 78 => ⟨S36x20480, .i32⟩
  | 79 => ⟨S36x20480, .i32⟩
  | 80 => ⟨S_, .i32⟩
  | 81 => ⟨S36x20480, .i32⟩
  | 82 => ⟨S36x20480, .i32⟩
  | 83 => ⟨S_, .i32⟩
  | 84 => ⟨S36x20480, .i32⟩
  | 85 => ⟨S36x20480, .i32⟩
  | 86 => ⟨S36x20480, .i1⟩
  | 87 => ⟨S20480x20480, .i32⟩
  | 88 => ⟨S20480x20480, .i32⟩
  | 89 => ⟨S_, .i32⟩
  | 90 => ⟨S20480x20480, .i32⟩
  | 91 => ⟨S20480x20480, .i32⟩
  | 92 => ⟨S_, .i32⟩
  | 93 => ⟨S20480x20480, .i32⟩
  | 94 => ⟨S20480x20480, .i32⟩
  | 95 => ⟨S20480x20480, .i1⟩
  | 96 => ⟨S36x20480x1, .i1⟩
  | 97 => ⟨S36x1x20480, .i1⟩
  | 98 => ⟨S36x20480x20480, .i1⟩
  | 99 => ⟨S36x20480x20480, .i1⟩
  | 100 => ⟨S36x20480x20480, .i1⟩
  | 101 => ⟨S1x20480x20480, .i1⟩
  | 102 => ⟨S36x20480x20480, .i1⟩
  | 103 => ⟨S36x20480x20480, .i1⟩
  | 104 => ⟨S20480x20480, .i1⟩
  | 105 => ⟨S1x20480x20480, .i1⟩
  | 106 => ⟨S36x20480x20480, .i1⟩
  | 107 => ⟨S36x20480x20480, .i1⟩
  | 108 => ⟨S2x36x20480x20480, .f32⟩
  | 109 => ⟨S1x36x20480x20480, .i1⟩
  | 110 => ⟨S2x36x1x1, .f32⟩
  | 111 => ⟨S2x36x20480x20480, .f32⟩
  | 112 => ⟨S2x36x20480x20480, .f32⟩
  | 113 => ⟨S2x36x20480x20480, .i1⟩
  | 114 => ⟨S_, .f32⟩
  | 115 => ⟨S2x36x20480x20480, .f32⟩
  | 116 => ⟨S2x36x20480x20480, .f32⟩
  | 117 => ⟨S_, .f32⟩
  | 118 => ⟨S2x36x20480, .f32⟩
  | 119 => ⟨S2x36x20480x1, .f32⟩
  | 120 => ⟨S2x36x20480x20480, .f32⟩
  | 121 => ⟨S2x36x20480x20480, .f32⟩
  | 122 => ⟨S2x36x20480x20480, .f32⟩
  | 123 => ⟨S_, .f32⟩
  | 124 => ⟨S2x36x20480, .f32⟩
  | 125 => ⟨S2x36x20480x1, .f32⟩
  | 126 => ⟨S2x36x20480x20480, .f32⟩
  | 127 => ⟨S2x36x20480x20480, .f32⟩
  | _ => ⟨S2x20480x36x128, .fp8e4m3⟩

abbrev hbmTy0_2 (i : Nat) : BufTy := match i % 128 with
  | 0 => ⟨S2x36x20480x20480, .bf16⟩
  | 1 => ⟨S2x36x20480x128, .bf16⟩
  | 2 => ⟨S2x36x20480x128, .f32⟩
  | 3 => ⟨S2x36x1x1, .f32⟩
  | 4 => ⟨S2x36x20480x128, .f32⟩
  | 5 => ⟨S2x36x20480x128, .f32⟩
  | 6 => ⟨S2x36x20480, .f32⟩
  | 7 => ⟨S2x36x20480, .f32⟩
  | 8 => ⟨S2x36x20480, .f32⟩
  | 9 => ⟨S2x36x20480, .f32⟩
  | 10 => ⟨S1x36x20480x1, .i1⟩
  | 11 => ⟨S2x36x20480x128, .i1⟩
  | 12 => ⟨S_, .f32⟩
  | 13 => ⟨S2x36x20480x128, .f32⟩
  | 14 => ⟨S2x36x20480x128, .f32⟩
  | 15 => ⟨S1x36x20480, .i1⟩
  | 16 => ⟨S2x36x20480, .i1⟩
  | 17 => ⟨S_, .f32⟩
  | 18 => ⟨S2x36x20480, .f32⟩
  | 19 => ⟨S2x36x20480, .f32⟩
  | 20 => ⟨S1x2x36x20480, .f32⟩
  | 21 => ⟨S1x2x36x20480, .f32⟩
  | 22 => ⟨S1x2x36x20480, .f32⟩
  | 23 => ⟨S3x2x36x20480, .f32⟩
  | 24 => ⟨S_, .f32⟩
  | 25 => ⟨S2x36x20480, .f32⟩
  | 26 => ⟨S_, .f32⟩
  | 27 => ⟨S2x36x20480, .f32⟩
  | 28 => ⟨S2x36x20480, .f32⟩
  | 29 => ⟨S2x36x20480, .f32⟩
  | 30 => ⟨S_, .f32⟩
  | 31 => ⟨S2x36x20480, .f32⟩
  | 32 => ⟨S2x36x20480, .i1⟩
  | 33 => ⟨S_, .f32⟩
  | 34 => ⟨S2x36x20480, .f32⟩
  | 35 => ⟨S2x36x20480, .f32⟩
  | 36 => ⟨S1x2x36x20480, .f32⟩
  | 37 => ⟨S3x2x36x20480, .f32⟩
  | 38 => ⟨S3x2x36x20480, .f32⟩
  | 39 => ⟨S3x2x36x20480, .f32⟩
  | 40 => ⟨S_, .f32⟩
  | 41 => ⟨S2x36x20480, .f32⟩
  | 42 => ⟨S2x36x20480, .f32⟩
  | 43 => ⟨S2x36x20480, .f32⟩
  | 44 => ⟨S2x36x20480, .f32⟩
  | 45 => ⟨S2x36x20480, .f32⟩
  | 46 => ⟨S2x36x20480, .f32⟩
  | 47 => ⟨S2x36x20480x1, .f32⟩
  | 48 => ⟨S2x36x20480x128, .f32⟩
  | 49 => ⟨S2x36x20480x128, .f32⟩
  | 50 => ⟨S_, .f32⟩
  | 51 => ⟨S2x36x20480x128, .f32⟩
  | 52 => ⟨S2x36x20480x128, .f32⟩
  | 53 => ⟨S2x36x20480, .f32⟩
  | 54 => ⟨S2x36x20480, .f32⟩
  | 55 => ⟨S2x36x20480x1, .f32⟩
  | 56 => ⟨S2x36x20480x128, .f32⟩
  | 57 => ⟨S2x36x20480x128, .f32⟩
  | 58 => ⟨S2x36x20480x128, .f32⟩
  | 59 => ⟨S2x36x20480, .f32⟩
  | 60 => ⟨S2x36x20480, .f32⟩
  | 61 => ⟨S2x36x20480x1, .f32⟩
  | 62 => ⟨S2x36x20480x128, .f32⟩
  | 63 => ⟨S2x36x20480x128, .f32⟩
  | 64 => ⟨S2x36x20480x128, .f32⟩
  | 65 => ⟨S2x20480x36x128, .f32⟩
  | 66 => ⟨S2x20480x4608, .f32⟩
  | 67 => ⟨S2x20480x4608, .bf16⟩
  | 68 => ⟨S2x20480x36, .f32⟩
  | _ => ⟨S2x20480x36x128, .fp8e4m3⟩

abbrev hbmTy (i : Nat) : BufTy := match i / 128 with
  | 0 => hbmTy0_0 i
  | 1 => hbmTy0_1 i
  | 2 => hbmTy0_2 i
  | _ => ⟨S2x20480x36x128, .fp8e4m3⟩

abbrev bufTy : (tb : Table) → Fin (tcTables nBuf tb) → BufTy
  | .hbm, ⟨i, _⟩ => hbmTy i
  | .local _ .vmem, ⟨0, _⟩ => ⟨S2x20480x36x128, .fp8e4m3⟩
  | .local _ .vmem, ⟨1, _⟩ => ⟨S2x20480x18x128, .fp8e4m3⟩
  | .local _ .vmem, ⟨2, _⟩ => ⟨S2x20480x18x128, .fp8e4m3⟩
  | .local _ .vmem, ⟨3, _⟩ => ⟨S2x20480x36x128, .f32⟩
  | .local _ .vmem, ⟨4, _⟩ => ⟨S2x20480x18x128, .f32⟩
  | .local _ .vmem, ⟨5, _⟩ => ⟨S2x20480x18x128, .f32⟩
  | _, _ => ⟨S2x20480x36x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19_0 : Ref sig .tc := ⟨.hbm, 47, rfl⟩
abbrev main_v19_1 : Ref sig .tc := ⟨.hbm, 48, rfl⟩
abbrev main_v19_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_c_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_c_8 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_9 : Ref sig .tc := ⟨.hbm, 96, rfl⟩
abbrev main_v61 : Ref sig .tc := ⟨.hbm, 97, rfl⟩
abbrev main_v62 : Ref sig .tc := ⟨.hbm, 98, rfl⟩
abbrev main_cst_10 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_11 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_12 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_13 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_14 : Ref sig .tc := ⟨.hbm, 132, rfl⟩
abbrev main_v92 : Ref sig .tc := ⟨.hbm, 133, rfl⟩
abbrev main_v93 : Ref sig .tc := ⟨.hbm, 134, rfl⟩
abbrev main_c_15 : Ref sig .tc := ⟨.hbm, 135, rfl⟩
abbrev main_v94 : Ref sig .tc := ⟨.hbm, 136, rfl⟩
abbrev main_v95 : Ref sig .tc := ⟨.hbm, 137, rfl⟩
abbrev main_c_16 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_17 : Ref sig .tc := ⟨.hbm, 144, rfl⟩
abbrev main_v101 : Ref sig .tc := ⟨.hbm, 145, rfl⟩
abbrev main_v102 : Ref sig .tc := ⟨.hbm, 146, rfl⟩
abbrev main_c_18 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_19 : Ref sig .tc := ⟨.hbm, 169, rfl⟩
abbrev main_v124 : Ref sig .tc := ⟨.hbm, 170, rfl⟩
abbrev main_v125 : Ref sig .tc := ⟨.hbm, 171, rfl⟩
abbrev main_cst_20 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_21 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_22 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_23 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_c_24 : Ref sig .tc := ⟨.hbm, 205, rfl⟩
abbrev main_v155 : Ref sig .tc := ⟨.hbm, 206, rfl⟩
abbrev main_v156 : Ref sig .tc := ⟨.hbm, 207, rfl⟩
abbrev main_c_25 : Ref sig .tc := ⟨.hbm, 208, rfl⟩
abbrev main_v157 : Ref sig .tc := ⟨.hbm, 209, rfl⟩
abbrev main_v158 : Ref sig .tc := ⟨.hbm, 210, rfl⟩
abbrev main_c_26 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_27 : Ref sig .tc := ⟨.hbm, 217, rfl⟩
abbrev main_v164 : Ref sig .tc := ⟨.hbm, 218, rfl⟩
abbrev main_v165 : Ref sig .tc := ⟨.hbm, 219, rfl⟩
abbrev main_c_28 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_29 : Ref sig .tc := ⟨.hbm, 242, rfl⟩
abbrev main_v187 : Ref sig .tc := ⟨.hbm, 243, rfl⟩
abbrev main_v188 : Ref sig .tc := ⟨.hbm, 244, rfl⟩
abbrev main_cst_30 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_31 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_cst_32 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_cst_33 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_34 : Ref sig .tc := ⟨.hbm, 280, rfl⟩
abbrev main_v220 : Ref sig .tc := ⟨.hbm, 281, rfl⟩
abbrev main_cst_35 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_cst_36 : Ref sig .tc := ⟨.hbm, 286, rfl⟩
abbrev main_v224 : Ref sig .tc := ⟨.hbm, 287, rfl⟩
abbrev main_v225 : Ref sig .tc := ⟨.hbm, 288, rfl⟩
abbrev main_cst_37 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_cst_38 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_cst_39 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x20480x36x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x20480x18x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x20480x18x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x20480x36x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x20480x18x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x20480x18x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/-
  Several stretches of the kernel's host operations one after another (`runs`): a buffer that none of them writes keeps its
  contents (`runs_of`).
-/
module

public import proofs.«01_k».proof.Proof.Gen.KernelIdeal.Frame.Fold0
public import Idealize.ShloMosaic.Lib.IdealHost
public import Idealize.ShloMosaic.Lib.StableHlo.RunClose
public import Idealize.ShloMosaic.Lib.StableHlo.RunRead

@[expose] public section

noncomputable section

namespace Cert.Dilated

open Idealize.ShloMosaic Idealize.ShloMosaic.TcCoe Idealize.SL Idealize.ShloMosaic.StableHlo
open Cert.KernelIdeal Cert.KernelIdeal.Gen

/-- The kernel's buffers' contents. -/
abbrev Contents := Valuation τ sig (Elt Ideal)
/-- A stretch of the kernel's host operations, with the buffers that it writes. -/
structure Step where
  ops : List (HloOp τ sig (Elt Ideal))
  written : List (Ref sig .tc)
  writes : ops.Forall fun op => op.writes ⊆ (written.map (Proc.devRef (τ := τ) .tc)).toFinset

/-- The contents after several stretches. -/
def runs : List Step → Contents → Contents
  | [], V => V
  | s :: S, V => runs S (after s.ops V)

/-- The buffers that several stretches write. -/
def writtenBy (S : List Step) : List (Ref sig .tc) := S.flatMap Step.written

theorem runs_append (S T : List Step) (V : Contents) : runs (S ++ T) V = runs T (runs S V) := by
  induction S generalizing V with
  | nil => rfl
  | cons s S ih => exact ih _

theorem runs_of {r : Ref sig .tc} (S : List Step) (V : Contents) (hr : r ∉ writtenBy S) : runs S V (Proc.devRef .tc r) = V (Proc.devRef .tc r) := by
  induction S generalizing V with
  | nil => rfl
  | cons s S ih =>
    rw [writtenBy, List.flatMap_cons, List.mem_append, not_or] at hr
    exact (ih (after s.ops V) hr.2).trans (after_of_writes_sub s.ops V s.writes hr.1)

end Cert.Dilated

end
-- ==== Proof.Block.lean ====
/-
  One block of rows of causal attention, for any number of rows and keys: what the kernel computes from one load of
  queries, keys and values (`blockOut`, `blockLse`), and its reading at an index in terms of one row's scores
  (`rowMax`, `rowSum`, `rowOut`, `rowLse`).
-/
module

public import Idealize.ShloMosaic.Lib.Pointwise
public import Idealize.ShloMosaic.Lib.Pointwise.IndexVar
public import Idealize.ShloMosaic.Lib.ValueLayout
public import Idealize.ShloMosaic.Lib.ValueLayoutCasts
public import Idealize.ShloMosaic.Lib.MatmulPlain

@[expose] public section

noncomputable section

namespace Cert.Dilated

open Idealize.ShloMosaic hiding ix1 ix2 ix3 ix4 ix5
open Idealize.ShloMosaic.ValueIdx

/-- The largest of a row's scores (a masked key's score is `⊥`). -/
def rowMax {ι : Type} [Fintype ι] (s : ι → EReal) : EReal := Finset.univ.fold max ⊥ s
/-- The softmax denominator of a row of scores. -/
def rowSum {ι : Type} [Fintype ι] (s : ι → EReal) : EReal := ∑ j, Ideal.exp (s j - rowMax s)
/-- The softmax weight of one key of a row of scores. -/
def rowWeight {ι : Type} [Fintype ι] (s : ι → EReal) (j : ι) : EReal := Ideal.div (Ideal.exp (s j - rowMax s)) (rowSum s)
/-- The log-sum-exp of a row of scores. -/
def rowLse {ι : Type} [Fintype ι] (s : ι → EReal) : EReal := rowMax s + Ideal.log (rowSum s)

/-- The side conditions of the operations below at `R` rows and `N` keys. -/
structure BlockFacts (R N : ℕ) : Prop where
  castQ : (⟨3, ![1, R, 128]⟩ : Shape).ShapeCasts ⟨2, ![R, 128]⟩
  castK : (⟨3, ![1, N, 128]⟩ : Shape).ShapeCasts ⟨2, ![N, 128]⟩
  castO : (⟨2, ![R, 128]⟩ : Shape).ShapeCasts ⟨3, ![1, R, 128]⟩
  castC : (⟨1, ![R]⟩ : Shape).ShapeCasts ⟨2, ![R, 1]⟩
  castL : (⟨2, ![R, 1]⟩ : Shape).ShapeCasts ⟨3, ![1, R, 1]⟩
  iota1 : (⟨2, ![R, N]⟩ : Shape).Iotas .tc 32 [1]
  iota0 : (⟨2, ![R, N]⟩ : Shape).Iotas .tc 32 [0]
  red : (⟨2, ![R, N]⟩ : Shape).Reduces [1] ⟨1, ![R]⟩
  bc : (⟨2, ![R, 1]⟩ : Shape).Broadcasts ⟨2, ![R, N]⟩

variable {R N : ℕ}

/-- The masked scores of rows `i0 …` against keys `0 …`. -/
def blockScores (h : BlockFacts R N) (i0 : BitVec 32) (c : Elt Ideal .f32) (q : FVec Ideal ⟨3, ![1, R, 128]⟩ .fp8e4m3)
    (k : FVec Ideal ⟨3, ![1, N, 128]⟩ .fp8e4m3) : FVec Ideal ⟨2, ![R, N]⟩ .f32 :=
  select (cmpi .sle (iota .tc _ 32 [1] h.iota1) (addi (iota .tc _ 32 [0] h.iota0) (broadcast _ i0)))
    (mulf (matmul (DotDims.transposedRhs R 128 N) none (shapeCast _ q h.castQ) (shapeCast _ k h.castK) (constant _ .f32 0x00000000#32))
      (broadcast _ c))
    (broadcast _ (Scalar.ofBits .f32 0xFF800000#32))
/-- The rows' largest scores. -/
def blockMax (h : BlockFacts R N) (i0 : BitVec 32) (c : Elt Ideal .f32) (q : FVec Ideal ⟨3, ![1, R, 128]⟩ .fp8e4m3)
    (k : FVec Ideal ⟨3, ![1, N, 128]⟩ .fp8e4m3) : FVec Ideal ⟨2, ![R, 1]⟩ .f32 :=
  shapeCast _ (multiReduction .maximumf [1] ⟨1, ![R]⟩ (blockScores h i0 c q k) 0xFF800000#32 h.red (.inl rfl) rfl) h.castC
/-- The exponentials of the scores less the rows' largest. -/
def blockExp (h : BlockFacts R N) (i0 : BitVec 32) (c : Elt Ideal .f32) (q : FVec Ideal ⟨3, ![1, R, 128]⟩ .fp8e4m3)
    (k : FVec Ideal ⟨3, ![1, N, 128]⟩ .fp8e4m3) : FVec Ideal ⟨2, ![R, N]⟩ .f32 :=
  exp (subf (blockScores h i0 c q k) (broadcastTo _ (blockMax h i0 c q k) h.bc))
/-- The rows' softmax denominators. -/
def blockSum (h : BlockFacts R N) (i0 : BitVec 32) (c : Elt Ideal .f32) (q : FVec Ideal ⟨3, ![1, R, 128]⟩ .fp8e4m3)
    (k : FVec Ideal ⟨3, ![1, N, 128]⟩ .fp8e4m3) : FVec Ideal ⟨2, ![R, 1]⟩ .f32 :=
  shapeCast _ (multiReduction .add [1] ⟨1, ![R]⟩ (blockExp h i0 c q k) 0x00000000#32 h.red (.inl rfl) rfl) h.castC
/-- What the kernel stores of a block's attention. -/
def blockOut (h : BlockFacts R N) (i0 : BitVec 32) (c vs : Elt Ideal .f32) (q : FVec Ideal ⟨3, ![1, R, 128]⟩ .fp8e4m3)
    (k v : FVec Ideal ⟨3, ![1, N, 128]⟩ .fp8e4m3) : FVec Ideal ⟨3, ![1, R, 128]⟩ .f32 :=
  shapeCast _ (mulf (matmul (DotDims.plain R N 128) none
      (truncf .bf16 (divf (blockExp h i0 c q k) (broadcastTo _ (blockSum h i0 c q k) h.bc)) (by decide))
      (extf .bf16 (shapeCast _ v h.castK) (by decide)) (constant _ .f32 0x00000000#32))
    (broadcast _ vs)) h.castO
/-- What the kernel stores of a block's log-sum-exps. -/
def blockLse (h : BlockFacts R N) (i0 : BitVec 32) (c : Elt Ideal .f32) (q : FVec Ideal ⟨3, ![1, R, 128]⟩ .fp8e4m3)
    (k : FVec Ideal ⟨3, ![1, N, 128]⟩ .fp8e4m3) : FVec Ideal ⟨3, ![1, R, 1]⟩ .f32 :=
  shapeCast _ (addf (blockMax h i0 c q k) (log (blockSum h i0 c q k))) h.castL

/-- Row `i`'s score against key `j`, the row standing at position `i0 + r`: `⊥` where the key comes after the row. -/
def blockScore (i0 : ℕ) (c : EReal) (q : Fin R → Fin 128 → EReal) (k : Fin N → Fin 128 → EReal) (r : Fin R) (j : Fin N) : EReal :=
  if j.val ≤ r.val + i0 then (∑ d, q r d * k j d) * c else ⊥

/-- The word the kernel masks a score with is minus infinity. -/
theorem negInf : Ideal.ofBits .f32 0xFF800000#32 = ⊥ := by simp [Ideal.ofBits, Ideal.ieee]

theorem broadcastTo_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sle_small (a b : ℕ) (ha : a < 2 ^ 31) (hb : b < 2 ^ 31) :
    (BitVec.sle (BitVec.ofNat 32 a) (BitVec.ofNat 32 b)) = decide (a ≤ b) := by
  rw [Bool.eq_iff_iff, BitVec.sle_iff_toInt_le, decide_eq_true_iff, BitVec.toInt_eq_toNat_of_lt, BitVec.toInt_eq_toNat_of_lt] <;>
    simp only [BitVec.toNat_ofNat] <;> omega

theorem blockScores_apply (h : BlockFacts R N) (i0 : ℕ) (hN : N < 2 ^ 31) (hR : R + i0 < 2 ^ 31) (c : Elt Ideal .f32)
    (q : FVec Ideal ⟨3, ![1, R, 128]⟩ .fp8e4m3) (k : FVec Ideal ⟨3, ![1, N, 128]⟩ .fp8e4m3) (r : Fin R) (j : Fin N) :
    blockScores h (BitVec.ofNat 32 i0) c q k (ix2 r j)
      = blockScore i0 c (fun r d => q (ix3 0 r d)) (fun j d => k (ix3 0 j d)) r j := by
  have hm : matmul (DotDims.transposedRhs R 128 N) none (shapeCast _ q h.castQ) (shapeCast _ k h.castK) (constant _ .f32 0x00000000#32)
      (ix2 r j) = ∑ d, q (ix3 0 r d) * k (ix3 0 j d) := by
    refine (Ideal.matmul_transposedRhs_apply none _ _ _ r j).trans ?_
    rw [show (constant (F := Ideal) ⟨2, ![R, N]⟩ .f32 0x00000000#32) (ix2 r j) = 0 from Ideal.ofBits_zero_f32, zero_add]
    exact Finset.sum_congr rfl fun d _ => by
      rw [ValueIdx.shapeCast_1ab_ab_apply q h.castQ r d, ValueIdx.shapeCast_1ab_ab_apply k h.castK j d]
  have hb : (cmpi .sle (iota .tc _ 32 [1] h.iota1) (addi (iota .tc _ 32 [0] h.iota0) (broadcast _ (BitVec.ofNat 32 i0)))) (ix2 r j)
      = BitVec.ofBool (decide (j.val ≤ r.val + i0)) := by
    rw [← sle_small j.val (r.val + i0) (by omega) (by omega), BitVec.ofNat_add]
    show BitVec.ofBool (BitVec.sle (iota .tc _ 32 [1] h.iota1 (ix2 r j)) (iota .tc _ 32 [0] h.iota0 (ix2 r j) + BitVec.ofNat 32 i0)) = _
    rw [iota_single_apply, iota_single_apply]
    rfl
  have hs : (constant (F := Ideal) ⟨2, ![R, N]⟩ .f32 0xFF800000#32) (ix2 r j) = (⊥ : EReal) := by
    exact negInf
  show (if (cmpi .sle (iota .tc _ 32 [1] h.iota1) (addi (iota .tc _ 32 [0] h.iota0) (broadcast _ (BitVec.ofNat 32 i0)))) (ix2 r j) = 1 then
    matmul (DotDims.transposedRhs R 128 N) none (shapeCast _ q h.castQ) (shapeCast _ k h.castK) (constant _ .f32 0x00000000#32)
      (ix2 r j) * c else (constant (F := Ideal) ⟨2, ![R, N]⟩ .f32 0xFF800000#32) (ix2 r j)) = _
  rw [hm, hb, hs]
  unfold blockScore
  by_cases hj : j.val ≤ r.val + i0 <;> simp [hj]

theorem lift_row (h : (⟨2, ![R, N]⟩ : Shape).Reduces [1] ⟨1, ![R]⟩) (r : Fin R) (j : Fin N) : h.lift (ix1 r) j = ix2 r j := by
  funext a
  match a with
  | ⟨0, _⟩ => rfl
  | ⟨1, _⟩ => rfl

theorem blockMax_apply (h : BlockFacts R N) (i0 : BitVec 32) (c : Elt Ideal .f32) (q : FVec Ideal ⟨3, ![1, R, 128]⟩ .fp8e4m3)
    (k : FVec Ideal ⟨3, ![1, N, 128]⟩ .fp8e4m3) (r : Fin R) (u : Fin 1) :
    blockMax h i0 c q k (ix2 r u) = rowMax fun j => blockScores h i0 c q k (ix2 r j) := by
  refine (ValueIdx.shapeCast_a_a1_apply _ h.castC r u).trans ((Ideal.multiReduction_maximumf_single _ _ h.red _ _ _).trans ?_)
  unfold rowMax
  rw [show (FloatOps.ofBits (F := Ideal) .f32 0xFF800000#32) = (⊥ : EReal) from negInf]
  exact congrArg (fun f => Finset.univ.fold max ⊥ f) (funext fun j => congrArg (blockScores h i0 c q k) (lift_row h.red r j))

theorem blockExp_apply (h : BlockFacts R N) (i0 : BitVec 32) (c : Elt Ideal .f32) (q : FVec Ideal ⟨3, ![1, R, 128]⟩ .fp8e4m3)
    (k : FVec Ideal ⟨3, ![1, N, 128]⟩ .fp8e4m3) (r : Fin R) (j : Fin N) :
    blockExp h i0 c q k (ix2 r j)
      = Ideal.exp (blockScores h i0 c q k (ix2 r j) - rowMax fun j => blockScores h i0 c q k (ix2 r j)) := by
  show Ideal.exp (blockScores h i0 c q k (ix2 r j) - broadcastTo _ (blockMax h i0 c q k) h.bc (ix2 r j)) = _
  rw [← blockMax_apply h i0 c q k r 0, broadcastTo_col]

theorem blockSum_apply (h : BlockFacts R N) (i0 : BitVec 32) (c : Elt Ideal .f32) (q : FVec Ideal ⟨3, ![1, R, 128]⟩ .fp8e4m3)
    (k : FVec Ideal ⟨3, ![1, N, 128]⟩ .fp8e4m3) (r : Fin R) (u : Fin 1) :
    blockSum h i0 c q k (ix2 r u) = rowSum fun j => blockScores h i0 c q k (ix2 r j) := by
  refine (ValueIdx.shapeCast_a_a1_apply _ h.castC r u).trans ((Ideal.multiReduction_add_single _ _ h.red _ _ _).trans ?_)
  unfold rowSum
  exact Finset.sum_congr rfl fun j _ => (congrArg _ (lift_row h.red r j)).trans (blockExp_apply h i0 c q k r j)

/-- The block's output row `r`: the values weighted by the softmax of the row's scores, times the value scale. -/
theorem blockOut_apply (h : BlockFacts R N) (i0 : BitVec 32) (c vs : Elt Ideal .f32) (q : FVec Ideal ⟨3, ![1, R, 128]⟩ .fp8e4m3)
    (k v : FVec Ideal ⟨3, ![1, N, 128]⟩ .fp8e4m3) (u : Fin 1) (r : Fin R) (d : Fin 128) :
    blockOut h i0 c vs q k v (ix3 u r d)
      = (∑ j, rowWeight (fun j => blockScores h i0 c q k (ix2 r j)) j * v (ix3 0 j d)) * vs := by
  refine (ValueIdx.shapeCast_ab_1ab_apply _ h.castO u r d).trans ?_
  refine congrArg (· * vs) ((Ideal.matmul_plain_apply none _ _ _ r d).trans ?_)
  rw [show (constant (F := Ideal) ⟨2, ![R, 128]⟩ .f32 0x00000000#32) (ix2 r d) = 0 from Ideal.ofBits_zero_f32, zero_add]
  refine Finset.sum_congr rfl fun j _ => ?_
  refine congrArg₂ (· * ·) ?_ (ValueIdx.shapeCast_1ab_ab_apply v h.castK j d)
  unfold rowWeight
  rw [← blockExp_apply, ← blockSum_apply h i0 c q k r 0]
  refine congrArg (Ideal.div _) ?_
  rw [broadcastTo_col]

/-- The block's log-sum-exp of row `r`. -/
theorem blockLse_apply (h : BlockFacts R N) (i0 : BitVec 32) (c : Elt Ideal .f32) (q : FVec Ideal ⟨3, ![1, R, 128]⟩ .fp8e4m3)
    (k : FVec Ideal ⟨3, ![1, N, 128]⟩ .fp8e4m3) (u : Fin 1) (r : Fin R) (w : Fin 1) :
    blockLse h i0 c q k (ix3 u r w) = rowLse fun j => blockScores h i0 c q k (ix2 r j) := by
  refine (ValueIdx.shapeCast_ab_1ab_apply _ h.castL u r w).trans ?_
  unfold rowLse
  rw [← blockMax_apply h i0 c q k r w, ← blockSum_apply h i0 c q k r w]
  rfl

/-- The side conditions at the block sizes the kernel takes: 256 rows against 256, 512, … keys, and 192 against 704. -/
theorem facts256 : BlockFacts 256 256 := by constructor <;> decide
theorem facts512 : BlockFacts 256 512 := by constructor <;> decide
theorem facts768 : BlockFacts 256 768 := by constructor <;> decide
theorem facts1024 : BlockFacts 256 1024 := by constructor <;> decide
theorem facts1280 : BlockFacts 256 1280 := by constructor <;> decide
theorem facts1536 : BlockFacts 256 1536 := by constructor <;> decide
theorem facts1792 : BlockFacts 256 1792 := by constructor <;> decide
theorem facts2048 : BlockFacts 256 2048 := by constructor <;> decide
theorem facts704 : BlockFacts 192 704 := by constructor <;> decide

end Cert.Dilated

end
end
-- ==== Proof.Rows.lean ====
/-
  Softmax rows: what a row's largest score, denominator and weights are when the scores are listed by other keys, the
  keys left out having score `⊥`.
-/
module

public import proofs.«01_k».proof.Proof.Block

@[expose] public section

noncomputable section

namespace Cert.Dilated

open Idealize.ShloMosaic hiding ix1 ix2 ix3 ix4 ix5

variable {α β : Type} [Fintype α] [Fintype β]

theorem exp_bot_sub (m : EReal) : Ideal.exp (⊥ - m) = 0 := by
  rw [sub_eq_add_neg, EReal.bot_add]
  rfl

/-- Keys whose score is `⊥` do not change the largest score. -/
theorem rowMax_of_range (f : α → β) (s : β → EReal) (t : α → EReal) (ht : ∀ a, s (f a) = t a)
    (h : ∀ b, (∀ a, f a ≠ b) → s b = ⊥) : rowMax s = rowMax t := by
  apply le_antisymm
  · refine (Finset.fold_max_le _).2 ⟨bot_le, fun b _ => ?_⟩
    by_cases hb : ∃ a, f a = b
    · obtain ⟨a, rfl⟩ := hb
      exact (Finset.le_fold_max _).2 (.inr ⟨a, Finset.mem_univ _, (ht a).le⟩)
    · rw [h b fun a e => hb ⟨a, e⟩]
      exact bot_le
  · refine (Finset.fold_max_le _).2 ⟨bot_le, fun a _ => ?_⟩
    exact (Finset.le_fold_max _).2 (.inr ⟨f a, Finset.mem_univ _, (ht a).ge⟩)

/-- A sum whose other terms are zero is the sum over the listed keys. -/
theorem sum_of_range (f : α → β) (hf : Function.Injective f) (g : β → EReal) (h : ∀ b, (∀ a, f a ≠ b) → g b = 0) :
    ∑ b, g b = ∑ a, g (f a) :=
  (Fintype.sum_of_injective f hf _ _ (fun b hb => h b fun a e => hb ⟨a, e⟩) fun _ => rfl).symm

/-- Keys whose score is `⊥` do not change the denominator. -/
theorem rowSum_of_range (f : α → β) (hf : Function.Injective f) (s : β → EReal) (t : α → EReal) (ht : ∀ a, s (f a) = t a)
    (h : ∀ b, (∀ a, f a ≠ b) → s b = ⊥) : rowSum s = rowSum t := by
  unfold rowSum
  rw [rowMax_of_range f s t ht h, sum_of_range f hf _ fun b hb => by rw [h b hb, exp_bot_sub]]
  exact Finset.sum_congr rfl fun a _ => by rw [ht a]

theorem rowWeight_of_range (f : α → β) (hf : Function.Injective f) (s : β → EReal) (t : α → EReal) (ht : ∀ a, s (f a) = t a)
    (h : ∀ b, (∀ a, f a ≠ b) → s b = ⊥) (a : α) : rowWeight s (f a) = rowWeight t a := by
  unfold rowWeight
  rw [rowMax_of_range f s t ht h, rowSum_of_range f hf s t ht h, ht a]

theorem rowLse_of_range (f : α → β) (hf : Function.Injective f) (s : β → EReal) (t : α → EReal) (ht : ∀ a, s (f a) = t a)
    (h : ∀ b, (∀ a, f a ≠ b) → s b = ⊥) : rowLse s = rowLse t := by
  unfold rowLse
  rw [rowMax_of_range f s t ht h, rowSum_of_range f hf s t ht h]

/-! ## One sequence of `n` slots -/

/-- Slot `i`'s score against slot `j`: their product times the scale where `j` is no later than `i`, else `⊥`. -/
def slotScore {n : ℕ} (c : EReal) (q k : Fin n → Fin 128 → EReal) (i j : Fin n) : EReal :=
  if j.val ≤ i.val then (∑ d, q i d * k j d) * c else ⊥

/-- Causal attention of slot `i`: the values weighted by the softmax of its scores, over the keys up to the end of the
block of 256 slots that `i` stands in, times the value scale. -/
def slotOut {n : ℕ} (c vs : EReal) (q k v : Fin n → Fin 128 → EReal) (i : Fin n) (d : Fin 128) : EReal :=
  (∑ j, (if j.val / 256 ≤ i.val / 256 then rowWeight (slotScore c q k i) j else 0) * v j d) * vs

/-- The log-sum-exp of slot `i`'s scores. -/
def slotLse {n : ℕ} (c : EReal) (q k : Fin n → Fin 128 → EReal) (i : Fin n) : EReal := rowLse (slotScore c q k i)

/-! ### Where the end of the block matters

The weights of keys later than the slot are 0 unless the row's denominator is 0, which it is not for finite codes and scale:
there `slotOut` is the plain softmax attention over all keys. -/

theorem exp_nonneg (x : EReal) : 0 ≤ Ideal.exp x := by
  induction x with
  | bot => exact le_rfl
  | top => exact le_top
  | coe r => exact EReal.coe_nonneg.2 (Real.exp_pos r).le

/-- A row with a finite score and no infinite one has a denominator that is not 0. -/
theorem rowSum_ne_zero (s : α → EReal) (a : α) (r : ℝ) (ha : s a = r) (ht : ∀ b, s b < ⊤) : rowSum s ≠ 0 := by
  have hm : rowMax s < ⊤ := (Finset.fold_max_lt _).2 ⟨bot_lt_top, fun b _ => ht b⟩
  have hb : (r : EReal) ≤ rowMax s := (Finset.le_fold_max _).2 (.inr ⟨a, Finset.mem_univ _, ha.ge⟩)
  obtain ⟨t, ht'⟩ : ∃ t : ℝ, rowMax s = t :=
    ⟨(rowMax s).toReal, (EReal.coe_toReal hm.ne (ne_bot_of_le_ne_bot (EReal.coe_ne_bot r) hb)).symm⟩
  have h1 : Ideal.exp (s a - rowMax s) = ((Real.exp (r - t) : ℝ) : EReal) := by rw [ha, ht', ← EReal.coe_sub]; rfl
  have h2 : Ideal.exp (s a - rowMax s) ≤ rowSum s :=
    Finset.single_le_sum (f := fun b => Ideal.exp (s b - rowMax s)) (fun b _ => exp_nonneg _) (Finset.mem_univ a)
  rw [h1] at h2
  exact (lt_of_lt_of_le (EReal.coe_pos.2 (Real.exp_pos _)) h2).ne'

/-- Finite codes and a finite scale give every slot a denominator that is not 0. -/
theorem slotSum_ne_zero {n : ℕ} (c : ℝ) (q k : Fin n → Fin 128 → ℝ) (i : Fin n) :
    rowSum (slotScore (c : EReal) (fun s d => (q s d : EReal)) (fun s d => (k s d : EReal)) i) ≠ 0 := by
  have hs : ∀ j, (∑ d, (q i d : EReal) * (k j d : EReal)) * (c : EReal) = (((∑ d, q i d * k j d) * c : ℝ) : EReal) := fun j => by
    rw [EReal.coe_mul]
    refine congrArg (· * (c : EReal)) (Eq.symm ?_)
    exact (map_sum (⟨⟨fun r : ℝ => (r : EReal), EReal.coe_zero⟩, EReal.coe_add⟩ : ℝ →+ EReal) _ _).trans
      (Finset.sum_congr rfl fun d _ => EReal.coe_mul _ _)
  refine rowSum_ne_zero _ i ((∑ d, q i d * k i d) * c) ?_ fun j => ?_
  · exact (if_pos le_rfl).trans (hs i)
  · unfold slotScore
    split
    · rw [hs]; exact EReal.coe_lt_top _
    · exact bot_lt_top

/-- Where the denominator is not 0, a slot's attention is the softmax attention over all keys. -/
theorem slotOut_plain {n : ℕ} (c vs : EReal) (q k v : Fin n → Fin 128 → EReal) (i : Fin n) (d : Fin 128)
    (hl : rowSum (slotScore c q k i) ≠ 0) : slotOut c vs q k v i d = (∑ j, rowWeight (slotScore c q k i) j * v j d) * vs := by
  unfold slotOut
  refine congrArg (· * vs) (Finset.sum_congr rfl fun j _ => ?_)
  split
  · rfl
  · next hj =>
    have hb : slotScore c q k i j = ⊥ := if_neg fun h => hj (Nat.div_le_div_right h)
    unfold rowWeight Ideal.div
    rw [if_neg hl, hb, exp_bot_sub, zero_mul, zero_mul, zero_mul]

variable {n R N : ℕ}

/-- Row `r` of the block at `i0` scores the first `N` slots as slot `i0 + r` does. -/
theorem blockScore_eq (i0 : ℕ) (hN : N ≤ n) (hR : i0 + R ≤ n) (c : EReal) (q k : Fin n → Fin 128 → EReal) (r : Fin R)
    (j : Fin N) :
    slotScore c q k ⟨i0 + r.val, by omega⟩ ⟨j.val, by omega⟩
      = blockScore i0 c (fun (r : Fin R) d => q ⟨i0 + r.val, by omega⟩ d) (fun (j : Fin N) d => k ⟨j.val, by omega⟩ d) r j := by
  unfold slotScore blockScore
  simp only [Nat.add_comm]

theorem slotScore_bot (i0 : ℕ) (hN : N ≤ n) (hR : i0 + R ≤ N) (c : EReal) (q k : Fin n → Fin 128 → EReal) (r : Fin R)
    (b : Fin n) (hb : ∀ j : Fin N, (⟨j.val, by omega⟩ : Fin n) ≠ b) : slotScore c q k ⟨i0 + r.val, by omega⟩ b = ⊥ := by
  have hb' : N ≤ b.val := by
    by_contra hlt
    exact hb ⟨b.val, by omega⟩ rfl
  unfold slotScore
  rw [if_neg]
  show ¬ b.val ≤ i0 + r.val
  omega

/-- A block whose rows stand in the 256 slots from `i0` and whose keys end with the block computes those slots' attention. -/
theorem slotOut_block (i0 : ℕ) (h0 : i0 % 256 = 0) (hR : R ≤ 256) (hN : i0 + R = N) (hn : N ≤ n) (hl : N = i0 + 256 ∨ N = n)
    (c vs : EReal) (q k v : Fin n → Fin 128 → EReal) (r : Fin R) (d : Fin 128) :
    (∑ j : Fin N, rowWeight (blockScore i0 c (fun (r : Fin R) d => q ⟨i0 + r.val, by omega⟩ d) (fun (j : Fin N) d => k ⟨j.val, by omega⟩ d) r) j
        * v ⟨j.val, by omega⟩ d) * vs
      = slotOut c vs q k v ⟨i0 + r.val, by omega⟩ d := by
  have hf : Function.Injective (fun j : Fin N => (⟨j.val, by omega⟩ : Fin n)) := fun a b e => Fin.ext (by simpa using e)
  unfold slotOut
  refine congrArg (· * vs) (Eq.symm ?_)
  rw [sum_of_range (fun j : Fin N => (⟨j.val, by omega⟩ : Fin n)) hf]
  · refine Finset.sum_congr rfl fun j _ => ?_
    rw [if_pos (by show j.val / 256 ≤ (i0 + r.val) / 256; omega),
      rowWeight_of_range (fun j : Fin N => (⟨j.val, by omega⟩ : Fin n)) hf _ _
        (fun j => blockScore_eq i0 hn (by omega) c q k r j) fun b hb => slotScore_bot i0 hn (by omega) c q k r b hb]
  · intro b hb
    have hb' : N ≤ b.val := by
      by_contra hlt
      exact hb ⟨b.val, by omega⟩ rfl
    have := b.isLt
    rw [if_neg (by show ¬ b.val / 256 ≤ (i0 + r.val) / 256; omega), zero_mul]

theorem slotLse_block (i0 : ℕ) (hN : i0 + R = N) (hn : N ≤ n)
    (c : EReal) (q k : Fin n → Fin 128 → EReal) (r : Fin R) :
    rowLse (blockScore i0 c (fun (r : Fin R) d => q ⟨i0 + r.val, by omega⟩ d) (fun (j : Fin N) d => k ⟨j.val, by omega⟩ d) r)
      = slotLse c q k ⟨i0 + r.val, by omega⟩ := by
  have hf : Function.Injective (fun j : Fin N => (⟨j.val, by omega⟩ : Fin n)) := fun a b e => Fin.ext (by simpa using e)
  exact (rowLse_of_range (fun j : Fin N => (⟨j.val, by omega⟩ : Fin n)) hf _ _
        (fun j => blockScore_eq i0 hn (by omega) c q k r j) fun b hb => slotScore_bot i0 hn (by omega) c q k r b hb).symm

end Cert.Dilated

end
end
-- ==== Proof.Positions.lean ====
/-
  One dilated pattern of the whole kernel, written over the sequence's own positions: which positions a head takes, which
  pairs of them meet, and the attention and log-sum-exp that come of it.
-/
module

public import proofs.«01_k».proof.Proof.Rows
public import Idealize.ShloMosaic.Lib.ValueIdx

@[expose] public section

noncomputable section

namespace Cert.Dilated

open Idealize.ShloMosaic hiding ix1 ix2 ix3 ix4 ix5
open Idealize.ShloMosaic.ValueIdx

/-- Head `h` takes position `t`: every `dl`-th of each segment of `sg` positions, starting at the head's own offset. -/
abbrev Takes (sg dl h t : ℕ) : Prop := t % sg % dl = h % dl
/-- Head `h` takes both positions and they are of one segment. -/
abbrev Meets (sg dl h t u : ℕ) : Prop := (Takes sg dl h t ∧ Takes sg dl h u) ∧ t / sg = u / sg
/-- The block of 256 taken positions that a position stands in. -/
abbrev blockOf (sg dl t : ℕ) : ℕ := t % sg / dl / 256

/-- Position `t`'s score against position `u`. -/
def posScore (sg dl h : ℕ) (c : EReal) (q k : Fin 20480 → Fin 128 → EReal) (t u : Fin 20480) : EReal :=
  if Meets sg dl h t.val u.val ∧ u.val ≤ t.val then (∑ d, q t d * k u d) * c else ⊥

/-- Position `t`'s attention, 0 where the head does not take the position. -/
def posOut (sg dl h : ℕ) (c vs : EReal) (q k v : Fin 20480 → Fin 128 → EReal) (t : Fin 20480) (d : Fin 128) : EReal :=
  if Takes sg dl h t.val then
    (∑ u, (if Meets sg dl h t.val u.val ∧ blockOf sg dl u.val ≤ blockOf sg dl t.val then rowWeight (posScore sg dl h c q k t) u else 0)
      * v u d) * vs
  else 0

/-- Position `t`'s log-sum-exp, `⊥` where the head does not take the position. -/
def posLse (sg dl h : ℕ) (c : EReal) (q k : Fin 20480 → Fin 128 → EReal) (t : Fin 20480) : EReal :=
  if Takes sg dl h t.val then rowLse (posScore sg dl h c q k t) else ⊥

/-- One pattern's attention of every head. -/
def dilOut (sg dl : ℕ) (c vs : (⟨2, ![2, 36]⟩ : Shape).Idx → EReal) (q k v : (⟨4, ![2, 36, 20480, 128]⟩ : Shape).Idx → EReal) :
    (⟨4, ![2, 36, 20480, 128]⟩ : Shape).Idx → EReal :=
  fun y => posOut sg dl (y 1).val (c (ix2 (y 0) (y 1))) (vs (ix2 (y 0) (y 1))) (fun t d => q (ix4 (y 0) (y 1) t d))
    (fun t d => k (ix4 (y 0) (y 1) t d)) (fun t d => v (ix4 (y 0) (y 1) t d)) (y 2) (y 3)
/-- One pattern's log-sum-exps of every head. -/
def dilLse (sg dl : ℕ) (c : (⟨2, ![2, 36]⟩ : Shape).Idx → EReal) (q k : (⟨4, ![2, 36, 20480, 128]⟩ : Shape).Idx → EReal) :
    (⟨3, ![2, 36, 20480]⟩ : Shape).Idx → EReal :=
  fun y => posLse sg dl (y 1).val (c (ix2 (y 0) (y 1))) (fun t d => q (ix4 (y 0) (y 1) t d)) (fun t d => k (ix4 (y 0) (y 1) t d)) (y 2)

end Cert.Dilated

end
-- ==== Proof.Slots.lean ====
/-
  A row of slots against the sequence's positions: the slots that a head takes of one segment hold that segment's taken
  positions in order, the others hold zero codes, and a row's attention and log-sum-exp over its slots are the pattern's
  over the positions (`slotLse_eq_posLse`, `slotOut_eq_posOut`).
-/
module

public import proofs.«01_k».proof.Proof.Positions

@[expose] public section

noncomputable section

namespace Cert.Dilated

open Idealize.ShloMosaic hiding ix1 ix2 ix3 ix4 ix5
open Idealize.ShloMosaic.ValueIdx

/-- Segment number `S` of a pattern is the `L` positions from `base`: a whole segment, or the last one cut short by the end
of the sequence. Its taken positions fit into `np` slots. -/
structure Segment (sg dl S base L np : ℕ) : Prop where
  dl0 : 0 < dl
  base_eq : base = S * sg
  len_pos : 0 < L
  len_le : L ≤ sg
  fits : base + L ≤ 20480
  full : L = sg ∨ base + L = 20480
  slots : L ≤ np * dl

variable {sg dl S base L np : ℕ}

theorem Segment.div_eq (e : Segment sg dl S base L np) {x : ℕ} (hx : x < L) : (base + x) / sg = S := by
  have h1 := e.base_eq
  have h2 := e.len_le
  rw [h1, Nat.mul_comm, Nat.mul_add_div (by omega), Nat.div_eq_of_lt (by omega), Nat.add_zero]

theorem Segment.mod_eq (e : Segment sg dl S base L np) {x : ℕ} (hx : x < L) : (base + x) % sg = x := by
  have h1 := e.base_eq
  have h2 := e.len_le
  rw [h1, Nat.mul_comm, Nat.mul_add_mod, Nat.mod_eq_of_lt (by omega)]

/-- A position of the segment is `base` and its place in the segment. -/
theorem Segment.place (e : Segment sg dl S base L np) {t : ℕ} (ht : t < 20480) (hs : t / sg = S) : t = base + t % sg ∧ t % sg < L := by
  have h1 := e.base_eq
  have h2 := e.len_le
  have h3 := e.len_pos
  have h4 := Nat.div_add_mod t sg
  have h5 : t % sg < sg := Nat.mod_lt _ (by omega)
  rw [hs, Nat.mul_comm, ← h1] at h4
  refine ⟨h4.symm, ?_⟩
  rcases e.full with h | h <;> omega

/-- Whether slot `i` of a head at offset `off` holds a position. -/
abbrev Real (dl L off : ℕ) (i : ℕ) : Prop := i * dl + off < L

/-- The slots that hold a position. -/
abbrev Slot (np dl L off : ℕ) : Type := {i : Fin np // Real dl L off i.val}

theorem Segment.at_lt (e : Segment sg dl S base L np) {off i : ℕ} (hi : Real dl L off i) : base + (i * dl + off) < 20480 := by
  have := e.fits
  have : i * dl + off < L := hi
  omega

/-- The position a slot holds. -/
def Segment.at (e : Segment sg dl S base L np) (off : ℕ) (a : Slot np dl L off) : Fin 20480 :=
  ⟨base + (a.1.val * dl + off), e.at_lt a.2⟩

theorem Segment.at_inj (e : Segment sg dl S base L np) (off : ℕ) : Function.Injective (e.at off) := fun a b h => by
  have h1 : base + (a.1.val * dl + off) = base + (b.1.val * dl + off) := congrArg Fin.val h
  have h2 : a.1.val * dl = b.1.val * dl := by omega
  exact Subtype.ext (Fin.ext (Nat.eq_of_mul_eq_mul_right e.dl0 h2))

theorem Segment.takes (e : Segment sg dl S base L np) {h i : ℕ} (hi : Real dl L (h % dl) i) : Takes sg dl h (base + (i * dl + h % dl)) := by
  show (base + (i * dl + h % dl)) % sg % dl = h % dl
  rw [e.mod_eq hi, Nat.mul_comm, Nat.mul_add_mod, Nat.mod_mod]

theorem Segment.block (e : Segment sg dl S base L np) {h i : ℕ} (hi : Real dl L (h % dl) i) :
    blockOf sg dl (base + (i * dl + h % dl)) = i / 256 := by
  show (base + (i * dl + h % dl)) % sg / dl / 256 = _
  rw [e.mod_eq hi, Nat.mul_comm, Nat.mul_add_div e.dl0, Nat.div_eq_of_lt (Nat.mod_lt _ e.dl0), Nat.add_zero]

theorem Segment.meets (e : Segment sg dl S base L np) {h i j : ℕ} (hi : Real dl L (h % dl) i) (hj : Real dl L (h % dl) j) :
    Meets sg dl h (base + (i * dl + h % dl)) (base + (j * dl + h % dl)) :=
  ⟨⟨e.takes hi, e.takes hj⟩, (e.div_eq hi).trans (e.div_eq hj).symm⟩

/-- A position that meets one of the segment's is held by a slot. -/
theorem Segment.slot_of_meets (e : Segment sg dl S base L np) {h i : ℕ} (hi : Real dl L (h % dl) i) (u : Fin 20480)
    (hu : Meets sg dl h (base + (i * dl + h % dl)) u.val) : ∃ a : Slot np dl L (h % dl), e.at (h % dl) a = u := by
  obtain ⟨h1, h2⟩ := e.place u.isLt (hu.2.symm.trans (e.div_eq hi))
  have h3 : u.val % sg % dl = h % dl := hu.1.2
  have h4 := Nat.div_add_mod (u.val % sg) dl
  rw [h3, Nat.mul_comm] at h4
  have h5 : u.val % sg / dl < np := (Nat.div_lt_iff_lt_mul e.dl0).2 (lt_of_lt_of_le h2 e.slots)
  refine ⟨⟨⟨u.val % sg / dl, h5⟩, ?_⟩, Fin.ext ?_⟩
  · show u.val % sg / dl * dl + h % dl < L
    omega
  · show base + (u.val % sg / dl * dl + h % dl) = u.val
    omega

/-- A row of slots holds the segment's taken positions. -/
def Holds (e : Segment sg dl S base L np) (h : ℕ) (x : Fin np → Fin 128 → EReal) (y : Fin 20480 → Fin 128 → EReal) : Prop :=
  ∀ i d, x i d = if hi : Real dl L (h % dl) i.val then y ⟨base + (i.val * dl + h % dl), e.at_lt hi⟩ d else 0

section Row
variable (e : Segment sg dl S base L np) {h : ℕ} (c vs : EReal) {q k v : Fin 20480 → Fin 128 → EReal} {xq xk xv : Fin np → Fin 128 → EReal}
  (hq : Holds e h xq q) (hk : Holds e h xk k) (hv : Holds e h xv v) (i : Fin np) (hi : Real dl L (h % dl) i.val)

include hq hk in
theorem score_at (a : Slot np dl L (h % dl)) :
    posScore sg dl h c q k ⟨base + (i.val * dl + h % dl), e.at_lt hi⟩ (e.at (h % dl) a) = slotScore c xq xk i a.1 := by
  unfold posScore slotScore
  have h1 : base + (a.1.val * dl + h % dl) ≤ base + (i.val * dl + h % dl) ↔ a.1.val ≤ i.val := by
    constructor
    · intro hh
      exact Nat.le_of_mul_le_mul_right (by omega : a.1.val * dl ≤ i.val * dl) e.dl0
    · intro hh
      have := Nat.mul_le_mul_right dl hh
      omega
  have h2 : (∑ d, q ⟨base + (i.val * dl + h % dl), e.at_lt hi⟩ d * k (e.at (h % dl) a) d) = ∑ d, xq i d * xk a.1 d :=
    Finset.sum_congr rfl fun d _ => by rw [hq i d, dif_pos hi, hk a.1 d, dif_pos a.2]; rfl
  by_cases hh : a.1.val ≤ i.val
  · rw [if_pos hh, if_pos ⟨e.meets hi a.2, h1.2 hh⟩, h2]
  · rw [if_neg hh, if_neg fun w => hh (h1.1 w.2)]

include hi in
theorem slotScore_off (b : Fin np) (hb : ∀ a : Slot np dl L (h % dl), a.1 ≠ b) : slotScore c xq xk i b = ⊥ := by
  refine if_neg fun hle => hb ⟨b, ?_⟩ rfl
  have := Nat.mul_le_mul_right dl hle
  have hi' : i.val * dl + h % dl < L := hi
  show b.val * dl + h % dl < L
  omega

theorem posScore_off (u : Fin 20480) (hu : ∀ a : Slot np dl L (h % dl), e.at (h % dl) a ≠ u) :
    posScore sg dl h c q k ⟨base + (i.val * dl + h % dl), e.at_lt hi⟩ u = ⊥ :=
  if_neg fun w => (e.slot_of_meets hi u w.1).elim hu

include hq hk in
/-- A slot's log-sum-exp is its position's. -/
theorem slotLse_eq_posLse : slotLse c xq xk i = posLse sg dl h c q k ⟨base + (i.val * dl + h % dl), e.at_lt hi⟩ := by
  unfold posLse slotLse
  rw [if_pos (e.takes hi)]
  exact (rowLse_of_range (fun a : Slot np dl L (h % dl) => a.1) Subtype.val_injective _ (fun a => slotScore c xq xk i a.1) (fun _ => rfl)
    (slotScore_off c i hi)).trans
    (rowLse_of_range (e.at (h % dl)) (e.at_inj _) _ _ (score_at e c hq hk i hi) (posScore_off e c i hi)).symm

include hq hk hv in
/-- A slot's attention is its position's. -/
theorem slotOut_eq_posOut (d : Fin 128) :
    slotOut c vs xq xk xv i d = posOut sg dl h c vs q k v ⟨base + (i.val * dl + h % dl), e.at_lt hi⟩ d := by
  unfold posOut slotOut
  rw [if_pos (e.takes hi)]
  refine congrArg (· * vs) ?_
  rw [sum_of_range (fun a : Slot np dl L (h % dl) => a.1) Subtype.val_injective, sum_of_range (e.at (h % dl)) (e.at_inj _)]
  · refine Finset.sum_congr rfl fun a _ => ?_
    have hw : rowWeight (slotScore c xq xk i) a.1
        = rowWeight (posScore sg dl h c q k ⟨base + (i.val * dl + h % dl), e.at_lt hi⟩) (e.at (h % dl) a) :=
      (rowWeight_of_range (fun a : Slot np dl L (h % dl) => a.1) Subtype.val_injective _ (fun a => slotScore c xq xk i a.1) (fun _ => rfl)
        (slotScore_off c i hi) a).trans
      (rowWeight_of_range (e.at (h % dl)) (e.at_inj _) _ _ (score_at e c hq hk i hi) (posScore_off e c i hi) a).symm
    have hx : xv a.1 d = v (e.at (h % dl) a) d := by rw [hv a.1 d, dif_pos a.2]; rfl
    rw [hw, hx]
    have hb : blockOf sg dl (e.at (h % dl) a).val ≤ blockOf sg dl (base + (i.val * dl + h % dl)) ↔ a.1.val / 256 ≤ i.val / 256 := by
      rw [e.block hi, show blockOf sg dl (e.at (h % dl) a).val = a.1.val / 256 from e.block a.2]
    by_cases hh : a.1.val / 256 ≤ i.val / 256
    · rw [if_pos hh, if_pos ⟨e.meets hi a.2, hb.2 hh⟩]
    · rw [if_neg hh, if_neg fun w => hh (hb.1 w.2)]
  · intro u hu
    rw [if_neg fun w => (e.slot_of_meets hi u w.1).elim hu, zero_mul]
  · intro b hb
    rw [hv b d, dif_neg fun hr => hb ⟨b, hr⟩ rfl, mul_zero]

end Row

end Cert.Dilated

end
-- ==== Proof.Sparse.lean ====
/-
  The kernel's arrays of slots: a pattern's whole segments or its last, shorter segment, of which every head keeps its own
  positions, zero codes filling up (`sparse`), and its per-head scales repeated for every row (`repeated`). A row holds
  one segment's taken positions (`sparse_holds`).
-/
module

public import proofs.«01_k».proof.Proof.Slots
public import proofs.«01_k».proof.Proof.Gen.KernelIdeal.Launch
public import Idealize.ShloMosaic.Lib.Pipeline.Value
public import Idealize.ShloMosaic.Lib.KernelVsHost
public import Idealize.ShloMosaic.Lib.IdealHost
public import Idealize.ShloMosaic.Lib.ValueIdxRank6
public import Idealize.ShloMosaic.Lib.Routing.Words

@[expose] public section

set_option maxRecDepth 16384

noncomputable section

namespace Cert.Dilated

open Idealize.ShloMosaic hiding ix1 ix2 ix3 ix4 ix5 ix6
open Idealize.ShloMosaic.ValueIdx
open Cert.KernelIdeal Cert.KernelIdeal.Gen

/-! ## A head's offset -/

/-- The kernel's `remainder` of the heads' numbers. -/
def remainder36 (x : IVec S36 32) (y : IVec S_ 32) : IVec S36 32 :=
  let y' := select (cmpi .eq y (constantI S_ 32 0#32)) (constantI S_ 32 1#32) y
  let b : IVec S36 32 := broadcastInDim S36 ![] bcast_S_S36 y'
  let r := Host.remsi x b
  let z : IVec S36 32 := broadcastInDim S36 ![] bcast_S_S36 (constantI S_ 32 0#32)
  select (andi (cmpi .ne (cmpi .slt r z) (broadcastInDim S36 ![] bcast_S_S36 (cmpi .slt y' (constantI S_ 32 0#32)))) (cmpi .ne r z)) (addi r b) r

/-- The heads' offsets for one dilation. -/
abbrev offsets (dil : ℕ) : IVec S36 32 := remainder36 (iotaInDim S36 32 0) (constantI S_ 32 (BitVec.ofNat 32 dil))

theorem offsets_apply (dil : ℕ) (h0 : 0 < dil) (h1 : dil < 2 ^ 31) (h : Fin 36) : offsets dil (ix1 h) = BitVec.ofNat 32 (h.val % dil) :=
  Routing.pyRem_ap (a := h.val) (b := dil) bcast_S_S36 (iotaInDim S36 32 0) (constantI S_ 32 (BitVec.ofNat 32 dil)) (ix1 h) rfl rfl
    (by have := h.isLt; omega) h0 h1

theorem word_eq_iff (a b : ℕ) (ha : a < 2 ^ 32) (hb : b < 2 ^ 32) : (IntOp.cmpi .eq (BitVec.ofNat 32 a) (BitVec.ofNat 32 b) = 1#1) ↔ a = b := by
  rw [WordCmp.cmpi_eq_ofNat (w := 32) ha hb]
  by_cases h : a = b <;> simp [h]

/-! ## A sparse array -/

/-- The shape facts of one sparse array's operations. -/
structure SparseFacts (start len ns n dil npad nb : ℕ) : Prop where
  sl0 : (⟨4, ![2, 36, 20480, 128]⟩ : Shape).Slices ![0, 0, start, 0] ⟨4, ![2, 36, len, 128]⟩
  pd0 : (⟨4, ![2, 36, len, 128]⟩ : Shape).Pads ![0, 0, 0, 0] ![0, 0, (ns * n * dil - len : ℕ), 0] ![0, 0, 0, 0] ⟨4, ![2, 36, ns * n * dil, 128]⟩
  sc0 : (⟨4, ![2, 36, ns * n * dil, 128]⟩ : Shape).ShapeCasts ⟨6, ![2, 36, ns, n, dil, 128]⟩
  bm : (⟨1, ![36]⟩ : Shape).BroadcastsInDim ⟨5, ![1, 36, 1, 1, 1]⟩ ![1]
  bw : (⟨5, ![1, 36, 1, 1, 1]⟩ : Shape).BroadcastsInDim ⟨5, ![2, 36, ns, n, 128]⟩ ![0, 1, 2, 3, 4]
  sl : ∀ i < dil, (⟨6, ![2, 36, ns, n, dil, 128]⟩ : Shape).Slices ![0, 0, 0, 0, i, 0] ⟨6, ![2, 36, ns, n, 1, 128]⟩
  sc : (⟨6, ![2, 36, ns, n, 1, 128]⟩ : Shape).ShapeCasts ⟨5, ![2, 36, ns, n, 128]⟩
  pd1 : (⟨5, ![2, 36, ns, n, 128]⟩ : Shape).Pads ![0, 0, 0, 0, 0] ![0, 0, 0, (npad - n : ℕ), 0] ![0, 0, 0, 0, 0] ⟨5, ![2, 36, ns, npad, 128]⟩
  sc1 : (⟨5, ![2, 36, ns, npad, 128]⟩ : Shape).ShapeCasts ⟨3, ![nb, npad, 128]⟩

variable {start len ns n dil npad nb : ℕ}

/-- Codes read at the ideal values. -/
abbrev Codes (s : Shape) := FVec Ideal s .fp8e4m3

/-- Every head's own offset of each group of `dil` positions, from offset 0 up to offset `k`. -/
def picked (f : SparseFacts start len ns n dil npad nb) (x : Codes ⟨6, ![2, 36, ns, n, dil, 128]⟩) :
    (k : ℕ) → k < dil → Codes ⟨5, ![2, 36, ns, n, 128]⟩
  | 0, h => shapeCast _ (extractStridedSlice ⟨6, ![2, 36, ns, n, 1, 128]⟩ ![0, 0, 0, 0, 0, 0] x (f.sl 0 h)) f.sc
  | k + 1, h => select (broadcastInDim ⟨5, ![2, 36, ns, n, 128]⟩ ![0, 1, 2, 3, 4] f.bw (broadcastInDim ⟨5, ![1, 36, 1, 1, 1]⟩ ![1] f.bm
      (cmpi .eq (offsets dil) (broadcastInDim S36 ![] bcast_S_S36 (constantI S_ 32 (BitVec.ofNat 32 (k + 1)))))))
      (shapeCast _ (extractStridedSlice ⟨6, ![2, 36, ns, n, 1, 128]⟩ ![0, 0, 0, 0, k + 1, 0] x (f.sl (k + 1) h)) f.sc)
      (picked f x k (by omega))

/-- The zero code. -/
abbrev zeroCode : Codes S_ := bitcastToFloat .fp8e4m3 (constantI S_ 8 0#8)

/-- The pattern's positions in groups of `dil`. -/
def grouped (f : SparseFacts start len ns n dil npad nb) (x : Codes ⟨4, ![2, 36, 20480, 128]⟩) : Codes ⟨6, ![2, 36, ns, n, dil, 128]⟩ :=
  shapeCast _ (pad ⟨4, ![2, 36, ns * n * dil, 128]⟩ ![0, 0, 0, 0] ![0, 0, (ns * n * dil - len : ℕ), 0] ![0, 0, 0, 0]
    (extractStridedSlice ⟨4, ![2, 36, len, 128]⟩ ![0, 0, start, 0] x f.sl0) zeroCode f.pd0 h_S_) f.sc0

/-- Slots in rows, filled up to `npad`. -/
def inRows (f : SparseFacts start len ns n dil npad nb) (x : Codes ⟨5, ![2, 36, ns, n, 128]⟩) : Codes ⟨3, ![nb, npad, 128]⟩ :=
  shapeCast _ (pad ⟨5, ![2, 36, ns, npad, 128]⟩ ![0, 0, 0, 0, 0] ![0, 0, 0, (npad - n : ℕ), 0] ![0, 0, 0, 0, 0]
    x zeroCode f.pd1 h_S_) f.sc1

/-- One of the kernel's sparse arrays. -/
def sparse (f : SparseFacts start len ns n dil npad nb) (h : dil - 1 < dil) (x : Codes ⟨4, ![2, 36, 20480, 128]⟩) : Codes ⟨3, ![nb, npad, 128]⟩ :=
  inRows f (picked f (grouped f x) (dil - 1) h)

theorem zeroCode_apply (i : S_.Idx) : zeroCode i = (0 : EReal) := by
  show (FloatOps.ofBits .fp8e4m3 0#8 : Ideal .fp8e4m3) = (0 : EReal)
  simp [FloatOps.ofBits, Ideal.ofBits, Ideal.e4m3fn]

section Read
variable (f : SparseFacts start len ns n dil npad nb) (b : Fin 2) (h : Fin 36) (g : Fin ns) (i : Fin n)

theorem slice_apply (x : Codes ⟨6, ![2, 36, ns, n, dil, 128]⟩) (k : ℕ) (hk : k < dil) (d : Fin 128) :
    shapeCast ⟨5, ![2, 36, ns, n, 128]⟩ (extractStridedSlice ⟨6, ![2, 36, ns, n, 1, 128]⟩ ![0, 0, 0, 0, k, 0] x (f.sl k hk)) f.sc (ix5 b h g i d)
      = x (ix6 b h g i ⟨k, hk⟩ d) :=
  (shapeCast_apply _ f.sc _ (ix6 b h g i (0 : Fin 1) d) (by
    rw [Shape.rowMajor_val_six, Shape.rowMajor_val_five]
    show ((((b.val * 36 + h.val) * ns + g.val) * n + i.val) * 1 + 0) * 128 + d.val = (((b.val * 36 + h.val) * ns + g.val) * n + i.val) * 128 + d.val
    rw [Nat.mul_one, Nat.add_zero])).trans
  (extractStridedSlice_apply _ x (f.sl k hk) _ (ix6 b h g i ⟨k, hk⟩ d) fun a => match a with
    | ⟨0, _⟩ => (Nat.zero_add _).symm | ⟨1, _⟩ => (Nat.zero_add _).symm | ⟨2, _⟩ => (Nat.zero_add _).symm
    | ⟨3, _⟩ => (Nat.zero_add _).symm | ⟨4, _⟩ => rfl | ⟨5, _⟩ => (Nat.zero_add _).symm)

theorem picked_apply (hdil : dil < 2 ^ 31) (x : Codes ⟨6, ![2, 36, ns, n, dil, 128]⟩) (d : Fin 128) : ∀ (k : ℕ) (hk : k < dil) (s : Fin dil),
    s.val = (if h.val % dil ≤ k then h.val % dil else 0) → picked f x k hk (ix5 b h g i d) = x (ix6 b h g i s d)
  | 0, hk, s, hs => by
    have e : s = ⟨0, hk⟩ := Fin.ext (by
      rw [hs]
      show _ = 0
      split <;> omega)
    rw [e]
    exact slice_apply f b h g i x 0 hk d
  | k + 1, hk, s, hs => by
    have hm : broadcastInDim ⟨5, ![2, 36, ns, n, 128]⟩ ![0, 1, 2, 3, 4] f.bw (broadcastInDim ⟨5, ![1, 36, 1, 1, 1]⟩ ![1] f.bm
        (cmpi .eq (offsets dil) (broadcastInDim S36 ![] bcast_S_S36 (constantI S_ 32 (BitVec.ofNat 32 (k + 1)))))) (ix5 b h g i d)
        = IntOp.cmpi .eq (BitVec.ofNat 32 (h.val % dil)) (BitVec.ofNat 32 (k + 1)) :=
      ((broadcastInDim_apply _ f.bw _ _ (ix5 (0 : Fin 1) h (0 : Fin 1) (0 : Fin 1) (0 : Fin 1)) fun a => match a with
        | ⟨0, _⟩ => rfl | ⟨1, _⟩ => rfl | ⟨2, _⟩ => rfl | ⟨3, _⟩ => rfl | ⟨4, _⟩ => rfl).trans
      (broadcastInDim_apply _ f.bm _ _ (ix1 h) fun a => match a with | ⟨0, _⟩ => rfl)).trans
      (congrArg (fun w => IntOp.cmpi .eq w (BitVec.ofNat 32 (k + 1))) (offsets_apply dil (by omega) hdil h))
    have hlt : h.val % dil < dil := Nat.mod_lt _ (by omega)
    have hc := word_eq_iff (h.val % dil) (k + 1) (by omega) (by omega)
    show (if _ = 1#1 then _ else _) = _
    rw [hm]
    by_cases hq : h.val % dil = k + 1
    · rw [if_pos (hc.2 hq), slice_apply f b h g i x (k + 1) hk d]
      refine congrArg x (congrArg (fun s => ix6 b h g i s d) (Fin.ext ?_))
      rw [hs, if_pos (by omega)]
      exact hq.symm
    · rw [if_neg fun e => hq (hc.1 e)]
      refine picked_apply hdil x d k (by omega) s ?_
      rw [hs]
      split <;> split <;> omega

theorem grouped_apply (x : Codes ⟨4, ![2, 36, 20480, 128]⟩) (s : Fin dil) (d : Fin 128) (t : Fin 20480)
    (ht : t.val = start + ((g.val * n + i.val) * dil + s.val)) (hl : (g.val * n + i.val) * dil + s.val < len) (hlen : len ≤ ns * n * dil) :
    grouped f x (ix6 b h g i s d) = x (ix4 b h t d) :=
  (shapeCast_apply _ f.sc0 _ (ix4 b h (⟨(g.val * n + i.val) * dil + s.val, by omega⟩ : Fin (ns * n * dil)) d) (by
    rw [Shape.rowMajor_val_six, Shape.rowMajor_val_four]
    show ((b.val * 36 + h.val) * (ns * n * dil) + ((g.val * n + i.val) * dil + s.val)) * 128 + d.val
      = ((((b.val * 36 + h.val) * ns + g.val) * n + i.val) * dil + s.val) * 128 + d.val
    ring)).trans
  ((pad_apply_of_inside _ _ _ _ _ f.pd0 h_S_ _ (ix4 b h (⟨(g.val * n + i.val) * dil + s.val, hl⟩ : Fin len) d) (fun a => match a with
    | ⟨0, _⟩ => (by show b.val = 0 + b.val * 1; omega) | ⟨1, _⟩ => (by show h.val = 0 + h.val * 1; omega)
    | ⟨2, _⟩ => (by show (g.val * n + i.val) * dil + s.val = 0 + ((g.val * n + i.val) * dil + s.val) * 1; omega)
    | ⟨3, _⟩ => (by show d.val = 0 + d.val * 1; omega))).trans
  (extractStridedSlice_apply _ x f.sl0 _ (ix4 b h t d) fun a => match a with
    | ⟨0, _⟩ => (Nat.zero_add _).symm | ⟨1, _⟩ => (Nat.zero_add _).symm | ⟨2, _⟩ => ht | ⟨3, _⟩ => (Nat.zero_add _).symm))

theorem grouped_off (x : Codes ⟨4, ![2, 36, 20480, 128]⟩) (s : Fin dil) (d : Fin 128)
    (hl : ¬ (g.val * n + i.val) * dil + s.val < len) (hn : (g.val * n + i.val) * dil + s.val < ns * n * dil) :
    grouped f x (ix6 b h g i s d) = (0 : EReal) :=
  (shapeCast_apply _ f.sc0 _ (ix4 b h (⟨(g.val * n + i.val) * dil + s.val, hn⟩ : Fin (ns * n * dil)) d) (by
    rw [Shape.rowMajor_val_six, Shape.rowMajor_val_four]
    show ((b.val * 36 + h.val) * (ns * n * dil) + ((g.val * n + i.val) * dil + s.val)) * 128 + d.val
      = ((((b.val * 36 + h.val) * ns + g.val) * n + i.val) * dil + s.val) * 128 + d.val
    ring)).trans
  ((pad_apply_of_not_inside _ _ _ _ _ f.pd0 h_S_ _ (2 : Fin 4) (by
    rintro ⟨-, -, h3⟩
    have h4 : ((g.val * n + i.val) * dil + s.val - 0) / (0 + 1) < len := h3
    rw [Nat.sub_zero, Nat.zero_add, Nat.div_one] at h4
    exact hl h4)).trans (zeroCode_apply _))

theorem inRows_apply (x : Codes ⟨5, ![2, 36, ns, n, 128]⟩) (row : Fin nb) (hrow : row.val = (b.val * 36 + h.val) * ns + g.val)
    (j : Fin npad) (hj : j.val = i.val) (d : Fin 128) : inRows f x (ix3 row j d) = x (ix5 b h g i d) :=
  (shapeCast_apply _ f.sc1 _ (ix5 b h g j d) (by
    rw [Shape.rowMajor_val_five, Shape.rowMajor_val_three]
    show (((b.val * 36 + h.val) * ns + g.val) * npad + j.val) * 128 + d.val = (row.val * npad + j.val) * 128 + d.val
    rw [hrow])).trans
  (pad_apply_of_inside _ _ _ _ _ f.pd1 h_S_ _ (ix5 b h g i d) (fun a => match a with
    | ⟨0, _⟩ => (by show b.val = 0 + b.val * 1; omega) | ⟨1, _⟩ => (by show h.val = 0 + h.val * 1; omega)
    | ⟨2, _⟩ => (by show g.val = 0 + g.val * 1; omega)
    | ⟨3, _⟩ => (by show j.val = 0 + i.val * 1; omega)
    | ⟨4, _⟩ => (by show d.val = 0 + d.val * 1; omega)))

theorem inRows_off (x : Codes ⟨5, ![2, 36, ns, n, 128]⟩) (row : Fin nb) (hrow : row.val = (b.val * 36 + h.val) * ns + g.val)
    (j : Fin npad) (hj : ¬ j.val < n) (d : Fin 128) : inRows f x (ix3 row j d) = (0 : EReal) :=
  (shapeCast_apply _ f.sc1 _ (ix5 b h g j d) (by
    rw [Shape.rowMajor_val_five, Shape.rowMajor_val_three]
    show (((b.val * 36 + h.val) * ns + g.val) * npad + j.val) * 128 + d.val = (row.val * npad + j.val) * 128 + d.val
    rw [hrow])).trans
  ((pad_apply_of_not_inside _ _ _ _ _ f.pd1 h_S_ _ (3 : Fin 5) (by
    rintro ⟨-, -, h3⟩
    have h4 : (j.val - 0) / (0 + 1) < n := h3
    rw [Nat.sub_zero, Nat.zero_add, Nat.div_one] at h4
    exact hj h4)).trans (zeroCode_apply _))

end Read

/-- The numbers of a sparse array that holds segment after segment: segment `g`, `L` positions from `base`. -/
structure SparseNumbers (start len ns n dil npad : ℕ) (g base L : ℕ) : Prop where
  base_eq : base = start + g * n * dil
  end_le : start + len ≤ 20480
  len_le : len ≤ ns * n * dil
  g_lt : g < ns
  dil_pos : 0 < dil
  dil_lt : dil < 2 ^ 31
  real_iff : ∀ i < npad, ∀ o < dil, i * dil + o < L ↔ i < n ∧ (g * n + i) * dil + o < len

/-- A row of a sparse array holds its head's positions of its segment. -/
theorem sparse_holds (f : SparseFacts start len ns n dil npad nb) (hd : dil - 1 < dil) {sg S base L g : ℕ} (e : Segment sg dil S base L npad)
    (w : SparseNumbers start len ns n dil npad g base L) (x : Codes ⟨4, ![2, 36, 20480, 128]⟩) (b : Fin 2) (h : Fin 36) (row : Fin nb)
    (hrow : row.val = (b.val * 36 + h.val) * ns + g) :
    Holds e h.val (fun i d => sparse f hd x (ix3 row i d)) (fun t d => x (ix4 b h t d)) := by
  intro j d
  have hlt : h.val % dil < dil := Nat.mod_lt _ w.dil_pos
  have hr := w.real_iff j.val j.isLt (h.val % dil) hlt
  have hpos : base + (j.val * dil + h.val % dil) = start + ((g * n + j.val) * dil + h.val % dil) := by rw [w.base_eq]; ring
  show sparse f hd x (ix3 row j d) = _
  unfold sparse
  by_cases hn : j.val < n
  · rw [inRows_apply f b h ⟨g, w.g_lt⟩ ⟨j.val, hn⟩ _ row hrow j rfl d,
      picked_apply f b h ⟨g, w.g_lt⟩ ⟨j.val, hn⟩ w.dil_lt _ d (dil - 1) hd ⟨h.val % dil, hlt⟩ (by rw [if_pos (by omega)])]
    by_cases hl : (g * n + j.val) * dil + h.val % dil < len
    · rw [dif_pos (hr.2 ⟨hn, hl⟩)]
      exact grouped_apply f b h ⟨g, w.g_lt⟩ ⟨j.val, hn⟩ x ⟨h.val % dil, hlt⟩ d _ hpos hl w.len_le
    · rw [dif_neg fun hh => hl (hr.1 hh).2]
      refine grouped_off f b h ⟨g, w.g_lt⟩ ⟨j.val, hn⟩ x ⟨h.val % dil, hlt⟩ d hl ?_
      have h1 : g * n + n ≤ ns * n := by have := Nat.mul_le_mul_right n (Nat.succ_le_of_lt w.g_lt); rwa [Nat.succ_mul] at this
      have h2 : (g * n + j.val + 1) * dil ≤ ns * n * dil := Nat.mul_le_mul_right dil (by omega)
      rw [Nat.succ_mul] at h2
      show (g * n + j.val) * dil + h.val % dil < _
      omega
  · rw [inRows_off f b h ⟨g, w.g_lt⟩ _ row hrow j hn d, dif_neg fun hh => hn (hr.1 hh).1]

/-! ## The arrays of the pattern that takes every position -/

/-- The arrays of pattern 0, whose heads take every position. -/
def sparse0 (x : Codes S2x36x20480x128) : Codes S720x2048x128 :=
  shapeCast _ (pad S2x36x10x2048x128 ![0, 0, 0, 0, 0] ![0, 0, 0, 0, 0] ![0, 0, 0, 0, 0]
    (shapeCast S2x36x10x2048x128 (shapeCast S2x36x10x2048x1x128 (pad S2x36x20480x128 ![0, 0, 0, 0] ![0, 0, 0, 0] ![0, 0, 0, 0] x zeroCode
      pads_S2x36x20480x128_S2x36x20480x128_000_000_000_000 h_S_) shapeCasts_S2x36x20480x128_S2x36x10x2048x1x128)
      shapeCasts_S2x36x10x2048x1x128_S2x36x10x2048x128) zeroCode pads_S2x36x10x2048x128_S2x36x10x2048x128_000_000_000_000_000 h_S_)
    shapeCasts_S2x36x10x2048x128_S720x2048x128

theorem facts0 : SparseFacts 0 20480 10 2048 1 2048 720 := by constructor <;> decide

theorem sparse0_eq (x : Codes S2x36x20480x128) : sparse0 x = sparse facts0 (by decide) x := by
  have e1 : extractStridedSlice ⟨4, ![2, 36, 20480, 128]⟩ ![0, 0, 0, 0] x facts0.sl0 = x := by
    funext y
    exact extractStridedSlice_apply _ x facts0.sl0 y y fun a => match a with
      | ⟨0, _⟩ => (Nat.zero_add _).symm | ⟨1, _⟩ => (Nat.zero_add _).symm | ⟨2, _⟩ => (Nat.zero_add _).symm | ⟨3, _⟩ => (Nat.zero_add _).symm
  have e2 (z : Codes S2x36x10x2048x1x128) : extractStridedSlice ⟨6, ![2, 36, 10, 2048, 1, 128]⟩ ![0, 0, 0, 0, 0, 0] z (facts0.sl 0 (by decide)) = z := by
    funext y
    exact extractStridedSlice_apply _ z (facts0.sl 0 (by decide)) y y fun a => match a with
      | ⟨0, _⟩ => (Nat.zero_add _).symm | ⟨1, _⟩ => (Nat.zero_add _).symm | ⟨2, _⟩ => (Nat.zero_add _).symm | ⟨3, _⟩ => (Nat.zero_add _).symm
      | ⟨4, _⟩ => (Nat.zero_add _).symm | ⟨5, _⟩ => (Nat.zero_add _).symm
  show _ = inRows facts0 (shapeCast _ (extractStridedSlice ⟨6, ![2, 36, 10, 2048, 1, 128]⟩ ![0, 0, 0, 0, 0, 0] (grouped facts0 x) (facts0.sl 0 (by decide))) facts0.sc)
  unfold grouped
  rw [e1, e2]
  rfl

/-! ## The scales -/

/-- A number for every head, repeated for its rows. -/
def repeated (ns nb : ℕ) (h0 : (⟨2, ![2, 36]⟩ : Shape).ShapeCasts ⟨2, ![72, 1]⟩) (h1 : (⟨2, ![72, 1]⟩ : Shape).BroadcastsInDim ⟨3, ![72, ns, 1]⟩ ![0, 2])
    (h2 : (⟨3, ![72, ns, 1]⟩ : Shape).ShapeCasts ⟨2, ![nb, 1]⟩) (x : FVec Ideal ⟨2, ![2, 36]⟩ .f32) : FVec Ideal ⟨2, ![nb, 1]⟩ .f32 :=
  shapeCast _ (broadcastInDim ⟨3, ![72, ns, 1]⟩ ![0, 2] h1 (shapeCast ⟨2, ![72, 1]⟩ x h0)) h2

theorem repeated_apply (h0 : (⟨2, ![2, 36]⟩ : Shape).ShapeCasts ⟨2, ![72, 1]⟩) (h1 : (⟨2, ![72, 1]⟩ : Shape).BroadcastsInDim ⟨3, ![72, ns, 1]⟩ ![0, 2])
    (h2 : (⟨3, ![72, ns, 1]⟩ : Shape).ShapeCasts ⟨2, ![nb, 1]⟩) (x : FVec Ideal ⟨2, ![2, 36]⟩ .f32) (b : Fin 2) (h : Fin 36) (g : ℕ) (hg : g < ns)
    (row : Fin nb) (hrow : row.val = (b.val * 36 + h.val) * ns + g) : repeated ns nb h0 h1 h2 x (ix2 row 0) = x (ix2 b h) := by
  have hbh : b.val * 36 + h.val < 72 := by have := b.isLt; have := h.isLt; omega
  exact (shapeCast_apply _ h2 _ (ix3 (⟨b.val * 36 + h.val, hbh⟩ : Fin 72) (⟨g, hg⟩ : Fin ns) (0 : Fin 1)) (by
      rw [Shape.rowMajor_val_three, Shape.rowMajor_val_two]
      show ((b.val * 36 + h.val) * ns + g) * 1 + 0 = row.val * 1 + 0
      rw [hrow])).trans
    ((broadcastInDim_apply _ h1 _ _ (ix2 (⟨b.val * 36 + h.val, hbh⟩ : Fin 72) (0 : Fin 1)) fun a => match a with
      | ⟨0, _⟩ => rfl | ⟨1, _⟩ => rfl).trans
    (shapeCast_apply _ h0 _ (ix2 b h) (by
      rw [Shape.rowMajor_val_two, Shape.rowMajor_val_two]
      show b.val * 36 + h.val = (b.val * 36 + h.val) * 1 + 0
      omega)))

end Cert.Dilated

end
-- ==== Proof.Pieces.lean ====
/-
  What one grid point of the kernel leaves in its two outputs: each block of rows it stores is that block of the causal
  attention of the point's whole sequence (`attnOut`, `attnLse`).
-/
module

public import proofs.«01_k».proof.Proof.Rows
public import Idealize.ShloMosaic.Lib.Pipeline.FrameBody
public import Idealize.ShloMosaic.Lib.Pipeline.Value

@[expose] public section

noncomputable section

namespace Cert.Dilated

open Idealize.ShloMosaic hiding ix1 ix2 ix3 ix4 ix5
open Idealize.ShloMosaic.ValueIdx

variable {n : ℕ}

/-- The causal attention of one sequence of `n` slots. -/
def attnOut (c vs : EReal) (q k v : Vec Ideal ⟨3, ![1, n, 128]⟩ .fp8e4m3) : Vec Ideal ⟨3, ![1, n, 128]⟩ .f32 :=
  fun y => slotOut c vs (fun s d => q (ix3 0 s d)) (fun s d => k (ix3 0 s d)) (fun s d => v (ix3 0 s d)) (y 1) (y 2)
/-- The log-sum-exps of one sequence of `n` slots. -/
def attnLse (c : EReal) (q k : Vec Ideal ⟨3, ![1, n, 128]⟩ .fp8e4m3) : Vec Ideal ⟨3, ![1, n, 1]⟩ .f32 :=
  fun y => slotLse c (fun s d => q (ix3 0 s d)) (fun s d => k (ix3 0 s d)) (y 1)

/-- `nb` sequences' causal attentions, each with its own scales. -/
def regionOut {nb : ℕ} (qk vs : (⟨2, ![nb, 1]⟩ : Shape).Idx → EReal) (q k v : (⟨3, ![nb, n, 128]⟩ : Shape).Idx → EReal) :
    (⟨3, ![nb, n, 128]⟩ : Shape).Idx → EReal :=
  fun y => slotOut (qk (ix2 (y 0) 0)) (vs (ix2 (y 0) 0)) (fun s d => q (ix3 (y 0) s d)) (fun s d => k (ix3 (y 0) s d))
    (fun s d => v (ix3 (y 0) s d)) (y 1) (y 2)
/-- `nb` sequences' log-sum-exps. -/
def regionLse {nb : ℕ} (qk : (⟨2, ![nb, 1]⟩ : Shape).Idx → EReal) (q k : (⟨3, ![nb, n, 128]⟩ : Shape).Idx → EReal) :
    (⟨3, ![nb, n, 1]⟩ : Shape).Idx → EReal :=
  fun y => slotLse (qk (ix2 (y 0) 0)) (fun s d => q (ix3 (y 0) s d)) (fun s d => k (ix3 (y 0) s d)) (y 1)

/-- A grid point's attention is its sequence's of the whole arrays. -/
theorem regionOut_congr {nb : ℕ} {a a' b b' : (⟨2, ![nb, 1]⟩ : Shape).Idx → EReal} {q q' k k' v v' : (⟨3, ![nb, n, 128]⟩ : Shape).Idx → EReal}
    (ha : a = a') (hb : b = b') (hq : q = q') (hk : k = k') (hv : v = v') : regionOut a b q k v = regionOut a' b' q' k' v' := by
  subst ha hb hq hk hv; rfl
theorem regionLse_congr {nb : ℕ} {a a' : (⟨2, ![nb, 1]⟩ : Shape).Idx → EReal} {q q' k k' : (⟨3, ![nb, n, 128]⟩ : Shape).Idx → EReal}
    (ha : a = a') (hq : q = q') (hk : k = k') : regionLse a q k = regionLse a' q' k' := by
  subst ha hq hk; rfl

theorem attnOut_region {nb : ℕ} {c vs : EReal} {q k v : Vec Ideal ⟨3, ![1, n, 128]⟩ .fp8e4m3}
    {Qk Vs : (⟨2, ![nb, 1]⟩ : Shape).Idx → EReal} {Q K W : (⟨3, ![nb, n, 128]⟩ : Shape).Idx → EReal}
    (t : Fin nb) (hc : c = Qk (ix2 t 0)) (hv : vs = Vs (ix2 t 0)) (hq : ∀ s d, q (ix3 0 s d) = Q (ix3 t s d))
    (hk : ∀ s d, k (ix3 0 s d) = K (ix3 t s d)) (hw : ∀ s d, v (ix3 0 s d) = W (ix3 t s d))
    (y : (⟨3, ![1, n, 128]⟩ : Shape).Idx) : attnOut c vs q k v y = regionOut Qk Vs Q K W (ix3 t (y 1) (y 2)) := by
  unfold attnOut regionOut
  simp only [hq, hk, hw, hc, hv]
  rfl

theorem attnLse_region {nb : ℕ} {c : EReal} {q k : Vec Ideal ⟨3, ![1, n, 128]⟩ .fp8e4m3}
    {Qk : (⟨2, ![nb, 1]⟩ : Shape).Idx → EReal} {Q K : (⟨3, ![nb, n, 128]⟩ : Shape).Idx → EReal}
    (t : Fin nb) (hc : c = Qk (ix2 t 0)) (hq : ∀ s d, q (ix3 0 s d) = Q (ix3 t s d))
    (hk : ∀ s d, k (ix3 0 s d) = K (ix3 t s d))
    (y : (⟨3, ![1, n, 1]⟩ : Shape).Idx) : attnLse c q k y = regionLse Qk Q K (ix3 t (y 1) (y 2)) := by
  unfold attnLse regionLse
  simp only [hq, hk, hc]
  rfl

/-- A sequence's scale, as the load of it from the whole array of scales reads. -/
theorem readAt_scale {sig : RefSig} {nb : ℕ} (M : Memref sig .tc .smem ⟨2, ![nb, 1]⟩ .f32) (hM : M.IsWhole)
    (x : Vec Ideal ⟨2, ![nb, 1]⟩ .f32) {off : Fin 2 → ℕ}
    (inb : ∀ a, off a + (![1, 1] : Fin 2 → ℕ) a ≤ (⟨2, ![nb, 1]⟩ : Shape).size a)
    (hne : 0 < (⟨2, ![1, 1]⟩ : Shape).numel) (t : Fin nb) (ht : off 0 = t.val) :
    View.readAt (Elt Ideal) M.view (Rect.unit (s := ⟨2, ![nb, 1]⟩) off ![1, 1] inb).toLoadRect (hM.unread x)
      (Shape.Idx.first (s := ⟨2, ![1, 1]⟩) hne) = x (ix2 t 0) := by
  rw [View.readAt_apply, hM.read_unread]
  have h1 : off 1 + 1 ≤ 1 := inb 1
  refine congrArg x (funext fun a => Fin.ext ?_)
  match a with
  | ⟨0, _⟩ => show off 0 + 1 * 0 = t.val; omega
  | ⟨1, _⟩ => show off 1 + 1 * 0 = 0; omega

/-- Rows `o …` of a whole staging buffer, as a load of them reads. -/
theorem readAt_rows {sig : RefSig} {e : EltTy} {o R : ℕ} (M : Memref sig .tc .vmem ⟨3, ![1, n, 128]⟩ e) (hM : M.IsWhole)
    (x : Vec Ideal ⟨3, ![1, n, 128]⟩ e)
    (inb : ∀ a, (![0, o, 0] : Fin 3 → ℕ) a + (![1, R, 128] : Fin 3 → ℕ) a ≤ (⟨3, ![1, n, 128]⟩ : Shape).size a)
    (r : Fin R) (d : Fin 128) (hr : o + r.val < n) :
    View.readAt (Elt Ideal) M.view (Rect.unit (s := ⟨3, ![1, n, 128]⟩) ![0, o, 0] ![1, R, 128] inb).toLoadRect (hM.unread x)
      (ix3 (0 : Fin 1) r d) = x (ix3 0 ⟨o + r.val, hr⟩ d) := by
  rw [View.readAt_apply, hM.read_unread]
  refine congrArg x (funext fun a => Fin.ext ?_)
  match a with
  | ⟨0, _⟩ => rfl
  | ⟨1, _⟩ => show o + 1 * r.val = o + r.val; omega
  | ⟨2, _⟩ => show 0 + 1 * d.val = d.val; omega

theorem rows_lt {o R : ℕ}
    (inb : ∀ a, (![0, o, 0] : Fin 3 → ℕ) a + (![1, R, 128] : Fin 3 → ℕ) a ≤ (⟨3, ![1, n, 128]⟩ : Shape).size a) : o + R ≤ n :=
  inb 1

/-- The scores of a block of rows are those of the sequence's slots. -/
theorem piece_scores {sig : RefSig} {R N : ℕ} (h : BlockFacts R N) (i0 : ℕ) (hn31 : n < 2 ^ 31)
    (M3 : Memref sig .tc .vmem ⟨3, ![1, n, 128]⟩ .fp8e4m3) (h3 : M3.IsWhole)
    (M4 : Memref sig .tc .vmem ⟨3, ![1, n, 128]⟩ .fp8e4m3) (h4 : M4.IsWhole) (c : EReal)
    (q k : Vec Ideal ⟨3, ![1, n, 128]⟩ .fp8e4m3)
    (inb : ∀ a, (![0, i0, 0] : Fin 3 → ℕ) a + (![1, R, 128] : Fin 3 → ℕ) a ≤ (⟨3, ![1, n, 128]⟩ : Shape).size a)
    (inbk : ∀ a, (![0, 0, 0] : Fin 3 → ℕ) a + (![1, N, 128] : Fin 3 → ℕ) a ≤ (⟨3, ![1, n, 128]⟩ : Shape).size a) (r : Fin R) :
    (fun j => blockScores h (BitVec.ofNat 32 i0) c
      (View.readAt (Elt Ideal) M3.view (Rect.unit (s := ⟨3, ![1, n, 128]⟩) ![0, i0, 0] ![1, R, 128] inb).toLoadRect (h3.unread q))
      (View.readAt (Elt Ideal) M4.view (Rect.unit (s := ⟨3, ![1, n, 128]⟩) ![0, 0, 0] ![1, N, 128] inbk).toLoadRect (h4.unread k))
      (ix2 r j))
    = blockScore i0 c (fun (r : Fin R) d => q (ix3 0 ⟨i0 + r.val, by have := rows_lt inb; omega⟩ d))
        (fun (j : Fin N) d => k (ix3 0 ⟨j.val, by have := rows_lt inbk; omega⟩ d)) r := by
  have hq := rows_lt inb
  have hk := rows_lt inbk
  funext j
  rw [blockScores_apply h i0 (by omega) (by omega)]
  unfold blockScore
  split
  · refine congrArg (· * c) (Finset.sum_congr rfl fun d _ => ?_)
    beta_reduce
    rw [readAt_rows M3 h3 q inb r d (by omega), readAt_rows M4 h4 k inbk j d (by omega)]
    simp only [Nat.zero_add]
  · rfl

/-- A stored block of rows is that block of the sequence's attention. -/
theorem out_piece {sig : RefSig} {R N : ℕ} (h : BlockFacts R N) (i0 : ℕ) (hn31 : n < 2 ^ 31) (h0 : i0 % 256 = 0) (hR : R ≤ 256)
    (hN : i0 + R = N) (hl : N = i0 + 256 ∨ N = n)
    (M3 : Memref sig .tc .vmem ⟨3, ![1, n, 128]⟩ .fp8e4m3) (h3 : M3.IsWhole)
    (M4 : Memref sig .tc .vmem ⟨3, ![1, n, 128]⟩ .fp8e4m3) (h4 : M4.IsWhole)
    (M5 : Memref sig .tc .vmem ⟨3, ![1, n, 128]⟩ .fp8e4m3) (h5 : M5.IsWhole) (c vs : EReal)
    (q k v : Vec Ideal ⟨3, ![1, n, 128]⟩ .fp8e4m3)
    (inb : ∀ a, (![0, i0, 0] : Fin 3 → ℕ) a + (![1, R, 128] : Fin 3 → ℕ) a ≤ (⟨3, ![1, n, 128]⟩ : Shape).size a)
    (inbk : ∀ a, (![0, 0, 0] : Fin 3 → ℕ) a + (![1, N, 128] : Fin 3 → ℕ) a ≤ (⟨3, ![1, n, 128]⟩ : Shape).size a)
    (x : (⟨3, ![1, R, 128]⟩ : Shape).Idx) :
    blockOut h (BitVec.ofNat 32 i0) c vs
      (View.readAt (Elt Ideal) M3.view (Rect.unit (s := ⟨3, ![1, n, 128]⟩) ![0, i0, 0] ![1, R, 128] inb).toLoadRect (h3.unread q))
      (View.readAt (Elt Ideal) M4.view (Rect.unit (s := ⟨3, ![1, n, 128]⟩) ![0, 0, 0] ![1, N, 128] inbk).toLoadRect (h4.unread k))
      (View.readAt (Elt Ideal) M5.view (Rect.unit (s := ⟨3, ![1, n, 128]⟩) ![0, 0, 0] ![1, N, 128] inbk).toLoadRect (h5.unread v)) x
    = attnOut c vs q k v ((Rect.unit (s := ⟨3, ![1, n, 128]⟩) ![0, i0, 0] ![1, R, 128] inb).emb x) := by
  have hq := rows_lt inb
  have hk := rows_lt inbk
  obtain ⟨u, r, d, rfl⟩ : ∃ (u : Fin 1) (r : Fin R) (d : Fin 128), x = ix3 u r d := ⟨x 0, x 1, x 2, by
    funext a; match a with | ⟨0, _⟩ => rfl | ⟨1, _⟩ => rfl | ⟨2, _⟩ => rfl⟩
  have he : (Rect.unit (s := ⟨3, ![1, n, 128]⟩) ![0, i0, 0] ![1, R, 128] inb).emb (ix3 u r d)
      = ix3 (0 : Fin 1) (⟨i0 + r.val, by omega⟩ : Fin n) d := by
    funext a
    match a with
    | ⟨0, _⟩ => exact Fin.ext (by show 0 + 1 * u.val = 0; omega)
    | ⟨1, _⟩ => exact Fin.ext (by show i0 + 1 * r.val = i0 + r.val; omega)
    | ⟨2, _⟩ => exact Fin.ext (by show 0 + 1 * d.val = d.val; omega)
  rw [he]
  refine (blockOut_apply h _ c vs _ _ _ _ _ _).trans ?_
  rw [piece_scores h i0 hn31 M3 h3 M4 h4 c q k inb inbk]
  refine Eq.trans ?_ (slotOut_block i0 h0 hR hN (by omega) hl c vs (fun s d => q (ix3 0 s d)) (fun s d => k (ix3 0 s d))
    (fun s d => v (ix3 0 s d)) r d)
  refine congrArg (· * vs) (Finset.sum_congr rfl fun j _ => ?_)
  rw [readAt_rows M5 h5 v inbk j _ (by omega)]
  simp only [Nat.zero_add]

/-- A stored block of log-sum-exps is that block of the sequence's. -/
theorem lse_piece {sig : RefSig} {R N : ℕ} (h : BlockFacts R N) (i0 : ℕ) (hn31 : n < 2 ^ 31) (hN : i0 + R = N)
    (M3 : Memref sig .tc .vmem ⟨3, ![1, n, 128]⟩ .fp8e4m3) (h3 : M3.IsWhole)
    (M4 : Memref sig .tc .vmem ⟨3, ![1, n, 128]⟩ .fp8e4m3) (h4 : M4.IsWhole) (c : EReal)
    (q k : Vec Ideal ⟨3, ![1, n, 128]⟩ .fp8e4m3)
    (inb : ∀ a, (![0, i0, 0] : Fin 3 → ℕ) a + (![1, R, 128] : Fin 3 → ℕ) a ≤ (⟨3, ![1, n, 128]⟩ : Shape).size a)
    (inbk : ∀ a, (![0, 0, 0] : Fin 3 → ℕ) a + (![1, N, 128] : Fin 3 → ℕ) a ≤ (⟨3, ![1, n, 128]⟩ : Shape).size a)
    (inbl : ∀ a, (![0, i0, 0] : Fin 3 → ℕ) a + (![1, R, 1] : Fin 3 → ℕ) a ≤ (⟨3, ![1, n, 1]⟩ : Shape).size a)
    (x : (⟨3, ![1, R, 1]⟩ : Shape).Idx) :
    blockLse h (BitVec.ofNat 32 i0) c
      (View.readAt (Elt Ideal) M3.view (Rect.unit (s := ⟨3, ![1, n, 128]⟩) ![0, i0, 0] ![1, R, 128] inb).toLoadRect (h3.unread q))
      (View.readAt (Elt Ideal) M4.view (Rect.unit (s := ⟨3, ![1, n, 128]⟩) ![0, 0, 0] ![1, N, 128] inbk).toLoadRect (h4.unread k)) x
    = attnLse c q k ((Rect.unit (s := ⟨3, ![1, n, 1]⟩) ![0, i0, 0] ![1, R, 1] inbl).emb x) := by
  have hq := rows_lt inb
  have hk := rows_lt inbk
  obtain ⟨u, r, d, rfl⟩ : ∃ (u : Fin 1) (r : Fin R) (d : Fin 1), x = ix3 u r d := ⟨x 0, x 1, x 2, by
    funext a; match a with | ⟨0, _⟩ => rfl | ⟨1, _⟩ => rfl | ⟨2, _⟩ => rfl⟩
  have he : (Rect.unit (s := ⟨3, ![1, n, 1]⟩) ![0, i0, 0] ![1, R, 1] inbl).emb (ix3 u r d)
      = ix3 (0 : Fin 1) (⟨i0 + r.val, by omega⟩ : Fin n) (0 : Fin 1) := by
    funext a
    match a with
    | ⟨0, _⟩ => exact Fin.ext (by show 0 + 1 * u.val = 0; omega)
    | ⟨1, _⟩ => exact Fin.ext (by show i0 + 1 * r.val = i0 + r.val; omega)
    | ⟨2, _⟩ => exact Fin.ext (by show 0 + 1 * d.val = 0; omega)
  rw [he]
  refine (blockLse_apply h _ c _ _ _ _ _).trans ?_
  rw [piece_scores h i0 hn31 M3 h3 M4 h4 c q k inb inbk]
  exact slotLse_block i0 hN (by omega) c (fun s d => q (ix3 0 s d)) (fun s d => k (ix3 0 s d)) r

/-- A small number's word is the number. -/
theorem word_val {t nb : ℕ} (ht : t < nb) (hnb : nb ≤ 2 ^ 32) : (BitVec.ofNat 32 t).toNat = t := by
  rw [BitVec.toNat_ofNat]; omega

/-- Where an index of a whole array of scales lies in it. -/
theorem whole_at {nb : ℕ} (u : Fin nb) (j : (⟨2, ![nb, 1]⟩ : Shape).Idx) (h0 : (j 0).val = (0#32).toNat * nb + 1 * u.val)
    (h1 : (j 1).val = (0#32).toNat * 1 + 1 * 0) : j = ix2 u 0 := by
  simp only [BitVec.toNat_ofNat, Nat.zero_mod, Nat.zero_mul, Nat.zero_add, Nat.one_mul, Nat.mul_zero] at h0 h1
  funext a
  match a with
  | ⟨0, _⟩ => exact Fin.ext h0
  | ⟨1, _⟩ => exact Fin.ext h1

/-- Where a grid point's block of an `[nb, n, w]` array lies. -/
theorem blk_at {nb w T : ℕ} (t : Fin nb) (hT : T = t.val) (u : Fin 1) (s : Fin n) (d : Fin w)
    (j : (⟨3, ![nb, n, w]⟩ : Shape).Idx) (h0 : (j 0).val = T * 1 + 1 * u.val)
    (h1 : (j 1).val = (0#32).toNat * n + 1 * s.val) (h2 : (j 2).val = (0#32).toNat * w + 1 * d.val) : j = ix3 t s d := by
  rw [hT, show u.val = 0 by omega] at h0
  simp only [BitVec.toNat_ofNat, Nat.zero_mod, Nat.zero_mul, Nat.zero_add, Nat.one_mul, Nat.mul_one, Nat.mul_zero, Nat.add_zero] at h0 h1 h2
  funext a
  match a with
  | ⟨0, _⟩ => exact Fin.ext h0
  | ⟨1, _⟩ => exact Fin.ext h1
  | ⟨2, _⟩ => exact Fin.ext h2

end Cert.Dilated

end
-- ==== Proof.Spread.lean ====
/-
  What the kernel makes of a pallas_call's results: each row's slots put back at the positions their head takes, 0 and −∞
  elsewhere (`spreadOut`, `spreadLse`), which is the pattern over the sequence's positions wherever the rows hold its
  segments (`spreadOut_pos`, `spreadLse_pos`).
-/
module

public import proofs.«01_k».proof.Proof.Sparse
public import proofs.«01_k».proof.Proof.Pieces

@[expose] public section

set_option maxRecDepth 16384

noncomputable section

namespace Cert.Dilated

open Idealize.ShloMosaic hiding ix1 ix2 ix3 ix4 ix5 ix6
open Idealize.ShloMosaic.ValueIdx
open Cert.KernelIdeal Cert.KernelIdeal.Gen

/-! ## Whether a head's offset is the place in the group -/

/-- For every head and place in a group of `dil`, whether the head's offset is that place. -/
def offsetIs (dil : ℕ) (h0 : (⟨1, ![36]⟩ : Shape).BroadcastsInDim ⟨2, ![36, 1]⟩ ![0]) (h1 : (⟨1, ![dil]⟩ : Shape).BroadcastsInDim ⟨2, ![1, dil]⟩ ![1])
    (h2 : (⟨2, ![36, 1]⟩ : Shape).BroadcastsInDim ⟨2, ![36, dil]⟩ ![0, 1]) (h3 : (⟨2, ![1, dil]⟩ : Shape).BroadcastsInDim ⟨2, ![36, dil]⟩ ![0, 1]) :
    IVec ⟨2, ![36, dil]⟩ 1 :=
  cmpi .eq (broadcastInDim ⟨2, ![36, dil]⟩ ![0, 1] h2 (broadcastInDim ⟨2, ![36, 1]⟩ ![0] h0 (offsets dil)))
    (broadcastInDim ⟨2, ![36, dil]⟩ ![0, 1] h3 (broadcastInDim ⟨2, ![1, dil]⟩ ![1] h1 (iotaInDim ⟨1, ![dil]⟩ 32 0)))

/-- The same for groups of one, with no broadcast of the offsets. -/
def offsetIs1 : IVec S36x1 1 :=
  cmpi .eq (broadcastInDim S36x1 ![0] bcast_S36_S36x1_0 (offsets 1))
    (broadcastInDim S36x1 ![0, 1] bcast_S1x1_S36x1_0_1 (broadcastInDim S1x1 ![1] bcast_S1_S1x1_1 (iotaInDim S1 32 0)))

/-- A condition on heads and places that says whether the head's offset is the place. -/
def IsOffset {dil : ℕ} (m : IVec ⟨2, ![36, dil]⟩ 1) : Prop := ∀ (h : Fin 36) (r : Fin dil), m (ix2 h r) = 1#1 ↔ h.val % dil = r.val

theorem val_of_one {m : ℕ} (x : Fin m) : x.val = if m = 1 then 0 else x.val := by
  have := x.isLt
  split <;> omega

theorem offsetIs_isOffset (dil : ℕ) (hd0 : 0 < dil) (hd : dil < 2 ^ 31) h0 h1 h2 h3 : IsOffset (offsetIs dil h0 h1 h2 h3) := by
  intro h r
  have e1 : broadcastInDim ⟨2, ![36, dil]⟩ ![0, 1] h2 (broadcastInDim ⟨2, ![36, 1]⟩ ![0] h0 (offsets dil)) (ix2 h r) = BitVec.ofNat 32 (h.val % dil) :=
    ((broadcastInDim_apply _ h2 _ _ (ix2 h (0 : Fin 1)) fun a => match a with | ⟨0, _⟩ => rfl | ⟨1, _⟩ => rfl).trans
    (broadcastInDim_apply _ h0 _ _ (ix1 h) fun a => match a with | ⟨0, _⟩ => rfl)).trans (offsets_apply dil hd0 hd h)
  have e2 : broadcastInDim ⟨2, ![36, dil]⟩ ![0, 1] h3 (broadcastInDim ⟨2, ![1, dil]⟩ ![1] h1 (iotaInDim ⟨1, ![dil]⟩ 32 0)) (ix2 h r) = BitVec.ofNat 32 r.val :=
    (broadcastInDim_apply _ h3 _ (ix2 h r) (ix2 (0 : Fin 1) r) fun a => match a with | ⟨0, _⟩ => rfl | ⟨1, _⟩ => val_of_one r).trans
    (broadcastInDim_apply _ h1 _ (ix2 (0 : Fin 1) r) (ix1 r) fun a => match a with | ⟨0, _⟩ => val_of_one r)
  have hr := r.isLt
  have hm := Nat.mod_lt h.val hd0
  show IntOp.cmpi .eq _ _ = 1#1 ↔ _
  rw [e1, e2]
  exact word_eq_iff _ _ (by omega) (by omega)

theorem offsetIs1_isOffset : IsOffset (dil := 1) offsetIs1 := by
  intro h r
  have e1 : broadcastInDim S36x1 ![0] bcast_S36_S36x1_0 (offsets 1) (ix2 h r) = BitVec.ofNat 32 (h.val % 1) :=
    (broadcastInDim_apply _ bcast_S36_S36x1_0 _ _ (ix1 h) fun a => match a with | ⟨0, _⟩ => rfl).trans (offsets_apply 1 (by omega) (by omega) h)
  have e2 : broadcastInDim S36x1 ![0, 1] bcast_S1x1_S36x1_0_1 (broadcastInDim S1x1 ![1] bcast_S1_S1x1_1 (iotaInDim S1 32 0)) (ix2 h r) = BitVec.ofNat 32 r.val :=
    (broadcastInDim_apply _ bcast_S1x1_S36x1_0_1 _ _ (ix2 (0 : Fin 1) r) fun a => match a with | ⟨0, _⟩ => rfl | ⟨1, _⟩ => val_of_one r).trans
    (broadcastInDim_apply _ bcast_S1_S1x1_1 _ _ (ix1 r) fun a => match a with | ⟨0, _⟩ => val_of_one r)
  have hr := r.isLt
  show IntOp.cmpi .eq _ _ = 1#1 ↔ _
  rw [e1, e2]
  exact word_eq_iff _ _ (by omega) (by omega)

/-! ## Spreading slots over positions -/

/-- The shape facts of spreading. -/
structure SpreadFacts (ns n dil : ℕ) : Prop where
  ml : (⟨2, ![36, dil]⟩ : Shape).BroadcastsInDim ⟨5, ![1, 36, 1, 1, dil]⟩ ![1, 4]
  wl : (⟨5, ![1, 36, 1, 1, dil]⟩ : Shape).BroadcastsInDim ⟨5, ![2, 36, ns, n, dil]⟩ ![0, 1, 2, 3, 4]
  vl : (⟨5, ![2, 36, ns, n, 1]⟩ : Shape).BroadcastsInDim ⟨5, ![2, 36, ns, n, dil]⟩ ![0, 1, 2, 3, 4]
  zl : (⟨0, ![]⟩ : Shape).BroadcastsInDim ⟨5, ![2, 36, ns, n, dil]⟩ ![]
  cl : (⟨5, ![2, 36, ns, n, dil]⟩ : Shape).ShapeCasts ⟨3, ![2, 36, ns * n * dil]⟩
  mo : (⟨2, ![36, dil]⟩ : Shape).BroadcastsInDim ⟨6, ![1, 36, 1, 1, dil, 1]⟩ ![1, 4]
  wo : (⟨6, ![1, 36, 1, 1, dil, 1]⟩ : Shape).BroadcastsInDim ⟨6, ![2, 36, ns, n, dil, 128]⟩ ![0, 1, 2, 3, 4, 5]
  vo : (⟨6, ![2, 36, ns, n, 1, 128]⟩ : Shape).BroadcastsInDim ⟨6, ![2, 36, ns, n, dil, 128]⟩ ![0, 1, 2, 3, 4, 5]
  zo : (⟨0, ![]⟩ : Shape).BroadcastsInDim ⟨6, ![2, 36, ns, n, dil, 128]⟩ ![]
  co : (⟨6, ![2, 36, ns, n, dil, 128]⟩ : Shape).ShapeCasts ⟨4, ![2, 36, ns * n * dil, 128]⟩

variable {ns n dil nb npad : ℕ}

/-- Values at the positions of their heads' offsets, −∞ elsewhere. -/
def spreadLse (f : SpreadFacts ns n dil) (m : IVec ⟨2, ![36, dil]⟩ 1) (x : FVec Ideal ⟨5, ![2, 36, ns, n, dil]⟩ .f32) : FVec Ideal ⟨3, ![2, 36, ns * n * dil]⟩ .f32 :=
  shapeCast _ (select (broadcastInDim ⟨5, ![2, 36, ns, n, dil]⟩ ![0, 1, 2, 3, 4] f.wl (broadcastInDim ⟨5, ![1, 36, 1, 1, dil]⟩ ![1, 4] f.ml m)) x
    (broadcastInDim ⟨5, ![2, 36, ns, n, dil]⟩ ![] f.zl (constant S_ .f32 0xFF800000#32))) f.cl
/-- Values at the positions of their heads' offsets, 0 elsewhere. -/
def spreadOut (f : SpreadFacts ns n dil) (m : IVec ⟨2, ![36, dil]⟩ 1) (x : FVec Ideal ⟨6, ![2, 36, ns, n, dil, 128]⟩ .f32) : FVec Ideal ⟨4, ![2, 36, ns * n * dil, 128]⟩ .f32 :=
  shapeCast _ (select (broadcastInDim ⟨6, ![2, 36, ns, n, dil, 128]⟩ ![0, 1, 2, 3, 4, 5] f.wo (broadcastInDim ⟨6, ![1, 36, 1, 1, dil, 1]⟩ ![1, 4] f.mo m)) x
    (broadcastInDim ⟨6, ![2, 36, ns, n, dil, 128]⟩ ![] f.zo (constant S_ .f32 0x00000000#32))) f.co
/-- A slot's value at every place of its group. -/
def wideLse (f : SpreadFacts ns n dil) (x : FVec Ideal ⟨5, ![2, 36, ns, n, 1]⟩ .f32) : FVec Ideal ⟨5, ![2, 36, ns, n, dil]⟩ .f32 :=
  broadcastInDim ⟨5, ![2, 36, ns, n, dil]⟩ ![0, 1, 2, 3, 4] f.vl x
def wideOut (f : SpreadFacts ns n dil) (x : FVec Ideal ⟨6, ![2, 36, ns, n, 1, 128]⟩ .f32) : FVec Ideal ⟨6, ![2, 36, ns, n, dil, 128]⟩ .f32 :=
  broadcastInDim ⟨6, ![2, 36, ns, n, dil, 128]⟩ ![0, 1, 2, 3, 4, 5] f.vo x

section Read
variable (f : SpreadFacts ns n dil) {m : IVec ⟨2, ![36, dil]⟩ 1} (hm : IsOffset m) (b : Fin 2) (h : Fin 36) (g : Fin ns) (i : Fin n) (r : Fin dil)

include hm in
theorem spreadLse_apply (x : FVec Ideal ⟨5, ![2, 36, ns, n, dil]⟩ .f32) (p : Fin (ns * n * dil)) (hp : p.val = (g.val * n + i.val) * dil + r.val) :
    spreadLse f m x (ix3 b h p) = if h.val % dil = r.val then (x (ix5 b h g i r) : EReal) else ⊥ := by
  have hc : broadcastInDim ⟨5, ![2, 36, ns, n, dil]⟩ ![0, 1, 2, 3, 4] f.wl (broadcastInDim ⟨5, ![1, 36, 1, 1, dil]⟩ ![1, 4] f.ml m) (ix5 b h g i r) = m (ix2 h r) :=
    (broadcastInDim_apply _ f.wl _ (ix5 b h g i r) (ix5 (0 : Fin 1) h (0 : Fin 1) (0 : Fin 1) r) fun a => match a with
      | ⟨0, _⟩ => rfl | ⟨1, _⟩ => rfl | ⟨2, _⟩ => rfl | ⟨3, _⟩ => rfl | ⟨4, _⟩ => val_of_one r).trans
    (broadcastInDim_apply _ f.ml _ (ix5 (0 : Fin 1) h (0 : Fin 1) (0 : Fin 1) r) (ix2 h r) fun a => match a with | ⟨0, _⟩ => rfl | ⟨1, _⟩ => val_of_one r)
  have hb : (Ideal.ofBits .f32 0xFF800000#32 : EReal) = ⊥ := negInf
  unfold spreadLse
  refine (shapeCast_apply _ f.cl _ (ix5 b h g i r) (by
    rw [Shape.rowMajor_val_five, Shape.rowMajor_val_three]
    show (((b.val * 36 + h.val) * ns + g.val) * n + i.val) * dil + r.val = (b.val * 36 + h.val) * (ns * n * dil) + p.val
    rw [hp]
    ring)).trans ?_
  show (if broadcastInDim _ _ f.wl _ _ = 1#1 then _ else Ideal.ofBits .f32 0xFF800000#32) = _
  rw [hc, hb]
  exact if_congr (hm h r) rfl rfl

include hm in
theorem spreadOut_apply (x : FVec Ideal ⟨6, ![2, 36, ns, n, dil, 128]⟩ .f32) (p : Fin (ns * n * dil)) (hp : p.val = (g.val * n + i.val) * dil + r.val) (d : Fin 128) :
    spreadOut f m x (ix4 b h p d) = if h.val % dil = r.val then (x (ix6 b h g i r d) : EReal) else 0 := by
  have hc : broadcastInDim ⟨6, ![2, 36, ns, n, dil, 128]⟩ ![0, 1, 2, 3, 4, 5] f.wo (broadcastInDim ⟨6, ![1, 36, 1, 1, dil, 1]⟩ ![1, 4] f.mo m) (ix6 b h g i r d) = m (ix2 h r) :=
    (broadcastInDim_apply _ f.wo _ (ix6 b h g i r d) (ix6 (0 : Fin 1) h (0 : Fin 1) (0 : Fin 1) r (0 : Fin 1)) fun a => match a with
      | ⟨0, _⟩ => rfl | ⟨1, _⟩ => rfl | ⟨2, _⟩ => rfl | ⟨3, _⟩ => rfl | ⟨4, _⟩ => val_of_one r | ⟨5, _⟩ => rfl).trans
    (broadcastInDim_apply _ f.mo _ (ix6 (0 : Fin 1) h (0 : Fin 1) (0 : Fin 1) r (0 : Fin 1)) (ix2 h r) fun a => match a with | ⟨0, _⟩ => rfl | ⟨1, _⟩ => val_of_one r)
  have hb : (Ideal.ofBits .f32 0x00000000#32 : EReal) = 0 := Ideal.ofBits_zero_f32
  unfold spreadOut
  refine (shapeCast_apply _ f.co _ (ix6 b h g i r d) (by
    rw [Shape.rowMajor_val_six, Shape.rowMajor_val_four]
    show ((((b.val * 36 + h.val) * ns + g.val) * n + i.val) * dil + r.val) * 128 + d.val = ((b.val * 36 + h.val) * (ns * n * dil) + p.val) * 128 + d.val
    rw [hp]
    ring)).trans ?_
  show (if broadcastInDim _ _ f.wo _ _ = 1#1 then _ else Ideal.ofBits .f32 0x00000000#32) = _
  rw [hc, hb]
  exact if_congr (hm h r) rfl rfl

theorem wideLse_apply (x : FVec Ideal ⟨5, ![2, 36, ns, n, 1]⟩ .f32) : wideLse f x (ix5 b h g i r) = x (ix5 b h g i 0) :=
  broadcastInDim_apply _ f.vl _ (ix5 b h g i r) (ix5 b h g i (0 : Fin 1)) fun a => match a with
    | ⟨0, _⟩ => rfl | ⟨1, _⟩ => rfl | ⟨2, _⟩ => val_of_one g | ⟨3, _⟩ => val_of_one i | ⟨4, _⟩ => rfl
theorem wideOut_apply (x : FVec Ideal ⟨6, ![2, 36, ns, n, 1, 128]⟩ .f32) (d : Fin 128) : wideOut f x (ix6 b h g i r d) = x (ix6 b h g i 0 d) :=
  broadcastInDim_apply _ f.vo _ (ix6 b h g i r d) (ix6 b h g i (0 : Fin 1) d) fun a => match a with
    | ⟨0, _⟩ => rfl | ⟨1, _⟩ => rfl | ⟨2, _⟩ => val_of_one g | ⟨3, _⟩ => val_of_one i | ⟨4, _⟩ => rfl | ⟨5, _⟩ => rfl
end Read

/-! ## A pallas_call's rows -/

/-- The log-sum-exps of the rows, of `npad` slots the first `n`. -/
def rowsLse (h0 : (⟨3, ![nb, n, 1]⟩ : Shape).ShapeCasts ⟨2, ![nb, n]⟩) (h1 : (⟨2, ![nb, n]⟩ : Shape).ShapeCasts ⟨5, ![2, 36, ns, n, 1]⟩)
    (x : FVec Ideal ⟨3, ![nb, n, 1]⟩ .f32) : FVec Ideal ⟨5, ![2, 36, ns, n, 1]⟩ .f32 :=
  shapeCast _ (shapeCast ⟨2, ![nb, n]⟩ x h0) h1
def rowsOut (h0 : (⟨3, ![nb, n, 128]⟩ : Shape).ShapeCasts ⟨6, ![2, 36, ns, n, 1, 128]⟩) (x : FVec Ideal ⟨3, ![nb, n, 128]⟩ .f32) :
    FVec Ideal ⟨6, ![2, 36, ns, n, 1, 128]⟩ .f32 := shapeCast _ x h0
def cutLse (h0 : (⟨3, ![nb, npad, 1]⟩ : Shape).ShapeCasts ⟨2, ![nb, npad]⟩) (hs : (⟨2, ![nb, npad]⟩ : Shape).Slices ![0, 0] ⟨2, ![nb, n]⟩)
    (h1 : (⟨2, ![nb, n]⟩ : Shape).ShapeCasts ⟨5, ![2, 36, ns, n, 1]⟩)
    (x : FVec Ideal ⟨3, ![nb, npad, 1]⟩ .f32) : FVec Ideal ⟨5, ![2, 36, ns, n, 1]⟩ .f32 :=
  shapeCast _ (extractStridedSlice ⟨2, ![nb, n]⟩ ![0, 0] (shapeCast ⟨2, ![nb, npad]⟩ x h0) hs) h1
def cutOut (hs : (⟨3, ![nb, npad, 128]⟩ : Shape).Slices ![0, 0, 0] ⟨3, ![nb, n, 128]⟩) (h0 : (⟨3, ![nb, n, 128]⟩ : Shape).ShapeCasts ⟨6, ![2, 36, ns, n, 1, 128]⟩)
    (x : FVec Ideal ⟨3, ![nb, npad, 128]⟩ .f32) : FVec Ideal ⟨6, ![2, 36, ns, n, 1, 128]⟩ .f32 :=
  shapeCast _ (extractStridedSlice ⟨3, ![nb, n, 128]⟩ ![0, 0, 0] x hs) h0

section Rows
variable (b : Fin 2) (h : Fin 36) (g : Fin ns) (i : Fin n) (row : Fin nb) (hrow : row.val = (b.val * 36 + h.val) * ns + g.val)
include hrow
theorem rowsLse_apply (h0 h1) (x : FVec Ideal ⟨3, ![nb, n, 1]⟩ .f32) : rowsLse (ns := ns) h0 h1 x (ix5 b h g i 0) = x (ix3 row i 0) :=
  (shapeCast_apply _ h1 _ (ix2 row i) (by
    rw [Shape.rowMajor_val_five, Shape.rowMajor_val_two]
    show row.val * n + i.val = (((b.val * 36 + h.val) * ns + g.val) * n + i.val) * 1 + 0
    rw [hrow, Nat.mul_one, Nat.add_zero])).trans
  (shapeCast_apply _ h0 _ (ix3 row i (0 : Fin 1)) (by
    rw [Shape.rowMajor_val_three, Shape.rowMajor_val_two]
    show (row.val * n + i.val) * 1 + 0 = row.val * n + i.val
    rw [Nat.mul_one, Nat.add_zero]))
theorem rowsOut_apply (h0) (x : FVec Ideal ⟨3, ![nb, n, 128]⟩ .f32) (d : Fin 128) : rowsOut (ns := ns) h0 x (ix6 b h g i 0 d) = x (ix3 row i d) :=
  shapeCast_apply _ h0 _ (ix3 row i d) (by
    rw [Shape.rowMajor_val_six, Shape.rowMajor_val_three]
    show (row.val * n + i.val) * 128 + d.val = ((((b.val * 36 + h.val) * ns + g.val) * n + i.val) * 1 + 0) * 128 + d.val
    rw [hrow, Nat.mul_one, Nat.add_zero])
theorem cutLse_apply (h0 hs h1) (x : FVec Ideal ⟨3, ![nb, npad, 1]⟩ .f32) (j : Fin npad) (hj : j.val = i.val) :
    cutLse (ns := ns) (n := n) h0 hs h1 x (ix5 b h g i 0) = x (ix3 row j 0) :=
  (shapeCast_apply _ h1 _ (ix2 row i) (by
    rw [Shape.rowMajor_val_five, Shape.rowMajor_val_two]
    show row.val * n + i.val = (((b.val * 36 + h.val) * ns + g.val) * n + i.val) * 1 + 0
    rw [hrow, Nat.mul_one, Nat.add_zero])).trans
  ((extractStridedSlice_apply _ _ hs _ (ix2 row j) fun a => match a with
    | ⟨0, _⟩ => (Nat.zero_add _).symm | ⟨1, _⟩ => (by show j.val = 0 + i.val; omega)).trans
  (shapeCast_apply _ h0 _ (ix3 row j (0 : Fin 1)) (by
    rw [Shape.rowMajor_val_three, Shape.rowMajor_val_two]
    show (row.val * npad + j.val) * 1 + 0 = row.val * npad + j.val
    rw [Nat.mul_one, Nat.add_zero])))
theorem cutOut_apply (hs h0) (x : FVec Ideal ⟨3, ![nb, npad, 128]⟩ .f32) (j : Fin npad) (hj : j.val = i.val) (d : Fin 128) :
    cutOut (ns := ns) (n := n) hs h0 x (ix6 b h g i 0 d) = x (ix3 row j d) :=
  (shapeCast_apply _ h0 _ (ix3 row i d) (by
    rw [Shape.rowMajor_val_six, Shape.rowMajor_val_three]
    show (row.val * n + i.val) * 128 + d.val = ((((b.val * 36 + h.val) * ns + g.val) * n + i.val) * 1 + 0) * 128 + d.val
    rw [hrow, Nat.mul_one, Nat.add_zero])).trans
  (extractStridedSlice_apply _ _ hs _ (ix3 row j d) fun a => match a with
    | ⟨0, _⟩ => (Nat.zero_add _).symm | ⟨1, _⟩ => (by show j.val = 0 + i.val; omega) | ⟨2, _⟩ => (Nat.zero_add _).symm)
end Rows

/-! ## The pattern at a position of a segment -/

section Pos
variable {sg S base L : ℕ} (e : Segment sg dil S base L npad) (h : Fin 36) (i : Fin npad) (r : ℕ) (hr : r < dil) (hL : i.val * dil + r < L)
  (t : Fin 20480) (ht : t.val = base + (i.val * dil + r)) {qk vs : (⟨2, ![nb, 1]⟩ : Shape).Idx → EReal} {xq xk xv : (⟨3, ![nb, npad, 128]⟩ : Shape).Idx → EReal}
  (row : Fin nb) {c v0 : EReal} {q k v : Fin 20480 → Fin 128 → EReal} (hc : qk (ix2 row 0) = c) (hv0 : vs (ix2 row 0) = v0)
  (hq : Holds e h.val (fun i d => xq (ix3 row i d)) q) (hk : Holds e h.val (fun i d => xk (ix3 row i d)) k)
  (hv : Holds e h.val (fun i d => xv (ix3 row i d)) v)

include e hr hL ht in
theorem not_takes (ho : ¬ h.val % dil = r) : ¬ Takes sg dil h.val t.val := by
  have h1 : t.val % sg % dil = r := by
    rw [ht, e.mod_eq hL, Nat.mul_comm, Nat.mul_add_mod, Nat.mod_eq_of_lt hr]
  intro hh
  exact ho (hh.symm.trans h1)

include hr hL ht hc hq hk in
theorem lse_pos : (if h.val % dil = r then regionLse qk xq xk (ix3 row i 0) else ⊥) = posLse sg dil h.val c q k t := by
  by_cases ho : h.val % dil = r
  · rw [if_pos ho]
    have hi : Real dil L (h.val % dil) i.val := by rw [ho]; exact hL
    have et : t = ⟨base + (i.val * dil + h.val % dil), e.at_lt hi⟩ := Fin.ext (ht.trans (by
      show base + (i.val * dil + r) = base + (i.val * dil + h.val % dil)
      rw [ho]))
    rw [et, ← slotLse_eq_posLse e c hq hk i hi, ← hc]
    rfl
  · rw [if_neg ho]
    unfold posLse
    rw [if_neg (not_takes e h i r hr hL t ht ho)]

include hr hL ht hc hv0 hq hk hv in
theorem out_pos (d : Fin 128) : (if h.val % dil = r then regionOut qk vs xq xk xv (ix3 row i d) else 0) = posOut sg dil h.val c v0 q k v t d := by
  by_cases ho : h.val % dil = r
  · rw [if_pos ho]
    have hi : Real dil L (h.val % dil) i.val := by rw [ho]; exact hL
    have et : t = ⟨base + (i.val * dil + h.val % dil), e.at_lt hi⟩ := Fin.ext (ht.trans (by
      show base + (i.val * dil + r) = base + (i.val * dil + h.val % dil)
      rw [ho]))
    rw [et, ← slotOut_eq_posOut e c v0 hq hk hv i hi, ← hc, ← hv0]
    rfl
  · rw [if_neg ho]
    unfold posOut
    rw [if_neg (not_takes e h i r hr hL t ht ho)]
end Pos

end Cert.Dilated

end
-- ==== Proof.Cover.lean ====
/-
  A region's results spread over its positions are the pattern (`cover_lse`, `cover_out`), for any pattern whose segments
  the region's rows hold; and so the kernel's arrays of each of the three patterns are the pattern's over the whole
  sequence (`pattern0_lse` … `pattern2_out`).
-/
module

public import proofs.«01_k».proof.Proof.Spread

@[expose] public section

set_option maxRecDepth 16384

noncomputable section

namespace Cert.Dilated

open Idealize.ShloMosaic hiding ix1 ix2 ix3 ix4 ix5 ix6
open Idealize.ShloMosaic.ValueIdx
open Cert.KernelIdeal Cert.KernelIdeal.Gen

/-- The numbers of a region that holds a pattern's segments of `L` positions from position `start` on. -/
structure Cover (sg dil start len ns n npad nb L : ℕ) : Prop where
  seg : ∀ g < ns, ∃ S, Segment sg dil S (start + g * n * dil) L npad
  num : ∀ g < ns, SparseNumbers start len ns n dil npad g (start + g * n * dil) L
  dil_pos : 0 < dil
  n_le : n ≤ npad
  nb_eq : nb = 72 * ns
  reach : ∀ p < len, p / dil % n * dil + p % dil < L

/-- The shape facts of repeating the scales. -/
structure RepeatFacts (ns nb : ℕ) : Prop where
  h0 : (⟨2, ![2, 36]⟩ : Shape).ShapeCasts ⟨2, ![72, 1]⟩
  h1 : (⟨2, ![72, 1]⟩ : Shape).BroadcastsInDim ⟨3, ![72, ns, 1]⟩ ![0, 2]
  h2 : (⟨3, ![72, ns, 1]⟩ : Shape).ShapeCasts ⟨2, ![nb, 1]⟩

section Cover
variable {sg dil start len ns n npad nb L : ℕ} (K : Cover sg dil start len ns n npad nb L) (f : SparseFacts start len ns n dil npad nb) (hd : dil - 1 < dil)
  (rf : RepeatFacts ns nb) (sf : SpreadFacts ns n dil) {m : IVec ⟨2, ![36, dil]⟩ 1} (hm : IsOffset m) (c vs : FVec Ideal ⟨2, ![2, 36]⟩ .f32)
  (q k v : Codes ⟨4, ![2, 36, 20480, 128]⟩)

/-- The region's log-sum-exps. -/
abbrev coverLse : (⟨3, ![nb, npad, 1]⟩ : Shape).Idx → EReal :=
  regionLse (repeated ns nb rf.h0 rf.h1 rf.h2 c) (sparse f hd q) (sparse f hd k)
/-- The region's attention. -/
abbrev coverOut : (⟨3, ![nb, npad, 128]⟩ : Shape).Idx → EReal :=
  regionOut (repeated ns nb rf.h0 rf.h1 rf.h2 c) (repeated ns nb rf.h0 rf.h1 rf.h2 vs) (sparse f hd q) (sparse f hd k) (sparse f hd v)

include K in
theorem Cover.n_pos (p : Fin (ns * n * dil)) : 0 < n := by
  have hlt := p.isLt
  rcases Nat.eq_zero_or_pos n with h | h
  · subst h
    simp at hlt
  · exact h

theorem place_eq (p : ℕ) (t : ℕ) (ht : t = start + p) : t = start + p / dil / n * n * dil + (p / dil % n * dil + p % dil) := by
  have h1 := Nat.div_add_mod p dil
  have h2 := Nat.div_add_mod (p / dil) n
  have h3 : p / dil / n * n * dil + p / dil % n * dil = p / dil * dil := by
    rw [← Nat.add_mul, Nat.mul_comm (p / dil / n) n, h2]
  rw [Nat.mul_comm] at h1
  omega

include K hm in
theorem cover_lse (y : FVec Ideal ⟨5, ![2, 36, ns, n, dil]⟩ .f32)
    (hy : ∀ (b : Fin 2) (h : Fin 36) (g : Fin ns) (i : Fin n) (r : Fin dil) (row : Fin nb) (j : Fin npad), row.val = (b.val * 36 + h.val) * ns + g.val →
      j.val = i.val → y (ix5 b h g i r) = coverLse f hd rf c q k (ix3 row j 0))
    (b : Fin 2) (h : Fin 36) (p : Fin (ns * n * dil)) (hp : p.val < len) (t : Fin 20480) (ht : t.val = start + p.val) :
    spreadLse sf m y (ix3 b h p) = posLse sg dil h.val (c (ix2 b h)) (fun t d => q (ix4 b h t d)) (fun t d => k (ix4 b h t d)) t := by
  have hn := Cover.n_pos K p
  have hg : p.val / dil / n < ns := Nat.div_lt_of_lt_mul (by
    rw [Nat.mul_comm n ns]
    exact Nat.div_lt_of_lt_mul (by rw [Nat.mul_comm dil]; exact p.isLt))
  have hi : p.val / dil % n < n := Nat.mod_lt _ hn
  have hr : p.val % dil < dil := Nat.mod_lt _ K.dil_pos
  have hrow : (b.val * 36 + h.val) * ns + p.val / dil / n < nb := by
    have h1 : (b.val * 36 + h.val + 1) * ns ≤ 72 * ns := Nat.mul_le_mul_right ns (by have := b.isLt; have := h.isLt; omega)
    rw [Nat.succ_mul] at h1
    rw [K.nb_eq]
    omega
  obtain ⟨S, e⟩ := K.seg _ hg
  have hpl := place_eq (start := start) (dil := dil) (n := n) p.val t.val ht
  have hpp : p.val = (p.val / dil / n * n + p.val / dil % n) * dil + p.val % dil := by
    have := place_eq (start := 0) (dil := dil) (n := n) p.val p.val (Nat.zero_add _).symm
    rw [Nat.add_mul]
    omega
  rw [spreadLse_apply sf hm b h ⟨_, hg⟩ ⟨_, hi⟩ ⟨_, hr⟩ y p hpp,
    hy b h ⟨_, hg⟩ ⟨_, hi⟩ ⟨_, hr⟩ ⟨_, hrow⟩ ⟨_, lt_of_lt_of_le hi K.n_le⟩ rfl rfl]
  exact lse_pos e h ⟨_, lt_of_lt_of_le hi K.n_le⟩ _ hr (K.reach _ hp) t hpl ⟨_, hrow⟩
    (repeated_apply rf.h0 rf.h1 rf.h2 c b h _ hg ⟨_, hrow⟩ rfl)
    (sparse_holds f hd e (K.num _ hg) q b h ⟨_, hrow⟩ rfl) (sparse_holds f hd e (K.num _ hg) k b h ⟨_, hrow⟩ rfl)

include K hm in
theorem cover_out (y : FVec Ideal ⟨6, ![2, 36, ns, n, dil, 128]⟩ .f32)
    (hy : ∀ (b : Fin 2) (h : Fin 36) (g : Fin ns) (i : Fin n) (r : Fin dil) (row : Fin nb) (j : Fin npad) (d : Fin 128), row.val = (b.val * 36 + h.val) * ns + g.val →
      j.val = i.val → y (ix6 b h g i r d) = coverOut f hd rf c vs q k v (ix3 row j d))
    (b : Fin 2) (h : Fin 36) (p : Fin (ns * n * dil)) (hp : p.val < len) (t : Fin 20480) (ht : t.val = start + p.val) (d : Fin 128) :
    spreadOut sf m y (ix4 b h p d)
      = posOut sg dil h.val (c (ix2 b h)) (vs (ix2 b h)) (fun t d => q (ix4 b h t d)) (fun t d => k (ix4 b h t d)) (fun t d => v (ix4 b h t d)) t d := by
  have hn := Cover.n_pos K p
  have hg : p.val / dil / n < ns := Nat.div_lt_of_lt_mul (by
    rw [Nat.mul_comm n ns]
    exact Nat.div_lt_of_lt_mul (by rw [Nat.mul_comm dil]; exact p.isLt))
  have hi : p.val / dil % n < n := Nat.mod_lt _ hn
  have hr : p.val % dil < dil := Nat.mod_lt _ K.dil_pos
  have hrow : (b.val * 36 + h.val) * ns + p.val / dil / n < nb := by
    have h1 : (b.val * 36 + h.val + 1) * ns ≤ 72 * ns := Nat.mul_le_mul_right ns (by have := b.isLt; have := h.isLt; omega)
    rw [Nat.succ_mul] at h1
    rw [K.nb_eq]
    omega
  obtain ⟨S, e⟩ := K.seg _ hg
  have hpl := place_eq (start := start) (dil := dil) (n := n) p.val t.val ht
  have hpp : p.val = (p.val / dil / n * n + p.val / dil % n) * dil + p.val % dil := by
    have := place_eq (start := 0) (dil := dil) (n := n) p.val p.val (Nat.zero_add _).symm
    rw [Nat.add_mul]
    omega
  rw [spreadOut_apply sf hm b h ⟨_, hg⟩ ⟨_, hi⟩ ⟨_, hr⟩ y p hpp d,
    hy b h ⟨_, hg⟩ ⟨_, hi⟩ ⟨_, hr⟩ ⟨_, hrow⟩ ⟨_, lt_of_lt_of_le hi K.n_le⟩ d rfl rfl]
  exact out_pos e h ⟨_, lt_of_lt_of_le hi K.n_le⟩ _ hr (K.reach _ hp) t hpl ⟨_, hrow⟩
    (repeated_apply rf.h0 rf.h1 rf.h2 c b h _ hg ⟨_, hrow⟩ rfl) (repeated_apply rf.h0 rf.h1 rf.h2 vs b h _ hg ⟨_, hrow⟩ rfl)
    (sparse_holds f hd e (K.num _ hg) q b h ⟨_, hrow⟩ rfl) (sparse_holds f hd e (K.num _ hg) k b h ⟨_, hrow⟩ rfl)
    (sparse_holds f hd e (K.num _ hg) v b h ⟨_, hrow⟩ rfl) d
end Cover

/-! ## The five regions' numbers -/

theorem facts1 : SparseFacts 0 18432 3 2048 3 2048 216 := by constructor <;> decide
theorem facts2 : SparseFacts 18432 2048 1 683 3 704 72 := by constructor <;> decide
theorem facts3 : SparseFacts 0 18432 1 2048 9 2048 72 := by constructor <;> decide
theorem facts4 : SparseFacts 18432 2048 1 228 9 256 72 := by constructor <;> decide
theorem repeats10 : RepeatFacts 10 720 := by constructor <;> decide
theorem repeats3 : RepeatFacts 3 216 := by constructor <;> decide
theorem repeats1 : RepeatFacts 1 72 := by constructor <;> decide
theorem spread0 : SpreadFacts 10 2048 1 := by constructor <;> decide
theorem spread1 : SpreadFacts 3 2048 3 := by constructor <;> decide
theorem spread2 : SpreadFacts 1 683 3 := by constructor <;> decide
theorem spread3 : SpreadFacts 1 2048 9 := by constructor <;> decide
theorem spread4 : SpreadFacts 1 228 9 := by constructor <;> decide

theorem cover0 : Cover 2048 1 0 20480 10 2048 2048 720 2048 where
  seg g hg := ⟨g, by constructor <;> omega⟩
  num g hg := by constructor <;> (try intro i hi o ho) <;> omega
  dil_pos := by omega
  n_le := by omega
  nb_eq := by omega
  reach p hp := by omega
theorem cover1 : Cover 6144 3 0 18432 3 2048 2048 216 6144 where
  seg g hg := ⟨g, by constructor <;> omega⟩
  num g hg := by constructor <;> (try intro i hi o ho) <;> omega
  dil_pos := by omega
  n_le := by omega
  nb_eq := by omega
  reach p hp := by omega
theorem cover2 : Cover 6144 3 18432 2048 1 683 704 72 2048 where
  seg g hg := ⟨3, by constructor <;> omega⟩
  num g hg := by constructor <;> (try intro i hi o ho) <;> omega
  dil_pos := by omega
  n_le := by omega
  nb_eq := by omega
  reach p hp := by omega
theorem cover3 : Cover 18432 9 0 18432 1 2048 2048 72 18432 where
  seg g hg := ⟨g, by constructor <;> omega⟩
  num g hg := by constructor <;> (try intro i hi o ho) <;> omega
  dil_pos := by omega
  n_le := by omega
  nb_eq := by omega
  reach p hp := by omega
theorem cover4 : Cover 18432 9 18432 2048 1 228 256 72 2048 where
  seg g hg := ⟨1, by constructor <;> omega⟩
  num g hg := by constructor <;> (try intro i hi o ho) <;> omega
  dil_pos := by omega
  n_le := by omega
  nb_eq := by omega
  reach p hp := by omega

end Cert.Dilated

end
-- ==== Proof.Patterns.lean ====
/-
  The kernel's arrays of each of its three dilated patterns, its pallas_calls' results spread over the positions and joined,
  are the pattern's attention and log-sum-exps over the whole sequence (`pattern0_lse` … `pattern2_out`).
-/
module

public import proofs.«01_k».proof.Proof.Cover
public import proofs.«01_k».proof.Proof.Positions

@[expose] public section

set_option maxRecDepth 16384

noncomputable section

namespace Cert.Dilated

open Idealize.ShloMosaic hiding ix1 ix2 ix3 ix4 ix5 ix6
open Idealize.ShloMosaic.ValueIdx
open Cert.KernelIdeal Cert.KernelIdeal.Gen

/-! ## The arrays -/

abbrev offsetIs3 : IVec S36x3 1 := offsetIs 3 bcast_S36_S36x1_0 bcast_S3_S1x3_1 bcast_S36x1_S36x3_0_1 bcast_S1x3_S36x3_0_1
abbrev offsetIs9 : IVec S36x9 1 := offsetIs 9 bcast_S36_S36x1_0 bcast_S9_S1x9_1 bcast_S36x1_S36x9_0_1 bcast_S1x9_S36x9_0_1

/-- Pattern 0's log-sum-exps and attention, of its pallas_call's results. -/
def lseOf0 (x : FVec Ideal S720x2048x1 .f32) : FVec Ideal S2x36x20480 .f32 :=
  spreadLse spread0 offsetIs1 (rowsLse shapeCasts_S720x2048x1_S720x2048 shapeCasts_S720x2048_S2x36x10x2048x1 x)
def outOf0 (x : FVec Ideal S720x2048x128 .f32) : FVec Ideal S2x36x20480x128 .f32 :=
  spreadOut spread0 offsetIs1 (rowsOut shapeCasts_S720x2048x128_S2x36x10x2048x1x128 x)
/-- Pattern 1's, of its whole segments. -/
def lseOf1 (x : FVec Ideal S216x2048x1 .f32) : FVec Ideal S2x36x18432 .f32 :=
  spreadLse spread1 offsetIs3 (wideLse spread1 (rowsLse shapeCasts_S216x2048x1_S216x2048 shapeCasts_S216x2048_S2x36x3x2048x1 x))
def outOf1 (x : FVec Ideal S216x2048x128 .f32) : FVec Ideal S2x36x18432x128 .f32 :=
  spreadOut spread1 offsetIs3 (wideOut spread1 (rowsOut shapeCasts_S216x2048x128_S2x36x3x2048x1x128 x))
/-- Pattern 1's, of its last segment. -/
def lseOf2 (x : FVec Ideal S72x704x1 .f32) : FVec Ideal S2x36x2049 .f32 :=
  spreadLse spread2 offsetIs3 (wideLse spread2 (cutLse shapeCasts_S72x704x1_S72x704 slices_S72x704_S72x683_0_0 shapeCasts_S72x683_S2x36x1x683x1 x))
def outOf2 (x : FVec Ideal S72x704x128 .f32) : FVec Ideal S2x36x2049x128 .f32 :=
  spreadOut spread2 offsetIs3 (wideOut spread2 (cutOut slices_S72x704x128_S72x683x128_0_0_0 shapeCasts_S72x683x128_S2x36x1x683x1x128 x))
/-- Pattern 2's, of its whole segment. -/
def lseOf3 (x : FVec Ideal S72x2048x1 .f32) : FVec Ideal S2x36x18432 .f32 :=
  spreadLse spread3 offsetIs9 (wideLse spread3 (rowsLse shapeCasts_S72x2048x1_S72x2048 shapeCasts_S72x2048_S2x36x1x2048x1 x))
def outOf3 (x : FVec Ideal S72x2048x128 .f32) : FVec Ideal S2x36x18432x128 .f32 :=
  spreadOut spread3 offsetIs9 (wideOut spread3 (rowsOut shapeCasts_S72x2048x128_S2x36x1x2048x1x128 x))
/-- Pattern 2's, of its last segment. -/
def lseOf4 (x : FVec Ideal S72x256x1 .f32) : FVec Ideal S2x36x2052 .f32 :=
  spreadLse spread4 offsetIs9 (wideLse spread4 (cutLse shapeCasts_S72x256x1_S72x256 slices_S72x256_S72x228_0_0 shapeCasts_S72x228_S2x36x1x228x1 x))
def outOf4 (x : FVec Ideal S72x256x128 .f32) : FVec Ideal S2x36x2052x128 .f32 :=
  spreadOut spread4 offsetIs9 (wideOut spread4 (cutOut slices_S72x256x128_S72x228x128_0_0_0 shapeCasts_S72x228x128_S2x36x1x228x1x128 x))

/-- The whole segments' positions and then the last segment's. -/
def joinLse {m : ℕ} (h : (⟨3, ![2, 36, m]⟩ : Shape).Slices ![0, 0, 0] S2x36x2048) (a : FVec Ideal S2x36x18432 .f32) (z : FVec Ideal ⟨3, ![2, 36, m]⟩ .f32) :
    FVec Ideal S2x36x20480 .f32 :=
  concatenate S2x36x20480 2 [⟨S2x36x18432, a⟩, ⟨S2x36x2048, extractStridedSlice S2x36x2048 ![0, 0, 0] z h⟩] concatenates_S2x36x18432_S2x36x2048_S2x36x20480_d2
def joinOut {m : ℕ} (h : (⟨4, ![2, 36, m, 128]⟩ : Shape).Slices ![0, 0, 0, 0] S2x36x2048x128) (a : FVec Ideal S2x36x18432x128 .f32)
    (z : FVec Ideal ⟨4, ![2, 36, m, 128]⟩ .f32) : FVec Ideal S2x36x20480x128 .f32 :=
  concatenate S2x36x20480x128 2 [⟨S2x36x18432x128, a⟩, ⟨S2x36x2048x128, extractStridedSlice S2x36x2048x128 ![0, 0, 0, 0] z h⟩]
    concatenates_S2x36x18432x128_S2x36x2048x128_S2x36x20480x128_d2

/-! ## Joining -/

theorem off_axis3 {x y : ℕ} (b : Fin 2) (h : Fin 36) (p : Fin x) (t : Fin y) : ∀ a : Fin 3, a ≠ 2 → (ix3 b h p a).val = (ix3 b h t a).val
  | ⟨0, _⟩, _ => rfl
  | ⟨1, _⟩, _ => rfl
  | ⟨2, _⟩, hne => absurd rfl hne
theorem off_axis4 {x y : ℕ} (b : Fin 2) (h : Fin 36) (p : Fin x) (t : Fin y) (d : Fin 128) : ∀ a : Fin 4, a ≠ 2 → (ix4 b h p d a).val = (ix4 b h t d a).val
  | ⟨0, _⟩, _ => rfl
  | ⟨1, _⟩, _ => rfl
  | ⟨2, _⟩, hne => absurd rfl hne
  | ⟨3, _⟩, _ => rfl

theorem slice3 {x y : ℕ} (h : (⟨3, ![2, 36, x]⟩ : Shape).Slices ![0, 0, 0] ⟨3, ![2, 36, y]⟩) (z : FVec Ideal ⟨3, ![2, 36, x]⟩ .f32) (b : Fin 2) (hh : Fin 36)
    (p : Fin y) (p' : Fin x) (hp : p'.val = p.val) : extractStridedSlice ⟨3, ![2, 36, y]⟩ ![0, 0, 0] z h (ix3 b hh p) = z (ix3 b hh p') :=
  extractStridedSlice_apply _ z h _ (ix3 b hh p') fun a => match a with
    | ⟨0, _⟩ => (Nat.zero_add _).symm | ⟨1, _⟩ => (Nat.zero_add _).symm | ⟨2, _⟩ => hp.trans (Nat.zero_add _).symm
theorem slice4 {x y : ℕ} (h : (⟨4, ![2, 36, x, 128]⟩ : Shape).Slices ![0, 0, 0, 0] ⟨4, ![2, 36, y, 128]⟩) (z : FVec Ideal ⟨4, ![2, 36, x, 128]⟩ .f32) (b : Fin 2)
    (hh : Fin 36) (p : Fin y) (p' : Fin x) (hp : p'.val = p.val) (d : Fin 128) :
    extractStridedSlice ⟨4, ![2, 36, y, 128]⟩ ![0, 0, 0, 0] z h (ix4 b hh p d) = z (ix4 b hh p' d) :=
  extractStridedSlice_apply _ z h _ (ix4 b hh p' d) fun a => match a with
    | ⟨0, _⟩ => (Nat.zero_add _).symm | ⟨1, _⟩ => (Nat.zero_add _).symm | ⟨2, _⟩ => hp.trans (Nat.zero_add _).symm | ⟨3, _⟩ => (Nat.zero_add _).symm

section Join
variable {m : ℕ} (hm : 2048 ≤ m)

include hm in
theorem joinLse_eq (h : (⟨3, ![2, 36, m]⟩ : Shape).Slices ![0, 0, 0] S2x36x2048) (a : FVec Ideal S2x36x18432 .f32) (z : FVec Ideal ⟨3, ![2, 36, m]⟩ .f32)
    (y : S2x36x20480.Idx → EReal)
    (ha : ∀ (b : Fin 2) (h : Fin 36) (p : Fin 18432) (t : Fin 20480), t.val = p.val → a (ix3 b h p) = y (ix3 b h t))
    (hz : ∀ (b : Fin 2) (h : Fin 36) (p : Fin m) (t : Fin 20480), p.val < 2048 → t.val = 18432 + p.val → z (ix3 b h p) = y (ix3 b h t)) :
    joinLse h a z = y := by
  funext w
  obtain ⟨b, hh, t, rfl⟩ : ∃ (b : Fin 2) (hh : Fin 36) (t : Fin 20480), w = ix3 b hh t := ⟨w 0, w 1, w 2, ValueIdx.eq_ix3 w⟩
  have ht := t.isLt
  unfold joinLse
  by_cases hlt : t.val < 18432
  · rw [concatenate_pair_apply_left (t := S2x36x20480) (s₁ := S2x36x18432) (s₂ := S2x36x2048) (2 : Fin 3) a _ _ (ix3 b hh t) rfl (ix3 b hh (⟨t.val, hlt⟩ : Fin 18432)) fun a => match a with
      | ⟨0, _⟩ => rfl | ⟨1, _⟩ => rfl | ⟨2, _⟩ => rfl]
    exact ha b hh ⟨t.val, hlt⟩ t rfl
  · have hp2 : t.val - 18432 < 2048 := by omega
    have hp3 : t.val = 18432 + (t.val - 18432) := by omega
    rw [concatenate_pair_apply_right (t := S2x36x20480) (s₁ := S2x36x18432) (s₂ := S2x36x2048) (2 : Fin 3) a _ _ (ix3 b hh t) rfl rfl (ix3 b hh (⟨t.val - 18432, hp2⟩ : Fin 2048))
        (off_axis3 b hh _ t)
        (by show t.val - 18432 + 18432 = t.val; omega),
      slice3 h z b hh ⟨t.val - 18432, hp2⟩ ⟨t.val - 18432, lt_of_lt_of_le hp2 hm⟩ rfl]
    exact hz b hh ⟨t.val - 18432, lt_of_lt_of_le hp2 hm⟩ t hp2 hp3

include hm in
theorem joinOut_eq (h : (⟨4, ![2, 36, m, 128]⟩ : Shape).Slices ![0, 0, 0, 0] S2x36x2048x128) (a : FVec Ideal S2x36x18432x128 .f32)
    (z : FVec Ideal ⟨4, ![2, 36, m, 128]⟩ .f32) (y : S2x36x20480x128.Idx → EReal)
    (ha : ∀ (b : Fin 2) (h : Fin 36) (p : Fin 18432) (t : Fin 20480) (d : Fin 128), t.val = p.val → a (ix4 b h p d) = y (ix4 b h t d))
    (hz : ∀ (b : Fin 2) (h : Fin 36) (p : Fin m) (t : Fin 20480) (d : Fin 128), p.val < 2048 → t.val = 18432 + p.val → z (ix4 b h p d) = y (ix4 b h t d)) :
    joinOut h a z = y := by
  funext w
  obtain ⟨b, hh, t, d, rfl⟩ : ∃ (b : Fin 2) (hh : Fin 36) (t : Fin 20480) (d : Fin 128), w = ix4 b hh t d := ⟨w 0, w 1, w 2, w 3, ValueIdx.eq_ix4 w⟩
  have ht := t.isLt
  unfold joinOut
  by_cases hlt : t.val < 18432
  · rw [concatenate_pair_apply_left (t := S2x36x20480x128) (s₁ := S2x36x18432x128) (s₂ := S2x36x2048x128) (2 : Fin 4) a _ _ (ix4 b hh t d) rfl (ix4 b hh (⟨t.val, hlt⟩ : Fin 18432) d) fun a => match a with
      | ⟨0, _⟩ => rfl | ⟨1, _⟩ => rfl | ⟨2, _⟩ => rfl | ⟨3, _⟩ => rfl]
    exact ha b hh ⟨t.val, hlt⟩ t d rfl
  · have hp2 : t.val - 18432 < 2048 := by omega
    have hp3 : t.val = 18432 + (t.val - 18432) := by omega
    rw [concatenate_pair_apply_right (t := S2x36x20480x128) (s₁ := S2x36x18432x128) (s₂ := S2x36x2048x128) (2 : Fin 4) a _ _ (ix4 b hh t d) rfl rfl (ix4 b hh (⟨t.val - 18432, hp2⟩ : Fin 2048) d)
        (off_axis4 b hh _ t d)
        (by show t.val - 18432 + 18432 = t.val; omega),
      slice4 h z b hh ⟨t.val - 18432, hp2⟩ ⟨t.val - 18432, lt_of_lt_of_le hp2 hm⟩ rfl d]
    exact hz b hh ⟨t.val - 18432, lt_of_lt_of_le hp2 hm⟩ t d hp2 hp3
end Join

/-! ## The three patterns -/

variable (c vs : FVec Ideal S2x36 .f32) (q k v : Codes S2x36x20480x128)

abbrev regionLse0 := coverLse facts0 (by decide) repeats10 c q k
abbrev regionOut0 := coverOut facts0 (by decide) repeats10 c vs q k v
abbrev regionLse1 := coverLse facts1 (by decide) repeats3 c q k
abbrev regionOut1 := coverOut facts1 (by decide) repeats3 c vs q k v
abbrev regionLse2 := coverLse facts2 (by decide) repeats1 c q k
abbrev regionOut2 := coverOut facts2 (by decide) repeats1 c vs q k v
abbrev regionLse3 := coverLse facts3 (by decide) repeats1 c q k
abbrev regionOut3 := coverOut facts3 (by decide) repeats1 c vs q k v
abbrev regionLse4 := coverLse facts4 (by decide) repeats1 c q k
abbrev regionOut4 := coverOut facts4 (by decide) repeats1 c vs q k v

theorem isOffset3 : IsOffset (dil := 3) offsetIs3 := offsetIs_isOffset 3 (by omega) (by omega) _ _ _ _
theorem isOffset9 : IsOffset (dil := 9) offsetIs9 := offsetIs_isOffset 9 (by omega) (by omega) _ _ _ _

theorem pattern0_lse : lseOf0 (regionLse0 c q k) = dilLse 2048 1 c q k := by
  funext w
  obtain ⟨b, hh, t, rfl⟩ : ∃ (b : Fin 2) (hh : Fin 36) (t : Fin 20480), w = ix3 b hh t := ⟨w 0, w 1, w 2, ValueIdx.eq_ix3 w⟩
  exact cover_lse cover0 facts0 (by decide) repeats10 spread0 offsetIs1_isOffset c q k _ (fun b h g i r row j hrow hj => by
    obtain rfl : i = j := Fin.ext hj.symm
    obtain rfl : r = 0 := Subsingleton.elim _ _
    exact rowsLse_apply b h g i row hrow _ _ _) b hh t t.isLt t (Nat.zero_add _).symm

theorem pattern0_out : outOf0 (regionOut0 c vs q k v) = dilOut 2048 1 c vs q k v := by
  funext w
  obtain ⟨b, hh, t, d, rfl⟩ : ∃ (b : Fin 2) (hh : Fin 36) (t : Fin 20480) (d : Fin 128), w = ix4 b hh t d := ⟨w 0, w 1, w 2, w 3, ValueIdx.eq_ix4 w⟩
  exact cover_out cover0 facts0 (by decide) repeats10 spread0 offsetIs1_isOffset c vs q k v _ (fun b h g i r row j d hrow hj => by
    obtain rfl : i = j := Fin.ext hj.symm
    obtain rfl : r = 0 := Subsingleton.elim _ _
    exact rowsOut_apply b h g i row hrow _ _ d) b hh t t.isLt t (Nat.zero_add _).symm d

theorem pattern1_lse : joinLse slices_S2x36x2049_S2x36x2048_0_0_0 (lseOf1 (regionLse1 c q k)) (lseOf2 (regionLse2 c q k)) = dilLse 6144 3 c q k := by
  refine joinLse_eq (by omega) _ _ _ _ (fun b hh p t ht => ?_) fun b hh p t hp ht => ?_
  · exact cover_lse cover1 facts1 (by decide) repeats3 spread1 isOffset3 c q k _ (fun b h g i r row j hrow hj => by
      obtain rfl : i = j := Fin.ext hj.symm
      exact (wideLse_apply spread1 b h g i r _).trans (rowsLse_apply b h g i row hrow _ _ _)) b hh p p.isLt t (ht.trans (Nat.zero_add _).symm)
  · exact cover_lse cover2 facts2 (by decide) repeats1 spread2 isOffset3 c q k _ (fun b h g i r row j hrow hj =>
      (wideLse_apply spread2 b h g i r _).trans (cutLse_apply b h g i row hrow _ _ _ _ j hj)) b hh p hp t ht

theorem pattern1_out : joinOut slices_S2x36x2049x128_S2x36x2048x128_0_0_0_0 (outOf1 (regionOut1 c vs q k v)) (outOf2 (regionOut2 c vs q k v)) = dilOut 6144 3 c vs q k v := by
  refine joinOut_eq (by omega) _ _ _ _ (fun b hh p t d ht => ?_) fun b hh p t d hp ht => ?_
  · exact cover_out cover1 facts1 (by decide) repeats3 spread1 isOffset3 c vs q k v _ (fun b h g i r row j d hrow hj => by
      obtain rfl : i = j := Fin.ext hj.symm
      exact (wideOut_apply spread1 b h g i r _ d).trans (rowsOut_apply b h g i row hrow _ _ d)) b hh p p.isLt t (ht.trans (Nat.zero_add _).symm) d
  · exact cover_out cover2 facts2 (by decide) repeats1 spread2 isOffset3 c vs q k v _ (fun b h g i r row j d hrow hj =>
      (wideOut_apply spread2 b h g i r _ d).trans (cutOut_apply b h g i row hrow _ _ _ j hj d)) b hh p hp t ht d

theorem pattern2_lse : joinLse slices_S2x36x2052_S2x36x2048_0_0_0 (lseOf3 (regionLse3 c q k)) (lseOf4 (regionLse4 c q k)) = dilLse 18432 9 c q k := by
  refine joinLse_eq (by omega) _ _ _ _ (fun b hh p t ht => ?_) fun b hh p t hp ht => ?_
  · exact cover_lse cover3 facts3 (by decide) repeats1 spread3 isOffset9 c q k _ (fun b h g i r row j hrow hj => by
      obtain rfl : i = j := Fin.ext hj.symm
      exact (wideLse_apply spread3 b h g i r _).trans (rowsLse_apply b h g i row hrow _ _ _)) b hh p p.isLt t (ht.trans (Nat.zero_add _).symm)
  · exact cover_lse cover4 facts4 (by decide) repeats1 spread4 isOffset9 c q k _ (fun b h g i r row j hrow hj =>
      (wideLse_apply spread4 b h g i r _).trans (cutLse_apply b h g i row hrow _ _ _ _ j hj)) b hh p hp t ht

theorem pattern2_out : joinOut slices_S2x36x2052x128_S2x36x2048x128_0_0_0_0 (outOf3 (regionOut3 c vs q k v)) (outOf4 (regionOut4 c vs q k v)) = dilOut 18432 9 c vs q k v := by
  refine joinOut_eq (by omega) _ _ _ _ (fun b hh p t d ht => ?_) fun b hh p t d hp ht => ?_
  · exact cover_out cover3 facts3 (by decide) repeats1 spread3 isOffset9 c vs q k v _ (fun b h g i r row j d hrow hj => by
      obtain rfl : i = j := Fin.ext hj.symm
      exact (wideOut_apply spread3 b h g i r _ d).trans (rowsOut_apply b h g i row hrow _ _ d)) b hh p p.isLt t (ht.trans (Nat.zero_add _).symm) d
  · exact cover_out cover4 facts4 (by decide) repeats1 spread4 isOffset9 c vs q k v _ (fun b h g i r row j d hrow hj =>
      (wideOut_apply spread4 b h g i r _ d).trans (cutOut_apply b h g i row hrow _ _ _ j hj d)) b hh p hp t ht d

end Cert.Dilated

end
-- ==== Proof.Host0.lean ====
/-
  The host operations before the kernel's first pallas_call, read: the scales, queries, keys and values per head that every
  pallas_call's operands are made of (`scaleQK` … `heads`), and the first pallas_call's operands (`operand0_q` … `operand0_vs`).
-/
module

public import proofs.«01_k».proof.Proof.Runs
public import proofs.«01_k».proof.Proof.Patterns

@[expose] public section

set_option maxRecDepth 16384
set_option maxHeartbeats 8000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- All of them. -/
noncomputable def steps0 : List Step := [
  ⟨_, _, hostOps0_writes⟩, ⟨_, _, hostOps0_1_writes⟩, ⟨_, _, hostOps0_2_writes⟩]

/-- Each head's key and value head. -/
def sharedHead : IVec S36 32 :=
  select (andi (cmpi .ne (signi (iotaInDim S36 32 0)) (broadcastInDim S36 ![] bcast_S_S36 (signi (constantI S_ 32 2#32))))
    (cmpi .ne (Host.remsi (iotaInDim S36 32 0) (broadcastInDim S36 ![] bcast_S_S36 (constantI S_ 32 2#32))) (broadcastInDim S36 ![] bcast_S_S36 (constantI S_ 32 0#32))))
    (subi (Host.divsi (iotaInDim S36 32 0) (broadcastInDim S36 ![] bcast_S_S36 (constantI S_ 32 2#32))) (broadcastInDim S36 ![] bcast_S_S36 (constantI S_ 32 1#32)))
    (Host.divsi (iotaInDim S36 32 0) (broadcastInDim S36 ![] bcast_S_S36 (constantI S_ 32 2#32)))
/-- A scale of every key and value head, repeated over the heads that share it. -/
def scaleOfHead (x : FVec Ideal S2x18 .f32) : FVec Ideal S2x36 .f32 :=
  Host.gather gather_S2x18_S36x1_S2x36_0_1_n_n_1_1_21 x (broadcastInDim S36x1 ![0] bcast_S36_S36x1_0
    (select (cmpi .slt sharedHead (broadcastInDim S36 ![] bcast_S_S36 (constantI S_ 32 0#32)))
      (addi sharedHead (broadcastInDim S36 ![] bcast_S_S36 (constantI S_ 32 18#32))) sharedHead))
/-- The scores' factor of every head. -/
def scaleQK (x : FVec Ideal S2x36 .f32) (y : FVec Ideal S2x18 .f32) : FVec Ideal S2x36 .f32 :=
  mulf (mulf x (scaleOfHead y)) (broadcastInDim S2x36 ![] bcast_S_S2x36 (constant S_ .f32 0x3DB504F3#32))
/-- The queries by head. -/
def byHead (x : Codes S2x20480x36x128) : Codes S2x36x20480x128 := transpose S2x36x20480x128 [0, 2, 1, 3] x transposes_S2x20480x36x128_S2x36x20480x128_0_2_1_3
/-- The keys or values by head, each repeated for the two heads that share it. -/
def byHeadTwice (x : Codes S2x20480x18x128) : Codes S2x36x20480x128 :=
  shapeCast _ (broadcastInDim S2x18x2x20480x128 ![0, 1, 3, 4] bcast_S2x18x20480x128_S2x18x2x20480x128_0_1_3_4
    (transpose S2x18x20480x128 [0, 2, 1, 3] x transposes_S2x20480x18x128_S2x18x20480x128_0_2_1_3)) shapeCasts_S2x18x2x20480x128_S2x36x20480x128

theorem start_qk (V : Contents) : runs steps0 V (Proc.devRef .tc main_v11) =
    scaleQK (V (Proc.devRef .tc main_arg3)) (V (Proc.devRef .tc main_arg4)) := by
  simp only [steps0, List.cons_append, List.nil_append, runs]
  after_results_simp
  try simp only [TRef.ofBuf_toBuf, id_eq]
  try simp -implicitDefEqProofs only [TRef.toBuf, TRef.ofBuf, cast_cast, cast_eq]
  try rfl

theorem start_vs (V : Contents) : runs steps0 V (Proc.devRef .tc main_v18) =
    scaleOfHead (V (Proc.devRef .tc main_arg5)) := by
  simp only [steps0, List.cons_append, List.nil_append, runs]
  after_results_simp
  try simp only [TRef.ofBuf_toBuf, id_eq]
  try simp -implicitDefEqProofs only [TRef.toBuf, TRef.ofBuf, cast_cast, cast_eq]
  try rfl

theorem start_q (V : Contents) : runs steps0 V (Proc.devRef .tc main_v19) =
    byHead (V (Proc.devRef .tc main_arg0)) := by
  simp only [steps0, List.cons_append, List.nil_append, runs]
  after_results_simp
  try simp only [TRef.ofBuf_toBuf, id_eq]
  try simp -implicitDefEqProofs only [TRef.toBuf, TRef.ofBuf, cast_cast, cast_eq]
  try rfl

theorem start_k (V : Contents) : runs steps0 V (Proc.devRef .tc main_v22) =
    byHeadTwice (V (Proc.devRef .tc main_arg1)) := by
  simp only [steps0, List.cons_append, List.nil_append, runs]
  after_results_simp
  try simp only [TRef.ofBuf_toBuf, id_eq]
  try simp -implicitDefEqProofs only [TRef.toBuf, TRef.ofBuf, cast_cast, cast_eq]
  try rfl

theorem start_v (V : Contents) : runs steps0 V (Proc.devRef .tc main_v25) =
    byHeadTwice (V (Proc.devRef .tc main_arg2)) := by
  simp only [steps0, List.cons_append, List.nil_append, runs]
  after_results_simp
  try simp only [TRef.ofBuf_toBuf, id_eq]
  try simp -implicitDefEqProofs only [TRef.toBuf, TRef.ofBuf, cast_cast, cast_eq]
  try rfl

theorem heads0 (V : Contents) : runs steps0 V (Proc.devRef .tc main_v26) =
    iotaInDim S36 32 0 := by
  simp only [steps0, List.cons_append, List.nil_append, runs]
  after_results_simp
  try simp only [TRef.ofBuf_toBuf, id_eq]
  try simp -implicitDefEqProofs only [TRef.toBuf, TRef.ofBuf, cast_cast, cast_eq]
  try rfl

theorem operand0_q (V : Contents) : runs steps0 V (Proc.devRef .tc main_v33) =
    sparse0 (byHead (V (Proc.devRef .tc main_arg0))) := by
  simp only [steps0, List.cons_append, List.nil_append, runs]
  after_results_simp
  try simp only [TRef.ofBuf_toBuf, id_eq]
  try simp -implicitDefEqProofs only [TRef.toBuf, TRef.ofBuf, cast_cast, cast_eq]
  try rfl

theorem operand0_k (V : Contents) : runs steps0 V (Proc.devRef .tc main_v40) =
    sparse0 (byHeadTwice (V (Proc.devRef .tc main_arg1))) := by
  simp only [steps0, List.cons_append, List.nil_append, runs]
  after_results_simp
  try simp only [TRef.ofBuf_toBuf, id_eq]
  try simp -implicitDefEqProofs only [TRef.toBuf, TRef.ofBuf, cast_cast, cast_eq]
  try rfl

theorem operand0_v (V : Contents) : runs steps0 V (Proc.devRef .tc main_v47) =
    sparse0 (byHeadTwice (V (Proc.devRef .tc main_arg2))) := by
  simp only [steps0, List.cons_append, List.nil_append, runs]
  after_results_simp
  try simp only [TRef.ofBuf_toBuf, id_eq]
  try simp -implicitDefEqProofs only [TRef.toBuf, TRef.ofBuf, cast_cast, cast_eq]
  try rfl

theorem operand0_c (V : Contents) : runs steps0 V (Proc.devRef .tc main_v50) =
    repeated 10 _ repeats10.h0 repeats10.h1 repeats10.h2 (scaleQK (V (Proc.devRef .tc main_arg3)) (V (Proc.devRef .tc main_arg4))) := by
  simp only [steps0, List.cons_append, List.nil_append, runs]
  after_results_simp
  try simp only [TRef.ofBuf_toBuf, id_eq]
  try simp -implicitDefEqProofs only [TRef.toBuf, TRef.ofBuf, cast_cast, cast_eq]
  try rfl

theorem operand0_vs (V : Contents) : runs steps0 V (Proc.devRef .tc main_v53) =
    repeated 10 _ repeats10.h0 repeats10.h1 repeats10.h2 (scaleOfHead (V (Proc.devRef .tc main_arg5))) := by
  simp only [steps0, List.cons_append, List.nil_append, runs]
  after_results_simp
  try simp only [TRef.ofBuf_toBuf, id_eq]
  try simp -implicitDefEqProofs only [TRef.toBuf, TRef.ofBuf, cast_cast, cast_eq]
  try rfl

end Cert.Dilated

end
-- ==== Proof.Host1.lean ====
/-
  The host operations between the kernel's pallas_call 0 and pallas_call 1, read: the arrays made of pallas_call 0's results
  (`spread1_lse`, `spread1_out`), and pallas_call 1's five operands (`operand1_q` … `operand1_vs`).
-/
module

public import proofs.«01_k».proof.Proof.Runs
public import proofs.«01_k».proof.Proof.Patterns

@[expose] public section

set_option maxRecDepth 16384
set_option maxHeartbeats 8000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- The results' spreading over the positions. -/
noncomputable def spreadSteps1 : List Step := [
  ⟨_, _, hostOps1_writes⟩, ⟨_, _, hostOps1_1_writes⟩, ⟨_, _, hostOps1_2_writes⟩, ⟨_, _, hostOps1_3_writes⟩,
  ⟨_, _, hostOps1_4_writes⟩, ⟨_, _, hostOps1_5_writes⟩]
/-- Its last operation and the first of the queries' picking. -/
noncomputable def meet1a : List Step := [
  ⟨_, _, hostOps1_6_writes⟩]
/-- The queries' picking. -/
noncomputable def qSteps1 : List Step := [
  ⟨_, _, hostOps1_7_writes⟩, ⟨_, _, hostOps1_8_writes⟩, ⟨_, _, hostOps1_9_writes⟩, ⟨_, _, hostOps1_10_writes⟩,
  ⟨_, _, hostOps1_11_writes⟩, ⟨_, _, hostOps1_12_writes⟩, ⟨_, _, hostOps1_13_writes⟩]
/-- Its last operations and the first of the keys' picking. -/
noncomputable def meet1b : List Step := [
  ⟨_, _, hostOps1_14_writes⟩]
/-- The keys' picking. -/
noncomputable def kSteps1 : List Step := [
  ⟨_, _, hostOps1_15_writes⟩, ⟨_, _, hostOps1_16_writes⟩, ⟨_, _, hostOps1_17_writes⟩, ⟨_, _, hostOps1_18_writes⟩,
  ⟨_, _, hostOps1_19_writes⟩, ⟨_, _, hostOps1_20_writes⟩, ⟨_, _, hostOps1_21_writes⟩]
/-- Its last operations and the first of the values' picking. -/
noncomputable def meet1c : List Step := [
  ⟨_, _, hostOps1_22_writes⟩]
/-- The values' picking, and the scales' repeating. -/
noncomputable def vSteps1 : List Step := [
  ⟨_, _, hostOps1_23_writes⟩, ⟨_, _, hostOps1_24_writes⟩, ⟨_, _, hostOps1_25_writes⟩, ⟨_, _, hostOps1_26_writes⟩,
  ⟨_, _, hostOps1_27_writes⟩, ⟨_, _, hostOps1_28_writes⟩, ⟨_, _, hostOps1_29_writes⟩, ⟨_, _, hostOps1_30_writes⟩]

/-- All of them. -/
noncomputable def steps1 : List Step := spreadSteps1 ++ (meet1a ++ (qSteps1 ++ (meet1b ++ (kSteps1 ++ (meet1c ++ vSteps1)))))

theorem spread1_lse (V : Contents) (hI : V (Proc.devRef .tc main_v26) = iotaInDim S36 32 0) : runs (spreadSteps1 ++ meet1a) V (Proc.devRef .tc main_v66) =
    lseOf0 (V (Proc.devRef .tc main_v54_1)) := by
  simp only [spreadSteps1, meet1a, List.cons_append, List.nil_append, runs]
  after_results_simp
  simp only [TRef.ofBuf_toBuf, id_eq, hI]
  simp -implicitDefEqProofs only [TRef.toBuf, TRef.ofBuf, cast_cast, cast_eq]
  rfl

theorem spread1_out (V : Contents) (hI : V (Proc.devRef .tc main_v26) = iotaInDim S36 32 0) : runs (spreadSteps1 ++ meet1a) V (Proc.devRef .tc main_v69) =
    outOf0 (V (Proc.devRef .tc main_v54_0)) := by
  simp only [spreadSteps1, meet1a, List.cons_append, List.nil_append, runs]
  after_results_simp
  simp only [TRef.ofBuf_toBuf, id_eq, hI]
  simp -implicitDefEqProofs only [TRef.toBuf, TRef.ofBuf, cast_cast, cast_eq]
  rfl

theorem heads1 (V : Contents) : runs meet1a V (Proc.devRef .tc main_v70) =
    iotaInDim S36 32 0 := by
  simp only [meet1a, List.cons_append, List.nil_append, runs]
  after_results_simp

theorem pick1_q (V : Contents) : runs (meet1a ++ (qSteps1 ++ meet1b)) V (Proc.devRef .tc main_v93) =
    sparse facts1 (by decide) (V (Proc.devRef .tc main_v19)) := by
  simp only [meet1a, qSteps1, meet1b, List.cons_append, List.nil_append, runs]
  after_results_simp
  simp only [TRef.ofBuf_toBuf, id_eq]
  simp -implicitDefEqProofs only [TRef.toBuf, TRef.ofBuf, cast_cast, cast_eq]
  rfl

theorem pick1_k (V : Contents) (hI : V (Proc.devRef .tc main_v70) = iotaInDim S36 32 0) : runs (meet1b ++ (kSteps1 ++ meet1c)) V (Proc.devRef .tc main_v116) =
    sparse facts1 (by decide) (V (Proc.devRef .tc main_v22)) := by
  simp only [meet1b, kSteps1, meet1c, List.cons_append, List.nil_append, runs]
  after_results_simp
  simp only [TRef.ofBuf_toBuf, id_eq, hI]
  simp -implicitDefEqProofs only [TRef.toBuf, TRef.ofBuf, cast_cast, cast_eq]
  rfl

theorem pick1_v (V : Contents) (hI : V (Proc.devRef .tc main_v70) = iotaInDim S36 32 0) : runs (meet1c ++ vSteps1) V (Proc.devRef .tc main_v139) =
    sparse facts1 (by decide) (V (Proc.devRef .tc main_v25)) := by
  simp only [meet1c, vSteps1, List.cons_append, List.nil_append, runs]
  after_results_simp
  simp only [TRef.ofBuf_toBuf, id_eq, hI]
  simp -implicitDefEqProofs only [TRef.toBuf, TRef.ofBuf, cast_cast, cast_eq]
  rfl

theorem scale1_c (V : Contents) : runs vSteps1 V (Proc.devRef .tc main_v142) =
    repeated 3 _ repeats3.h0 repeats3.h1 repeats3.h2 (V (Proc.devRef .tc main_v11)) := by
  simp only [vSteps1, List.cons_append, List.nil_append, runs]
  after_results_simp
  rfl

theorem scale1_vs (V : Contents) : runs vSteps1 V (Proc.devRef .tc main_v145) =
    repeated 3 _ repeats3.h0 repeats3.h1 repeats3.h2 (V (Proc.devRef .tc main_v18)) := by
  simp only [vSteps1, List.cons_append, List.nil_append, runs]
  after_results_simp
  rfl

/-! ## Over the whole stretch -/

theorem keep1_v11 (V : Contents) : runs steps1 V (Proc.devRef .tc main_v11) = V (Proc.devRef .tc main_v11) := runs_of _ _ (by decide +kernel)
theorem keep1_v18 (V : Contents) : runs steps1 V (Proc.devRef .tc main_v18) = V (Proc.devRef .tc main_v18) := runs_of _ _ (by decide +kernel)
theorem keep1_v19 (V : Contents) : runs steps1 V (Proc.devRef .tc main_v19) = V (Proc.devRef .tc main_v19) := runs_of _ _ (by decide +kernel)
theorem keep1_v22 (V : Contents) : runs steps1 V (Proc.devRef .tc main_v22) = V (Proc.devRef .tc main_v22) := runs_of _ _ (by decide +kernel)
theorem keep1_v25 (V : Contents) : runs steps1 V (Proc.devRef .tc main_v25) = V (Proc.devRef .tc main_v25) := runs_of _ _ (by decide +kernel)

variable (V : Contents)
theorem after1_lse (hI : V (Proc.devRef .tc main_v26) = iotaInDim S36 32 0) : runs steps1 V (Proc.devRef .tc main_v66) = lseOf0 (V (Proc.devRef .tc main_v54_1)) := by
  rw [show steps1 = (spreadSteps1 ++ meet1a) ++ (qSteps1 ++ (meet1b ++ (kSteps1 ++ (meet1c ++ vSteps1)))) from rfl, runs_append]
  exact (runs_of _ _ (by decide +kernel)).trans (spread1_lse V hI)
theorem after1_out (hI : V (Proc.devRef .tc main_v26) = iotaInDim S36 32 0) : runs steps1 V (Proc.devRef .tc main_v69) = outOf0 (V (Proc.devRef .tc main_v54_0)) := by
  rw [show steps1 = (spreadSteps1 ++ meet1a) ++ (qSteps1 ++ (meet1b ++ (kSteps1 ++ (meet1c ++ vSteps1)))) from rfl, runs_append]
  exact (runs_of _ _ (by decide +kernel)).trans (spread1_out V hI)
theorem heads1_b : (runs qSteps1 (runs meet1a (runs spreadSteps1 V))) (Proc.devRef .tc main_v70) = iotaInDim S36 32 0 := (runs_of _ _ (by decide +kernel)).trans (heads1 _)
theorem heads1_all : runs steps1 V (Proc.devRef .tc main_v70) = iotaInDim S36 32 0 := by
  rw [show steps1 = spreadSteps1 ++ (meet1a ++ (qSteps1 ++ (meet1b ++ (kSteps1 ++ (meet1c ++ vSteps1))))) from rfl, runs_append, runs_append]
  exact (runs_of _ _ (by decide +kernel)).trans (heads1 _)
theorem heads1_c : (runs kSteps1 (runs meet1b (runs qSteps1 (runs meet1a (runs spreadSteps1 V))))) (Proc.devRef .tc main_v70) = iotaInDim S36 32 0 := (runs_of _ _ (by decide +kernel)).trans ((runs_of _ _ (by decide +kernel)).trans (heads1_b V))
theorem operand1_q : runs steps1 V (Proc.devRef .tc main_v93) = sparse facts1 (by decide) (V (Proc.devRef .tc main_v19)) := by
  rw [show steps1 = spreadSteps1 ++ ((meet1a ++ (qSteps1 ++ meet1b)) ++ (kSteps1 ++ (meet1c ++ vSteps1))) from rfl, runs_append, runs_append]
  refine (runs_of _ _ (by decide +kernel)).trans ((pick1_q _).trans ?_)
  rw [runs_of spreadSteps1 V (r := main_v19) (by decide +kernel)]
theorem operand1_k : runs steps1 V (Proc.devRef .tc main_v116) = sparse facts1 (by decide) (V (Proc.devRef .tc main_v22)) := by
  rw [show steps1 = spreadSteps1 ++ (meet1a ++ (qSteps1 ++ ((meet1b ++ (kSteps1 ++ meet1c)) ++ vSteps1))) from rfl, runs_append, runs_append, runs_append, runs_append]
  refine (runs_of _ _ (by decide +kernel)).trans ((pick1_k _ (heads1_b V)).trans ?_)
  rw [runs_of qSteps1 _ (r := main_v22) (by decide +kernel), runs_of meet1a _ (r := main_v22) (by decide +kernel), runs_of spreadSteps1 _ (r := main_v22) (by decide +kernel)]
theorem operand1_v : runs steps1 V (Proc.devRef .tc main_v139) = sparse facts1 (by decide) (V (Proc.devRef .tc main_v25)) := by
  rw [show steps1 = spreadSteps1 ++ (meet1a ++ (qSteps1 ++ (meet1b ++ (kSteps1 ++ (meet1c ++ vSteps1))))) from rfl, runs_append, runs_append, runs_append, runs_append, runs_append]
  refine (pick1_v _ (heads1_c V)).trans ?_
  rw [runs_of kSteps1 _ (r := main_v25) (by decide +kernel), runs_of meet1b _ (r := main_v25) (by decide +kernel), runs_of qSteps1 _ (r := main_v25) (by decide +kernel), runs_of meet1a _ (r := main_v25) (by decide +kernel), runs_of spreadSteps1 _ (r := main_v25) (by decide +kernel)]
theorem operand1_c : runs steps1 V (Proc.devRef .tc main_v142) = repeated 3 _ repeats3.h0 repeats3.h1 repeats3.h2 (V (Proc.devRef .tc main_v11)) := by
  rw [show steps1 = (spreadSteps1 ++ (meet1a ++ (qSteps1 ++ (meet1b ++ (kSteps1 ++ meet1c))))) ++ vSteps1 from rfl, runs_append]
  refine (scale1_c _).trans ?_
  rw [runs_of (spreadSteps1 ++ (meet1a ++ (qSteps1 ++ (meet1b ++ (kSteps1 ++ meet1c))))) _ (r := main_v11) (by decide +kernel)]
theorem operand1_vs : runs steps1 V (Proc.devRef .tc main_v145) = repeated 3 _ repeats3.h0 repeats3.h1 repeats3.h2 (V (Proc.devRef .tc main_v18)) := by
  rw [show steps1 = (spreadSteps1 ++ (meet1a ++ (qSteps1 ++ (meet1b ++ (kSteps1 ++ meet1c))))) ++ vSteps1 from rfl, runs_append]
  refine (scale1_vs _).trans ?_
  rw [runs_of (spreadSteps1 ++ (meet1a ++ (qSteps1 ++ (meet1b ++ (kSteps1 ++ meet1c))))) _ (r := main_v18) (by decide +kernel)]

end Cert.Dilated

end
-- ==== Proof.Host2.lean ====
/-
  The host operations between the kernel's pallas_call 1 and pallas_call 2, read: the arrays made of pallas_call 1's results
  (`spread2_lse`, `spread2_out`), and pallas_call 2's five operands (`operand2_q` … `operand2_vs`).
-/
module

public import proofs.«01_k».proof.Proof.Runs
public import proofs.«01_k».proof.Proof.Patterns

@[expose] public section

set_option maxRecDepth 16384
set_option maxHeartbeats 8000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- The results' spreading over the positions. -/
noncomputable def spreadSteps2 : List Step := [
  ⟨_, _, hostOps2_writes⟩, ⟨_, _, hostOps2_1_writes⟩, ⟨_, _, hostOps2_2_writes⟩, ⟨_, _, hostOps2_3_writes⟩,
  ⟨_, _, hostOps2_4_writes⟩, ⟨_, _, hostOps2_5_writes⟩]
/-- Its last operation and the first of the queries' picking. -/
noncomputable def meet2a : List Step := [
  ⟨_, _, hostOps2_6_writes⟩]
/-- The queries' picking. -/
noncomputable def qSteps2 : List Step := [
  ⟨_, _, hostOps2_7_writes⟩, ⟨_, _, hostOps2_8_writes⟩, ⟨_, _, hostOps2_9_writes⟩, ⟨_, _, hostOps2_10_writes⟩,
  ⟨_, _, hostOps2_11_writes⟩, ⟨_, _, hostOps2_12_writes⟩, ⟨_, _, hostOps2_13_writes⟩]
/-- Its last operations and the first of the keys' picking. -/
noncomputable def meet2b : List Step := [
  ⟨_, _, hostOps2_14_writes⟩]
/-- The keys' picking. -/
noncomputable def kSteps2 : List Step := [
  ⟨_, _, hostOps2_15_writes⟩, ⟨_, _, hostOps2_16_writes⟩, ⟨_, _, hostOps2_17_writes⟩, ⟨_, _, hostOps2_18_writes⟩,
  ⟨_, _, hostOps2_19_writes⟩, ⟨_, _, hostOps2_20_writes⟩, ⟨_, _, hostOps2_21_writes⟩]
/-- Its last operations and the first of the values' picking. -/
noncomputable def meet2c : List Step := [
  ⟨_, _, hostOps2_22_writes⟩]
/-- The values' picking, and the scales' repeating. -/
noncomputable def vSteps2 : List Step := [
  ⟨_, _, hostOps2_23_writes⟩, ⟨_, _, hostOps2_24_writes⟩, ⟨_, _, hostOps2_25_writes⟩, ⟨_, _, hostOps2_26_writes⟩,
  ⟨_, _, hostOps2_27_writes⟩, ⟨_, _, hostOps2_28_writes⟩, ⟨_, _, hostOps2_29_writes⟩, ⟨_, _, hostOps2_30_writes⟩]

/-- All of them. -/
noncomputable def steps2 : List Step := spreadSteps2 ++ (meet2a ++ (qSteps2 ++ (meet2b ++ (kSteps2 ++ (meet2c ++ vSteps2)))))

theorem spread2_lse (V : Contents) (hI : V (Proc.devRef .tc main_v70) = iotaInDim S36 32 0) : runs (spreadSteps2 ++ meet2a) V (Proc.devRef .tc main_v159) =
    lseOf1 (V (Proc.devRef .tc main_v146_1)) := by
  simp only [spreadSteps2, meet2a, List.cons_append, List.nil_append, runs]
  after_results_simp
  simp only [TRef.ofBuf_toBuf, id_eq, hI]
  simp -implicitDefEqProofs only [TRef.toBuf, TRef.ofBuf, cast_cast, cast_eq]
  rfl

theorem spread2_out (V : Contents) (hI : V (Proc.devRef .tc main_v70) = iotaInDim S36 32 0) : runs (spreadSteps2 ++ meet2a) V (Proc.devRef .tc main_v162) =
    outOf1 (V (Proc.devRef .tc main_v146_0)) := by
  simp only [spreadSteps2, meet2a, List.cons_append, List.nil_append, runs]
  after_results_simp
  simp only [TRef.ofBuf_toBuf, id_eq, hI]
  simp -implicitDefEqProofs only [TRef.toBuf, TRef.ofBuf, cast_cast, cast_eq]
  rfl

theorem pick2_q (V : Contents) (hI : V (Proc.devRef .tc main_v70) = iotaInDim S36 32 0) : runs (meet2a ++ (qSteps2 ++ meet2b)) V (Proc.devRef .tc main_v185) =
    sparse facts2 (by decide) (V (Proc.devRef .tc main_v19)) := by
  simp only [meet2a, qSteps2, meet2b, List.cons_append, List.nil_append, runs]
  after_results_simp
  simp only [TRef.ofBuf_toBuf, id_eq, hI]
  simp -implicitDefEqProofs only [TRef.toBuf, TRef.ofBuf, cast_cast, cast_eq]
  rfl

theorem pick2_k (V : Contents) (hI : V (Proc.devRef .tc main_v70) = iotaInDim S36 32 0) : runs (meet2b ++ (kSteps2 ++ meet2c)) V (Proc.devRef .tc main_v208) =
    sparse facts2 (by decide) (V (Proc.devRef .tc main_v22)) := by
  simp only [meet2b, kSteps2, meet2c, List.cons_append, List.nil_append, runs]
  after_results_simp
  simp only [TRef.ofBuf_toBuf, id_eq, hI]
  simp -implicitDefEqProofs only [TRef.toBuf, TRef.ofBuf, cast_cast, cast_eq]
  rfl

theorem pick2_v (V : Contents) (hI : V (Proc.devRef .tc main_v70) = iotaInDim S36 32 0) : runs (meet2c ++ vSteps2) V (Proc.devRef .tc main_v231) =
    sparse facts2 (by decide) (V (Proc.devRef .tc main_v25)) := by
  simp only [meet2c, vSteps2, List.cons_append, List.nil_append, runs]
  after_results_simp
  simp only [TRef.ofBuf_toBuf, id_eq, hI]
  simp -implicitDefEqProofs only [TRef.toBuf, TRef.ofBuf, cast_cast, cast_eq]
  rfl

theorem scale2_c (V : Contents) : runs vSteps2 V (Proc.devRef .tc main_v234) =
    repeated 1 _ repeats1.h0 repeats1.h1 repeats1.h2 (V (Proc.devRef .tc main_v11)) := by
  simp only [vSteps2, List.cons_append, List.nil_append, runs]
  after_results_simp
  rfl

theorem scale2_vs (V : Contents) : runs vSteps2 V (Proc.devRef .tc main_v237) =
    repeated 1 _ repeats1.h0 repeats1.h1 repeats1.h2 (V (Proc.devRef .tc main_v18)) := by
  simp only [vSteps2, List.cons_append, List.nil_append, runs]
  after_results_simp
  rfl

/-! ## Over the whole stretch -/

theorem keep2_v11 (V : Contents) : runs steps2 V (Proc.devRef .tc main_v11) = V (Proc.devRef .tc main_v11) := runs_of _ _ (by decide +kernel)
theorem keep2_v18 (V : Contents) : runs steps2 V (Proc.devRef .tc main_v18) = V (Proc.devRef .tc main_v18) := runs_of _ _ (by decide +kernel)
theorem keep2_v19 (V : Contents) : runs steps2 V (Proc.devRef .tc main_v19) = V (Proc.devRef .tc main_v19) := runs_of _ _ (by decide +kernel)
theorem keep2_v22 (V : Contents) : runs steps2 V (Proc.devRef .tc main_v22) = V (Proc.devRef .tc main_v22) := runs_of _ _ (by decide +kernel)
theorem keep2_v25 (V : Contents) : runs steps2 V (Proc.devRef .tc main_v25) = V (Proc.devRef .tc main_v25) := runs_of _ _ (by decide +kernel)
theorem keep2_v66 (V : Contents) : runs steps2 V (Proc.devRef .tc main_v66) = V (Proc.devRef .tc main_v66) := runs_of _ _ (by decide +kernel)
theorem keep2_v69 (V : Contents) : runs steps2 V (Proc.devRef .tc main_v69) = V (Proc.devRef .tc main_v69) := runs_of _ _ (by decide +kernel)
theorem keep2_v70 (V : Contents) : runs steps2 V (Proc.devRef .tc main_v70) = V (Proc.devRef .tc main_v70) := runs_of _ _ (by decide +kernel)

variable (V : Contents) (hI : V (Proc.devRef .tc main_v70) = iotaInDim S36 32 0)
include hI in
theorem after2_lse : runs steps2 V (Proc.devRef .tc main_v159) = lseOf1 (V (Proc.devRef .tc main_v146_1)) := by
  rw [show steps2 = (spreadSteps2 ++ meet2a) ++ (qSteps2 ++ (meet2b ++ (kSteps2 ++ (meet2c ++ vSteps2)))) from rfl, runs_append]
  exact (runs_of _ _ (by decide +kernel)).trans (spread2_lse V hI)
include hI in
theorem after2_out : runs steps2 V (Proc.devRef .tc main_v162) = outOf1 (V (Proc.devRef .tc main_v146_0)) := by
  rw [show steps2 = (spreadSteps2 ++ meet2a) ++ (qSteps2 ++ (meet2b ++ (kSteps2 ++ (meet2c ++ vSteps2)))) from rfl, runs_append]
  exact (runs_of _ _ (by decide +kernel)).trans (spread2_out V hI)
include hI in
theorem heads2_a : (runs spreadSteps2 V) (Proc.devRef .tc main_v70) = iotaInDim S36 32 0 := (runs_of _ _ (by decide +kernel)).trans hI
include hI in
theorem heads2_b : (runs qSteps2 (runs meet2a (runs spreadSteps2 V))) (Proc.devRef .tc main_v70) = iotaInDim S36 32 0 := (runs_of _ _ (by decide +kernel)).trans ((runs_of _ _ (by decide +kernel)).trans (heads2_a V hI))
include hI in
theorem heads2_c : (runs kSteps2 (runs meet2b (runs qSteps2 (runs meet2a (runs spreadSteps2 V))))) (Proc.devRef .tc main_v70) = iotaInDim S36 32 0 := (runs_of _ _ (by decide +kernel)).trans ((runs_of _ _ (by decide +kernel)).trans (heads2_b V hI))
include hI in
theorem operand2_q : runs steps2 V (Proc.devRef .tc main_v185) = sparse facts2 (by decide) (V (Proc.devRef .tc main_v19)) := by
  rw [show steps2 = spreadSteps2 ++ ((meet2a ++ (qSteps2 ++ meet2b)) ++ (kSteps2 ++ (meet2c ++ vSteps2))) from rfl, runs_append, runs_append]
  refine (runs_of _ _ (by decide +kernel)).trans ((pick2_q _ (heads2_a V hI)).trans ?_)
  rw [runs_of spreadSteps2 V (r := main_v19) (by decide +kernel)]
include hI in
theorem operand2_k : runs steps2 V (Proc.devRef .tc main_v208) = sparse facts2 (by decide) (V (Proc.devRef .tc main_v22)) := by
  rw [show steps2 = spreadSteps2 ++ (meet2a ++ (qSteps2 ++ ((meet2b ++ (kSteps2 ++ meet2c)) ++ vSteps2))) from rfl, runs_append, runs_append, runs_append, runs_append]
  refine (runs_of _ _ (by decide +kernel)).trans ((pick2_k _ (heads2_b V hI)).trans ?_)
  rw [runs_of qSteps2 _ (r := main_v22) (by decide +kernel), runs_of meet2a _ (r := main_v22) (by decide +kernel), runs_of spreadSteps2 _ (r := main_v22) (by decide +kernel)]
include hI in
theorem operand2_v : runs steps2 V (Proc.devRef .tc main_v231) = sparse facts2 (by decide) (V (Proc.devRef .tc main_v25)) := by
  rw [show steps2 = spreadSteps2 ++ (meet2a ++ (qSteps2 ++ (meet2b ++ (kSteps2 ++ (meet2c ++ vSteps2))))) from rfl, runs_append, runs_append, runs_append, runs_append, runs_append]
  refine (pick2_v _ (heads2_c V hI)).trans ?_
  rw [runs_of kSteps2 _ (r := main_v25) (by decide +kernel), runs_of meet2b _ (r := main_v25) (by decide +kernel), runs_of qSteps2 _ (r := main_v25) (by decide +kernel), runs_of meet2a _ (r := main_v25) (by decide +kernel), runs_of spreadSteps2 _ (r := main_v25) (by decide +kernel)]
theorem operand2_c : runs steps2 V (Proc.devRef .tc main_v234) = repeated 1 _ repeats1.h0 repeats1.h1 repeats1.h2 (V (Proc.devRef .tc main_v11)) := by
  rw [show steps2 = (spreadSteps2 ++ (meet2a ++ (qSteps2 ++ (meet2b ++ (kSteps2 ++ meet2c))))) ++ vSteps2 from rfl, runs_append]
  refine (scale2_c _).trans ?_
  rw [runs_of (spreadSteps2 ++ (meet2a ++ (qSteps2 ++ (meet2b ++ (kSteps2 ++ meet2c))))) _ (r := main_v11) (by decide +kernel)]
theorem operand2_vs : runs steps2 V (Proc.devRef .tc main_v237) = repeated 1 _ repeats1.h0 repeats1.h1 repeats1.h2 (V (Proc.devRef .tc main_v18)) := by
  rw [show steps2 = (spreadSteps2 ++ (meet2a ++ (qSteps2 ++ (meet2b ++ (kSteps2 ++ meet2c))))) ++ vSteps2 from rfl, runs_append]
  refine (scale2_vs _).trans ?_
  rw [runs_of (spreadSteps2 ++ (meet2a ++ (qSteps2 ++ (meet2b ++ (kSteps2 ++ meet2c))))) _ (r := main_v18) (by decide +kernel)]

end Cert.Dilated

end
-- ==== Proof.Combine.lean ====
/-
  The kernel's last combination: the log-sum-exps of the three patterns into one, and the three attentions weighted by the
  exponentials of their log-sum-exps less it (`combineLse`, `combineOut`).
-/
module

public import proofs.«01_k».proof.Proof.Gen.KernelIdeal.Frame.Fold0
public import Idealize.ShloMosaic.Lib.IdealHost

@[expose] public section

noncomputable section

namespace Cert.Dilated

open Idealize.ShloMosaic
open Cert.KernelIdeal Cert.KernelIdeal.Gen

/-- One log-sum-exp per position, head and sequence. -/
abbrev Sums := FVec Ideal S2x36x20480 .f32
/-- Every head's attention. -/
abbrev Attention := FVec Ideal S2x36x20480x128 .f32

variable (l0 l1 l2 : Sums) (o0 o1 o2 : Attention)

/-- Three arrays, one under the other. -/
def stacked (x y z : FVec Ideal S1x2x36x20480 .f32) : FVec Ideal S3x2x36x20480 .f32 :=
  concatenate S3x2x36x20480 0 [⟨S1x2x36x20480, x⟩, ⟨S1x2x36x20480, y⟩, ⟨S1x2x36x20480, z⟩] concatenates_S1x2x36x20480_S1x2x36x20480_S1x2x36x20480_S3x2x36x20480_d0

theorem stacked_eq (x y z : FVec Ideal S1x2x36x20480 .f32) :
    concatenate S3x2x36x20480 0 [⟨S1x2x36x20480, x⟩, ⟨S1x2x36x20480, y⟩, ⟨S1x2x36x20480, z⟩] concatenates_S1x2x36x20480_S1x2x36x20480_S1x2x36x20480_S3x2x36x20480_d0
      = stacked x y z := rfl

/-- Two arrays, one after the other along the sequence. -/
def glueLse (x : FVec Ideal S2x36x18432 .f32) (y : FVec Ideal S2x36x2048 .f32) : Sums :=
  concatenate S2x36x20480 2 [⟨S2x36x18432, x⟩, ⟨S2x36x2048, y⟩] concatenates_S2x36x18432_S2x36x2048_S2x36x20480_d2
def glueOut (x : FVec Ideal S2x36x18432x128 .f32) (y : FVec Ideal S2x36x2048x128 .f32) : Attention :=
  concatenate S2x36x20480x128 2 [⟨S2x36x18432x128, x⟩, ⟨S2x36x2048x128, y⟩] concatenates_S2x36x18432x128_S2x36x2048x128_S2x36x20480x128_d2

theorem glueLse_eq (x : FVec Ideal S2x36x18432 .f32) (y : FVec Ideal S2x36x2048 .f32) :
    concatenate S2x36x20480 2 [⟨S2x36x18432, x⟩, ⟨S2x36x2048, y⟩] concatenates_S2x36x18432_S2x36x2048_S2x36x20480_d2 = glueLse x y := rfl
theorem glueOut_eq (x : FVec Ideal S2x36x18432x128 .f32) (y : FVec Ideal S2x36x2048x128 .f32) :
    concatenate S2x36x20480x128 2 [⟨S2x36x18432x128, x⟩, ⟨S2x36x2048x128, y⟩] concatenates_S2x36x18432x128_S2x36x2048x128_S2x36x20480x128_d2 = glueOut x y := rfl

/-- The three patterns' log-sum-exps, one under the other. -/
def stack : FVec Ideal S3x2x36x20480 .f32 :=
  stacked (broadcastInDim S1x2x36x20480 ![1, 2, 3] bcast_S2x36x20480_S1x2x36x20480_1_2_3 l0)
    (broadcastInDim S1x2x36x20480 ![1, 2, 3] bcast_S2x36x20480_S1x2x36x20480_1_2_3 l1) (broadcastInDim S1x2x36x20480 ![1, 2, 3] bcast_S2x36x20480_S1x2x36x20480_1_2_3 l2)

/-- Their greatest. -/
def greatest : Sums := maximumf (broadcastInDim S2x36x20480 ![] bcast_S_S2x36x20480 (constant S_ .f32 0xFF800000#32))
  (Host.reduce FloatOps.maximumf (stack l0 l1 l2) (constant S_ .f32 0xFF800000#32) reducesTo_S3x2x36x20480_S2x36x20480_d0 h_S_)

/-- The greatest, and 0 where it is infinite. -/
def shift : Sums := select (cmpf .olt (Host.absf (greatest l0 l1 l2)) (broadcastInDim S2x36x20480 ![] bcast_S_S2x36x20480 (constant S_ .f32 0x7F800000#32)))
  (greatest l0 l1 l2) (broadcastInDim S2x36x20480 ![] bcast_S_S2x36x20480 (constant S_ .f32 0x00000000#32))

/-- The log-sum-exp of the three. -/
def joint : Sums :=
  addf (Host.log (Host.absf (Host.reduceAdd (Host.exp (subf (stack l0 l1 l2)
    (broadcastInDim S3x2x36x20480 ![0, 1, 2, 3] bcast_S1x2x36x20480_S3x2x36x20480_0_1_2_3
      (broadcastInDim S1x2x36x20480 ![1, 2, 3] bcast_S2x36x20480_S1x2x36x20480_1_2_3 (shift l0 l1 l2)))))
    (constant S_ .f32 0x00000000#32) reducesTo_S3x2x36x20480_S2x36x20480_d0 h_S_))) (shift l0 l1 l2)

/-- A pattern's attention, weighted. -/
def weighted (o : Attention) (l L : Sums) : Attention :=
  mulf o (broadcastInDim S2x36x20480x128 ![0, 1, 2, 3] bcast_S2x36x20480x1_S2x36x20480x128_0_1_2_3
    (broadcastInDim S2x36x20480x1 ![0, 1, 2] bcast_S2x36x20480_S2x36x20480x1_0_1_2 (Host.exp (subf l L))))

/-- The first result. -/
def combineOut : FVec Ideal S2x20480x4608 .bf16 :=
  truncf .bf16 (shapeCast _ (transpose S2x20480x36x128 [0, 2, 1, 3]
    (addf (addf (addf (broadcastInDim S2x36x20480x128 ![] bcast_S_S2x36x20480x128 (constant S_ .f32 0x00000000#32)) (weighted o0 l0 (joint l0 l1 l2)))
      (weighted o1 l1 (joint l0 l1 l2))) (weighted o2 l2 (joint l0 l1 l2))) transposes_S2x36x20480x128_S2x20480x36x128_0_2_1_3)
    shapeCasts_S2x20480x36x128_S2x20480x4608) bitsLt_bf16_f32

/-- The second result. -/
def combineLse : FVec Ideal S2x20480x36 .f32 := transpose S2x20480x36 [0, 2, 1] (joint l0 l1 l2) transposes_S2x36x20480_S2x20480x36_0_2_1

end Cert.Dilated

end
-- ==== Proof.Host3.lean ====
/-
  The host operations between the kernel's pallas_call 2 and pallas_call 3, read: the arrays made of pallas_call 2's results
  (`spread3_lse`, `spread3_out`), and pallas_call 3's five operands (`operand3_q` … `operand3_vs`).
-/
module

public import proofs.«01_k».proof.Proof.Runs
public import proofs.«01_k».proof.Proof.Patterns
public import proofs.«01_k».proof.Proof.Combine

@[expose] public section

set_option maxRecDepth 16384
set_option maxHeartbeats 8000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- The results' spreading over the positions. -/
noncomputable def spreadSteps3 : List Step := [
  ⟨_, _, hostOps3_writes⟩, ⟨_, _, hostOps3_1_writes⟩, ⟨_, _, hostOps3_2_writes⟩, ⟨_, _, hostOps3_3_writes⟩,
  ⟨_, _, hostOps3_4_writes⟩, ⟨_, _, hostOps3_5_writes⟩]
/-- Its last operation and the first of the queries' picking. -/
noncomputable def meet3a : List Step := [
  ⟨_, _, hostOps3_6_writes⟩]
/-- The queries' picking. -/
noncomputable def qSteps3 : List Step := [
  ⟨_, _, hostOps3_7_writes⟩, ⟨_, _, hostOps3_8_writes⟩, ⟨_, _, hostOps3_9_writes⟩, ⟨_, _, hostOps3_10_writes⟩,
  ⟨_, _, hostOps3_11_writes⟩, ⟨_, _, hostOps3_12_writes⟩, ⟨_, _, hostOps3_13_writes⟩, ⟨_, _, hostOps3_14_writes⟩,
  ⟨_, _, hostOps3_15_writes⟩, ⟨_, _, hostOps3_16_writes⟩, ⟨_, _, hostOps3_17_writes⟩, ⟨_, _, hostOps3_18_writes⟩,
  ⟨_, _, hostOps3_19_writes⟩, ⟨_, _, hostOps3_20_writes⟩, ⟨_, _, hostOps3_21_writes⟩, ⟨_, _, hostOps3_22_writes⟩,
  ⟨_, _, hostOps3_23_writes⟩, ⟨_, _, hostOps3_24_writes⟩, ⟨_, _, hostOps3_25_writes⟩, ⟨_, _, hostOps3_26_writes⟩,
  ⟨_, _, hostOps3_27_writes⟩, ⟨_, _, hostOps3_28_writes⟩, ⟨_, _, hostOps3_29_writes⟩, ⟨_, _, hostOps3_30_writes⟩,
  ⟨_, _, hostOps3_31_writes⟩, ⟨_, _, hostOps3_32_writes⟩, ⟨_, _, hostOps3_33_writes⟩, ⟨_, _, hostOps3_34_writes⟩,
  ⟨_, _, hostOps3_35_writes⟩, ⟨_, _, hostOps3_36_writes⟩, ⟨_, _, hostOps3_37_writes⟩]
/-- Its last operations and the first of the keys' picking. -/
noncomputable def meet3b : List Step := [
  ⟨_, _, hostOps3_38_writes⟩]
/-- The keys' picking. -/
noncomputable def kSteps3 : List Step := [
  ⟨_, _, hostOps3_39_writes⟩, ⟨_, _, hostOps3_40_writes⟩, ⟨_, _, hostOps3_41_writes⟩, ⟨_, _, hostOps3_42_writes⟩,
  ⟨_, _, hostOps3_43_writes⟩, ⟨_, _, hostOps3_44_writes⟩, ⟨_, _, hostOps3_45_writes⟩, ⟨_, _, hostOps3_46_writes⟩,
  ⟨_, _, hostOps3_47_writes⟩, ⟨_, _, hostOps3_48_writes⟩, ⟨_, _, hostOps3_49_writes⟩, ⟨_, _, hostOps3_50_writes⟩,
  ⟨_, _, hostOps3_51_writes⟩, ⟨_, _, hostOps3_52_writes⟩, ⟨_, _, hostOps3_53_writes⟩, ⟨_, _, hostOps3_54_writes⟩,
  ⟨_, _, hostOps3_55_writes⟩, ⟨_, _, hostOps3_56_writes⟩, ⟨_, _, hostOps3_57_writes⟩, ⟨_, _, hostOps3_58_writes⟩,
  ⟨_, _, hostOps3_59_writes⟩, ⟨_, _, hostOps3_60_writes⟩, ⟨_, _, hostOps3_61_writes⟩, ⟨_, _, hostOps3_62_writes⟩,
  ⟨_, _, hostOps3_63_writes⟩, ⟨_, _, hostOps3_64_writes⟩, ⟨_, _, hostOps3_65_writes⟩, ⟨_, _, hostOps3_66_writes⟩,
  ⟨_, _, hostOps3_67_writes⟩, ⟨_, _, hostOps3_68_writes⟩, ⟨_, _, hostOps3_69_writes⟩]
/-- Its last operations and the first of the values' picking. -/
noncomputable def meet3c : List Step := [
  ⟨_, _, hostOps3_70_writes⟩]
/-- The values' picking, and the scales' repeating. -/
noncomputable def vSteps3 : List Step := [
  ⟨_, _, hostOps3_71_writes⟩, ⟨_, _, hostOps3_72_writes⟩, ⟨_, _, hostOps3_73_writes⟩, ⟨_, _, hostOps3_74_writes⟩,
  ⟨_, _, hostOps3_75_writes⟩, ⟨_, _, hostOps3_76_writes⟩, ⟨_, _, hostOps3_77_writes⟩, ⟨_, _, hostOps3_78_writes⟩,
  ⟨_, _, hostOps3_79_writes⟩, ⟨_, _, hostOps3_80_writes⟩, ⟨_, _, hostOps3_81_writes⟩, ⟨_, _, hostOps3_82_writes⟩,
  ⟨_, _, hostOps3_83_writes⟩, ⟨_, _, hostOps3_84_writes⟩, ⟨_, _, hostOps3_85_writes⟩, ⟨_, _, hostOps3_86_writes⟩,
  ⟨_, _, hostOps3_87_writes⟩, ⟨_, _, hostOps3_88_writes⟩, ⟨_, _, hostOps3_89_writes⟩, ⟨_, _, hostOps3_90_writes⟩,
  ⟨_, _, hostOps3_91_writes⟩, ⟨_, _, hostOps3_92_writes⟩, ⟨_, _, hostOps3_93_writes⟩, ⟨_, _, hostOps3_94_writes⟩,
  ⟨_, _, hostOps3_95_writes⟩, ⟨_, _, hostOps3_96_writes⟩, ⟨_, _, hostOps3_97_writes⟩, ⟨_, _, hostOps3_98_writes⟩,
  ⟨_, _, hostOps3_99_writes⟩, ⟨_, _, hostOps3_100_writes⟩, ⟨_, _, hostOps3_101_writes⟩, ⟨_, _, hostOps3_102_writes⟩]

/-- All of them. -/
noncomputable def steps3 : List Step := spreadSteps3 ++ (meet3a ++ (qSteps3 ++ (meet3b ++ (kSteps3 ++ (meet3c ++ vSteps3)))))

theorem spread3_lse (V : Contents) (hI : V (Proc.devRef .tc main_v70) = iotaInDim S36 32 0) : runs (spreadSteps3 ++ meet3a) V (Proc.devRef .tc main_v260) =
    joinLse slices_S2x36x2049_S2x36x2048_0_0_0 (V (Proc.devRef .tc main_v159)) (lseOf2 (V (Proc.devRef .tc main_v238_1))) := by
  simp only [spreadSteps3, meet3a, List.cons_append, List.nil_append, runs]
  after_results_simp
  simp only [glueLse_eq, glueOut_eq]
  after_results_simp
  simp only [TRef.ofBuf_toBuf, id_eq, hI]
  simp -implicitDefEqProofs only [TRef.toBuf, TRef.ofBuf, cast_cast, cast_eq]
  rfl

theorem spread3_out (V : Contents) (hI : V (Proc.devRef .tc main_v70) = iotaInDim S36 32 0) : runs (spreadSteps3 ++ meet3a) V (Proc.devRef .tc main_v259) =
    joinOut slices_S2x36x2049x128_S2x36x2048x128_0_0_0_0 (V (Proc.devRef .tc main_v162)) (outOf2 (V (Proc.devRef .tc main_v238_0))) := by
  simp only [spreadSteps3, meet3a, List.cons_append, List.nil_append, runs]
  after_results_simp
  simp only [glueLse_eq, glueOut_eq]
  after_results_simp
  simp only [TRef.ofBuf_toBuf, id_eq, hI]
  simp -implicitDefEqProofs only [TRef.toBuf, TRef.ofBuf, cast_cast, cast_eq]
  rfl

theorem heads3 (V : Contents) : runs meet3a V (Proc.devRef .tc main_v261) =
    iotaInDim S36 32 0 := by
  simp only [meet3a, List.cons_append, List.nil_append, runs]
  after_results_simp

theorem pick3_q (V : Contents) : runs (meet3a ++ (qSteps3 ++ meet3b)) V (Proc.devRef .tc main_v326) =
    sparse facts3 (by decide) (V (Proc.devRef .tc main_v19)) := by
  simp only [meet3a, qSteps3, meet3b, List.cons_append, List.nil_append, runs]
  after_results_simp
  simp only [TRef.ofBuf_toBuf, id_eq]
  simp -implicitDefEqProofs only [TRef.toBuf, TRef.ofBuf, cast_cast, cast_eq]
  rfl

theorem pick3_k (V : Contents) (hI : V (Proc.devRef .tc main_v261) = iotaInDim S36 32 0) : runs (meet3b ++ (kSteps3 ++ meet3c)) V (Proc.devRef .tc main_v391) =
    sparse facts3 (by decide) (V (Proc.devRef .tc main_v22)) := by
  simp only [meet3b, kSteps3, meet3c, List.cons_append, List.nil_append, runs]
  after_results_simp
  simp only [TRef.ofBuf_toBuf, id_eq, hI]
  simp -implicitDefEqProofs only [TRef.toBuf, TRef.ofBuf, cast_cast, cast_eq]
  rfl

theorem pick3_v (V : Contents) (hI : V (Proc.devRef .tc main_v261) = iotaInDim S36 32 0) : runs (meet3c ++ vSteps3) V (Proc.devRef .tc main_v456) =
    sparse facts3 (by decide) (V (Proc.devRef .tc main_v25)) := by
  simp only [meet3c, vSteps3, List.cons_append, List.nil_append, runs]
  after_results_simp
  simp only [TRef.ofBuf_toBuf, id_eq, hI]
  simp -implicitDefEqProofs only [TRef.toBuf, TRef.ofBuf, cast_cast, cast_eq]
  rfl

theorem scale3_c (V : Contents) : runs vSteps3 V (Proc.devRef .tc main_v459) =
    repeated 1 _ repeats1.h0 repeats1.h1 repeats1.h2 (V (Proc.devRef .tc main_v11)) := by
  simp only [vSteps3, List.cons_append, List.nil_append, runs]
  after_results_simp
  rfl

theorem scale3_vs (V : Contents) : runs vSteps3 V (Proc.devRef .tc main_v462) =
    repeated 1 _ repeats1.h0 repeats1.h1 repeats1.h2 (V (Proc.devRef .tc main_v18)) := by
  simp only [vSteps3, List.cons_append, List.nil_append, runs]
  after_results_simp
  rfl

/-! ## Over the whole stretch -/

theorem keep3_v11 (V : Contents) : runs steps3 V (Proc.devRef .tc main_v11) = V (Proc.devRef .tc main_v11) := runs_of _ _ (by decide +kernel)
theorem keep3_v18 (V : Contents) : runs steps3 V (Proc.devRef .tc main_v18) = V (Proc.devRef .tc main_v18) := runs_of _ _ (by decide +kernel)
theorem keep3_v19 (V : Contents) : runs steps3 V (Proc.devRef .tc main_v19) = V (Proc.devRef .tc main_v19) := runs_of _ _ (by decide +kernel)
theorem keep3_v22 (V : Contents) : runs steps3 V (Proc.devRef .tc main_v22) = V (Proc.devRef .tc main_v22) := runs_of _ _ (by decide +kernel)
theorem keep3_v25 (V : Contents) : runs steps3 V (Proc.devRef .tc main_v25) = V (Proc.devRef .tc main_v25) := runs_of _ _ (by decide +kernel)
theorem keep3_v66 (V : Contents) : runs steps3 V (Proc.devRef .tc main_v66) = V (Proc.devRef .tc main_v66) := runs_of _ _ (by decide +kernel)
theorem keep3_v69 (V : Contents) : runs steps3 V (Proc.devRef .tc main_v69) = V (Proc.devRef .tc main_v69) := runs_of _ _ (by decide +kernel)

variable (V : Contents)
theorem after3_lse (hI : V (Proc.devRef .tc main_v70) = iotaInDim S36 32 0) : runs steps3 V (Proc.devRef .tc main_v260) = joinLse slices_S2x36x2049_S2x36x2048_0_0_0 (V (Proc.devRef .tc main_v159)) (lseOf2 (V (Proc.devRef .tc main_v238_1))) := by
  rw [show steps3 = (spreadSteps3 ++ meet3a) ++ (qSteps3 ++ (meet3b ++ (kSteps3 ++ (meet3c ++ vSteps3)))) from rfl, runs_append]
  exact (runs_of _ _ (by decide +kernel)).trans (spread3_lse V hI)
theorem after3_out (hI : V (Proc.devRef .tc main_v70) = iotaInDim S36 32 0) : runs steps3 V (Proc.devRef .tc main_v259) = joinOut slices_S2x36x2049x128_S2x36x2048x128_0_0_0_0 (V (Proc.devRef .tc main_v162)) (outOf2 (V (Proc.devRef .tc main_v238_0))) := by
  rw [show steps3 = (spreadSteps3 ++ meet3a) ++ (qSteps3 ++ (meet3b ++ (kSteps3 ++ (meet3c ++ vSteps3)))) from rfl, runs_append]
  exact (runs_of _ _ (by decide +kernel)).trans (spread3_out V hI)
theorem heads3_b : (runs qSteps3 (runs meet3a (runs spreadSteps3 V))) (Proc.devRef .tc main_v261) = iotaInDim S36 32 0 := (runs_of _ _ (by decide +kernel)).trans (heads3 _)
theorem heads3_all : runs steps3 V (Proc.devRef .tc main_v261) = iotaInDim S36 32 0 := by
  rw [show steps3 = spreadSteps3 ++ (meet3a ++ (qSteps3 ++ (meet3b ++ (kSteps3 ++ (meet3c ++ vSteps3))))) from rfl, runs_append, runs_append]
  exact (runs_of _ _ (by decide +kernel)).trans (heads3 _)
theorem heads3_c : (runs kSteps3 (runs meet3b (runs qSteps3 (runs meet3a (runs spreadSteps3 V))))) (Proc.devRef .tc main_v261) = iotaInDim S36 32 0 := (runs_of _ _ (by decide +kernel)).trans ((runs_of _ _ (by decide +kernel)).trans (heads3_b V))
theorem operand3_q : runs steps3 V (Proc.devRef .tc main_v326) = sparse facts3 (by decide) (V (Proc.devRef .tc main_v19)) := by
  rw [show steps3 = spreadSteps3 ++ ((meet3a ++ (qSteps3 ++ meet3b)) ++ (kSteps3 ++ (meet3c ++ vSteps3))) from rfl, runs_append, runs_append]
  refine (runs_of _ _ (by decide +kernel)).trans ((pick3_q _).trans ?_)
  rw [runs_of spreadSteps3 V (r := main_v19) (by decide +kernel)]
theorem operand3_k : runs steps3 V (Proc.devRef .tc main_v391) = sparse facts3 (by decide) (V (Proc.devRef .tc main_v22)) := by
  rw [show steps3 = spreadSteps3 ++ (meet3a ++ (qSteps3 ++ ((meet3b ++ (kSteps3 ++ meet3c)) ++ vSteps3))) from rfl, runs_append, runs_append, runs_append, runs_append]
  refine (runs_of _ _ (by decide +kernel)).trans ((pick3_k _ (heads3_b V)).trans ?_)
  rw [runs_of qSteps3 _ (r := main_v22) (by decide +kernel), runs_of meet3a _ (r := main_v22) (by decide +kernel), runs_of spreadSteps3 _ (r := main_v22) (by decide +kernel)]
theorem operand3_v : runs steps3 V (Proc.devRef .tc main_v456) = sparse facts3 (by decide) (V (Proc.devRef .tc main_v25)) := by
  rw [show steps3 = spreadSteps3 ++ (meet3a ++ (qSteps3 ++ (meet3b ++ (kSteps3 ++ (meet3c ++ vSteps3))))) from rfl, runs_append, runs_append, runs_append, runs_append, runs_append]
  refine (pick3_v _ (heads3_c V)).trans ?_
  rw [runs_of kSteps3 _ (r := main_v25) (by decide +kernel), runs_of meet3b _ (r := main_v25) (by decide +kernel), runs_of qSteps3 _ (r := main_v25) (by decide +kernel), runs_of meet3a _ (r := main_v25) (by decide +kernel), runs_of spreadSteps3 _ (r := main_v25) (by decide +kernel)]
theorem operand3_c : runs steps3 V (Proc.devRef .tc main_v459) = repeated 1 _ repeats1.h0 repeats1.h1 repeats1.h2 (V (Proc.devRef .tc main_v11)) := by
  rw [show steps3 = (spreadSteps3 ++ (meet3a ++ (qSteps3 ++ (meet3b ++ (kSteps3 ++ meet3c))))) ++ vSteps3 from rfl, runs_append]
  refine (scale3_c _).trans ?_
  rw [runs_of (spreadSteps3 ++ (meet3a ++ (qSteps3 ++ (meet3b ++ (kSteps3 ++ meet3c))))) _ (r := main_v11) (by decide +kernel)]
theorem operand3_vs : runs steps3 V (Proc.devRef .tc main_v462) = repeated 1 _ repeats1.h0 repeats1.h1 repeats1.h2 (V (Proc.devRef .tc main_v18)) := by
  rw [show steps3 = (spreadSteps3 ++ (meet3a ++ (qSteps3 ++ (meet3b ++ (kSteps3 ++ meet3c))))) ++ vSteps3 from rfl, runs_append]
  refine (scale3_vs _).trans ?_
  rw [runs_of (spreadSteps3 ++ (meet3a ++ (qSteps3 ++ (meet3b ++ (kSteps3 ++ meet3c))))) _ (r := main_v18) (by decide +kernel)]

end Cert.Dilated

end
-- ==== Proof.Host4.lean ====
/-
  The host operations between the kernel's pallas_call 3 and pallas_call 4, read: the arrays made of pallas_call 3's results
  (`spread4_lse`, `spread4_out`), and pallas_call 4's five operands (`operand4_q` … `operand4_vs`).
-/
module

public import proofs.«01_k».proof.Proof.Runs
public import proofs.«01_k».proof.Proof.Patterns

@[expose] public section

set_option maxRecDepth 16384
set_option maxHeartbeats 8000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- The results' spreading over the positions. -/
noncomputable def spreadSteps4 : List Step := [
  ⟨_, _, hostOps4_writes⟩, ⟨_, _, hostOps4_1_writes⟩, ⟨_, _, hostOps4_2_writes⟩, ⟨_, _, hostOps4_3_writes⟩,
  ⟨_, _, hostOps4_4_writes⟩, ⟨_, _, hostOps4_5_writes⟩]
/-- Its last operation and the first of the queries' picking. -/
noncomputable def meet4a : List Step := [
  ⟨_, _, hostOps4_6_writes⟩]
/-- The queries' picking. -/
noncomputable def qSteps4 : List Step := [
  ⟨_, _, hostOps4_7_writes⟩, ⟨_, _, hostOps4_8_writes⟩, ⟨_, _, hostOps4_9_writes⟩, ⟨_, _, hostOps4_10_writes⟩,
  ⟨_, _, hostOps4_11_writes⟩, ⟨_, _, hostOps4_12_writes⟩, ⟨_, _, hostOps4_13_writes⟩, ⟨_, _, hostOps4_14_writes⟩,
  ⟨_, _, hostOps4_15_writes⟩, ⟨_, _, hostOps4_16_writes⟩, ⟨_, _, hostOps4_17_writes⟩, ⟨_, _, hostOps4_18_writes⟩,
  ⟨_, _, hostOps4_19_writes⟩, ⟨_, _, hostOps4_20_writes⟩, ⟨_, _, hostOps4_21_writes⟩, ⟨_, _, hostOps4_22_writes⟩,
  ⟨_, _, hostOps4_23_writes⟩, ⟨_, _, hostOps4_24_writes⟩, ⟨_, _, hostOps4_25_writes⟩, ⟨_, _, hostOps4_26_writes⟩,
  ⟨_, _, hostOps4_27_writes⟩, ⟨_, _, hostOps4_28_writes⟩, ⟨_, _, hostOps4_29_writes⟩, ⟨_, _, hostOps4_30_writes⟩,
  ⟨_, _, hostOps4_31_writes⟩, ⟨_, _, hostOps4_32_writes⟩, ⟨_, _, hostOps4_33_writes⟩, ⟨_, _, hostOps4_34_writes⟩,
  ⟨_, _, hostOps4_35_writes⟩, ⟨_, _, hostOps4_36_writes⟩, ⟨_, _, hostOps4_37_writes⟩]
/-- Its last operations and the first of the keys' picking. -/
noncomputable def meet4b : List Step := [
  ⟨_, _, hostOps4_38_writes⟩]
/-- The keys' picking. -/
noncomputable def kSteps4 : List Step := [
  ⟨_, _, hostOps4_39_writes⟩, ⟨_, _, hostOps4_40_writes⟩, ⟨_, _, hostOps4_41_writes⟩, ⟨_, _, hostOps4_42_writes⟩,
  ⟨_, _, hostOps4_43_writes⟩, ⟨_, _, hostOps4_44_writes⟩, ⟨_, _, hostOps4_45_writes⟩, ⟨_, _, hostOps4_46_writes⟩,
  ⟨_, _, hostOps4_47_writes⟩, ⟨_, _, hostOps4_48_writes⟩, ⟨_, _, hostOps4_49_writes⟩, ⟨_, _, hostOps4_50_writes⟩,
  ⟨_, _, hostOps4_51_writes⟩, ⟨_, _, hostOps4_52_writes⟩, ⟨_, _, hostOps4_53_writes⟩, ⟨_, _, hostOps4_54_writes⟩,
  ⟨_, _, hostOps4_55_writes⟩, ⟨_, _, hostOps4_56_writes⟩, ⟨_, _, hostOps4_57_writes⟩, ⟨_, _, hostOps4_58_writes⟩,
  ⟨_, _, hostOps4_59_writes⟩, ⟨_, _, hostOps4_60_writes⟩, ⟨_, _, hostOps4_61_writes⟩, ⟨_, _, hostOps4_62_writes⟩,
  ⟨_, _, hostOps4_63_writes⟩, ⟨_, _, hostOps4_64_writes⟩, ⟨_, _, hostOps4_65_writes⟩, ⟨_, _, hostOps4_66_writes⟩,
  ⟨_, _, hostOps4_67_writes⟩, ⟨_, _, hostOps4_68_writes⟩, ⟨_, _, hostOps4_69_writes⟩]
/-- Its last operations and the first of the values' picking. -/
noncomputable def meet4c : List Step := [
  ⟨_, _, hostOps4_70_writes⟩]
/-- The values' picking, and the scales' repeating. -/
noncomputable def vSteps4 : List Step := [
  ⟨_, _, hostOps4_71_writes⟩, ⟨_, _, hostOps4_72_writes⟩, ⟨_, _, hostOps4_73_writes⟩, ⟨_, _, hostOps4_74_writes⟩,
  ⟨_, _, hostOps4_75_writes⟩, ⟨_, _, hostOps4_76_writes⟩, ⟨_, _, hostOps4_77_writes⟩, ⟨_, _, hostOps4_78_writes⟩,
  ⟨_, _, hostOps4_79_writes⟩, ⟨_, _, hostOps4_80_writes⟩, ⟨_, _, hostOps4_81_writes⟩, ⟨_, _, hostOps4_82_writes⟩,
  ⟨_, _, hostOps4_83_writes⟩, ⟨_, _, hostOps4_84_writes⟩, ⟨_, _, hostOps4_85_writes⟩, ⟨_, _, hostOps4_86_writes⟩,
  ⟨_, _, hostOps4_87_writes⟩, ⟨_, _, hostOps4_88_writes⟩, ⟨_, _, hostOps4_89_writes⟩, ⟨_, _, hostOps4_90_writes⟩,
  ⟨_, _, hostOps4_91_writes⟩, ⟨_, _, hostOps4_92_writes⟩, ⟨_, _, hostOps4_93_writes⟩, ⟨_, _, hostOps4_94_writes⟩,
  ⟨_, _, hostOps4_95_writes⟩, ⟨_, _, hostOps4_96_writes⟩, ⟨_, _, hostOps4_97_writes⟩, ⟨_, _, hostOps4_98_writes⟩,
  ⟨_, _, hostOps4_99_writes⟩, ⟨_, _, hostOps4_100_writes⟩, ⟨_, _, hostOps4_101_writes⟩, ⟨_, _, hostOps4_102_writes⟩]

/-- All of them. -/
noncomputable def steps4 : List Step := spreadSteps4 ++ (meet4a ++ (qSteps4 ++ (meet4b ++ (kSteps4 ++ (meet4c ++ vSteps4)))))

theorem spread4_lse (V : Contents) (hI : V (Proc.devRef .tc main_v261) = iotaInDim S36 32 0) : runs (spreadSteps4 ++ meet4a) V (Proc.devRef .tc main_v476) =
    lseOf3 (V (Proc.devRef .tc main_v463_1)) := by
  simp only [spreadSteps4, meet4a, List.cons_append, List.nil_append, runs]
  after_results_simp
  simp only [TRef.ofBuf_toBuf, id_eq, hI]
  simp -implicitDefEqProofs only [TRef.toBuf, TRef.ofBuf, cast_cast, cast_eq]
  rfl

theorem spread4_out (V : Contents) (hI : V (Proc.devRef .tc main_v261) = iotaInDim S36 32 0) : runs (spreadSteps4 ++ meet4a) V (Proc.devRef .tc main_v479) =
    outOf3 (V (Proc.devRef .tc main_v463_0)) := by
  simp only [spreadSteps4, meet4a, List.cons_append, List.nil_append, runs]
  after_results_simp
  simp only [TRef.ofBuf_toBuf, id_eq, hI]
  simp -implicitDefEqProofs only [TRef.toBuf, TRef.ofBuf, cast_cast, cast_eq]
  rfl

theorem pick4_q (V : Contents) (hI : V (Proc.devRef .tc main_v261) = iotaInDim S36 32 0) : runs (meet4a ++ (qSteps4 ++ meet4b)) V (Proc.devRef .tc main_v544) =
    sparse facts4 (by decide) (V (Proc.devRef .tc main_v19)) := by
  simp only [meet4a, qSteps4, meet4b, List.cons_append, List.nil_append, runs]
  after_results_simp
  simp only [TRef.ofBuf_toBuf, id_eq, hI]
  simp -implicitDefEqProofs only [TRef.toBuf, TRef.ofBuf, cast_cast, cast_eq]
  rfl

theorem pick4_k (V : Contents) (hI : V (Proc.devRef .tc main_v261) = iotaInDim S36 32 0) : runs (meet4b ++ (kSteps4 ++ meet4c)) V (Proc.devRef .tc main_v609) =
    sparse facts4 (by decide) (V (Proc.devRef .tc main_v22)) := by
  simp only [meet4b, kSteps4, meet4c, List.cons_append, List.nil_append, runs]
  after_results_simp
  simp only [TRef.ofBuf_toBuf, id_eq, hI]
  simp -implicitDefEqProofs only [TRef.toBuf, TRef.ofBuf, cast_cast, cast_eq]
  rfl

theorem pick4_v (V : Contents) (hI : V (Proc.devRef .tc main_v261) = iotaInDim S36 32 0) : runs (meet4c ++ vSteps4) V (Proc.devRef .tc main_v674) =
    sparse facts4 (by decide) (V (Proc.devRef .tc main_v25)) := by
  simp only [meet4c, vSteps4, List.cons_append, List.nil_append, runs]
  after_results_simp
  simp only [TRef.ofBuf_toBuf, id_eq, hI]
  simp -implicitDefEqProofs only [TRef.toBuf, TRef.ofBuf, cast_cast, cast_eq]
  rfl

theorem scale4_c (V : Contents) : runs vSteps4 V (Proc.devRef .tc main_v677) =
    repeated 1 _ repeats1.h0 repeats1.h1 repeats1.h2 (V (Proc.devRef .tc main_v11)) := by
  simp only [vSteps4, List.cons_append, List.nil_append, runs]
  after_results_simp
  rfl

theorem scale4_vs (V : Contents) : runs vSteps4 V (Proc.devRef .tc main_v680) =
    repeated 1 _ repeats1.h0 repeats1.h1 repeats1.h2 (V (Proc.devRef .tc main_v18)) := by
  simp only [vSteps4, List.cons_append, List.nil_append, runs]
  after_results_simp
  rfl

/-! ## Over the whole stretch -/

theorem keep4_v11 (V : Contents) : runs steps4 V (Proc.devRef .tc main_v11) = V (Proc.devRef .tc main_v11) := runs_of _ _ (by decide +kernel)
theorem keep4_v18 (V : Contents) : runs steps4 V (Proc.devRef .tc main_v18) = V (Proc.devRef .tc main_v18) := runs_of _ _ (by decide +kernel)
theorem keep4_v19 (V : Contents) : runs steps4 V (Proc.devRef .tc main_v19) = V (Proc.devRef .tc main_v19) := runs_of _ _ (by decide +kernel)
theorem keep4_v22 (V : Contents) : runs steps4 V (Proc.devRef .tc main_v22) = V (Proc.devRef .tc main_v22) := runs_of _ _ (by decide +kernel)
theorem keep4_v25 (V : Contents) : runs steps4 V (Proc.devRef .tc main_v25) = V (Proc.devRef .tc main_v25) := runs_of _ _ (by decide +kernel)
theorem keep4_v66 (V : Contents) : runs steps4 V (Proc.devRef .tc main_v66) = V (Proc.devRef .tc main_v66) := runs_of _ _ (by decide +kernel)
theorem keep4_v69 (V : Contents) : runs steps4 V (Proc.devRef .tc main_v69) = V (Proc.devRef .tc main_v69) := runs_of _ _ (by decide +kernel)
theorem keep4_v259 (V : Contents) : runs steps4 V (Proc.devRef .tc main_v259) = V (Proc.devRef .tc main_v259) := runs_of _ _ (by decide +kernel)
theorem keep4_v260 (V : Contents) : runs steps4 V (Proc.devRef .tc main_v260) = V (Proc.devRef .tc main_v260) := runs_of _ _ (by decide +kernel)
theorem keep4_v261 (V : Contents) : runs steps4 V (Proc.devRef .tc main_v261) = V (Proc.devRef .tc main_v261) := runs_of _ _ (by decide +kernel)

variable (V : Contents) (hI : V (Proc.devRef .tc main_v261) = iotaInDim S36 32 0)
include hI in
theorem after4_lse : runs steps4 V (Proc.devRef .tc main_v476) = lseOf3 (V (Proc.devRef .tc main_v463_1)) := by
  rw [show steps4 = (spreadSteps4 ++ meet4a) ++ (qSteps4 ++ (meet4b ++ (kSteps4 ++ (meet4c ++ vSteps4)))) from rfl, runs_append]
  exact (runs_of _ _ (by decide +kernel)).trans (spread4_lse V hI)
include hI in
theorem after4_out : runs steps4 V (Proc.devRef .tc main_v479) = outOf3 (V (Proc.devRef .tc main_v463_0)) := by
  rw [show steps4 = (spreadSteps4 ++ meet4a) ++ (qSteps4 ++ (meet4b ++ (kSteps4 ++ (meet4c ++ vSteps4)))) from rfl, runs_append]
  exact (runs_of _ _ (by decide +kernel)).trans (spread4_out V hI)
include hI in
theorem heads4_a : (runs spreadSteps4 V) (Proc.devRef .tc main_v261) = iotaInDim S36 32 0 := (runs_of _ _ (by decide +kernel)).trans hI
include hI in
theorem heads4_b : (runs qSteps4 (runs meet4a (runs spreadSteps4 V))) (Proc.devRef .tc main_v261) = iotaInDim S36 32 0 := (runs_of _ _ (by decide +kernel)).trans ((runs_of _ _ (by decide +kernel)).trans (heads4_a V hI))
include hI in
theorem heads4_c : (runs kSteps4 (runs meet4b (runs qSteps4 (runs meet4a (runs spreadSteps4 V))))) (Proc.devRef .tc main_v261) = iotaInDim S36 32 0 := (runs_of _ _ (by decide +kernel)).trans ((runs_of _ _ (by decide +kernel)).trans (heads4_b V hI))
include hI in
theorem operand4_q : runs steps4 V (Proc.devRef .tc main_v544) = sparse facts4 (by decide) (V (Proc.devRef .tc main_v19)) := by
  rw [show steps4 = spreadSteps4 ++ ((meet4a ++ (qSteps4 ++ meet4b)) ++ (kSteps4 ++ (meet4c ++ vSteps4))) from rfl, runs_append, runs_append]
  refine (runs_of _ _ (by decide +kernel)).trans ((pick4_q _ (heads4_a V hI)).trans ?_)
  rw [runs_of spreadSteps4 V (r := main_v19) (by decide +kernel)]
include hI in
theorem operand4_k : runs steps4 V (Proc.devRef .tc main_v609) = sparse facts4 (by decide) (V (Proc.devRef .tc main_v22)) := by
  rw [show steps4 = spreadSteps4 ++ (meet4a ++ (qSteps4 ++ ((meet4b ++ (kSteps4 ++ meet4c)) ++ vSteps4))) from rfl, runs_append, runs_append, runs_append, runs_append]
  refine (runs_of _ _ (by decide +kernel)).trans ((pick4_k _ (heads4_b V hI)).trans ?_)
  rw [runs_of qSteps4 _ (r := main_v22) (by decide +kernel), runs_of meet4a _ (r := main_v22) (by decide +kernel), runs_of spreadSteps4 _ (r := main_v22) (by decide +kernel)]
include hI in
theorem operand4_v : runs steps4 V (Proc.devRef .tc main_v674) = sparse facts4 (by decide) (V (Proc.devRef .tc main_v25)) := by
  rw [show steps4 = spreadSteps4 ++ (meet4a ++ (qSteps4 ++ (meet4b ++ (kSteps4 ++ (meet4c ++ vSteps4))))) from rfl, runs_append, runs_append, runs_append, runs_append, runs_append]
  refine (pick4_v _ (heads4_c V hI)).trans ?_
  rw [runs_of kSteps4 _ (r := main_v25) (by decide +kernel), runs_of meet4b _ (r := main_v25) (by decide +kernel), runs_of qSteps4 _ (r := main_v25) (by decide +kernel), runs_of meet4a _ (r := main_v25) (by decide +kernel), runs_of spreadSteps4 _ (r := main_v25) (by decide +kernel)]
theorem operand4_c : runs steps4 V (Proc.devRef .tc main_v677) = repeated 1 _ repeats1.h0 repeats1.h1 repeats1.h2 (V (Proc.devRef .tc main_v11)) := by
  rw [show steps4 = (spreadSteps4 ++ (meet4a ++ (qSteps4 ++ (meet4b ++ (kSteps4 ++ meet4c))))) ++ vSteps4 from rfl, runs_append]
  refine (scale4_c _).trans ?_
  rw [runs_of (spreadSteps4 ++ (meet4a ++ (qSteps4 ++ (meet4b ++ (kSteps4 ++ meet4c))))) _ (r := main_v11) (by decide +kernel)]
theorem operand4_vs : runs steps4 V (Proc.devRef .tc main_v680) = repeated 1 _ repeats1.h0 repeats1.h1 repeats1.h2 (V (Proc.devRef .tc main_v18)) := by
  rw [show steps4 = (spreadSteps4 ++ (meet4a ++ (qSteps4 ++ (meet4b ++ (kSteps4 ++ meet4c))))) ++ vSteps4 from rfl, runs_append]
  refine (scale4_vs _).trans ?_
  rw [runs_of (spreadSteps4 ++ (meet4a ++ (qSteps4 ++ (meet4b ++ (kSteps4 ++ meet4c))))) _ (r := main_v18) (by decide +kernel)]

end Cert.Dilated

end
-- ==== Proof.Host5.lean ====
/-
  The host operations after the kernel's last pallas_call, read: the last pattern's arrays joined, and the two results
  (`last_out`, `last_lse`).
-/
module

public import proofs.«01_k».proof.Proof.Runs
public import proofs.«01_k».proof.Proof.Patterns
public import proofs.«01_k».proof.Proof.Combine

@[expose] public section

set_option maxRecDepth 16384
set_option maxHeartbeats 8000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- All of them. -/
noncomputable def steps5 : List Step := [
  ⟨_, _, hostOps5_writes⟩, ⟨_, _, hostOps5_1_writes⟩, ⟨_, _, hostOps5_2_writes⟩, ⟨_, _, hostOps5_3_writes⟩,
  ⟨_, _, hostOps5_4_writes⟩, ⟨_, _, hostOps5_5_writes⟩, ⟨_, _, hostOps5_6_writes⟩]
theorem last_lse (V : Contents) (hI : V (Proc.devRef .tc main_v261) = iotaInDim S36 32 0) : runs steps5 V (Proc.devRef .tc main_v746) =
    combineLse (V (Proc.devRef .tc main_v66)) (V (Proc.devRef .tc main_v260)) (joinLse slices_S2x36x2052_S2x36x2048_0_0_0 (V (Proc.devRef .tc main_v476)) (lseOf4 (V (Proc.devRef .tc main_v681_1)))) := by
  simp only [steps5, List.cons_append, List.nil_append, runs]
  after_results_simp
  dsimp only [Matrix.cons_val]
  simp only [stacked_eq, glueLse_eq, glueOut_eq]
  after_results_simp
  simp only [TRef.ofBuf_toBuf, id_eq, hI]
  simp -implicitDefEqProofs only [TRef.toBuf, TRef.ofBuf, cast_cast, cast_eq]
  rfl

theorem last_out (V : Contents) (hI : V (Proc.devRef .tc main_v261) = iotaInDim S36 32 0) : runs steps5 V (Proc.devRef .tc main_v745) =
    combineOut (V (Proc.devRef .tc main_v66)) (V (Proc.devRef .tc main_v260)) (joinLse slices_S2x36x2052_S2x36x2048_0_0_0 (V (Proc.devRef .tc main_v476)) (lseOf4 (V (Proc.devRef .tc main_v681_1))))
      (V (Proc.devRef .tc main_v69)) (V (Proc.devRef .tc main_v259)) (joinOut slices_S2x36x2052x128_S2x36x2048x128_0_0_0_0 (V (Proc.devRef .tc main_v479)) (outOf4 (V (Proc.devRef .tc main_v681_0)))) := by
  simp only [steps5, List.cons_append, List.nil_append, runs]
  after_results_simp
  dsimp only [Matrix.cons_val]
  simp only [stacked_eq, glueLse_eq, glueOut_eq]
  after_results_simp
  simp only [TRef.ofBuf_toBuf, id_eq, hI]
  simp -implicitDefEqProofs only [TRef.toBuf, TRef.ofBuf, cast_cast, cast_eq]
  rfl

end Cert.Dilated

end
-- ==== Proof.Region0.lean ====
/-
  The kernel's pallas_call number 0 inside the whole kernel, from whatever its operands hold when it is entered: what it
  leaves in its two results is every sequence's causal attention and log-sum-exps (`arr_out`, `arr_lse`).
-/
module

public import proofs.«01_k».proof.Proof.Pieces
public import proofs.«01_k».proof.Proof.Gen.KernelIdeal.Frame.Region0
public import Idealize.ShloMosaic.Lib.Pipeline.ValueKit

@[expose] public section

noncomputable section

namespace Cert.Dilated.Region0

open Idealize.ShloMosaic hiding ix1 ix2 ix3 ix4 ix5
open Idealize.ShloMosaic.ValueIdx Idealize.ShloMosaic.TcCoe Idealize.ShloMosaic.Tactic Idealize.SL Idealize.SL.Sem
open Cert.KernelIdeal Cert.KernelIdeal.Gen
open Idealize.ShloMosaic.Pipeline (Dat)

/-- One grid point leaves its sequence's attention. -/
theorem run_out (c : Dev nD) (i : grid0.Coords) a1 h1 a2 h2 a3 h3 a4 h4 a5 h5 a6 h6 a7 h7 (x0 x1 x2 x3 x4) :
    out0_A_5 (F := Ideal) c i a1 h1 a2 h2 a3 h3 a4 h4 a5 h5 a6 h6 a7 h7 x0 x1 x2 x3 x4
      = attnOut (kernelRun0_A.sl.r c i a1 h1 x0) (kernelRun0_A.sl.r_1 c i a2 h2 x1) x2 x3 x4 := by
  unfold out0_A_5
  rw [View.read_writes_eq_canon _ _ _ (cover0_A_5 c i a1 h1 a2 h2 a3 h3 a4 h4 a5 h5 a6 h6 a7 h7 x0 x1 x2 x3 x4)]
  funext y
  refine View.canon_apply_of_pieces _ _ ?_ y (cover0_A_5 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact out_piece facts2048 1792 (by decide) rfl (by decide) rfl (.inl rfl) a3 h3 a4 h4 a5 h5 _ _ x2 x3 x4 _ _
  · exact out_piece facts1792 1536 (by decide) rfl (by decide) rfl (.inl rfl) a3 h3 a4 h4 a5 h5 _ _ x2 x3 x4 _ _
  · exact out_piece facts1536 1280 (by decide) rfl (by decide) rfl (.inl rfl) a3 h3 a4 h4 a5 h5 _ _ x2 x3 x4 _ _
  · exact out_piece facts1280 1024 (by decide) rfl (by decide) rfl (.inl rfl) a3 h3 a4 h4 a5 h5 _ _ x2 x3 x4 _ _
  · exact out_piece facts1024 768 (by decide) rfl (by decide) rfl (.inl rfl) a3 h3 a4 h4 a5 h5 _ _ x2 x3 x4 _ _
  · exact out_piece facts768 512 (by decide) rfl (by decide) rfl (.inl rfl) a3 h3 a4 h4 a5 h5 _ _ x2 x3 x4 _ _
  · exact out_piece facts512 256 (by decide) rfl (by decide) rfl (.inl rfl) a3 h3 a4 h4 a5 h5 _ _ x2 x3 x4 _ _
  · exact out_piece facts256 0 (by decide) rfl (by decide) rfl (.inl rfl) a3 h3 a4 h4 a5 h5 _ _ x2 x3 x4 _ _

/-- One grid point leaves its sequence's log-sum-exps. -/
theorem run_lse (c : Dev nD) (i : grid0.Coords) a1 h1 a2 h2 a3 h3 a4 h4 a5 h5 a6 h6 a7 h7 (x0 x1 x2 x3 x4) :
    out0_A_6 (F := Ideal) c i a1 h1 a2 h2 a3 h3 a4 h4 a5 h5 a6 h6 a7 h7 x0 x1 x2 x3 x4
      = attnLse (kernelRun0_A.sl.r c i a1 h1 x0) x2 x3 := by
  unfold out0_A_6
  rw [View.read_writes_eq_canon _ _ _ (cover0_A_6 c i a1 h1 a2 h2 a3 h3 a4 h4 a5 h5 a6 h6 a7 h7 x0 x1 x2 x3 x4)]
  funext y
  refine View.canon_apply_of_pieces _ _ ?_ y (cover0_A_6 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact lse_piece facts2048 1792 (by decide) rfl a3 h3 a4 h4 _ x2 x3 _ _ (by decide)
  · exact lse_piece facts1792 1536 (by decide) rfl a3 h3 a4 h4 _ x2 x3 _ _ (by decide)
  · exact lse_piece facts1536 1280 (by decide) rfl a3 h3 a4 h4 _ x2 x3 _ _ (by decide)
  · exact lse_piece facts1280 1024 (by decide) rfl a3 h3 a4 h4 _ x2 x3 _ _ (by decide)
  · exact lse_piece facts1024 768 (by decide) rfl a3 h3 a4 h4 _ x2 x3 _ _ (by decide)
  · exact lse_piece facts768 512 (by decide) rfl a3 h3 a4 h4 _ x2 x3 _ _ (by decide)
  · exact lse_piece facts512 256 (by decide) rfl a3 h3 a4 h4 _ x2 x3 _ _ (by decide)
  · exact lse_piece facts256 0 (by decide) rfl a3 h3 a4 h4 _ x2 x3 _ _ (by decide)

variable (V : (c : Dev nD) → (b : Ref sig .tc) → Buf (Elt Ideal) ((c : Thread nD τ).loc b))

theorem coords_eq (t : Fin cfg0.N) : (grid0.coords t 0).val = t.val := by
  have ht : t.val < 720 := t.isLt
  rw [Pipeline.Grid.coords_val (G := grid0) t 0 (S := 1) (B := 720) (by decide) rfl]; omega

theorem off_eq (t : Fin cfg0.N) : k0_off1 (grid0.coords t) 0 = t.val :=
  (word_val (grid0.coords t 0).isLt (by decide)).trans (coords_eq t)

theorem pos_eq (t : Fin cfg0.N) : (BitVec.ofNat 32 (grid0.coords t 0).val).toNat = t.val :=
  (word_val (grid0.coords t 0).isLt (by decide)).trans (coords_eq t)

theorem blk_qk (c : Dev nD) (t : Fin cfg0.N) (u : Fin 720) :
    iblk0 V c 0 t (ix2 u 0) = V c (Pipeline.arrRef spec0 0) (ix2 u 0) := by
  unfold iblk0
  exact congrArg (V c _) (whole_at u _ rfl rfl)

theorem blk_vs (c : Dev nD) (t : Fin cfg0.N) (u : Fin 720) :
    iblk0 V c 1 t (ix2 u 0) = V c (Pipeline.arrRef spec0 1) (ix2 u 0) := by
  unfold iblk0
  exact congrArg (V c _) (whole_at u _ rfl rfl)

theorem blk_q (c : Dev nD) (t : Fin cfg0.N) (s : Fin 2048) (d : Fin 128) :
    iblk0 V c 2 t (ix3 0 s d) = V c (Pipeline.arrRef spec0 2) (ix3 (⟨t.val, t.isLt⟩ : Fin 720) s d) := by
  unfold iblk0
  exact congrArg (V c _) (blk_at ⟨t.val, t.isLt⟩ (pos_eq t) 0 s d _ rfl rfl rfl)

theorem blk_k (c : Dev nD) (t : Fin cfg0.N) (s : Fin 2048) (d : Fin 128) :
    iblk0 V c 3 t (ix3 0 s d) = V c (Pipeline.arrRef spec0 3) (ix3 (⟨t.val, t.isLt⟩ : Fin 720) s d) := by
  unfold iblk0
  exact congrArg (V c _) (blk_at ⟨t.val, t.isLt⟩ (pos_eq t) 0 s d _ rfl rfl rfl)

theorem blk_v (c : Dev nD) (t : Fin cfg0.N) (s : Fin 2048) (d : Fin 128) :
    iblk0 V c 4 t (ix3 0 s d) = V c (Pipeline.arrRef spec0 4) (ix3 (⟨t.val, t.isLt⟩ : Fin 720) s d) := by
  unfold iblk0
  exact congrArg (V c _) (blk_at ⟨t.val, t.isLt⟩ (pos_eq t) 0 s d _ rfl rfl rfl)

/-- The call's first result: every sequence's causal attention. -/
theorem arr_out (c : Dev nD) :
    (dat0 V c).arrAt 5 cfg0.N = regionOut (nb := 720) (n := 2048) (V c (Pipeline.arrRef spec0 0)) (V c (Pipeline.arrRef spec0 1))
      (V c (Pipeline.arrRef spec0 2)) (V c (Pipeline.arrRef spec0 3)) (V c (Pipeline.arrRef spec0 4)) := by
  refine (dat0 V c).arrAt_eq_of_covers 5 _ (by decide +kernel) fun t hf y => ?_
  blk_simp
  rw [after0_5]
  unfold outsAt0
  dsimp only
  rw [run_out]
  refine (attnOut_region (nb := 720) (n := 2048) (Qk := V c (Pipeline.arrRef spec0 0)) (Vs := V c (Pipeline.arrRef spec0 1))
    (Q := V c (Pipeline.arrRef spec0 2)) (K := V c (Pipeline.arrRef spec0 3)) (W := V c (Pipeline.arrRef spec0 4))
    ⟨t.val, t.isLt⟩ ?_ ?_ (blk_q V c t) (blk_k V c t) (blk_v V c t) y).trans ?_
  · exact (readAt_scale (nb := 720) _ _ _ _ _ ⟨t.val, t.isLt⟩ (off_eq t)).trans (blk_qk V c t _)
  · exact (readAt_scale (nb := 720) _ _ _ _ _ ⟨t.val, t.isLt⟩ (off_eq t)).trans (blk_vs V c t _)
  · exact congrArg _ (blk_at ⟨t.val, t.isLt⟩ (pos_eq t) (y 0) (y 1) (y 2) _ rfl rfl rfl).symm

/-- The call's second result: every sequence's log-sum-exps. -/
theorem arr_lse (c : Dev nD) :
    (dat0 V c).arrAt 6 cfg0.N = regionLse (nb := 720) (n := 2048) (V c (Pipeline.arrRef spec0 0))
      (V c (Pipeline.arrRef spec0 2)) (V c (Pipeline.arrRef spec0 3)) := by
  refine (dat0 V c).arrAt_eq_of_covers 6 _ (by decide +kernel) fun t hf y => ?_
  blk_simp
  rw [after0_6]
  unfold outsAt0
  dsimp only
  rw [run_lse]
  refine (attnLse_region (nb := 720) (n := 2048) (Qk := V c (Pipeline.arrRef spec0 0))
    (Q := V c (Pipeline.arrRef spec0 2)) (K := V c (Pipeline.arrRef spec0 3))
    ⟨t.val, t.isLt⟩ ?_ (blk_q V c t) (blk_k V c t) y).trans ?_
  · exact (readAt_scale (nb := 720) _ _ _ _ _ ⟨t.val, t.isLt⟩ (off_eq t)).trans (blk_qk V c t _)
  · exact congrArg _ (blk_at ⟨t.val, t.isLt⟩ (pos_eq t) (y 0) (y 1) (y 2) _ rfl rfl rfl).symm

end Cert.Dilated.Region0

end
-- ==== Proof.Region1.lean ====
/-
  The kernel's pallas_call number 1 inside the whole kernel, from whatever its operands hold when it is entered: what it
  leaves in its two results is every sequence's causal attention and log-sum-exps (`arr_out`, `arr_lse`).
-/
module

public import proofs.«01_k».proof.Proof.Pieces
public import proofs.«01_k».proof.Proof.Gen.KernelIdeal.Frame.Region1
public import Idealize.ShloMosaic.Lib.Pipeline.ValueKit

@[expose] public section

noncomputable section

namespace Cert.Dilated.Region1

open Idealize.ShloMosaic hiding ix1 ix2 ix3 ix4 ix5
open Idealize.ShloMosaic.ValueIdx Idealize.ShloMosaic.TcCoe Idealize.ShloMosaic.Tactic Idealize.SL Idealize.SL.Sem
open Cert.KernelIdeal Cert.KernelIdeal.Gen
open Idealize.ShloMosaic.Pipeline (Dat)

/-- One grid point leaves its sequence's attention. -/
theorem run_out (c : Dev nD) (i : grid1.Coords) a1 h1 a2 h2 a3 h3 a4 h4 a5 h5 a6 h6 a7 h7 (x0 x1 x2 x3 x4) :
    out1_A_5 (F := Ideal) c i a1 h1 a2 h2 a3 h3 a4 h4 a5 h5 a6 h6 a7 h7 x0 x1 x2 x3 x4
      = attnOut (kernelRun1_A.sl.r c i a1 h1 x0) (kernelRun1_A.sl.r_1 c i a2 h2 x1) x2 x3 x4 := by
  unfold out1_A_5
  rw [View.read_writes_eq_canon _ _ _ (cover1_A_5 c i a1 h1 a2 h2 a3 h3 a4 h4 a5 h5 a6 h6 a7 h7 x0 x1 x2 x3 x4)]
  funext y
  refine View.canon_apply_of_pieces _ _ ?_ y (cover1_A_5 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact out_piece facts2048 1792 (by decide) rfl (by decide) rfl (.inl rfl) a3 h3 a4 h4 a5 h5 _ _ x2 x3 x4 _ _
  · exact out_piece facts1792 1536 (by decide) rfl (by decide) rfl (.inl rfl) a3 h3 a4 h4 a5 h5 _ _ x2 x3 x4 _ _
  · exact out_piece facts1536 1280 (by decide) rfl (by decide) rfl (.inl rfl) a3 h3 a4 h4 a5 h5 _ _ x2 x3 x4 _ _
  · exact out_piece facts1280 1024 (by decide) rfl (by decide) rfl (.inl rfl) a3 h3 a4 h4 a5 h5 _ _ x2 x3 x4 _ _
  · exact out_piece facts1024 768 (by decide) rfl (by decide) rfl (.inl rfl) a3 h3 a4 h4 a5 h5 _ _ x2 x3 x4 _ _
  · exact out_piece facts768 512 (by decide) rfl (by decide) rfl (.inl rfl) a3 h3 a4 h4 a5 h5 _ _ x2 x3 x4 _ _
  · exact out_piece facts512 256 (by decide) rfl (by decide) rfl (.inl rfl) a3 h3 a4 h4 a5 h5 _ _ x2 x3 x4 _ _
  · exact out_piece facts256 0 (by decide) rfl (by decide) rfl (.inl rfl) a3 h3 a4 h4 a5 h5 _ _ x2 x3 x4 _ _

/-- One grid point leaves its sequence's log-sum-exps. -/
theorem run_lse (c : Dev nD) (i : grid1.Coords) a1 h1 a2 h2 a3 h3 a4 h4 a5 h5 a6 h6 a7 h7 (x0 x1 x2 x3 x4) :
    out1_A_6 (F := Ideal) c i a1 h1 a2 h2 a3 h3 a4 h4 a5 h5 a6 h6 a7 h7 x0 x1 x2 x3 x4
      = attnLse (kernelRun1_A.sl.r c i a1 h1 x0) x2 x3 := by
  unfold out1_A_6
  rw [View.read_writes_eq_canon _ _ _ (cover1_A_6 c i a1 h1 a2 h2 a3 h3 a4 h4 a5 h5 a6 h6 a7 h7 x0 x1 x2 x3 x4)]
  funext y
  refine View.canon_apply_of_pieces _ _ ?_ y (cover1_A_6 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact lse_piece facts2048 1792 (by decide) rfl a3 h3 a4 h4 _ x2 x3 _ _ (by decide)
  · exact lse_piece facts1792 1536 (by decide) rfl a3 h3 a4 h4 _ x2 x3 _ _ (by decide)
  · exact lse_piece facts1536 1280 (by decide) rfl a3 h3 a4 h4 _ x2 x3 _ _ (by decide)
  · exact lse_piece facts1280 1024 (by decide) rfl a3 h3 a4 h4 _ x2 x3 _ _ (by decide)
  · exact lse_piece facts1024 768 (by decide) rfl a3 h3 a4 h4 _ x2 x3 _ _ (by decide)
  · exact lse_piece facts768 512 (by decide) rfl a3 h3 a4 h4 _ x2 x3 _ _ (by decide)
  · exact lse_piece facts512 256 (by decide) rfl a3 h3 a4 h4 _ x2 x3 _ _ (by decide)
  · exact lse_piece facts256 0 (by decide) rfl a3 h3 a4 h4 _ x2 x3 _ _ (by decide)

variable (V : (c : Dev nD) → (b : Ref sig .tc) → Buf (Elt Ideal) ((c : Thread nD τ).loc b))

theorem coords_eq (t : Fin cfg1.N) : (grid1.coords t 0).val = t.val := by
  have ht : t.val < 216 := t.isLt
  rw [Pipeline.Grid.coords_val (G := grid1) t 0 (S := 1) (B := 216) (by decide) rfl]; omega

theorem off_eq (t : Fin cfg1.N) : k1_off1 (grid1.coords t) 0 = t.val :=
  (word_val (grid1.coords t 0).isLt (by decide)).trans (coords_eq t)

theorem pos_eq (t : Fin cfg1.N) : (BitVec.ofNat 32 (grid1.coords t 0).val).toNat = t.val :=
  (word_val (grid1.coords t 0).isLt (by decide)).trans (coords_eq t)

theorem blk_qk (c : Dev nD) (t : Fin cfg1.N) (u : Fin 216) :
    iblk1 V c 0 t (ix2 u 0) = V c (Pipeline.arrRef spec1 0) (ix2 u 0) := by
  unfold iblk1
  exact congrArg (V c _) (whole_at u _ rfl rfl)

theorem blk_vs (c : Dev nD) (t : Fin cfg1.N) (u : Fin 216) :
    iblk1 V c 1 t (ix2 u 0) = V c (Pipeline.arrRef spec1 1) (ix2 u 0) := by
  unfold iblk1
  exact congrArg (V c _) (whole_at u _ rfl rfl)

theorem blk_q (c : Dev nD) (t : Fin cfg1.N) (s : Fin 2048) (d : Fin 128) :
    iblk1 V c 2 t (ix3 0 s d) = V c (Pipeline.arrRef spec1 2) (ix3 (⟨t.val, t.isLt⟩ : Fin 216) s d) := by
  unfold iblk1
  exact congrArg (V c _) (blk_at ⟨t.val, t.isLt⟩ (pos_eq t) 0 s d _ rfl rfl rfl)

theorem blk_k (c : Dev nD) (t : Fin cfg1.N) (s : Fin 2048) (d : Fin 128) :
    iblk1 V c 3 t (ix3 0 s d) = V c (Pipeline.arrRef spec1 3) (ix3 (⟨t.val, t.isLt⟩ : Fin 216) s d) := by
  unfold iblk1
  exact congrArg (V c _) (blk_at ⟨t.val, t.isLt⟩ (pos_eq t) 0 s d _ rfl rfl rfl)

theorem blk_v (c : Dev nD) (t : Fin cfg1.N) (s : Fin 2048) (d : Fin 128) :
    iblk1 V c 4 t (ix3 0 s d) = V c (Pipeline.arrRef spec1 4) (ix3 (⟨t.val, t.isLt⟩ : Fin 216) s d) := by
  unfold iblk1
  exact congrArg (V c _) (blk_at ⟨t.val, t.isLt⟩ (pos_eq t) 0 s d _ rfl rfl rfl)

/-- The call's first result: every sequence's causal attention. -/
theorem arr_out (c : Dev nD) :
    (dat1 V c).arrAt 5 cfg1.N = regionOut (nb := 216) (n := 2048) (V c (Pipeline.arrRef spec1 0)) (V c (Pipeline.arrRef spec1 1))
      (V c (Pipeline.arrRef spec1 2)) (V c (Pipeline.arrRef spec1 3)) (V c (Pipeline.arrRef spec1 4)) := by
  refine (dat1 V c).arrAt_eq_of_covers 5 _ (by decide +kernel) fun t hf y => ?_
  blk_simp
  rw [after1_5]
  unfold outsAt1
  dsimp only
  rw [run_out]
  refine (attnOut_region (nb := 216) (n := 2048) (Qk := V c (Pipeline.arrRef spec1 0)) (Vs := V c (Pipeline.arrRef spec1 1))
    (Q := V c (Pipeline.arrRef spec1 2)) (K := V c (Pipeline.arrRef spec1 3)) (W := V c (Pipeline.arrRef spec1 4))
    ⟨t.val, t.isLt⟩ ?_ ?_ (blk_q V c t) (blk_k V c t) (blk_v V c t) y).trans ?_
  · exact (readAt_scale (nb := 216) _ _ _ _ _ ⟨t.val, t.isLt⟩ (off_eq t)).trans (blk_qk V c t _)
  · exact (readAt_scale (nb := 216) _ _ _ _ _ ⟨t.val, t.isLt⟩ (off_eq t)).trans (blk_vs V c t _)
  · exact congrArg _ (blk_at ⟨t.val, t.isLt⟩ (pos_eq t) (y 0) (y 1) (y 2) _ rfl rfl rfl).symm

/-- The call's second result: every sequence's log-sum-exps. -/
theorem arr_lse (c : Dev nD) :
    (dat1 V c).arrAt 6 cfg1.N = regionLse (nb := 216) (n := 2048) (V c (Pipeline.arrRef spec1 0))
      (V c (Pipeline.arrRef spec1 2)) (V c (Pipeline.arrRef spec1 3)) := by
  refine (dat1 V c).arrAt_eq_of_covers 6 _ (by decide +kernel) fun t hf y => ?_
  blk_simp
  rw [after1_6]
  unfold outsAt1
  dsimp only
  rw [run_lse]
  refine (attnLse_region (nb := 216) (n := 2048) (Qk := V c (Pipeline.arrRef spec1 0))
    (Q := V c (Pipeline.arrRef spec1 2)) (K := V c (Pipeline.arrRef spec1 3))
    ⟨t.val, t.isLt⟩ ?_ (blk_q V c t) (blk_k V c t) y).trans ?_
  · exact (readAt_scale (nb := 216) _ _ _ _ _ ⟨t.val, t.isLt⟩ (off_eq t)).trans (blk_qk V c t _)
  · exact congrArg _ (blk_at ⟨t.val, t.isLt⟩ (pos_eq t) (y 0) (y 1) (y 2) _ rfl rfl rfl).symm

end Cert.Dilated.Region1

end
-- ==== Proof.Region2.lean ====
/-
  The kernel's pallas_call number 2 inside the whole kernel, from whatever its operands hold when it is entered: what it
  leaves in its two results is every sequence's causal attention and log-sum-exps (`arr_out`, `arr_lse`).
-/
module

public import proofs.«01_k».proof.Proof.Pieces
public import proofs.«01_k».proof.Proof.Gen.KernelIdeal.Frame.Region2
public import Idealize.ShloMosaic.Lib.Pipeline.ValueKit

@[expose] public section

noncomputable section

namespace Cert.Dilated.Region2

open Idealize.ShloMosaic hiding ix1 ix2 ix3 ix4 ix5
open Idealize.ShloMosaic.ValueIdx Idealize.ShloMosaic.TcCoe Idealize.ShloMosaic.Tactic Idealize.SL Idealize.SL.Sem
open Cert.KernelIdeal Cert.KernelIdeal.Gen
open Idealize.ShloMosaic.Pipeline (Dat)

/-- One grid point leaves its sequence's attention. -/
theorem run_out (c : Dev nD) (i : grid2.Coords) a1 h1 a2 h2 a3 h3 a4 h4 a5 h5 a6 h6 a7 h7 (x0 x1 x2 x3 x4) :
    out2_A_5 (F := Ideal) c i a1 h1 a2 h2 a3 h3 a4 h4 a5 h5 a6 h6 a7 h7 x0 x1 x2 x3 x4
      = attnOut (kernelRun2_A.sl.r c i a1 h1 x0) (kernelRun2_A.sl.r_1 c i a2 h2 x1) x2 x3 x4 := by
  unfold out2_A_5
  rw [View.read_writes_eq_canon _ _ _ (cover2_A_5 c i a1 h1 a2 h2 a3 h3 a4 h4 a5 h5 a6 h6 a7 h7 x0 x1 x2 x3 x4)]
  funext y
  refine View.canon_apply_of_pieces _ _ ?_ y (cover2_A_5 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_nil _⟩⟩⟩
  · exact out_piece facts704 512 (by decide) rfl (by decide) rfl (.inr rfl) a3 h3 a4 h4 a5 h5 _ _ x2 x3 x4 _ _
  · exact out_piece facts512 256 (by decide) rfl (by decide) rfl (.inl rfl) a3 h3 a4 h4 a5 h5 _ _ x2 x3 x4 _ _
  · exact out_piece facts256 0 (by decide) rfl (by decide) rfl (.inl rfl) a3 h3 a4 h4 a5 h5 _ _ x2 x3 x4 _ _

/-- One grid point leaves its sequence's log-sum-exps. -/
theorem run_lse (c : Dev nD) (i : grid2.Coords) a1 h1 a2 h2 a3 h3 a4 h4 a5 h5 a6 h6 a7 h7 (x0 x1 x2 x3 x4) :
    out2_A_6 (F := Ideal) c i a1 h1 a2 h2 a3 h3 a4 h4 a5 h5 a6 h6 a7 h7 x0 x1 x2 x3 x4
      = attnLse (kernelRun2_A.sl.r c i a1 h1 x0) x2 x3 := by
  unfold out2_A_6
  rw [View.read_writes_eq_canon _ _ _ (cover2_A_6 c i a1 h1 a2 h2 a3 h3 a4 h4 a5 h5 a6 h6 a7 h7 x0 x1 x2 x3 x4)]
  funext y
  refine View.canon_apply_of_pieces _ _ ?_ y (cover2_A_6 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_nil _⟩⟩⟩
  · exact lse_piece facts704 512 (by decide) rfl a3 h3 a4 h4 _ x2 x3 _ _ (by decide)
  · exact lse_piece facts512 256 (by decide) rfl a3 h3 a4 h4 _ x2 x3 _ _ (by decide)
  · exact lse_piece facts256 0 (by decide) rfl a3 h3 a4 h4 _ x2 x3 _ _ (by decide)

variable (V : (c : Dev nD) → (b : Ref sig .tc) → Buf (Elt Ideal) ((c : Thread nD τ).loc b))

theorem coords_eq (t : Fin cfg2.N) : (grid2.coords t 0).val = t.val := by
  have ht : t.val < 72 := t.isLt
  rw [Pipeline.Grid.coords_val (G := grid2) t 0 (S := 1) (B := 72) (by decide) rfl]; omega

theorem off_eq (t : Fin cfg2.N) : k2_off1 (grid2.coords t) 0 = t.val :=
  (word_val (grid2.coords t 0).isLt (by decide)).trans (coords_eq t)

theorem pos_eq (t : Fin cfg2.N) : (BitVec.ofNat 32 (grid2.coords t 0).val).toNat = t.val :=
  (word_val (grid2.coords t 0).isLt (by decide)).trans (coords_eq t)

theorem blk_qk (c : Dev nD) (t : Fin cfg2.N) (u : Fin 72) :
    iblk2 V c 0 t (ix2 u 0) = V c (Pipeline.arrRef spec2 0) (ix2 u 0) := by
  unfold iblk2
  exact congrArg (V c _) (whole_at u _ rfl rfl)

theorem blk_vs (c : Dev nD) (t : Fin cfg2.N) (u : Fin 72) :
    iblk2 V c 1 t (ix2 u 0) = V c (Pipeline.arrRef spec2 1) (ix2 u 0) := by
  unfold iblk2
  exact congrArg (V c _) (whole_at u _ rfl rfl)

theorem blk_q (c : Dev nD) (t : Fin cfg2.N) (s : Fin 704) (d : Fin 128) :
    iblk2 V c 2 t (ix3 0 s d) = V c (Pipeline.arrRef spec2 2) (ix3 (⟨t.val, t.isLt⟩ : Fin 72) s d) := by
  unfold iblk2
  exact congrArg (V c _) (blk_at ⟨t.val, t.isLt⟩ (pos_eq t) 0 s d _ rfl rfl rfl)

theorem blk_k (c : Dev nD) (t : Fin cfg2.N) (s : Fin 704) (d : Fin 128) :
    iblk2 V c 3 t (ix3 0 s d) = V c (Pipeline.arrRef spec2 3) (ix3 (⟨t.val, t.isLt⟩ : Fin 72) s d) := by
  unfold iblk2
  exact congrArg (V c _) (blk_at ⟨t.val, t.isLt⟩ (pos_eq t) 0 s d _ rfl rfl rfl)

theorem blk_v (c : Dev nD) (t : Fin cfg2.N) (s : Fin 704) (d : Fin 128) :
    iblk2 V c 4 t (ix3 0 s d) = V c (Pipeline.arrRef spec2 4) (ix3 (⟨t.val, t.isLt⟩ : Fin 72) s d) := by
  unfold iblk2
  exact congrArg (V c _) (blk_at ⟨t.val, t.isLt⟩ (pos_eq t) 0 s d _ rfl rfl rfl)

/-- The call's first result: every sequence's causal attention. -/
theorem arr_out (c : Dev nD) :
    (dat2 V c).arrAt 5 cfg2.N = regionOut (nb := 72) (n := 704) (V c (Pipeline.arrRef spec2 0)) (V c (Pipeline.arrRef spec2 1))
      (V c (Pipeline.arrRef spec2 2)) (V c (Pipeline.arrRef spec2 3)) (V c (Pipeline.arrRef spec2 4)) := by
  refine (dat2 V c).arrAt_eq_of_covers 5 _ (by decide +kernel) fun t hf y => ?_
  blk_simp
  rw [after2_5]
  unfold outsAt2
  dsimp only
  rw [run_out]
  refine (attnOut_region (nb := 72) (n := 704) (Qk := V c (Pipeline.arrRef spec2 0)) (Vs := V c (Pipeline.arrRef spec2 1))
    (Q := V c (Pipeline.arrRef spec2 2)) (K := V c (Pipeline.arrRef spec2 3)) (W := V c (Pipeline.arrRef spec2 4))
    ⟨t.val, t.isLt⟩ ?_ ?_ (blk_q V c t) (blk_k V c t) (blk_v V c t) y).trans ?_
  · exact (readAt_scale (nb := 72) _ _ _ _ _ ⟨t.val, t.isLt⟩ (off_eq t)).trans (blk_qk V c t _)
  · exact (readAt_scale (nb := 72) _ _ _ _ _ ⟨t.val, t.isLt⟩ (off_eq t)).trans (blk_vs V c t _)
  · exact congrArg _ (blk_at ⟨t.val, t.isLt⟩ (pos_eq t) (y 0) (y 1) (y 2) _ rfl rfl rfl).symm

/-- The call's second result: every sequence's log-sum-exps. -/
theorem arr_lse (c : Dev nD) :
    (dat2 V c).arrAt 6 cfg2.N = regionLse (nb := 72) (n := 704) (V c (Pipeline.arrRef spec2 0))
      (V c (Pipeline.arrRef spec2 2)) (V c (Pipeline.arrRef spec2 3)) := by
  refine (dat2 V c).arrAt_eq_of_covers 6 _ (by decide +kernel) fun t hf y => ?_
  blk_simp
  rw [after2_6]
  unfold outsAt2
  dsimp only
  rw [run_lse]
  refine (attnLse_region (nb := 72) (n := 704) (Qk := V c (Pipeline.arrRef spec2 0))
    (Q := V c (Pipeline.arrRef spec2 2)) (K := V c (Pipeline.arrRef spec2 3))
    ⟨t.val, t.isLt⟩ ?_ (blk_q V c t) (blk_k V c t) y).trans ?_
  · exact (readAt_scale (nb := 72) _ _ _ _ _ ⟨t.val, t.isLt⟩ (off_eq t)).trans (blk_qk V c t _)
  · exact congrArg _ (blk_at ⟨t.val, t.isLt⟩ (pos_eq t) (y 0) (y 1) (y 2) _ rfl rfl rfl).symm

end Cert.Dilated.Region2

end
-- ==== Proof.Region3.lean ====
/-
  The kernel's pallas_call number 3 inside the whole kernel, from whatever its operands hold when it is entered: what it
  leaves in its two results is every sequence's causal attention and log-sum-exps (`arr_out`, `arr_lse`).
-/
module

public import proofs.«01_k».proof.Proof.Pieces
public import proofs.«01_k».proof.Proof.Gen.KernelIdeal.Frame.Region3
public import Idealize.ShloMosaic.Lib.Pipeline.ValueKit

@[expose] public section

noncomputable section

namespace Cert.Dilated.Region3

open Idealize.ShloMosaic hiding ix1 ix2 ix3 ix4 ix5
open Idealize.ShloMosaic.ValueIdx Idealize.ShloMosaic.TcCoe Idealize.ShloMosaic.Tactic Idealize.SL Idealize.SL.Sem
open Cert.KernelIdeal Cert.KernelIdeal.Gen
open Idealize.ShloMosaic.Pipeline (Dat)

/-- One grid point leaves its sequence's attention. -/
theorem run_out (c : Dev nD) (i : grid3.Coords) a1 h1 a2 h2 a3 h3 a4 h4 a5 h5 a6 h6 a7 h7 (x0 x1 x2 x3 x4) :
    out3_A_5 (F := Ideal) c i a1 h1 a2 h2 a3 h3 a4 h4 a5 h5 a6 h6 a7 h7 x0 x1 x2 x3 x4
      = attnOut (kernelRun3_A.sl.r c i a1 h1 x0) (kernelRun3_A.sl.r_1 c i a2 h2 x1) x2 x3 x4 := by
  unfold out3_A_5
  rw [View.read_writes_eq_canon _ _ _ (cover3_A_5 c i a1 h1 a2 h2 a3 h3 a4 h4 a5 h5 a6 h6 a7 h7 x0 x1 x2 x3 x4)]
  funext y
  refine View.canon_apply_of_pieces _ _ ?_ y (cover3_A_5 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact out_piece facts2048 1792 (by decide) rfl (by decide) rfl (.inl rfl) a3 h3 a4 h4 a5 h5 _ _ x2 x3 x4 _ _
  · exact out_piece facts1792 1536 (by decide) rfl (by decide) rfl (.inl rfl) a3 h3 a4 h4 a5 h5 _ _ x2 x3 x4 _ _
  · exact out_piece facts1536 1280 (by decide) rfl (by decide) rfl (.inl rfl) a3 h3 a4 h4 a5 h5 _ _ x2 x3 x4 _ _
  · exact out_piece facts1280 1024 (by decide) rfl (by decide) rfl (.inl rfl) a3 h3 a4 h4 a5 h5 _ _ x2 x3 x4 _ _
  · exact out_piece facts1024 768 (by decide) rfl (by decide) rfl (.inl rfl) a3 h3 a4 h4 a5 h5 _ _ x2 x3 x4 _ _
  · exact out_piece facts768 512 (by decide) rfl (by decide) rfl (.inl rfl) a3 h3 a4 h4 a5 h5 _ _ x2 x3 x4 _ _
  · exact out_piece facts512 256 (by decide) rfl (by decide) rfl (.inl rfl) a3 h3 a4 h4 a5 h5 _ _ x2 x3 x4 _ _
  · exact out_piece facts256 0 (by decide) rfl (by decide) rfl (.inl rfl) a3 h3 a4 h4 a5 h5 _ _ x2 x3 x4 _ _

/-- One grid point leaves its sequence's log-sum-exps. -/
theorem run_lse (c : Dev nD) (i : grid3.Coords) a1 h1 a2 h2 a3 h3 a4 h4 a5 h5 a6 h6 a7 h7 (x0 x1 x2 x3 x4) :
    out3_A_6 (F := Ideal) c i a1 h1 a2 h2 a3 h3 a4 h4 a5 h5 a6 h6 a7 h7 x0 x1 x2 x3 x4
      = attnLse (kernelRun3_A.sl.r c i a1 h1 x0) x2 x3 := by
  unfold out3_A_6
  rw [View.read_writes_eq_canon _ _ _ (cover3_A_6 c i a1 h1 a2 h2 a3 h3 a4 h4 a5 h5 a6 h6 a7 h7 x0 x1 x2 x3 x4)]
  funext y
  refine View.canon_apply_of_pieces _ _ ?_ y (cover3_A_6 c i a1 h1 a2 h2 a3 h3 a4 h4 a5 h5 a6 h6 a7 h7 x0 x1 x2 x3 x4 y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · exact lse_piece facts2048 1792 (by decide) rfl a3 h3 a4 h4 _ x2 x3 _ _ (by decide)
  · exact lse_piece facts1792 1536 (by decide) rfl a3 h3 a4 h4 _ x2 x3 _ _ (by decide)
  · exact lse_piece facts1536 1280 (by decide) rfl a3 h3 a4 h4 _ x2 x3 _ _ (by decide)
  · exact lse_piece facts1280 1024 (by decide) rfl a3 h3 a4 h4 _ x2 x3 _ _ (by decide)
  · exact lse_piece facts1024 768 (by decide) rfl a3 h3 a4 h4 _ x2 x3 _ _ (by decide)
  · exact lse_piece facts768 512 (by decide) rfl a3 h3 a4 h4 _ x2 x3 _ _ (by decide)
  · exact lse_piece facts512 256 (by decide) rfl a3 h3 a4 h4 _ x2 x3 _ _ (by decide)
  · exact lse_piece facts256 0 (by decide) rfl a3 h3 a4 h4 _ x2 x3 _ _ (by decide)

variable (V : (c : Dev nD) → (b : Ref sig .tc) → Buf (Elt Ideal) ((c : Thread nD τ).loc b))

theorem coords_eq (t : Fin cfg3.N) : (grid3.coords t 0).val = t.val := by
  have ht : t.val < 72 := t.isLt
  rw [Pipeline.Grid.coords_val (G := grid3) t 0 (S := 1) (B := 72) (by decide) rfl]; omega

theorem off_eq (t : Fin cfg3.N) : k3_off1 (grid3.coords t) 0 = t.val :=
  (word_val (grid3.coords t 0).isLt (by decide)).trans (coords_eq t)

theorem pos_eq (t : Fin cfg3.N) : (BitVec.ofNat 32 (grid3.coords t 0).val).toNat = t.val :=
  (word_val (grid3.coords t 0).isLt (by decide)).trans (coords_eq t)

theorem blk_qk (c : Dev nD) (t : Fin cfg3.N) (u : Fin 72) :
    iblk3 V c 0 t (ix2 u 0) = V c (Pipeline.arrRef spec3 0) (ix2 u 0) := by
  unfold iblk3
  exact congrArg (V c _) (whole_at u _ rfl rfl)

theorem blk_vs (c : Dev nD) (t : Fin cfg3.N) (u : Fin 72) :
    iblk3 V c 1 t (ix2 u 0) = V c (Pipeline.arrRef spec3 1) (ix2 u 0) := by
  unfold iblk3
  exact congrArg (V c _) (whole_at u _ rfl rfl)

theorem blk_q (c : Dev nD) (t : Fin cfg3.N) (s : Fin 2048) (d : Fin 128) :
    iblk3 V c 2 t (ix3 0 s d) = V c (Pipeline.arrRef spec3 2) (ix3 (⟨t.val, t.isLt⟩ : Fin 72) s d) := by
  unfold iblk3
  exact congrArg (V c _) (blk_at ⟨t.val, t.isLt⟩ (pos_eq t) 0 s d _ rfl rfl rfl)

theorem blk_k (c : Dev nD) (t : Fin cfg3.N) (s : Fin 2048) (d : Fin 128) :
    iblk3 V c 3 t (ix3 0 s d) = V c (Pipeline.arrRef spec3 3) (ix3 (⟨t.val, t.isLt⟩ : Fin 72) s d) := by
  unfold iblk3
  exact congrArg (V c _) (blk_at ⟨t.val, t.isLt⟩ (pos_eq t) 0 s d _ rfl rfl rfl)

theorem blk_v (c : Dev nD) (t : Fin cfg3.N) (s : Fin 2048) (d : Fin 128) :
    iblk3 V c 4 t (ix3 0 s d) = V c (Pipeline.arrRef spec3 4) (ix3 (⟨t.val, t.isLt⟩ : Fin 72) s d) := by
  unfold iblk3
  exact congrArg (V c _) (blk_at ⟨t.val, t.isLt⟩ (pos_eq t) 0 s d _ rfl rfl rfl)

/-- The call's first result: every sequence's causal attention. -/
theorem arr_out (c : Dev nD) :
    (dat3 V c).arrAt 5 cfg3.N = regionOut (nb := 72) (n := 2048) (V c (Pipeline.arrRef spec3 0)) (V c (Pipeline.arrRef spec3 1))
      (V c (Pipeline.arrRef spec3 2)) (V c (Pipeline.arrRef spec3 3)) (V c (Pipeline.arrRef spec3 4)) := by
  refine (dat3 V c).arrAt_eq_of_covers 5 _ (by decide +kernel) fun t hf y => ?_
  blk_simp
  rw [after3_5]
  unfold outsAt3
  dsimp only
  rw [run_out]
  refine (attnOut_region (nb := 72) (n := 2048) (Qk := V c (Pipeline.arrRef spec3 0)) (Vs := V c (Pipeline.arrRef spec3 1))
    (Q := V c (Pipeline.arrRef spec3 2)) (K := V c (Pipeline.arrRef spec3 3)) (W := V c (Pipeline.arrRef spec3 4))
    ⟨t.val, t.isLt⟩ ?_ ?_ (blk_q V c t) (blk_k V c t) (blk_v V c t) y).trans ?_
  · exact (readAt_scale (nb := 72) _ _ _ _ _ ⟨t.val, t.isLt⟩ (off_eq t)).trans (blk_qk V c t _)
  · exact (readAt_scale (nb := 72) _ _ _ _ _ ⟨t.val, t.isLt⟩ (off_eq t)).trans (blk_vs V c t _)
  · exact congrArg _ (blk_at ⟨t.val, t.isLt⟩ (pos_eq t) (y 0) (y 1) (y 2) _ rfl rfl rfl).symm

/-- The call's second result: every sequence's log-sum-exps. -/
theorem arr_lse (c : Dev nD) :
    (dat3 V c).arrAt 6 cfg3.N = regionLse (nb := 72) (n := 2048) (V c (Pipeline.arrRef spec3 0))
      (V c (Pipeline.arrRef spec3 2)) (V c (Pipeline.arrRef spec3 3)) := by
  refine (dat3 V c).arrAt_eq_of_covers 6 _ (by decide +kernel) fun t hf y => ?_
  blk_simp
  rw [after3_6]
  unfold outsAt3
  dsimp only
  rw [run_lse]
  refine (attnLse_region (nb := 72) (n := 2048) (Qk := V c (Pipeline.arrRef spec3 0))
    (Q := V c (Pipeline.arrRef spec3 2)) (K := V c (Pipeline.arrRef spec3 3))
    ⟨t.val, t.isLt⟩ ?_ (blk_q V c t) (blk_k V c t) y).trans ?_
  · exact (readAt_scale (nb := 72) _ _ _ _ _ ⟨t.val, t.isLt⟩ (off_eq t)).trans (blk_qk V c t _)
  · exact congrArg _ (blk_at ⟨t.val, t.isLt⟩ (pos_eq t) (y 0) (y 1) (y 2) _ rfl rfl rfl).symm

end Cert.Dilated.Region3

end
-- ==== Proof.Region4.lean ====
/-
  The kernel's pallas_call number 4 inside the whole kernel, from whatever its operands hold when it is entered: what it
  leaves in its two results is every sequence's causal attention and log-sum-exps (`arr_out`, `arr_lse`).
-/
module

public import proofs.«01_k».proof.Proof.Pieces
public import proofs.«01_k».proof.Proof.Gen.KernelIdeal.Frame.Region4
public import Idealize.ShloMosaic.Lib.Pipeline.ValueKit

@[expose] public section

noncomputable section

namespace Cert.Dilated.Region4

open Idealize.ShloMosaic hiding ix1 ix2 ix3 ix4 ix5
open Idealize.ShloMosaic.ValueIdx Idealize.ShloMosaic.TcCoe Idealize.ShloMosaic.Tactic Idealize.SL Idealize.SL.Sem
open Cert.KernelIdeal Cert.KernelIdeal.Gen
open Idealize.ShloMosaic.Pipeline (Dat)

/-- One grid point leaves its sequence's attention. -/
theorem run_out (c : Dev nD) (i : grid4.Coords) a1 h1 a2 h2 a3 h3 a4 h4 a5 h5 a6 h6 a7 h7 (x0 x1 x2 x3 x4) :
    out4_A_5 (F := Ideal) c i a1 h1 a2 h2 a3 h3 a4 h4 a5 h5 a6 h6 a7 h7 x0 x1 x2 x3 x4
      = attnOut (kernelRun4_A.sl.r c i a1 h1 x0) (kernelRun4_A.sl.r_1 c i a2 h2 x1) x2 x3 x4 := by
  unfold out4_A_5
  rw [View.read_writes_eq_canon _ _ _ (cover4_A_5 c i a1 h1 a2 h2 a3 h3 a4 h4 a5 h5 a6 h6 a7 h7 x0 x1 x2 x3 x4)]
  funext y
  refine View.canon_apply_of_pieces _ _ ?_ y (cover4_A_5 c i a1 h1 a2 h2 a3 h3 a4 h4 a5 h5 a6 h6 a7 h7 x0 x1 x2 x3 x4 y)
  refine List.forall_mem_cons.2 ⟨?_, List.forall_mem_nil _⟩
  · exact out_piece facts256 0 (by decide) rfl (by decide) rfl (.inl rfl) a3 h3 a4 h4 a5 h5 _ _ x2 x3 x4 _ _

/-- One grid point leaves its sequence's log-sum-exps. -/
theorem run_lse (c : Dev nD) (i : grid4.Coords) a1 h1 a2 h2 a3 h3 a4 h4 a5 h5 a6 h6 a7 h7 (x0 x1 x2 x3 x4) :
    out4_A_6 (F := Ideal) c i a1 h1 a2 h2 a3 h3 a4 h4 a5 h5 a6 h6 a7 h7 x0 x1 x2 x3 x4
      = attnLse (kernelRun4_A.sl.r c i a1 h1 x0) x2 x3 := by
  unfold out4_A_6
  rw [View.read_writes_eq_canon _ _ _ (cover4_A_6 c i a1 h1 a2 h2 a3 h3 a4 h4 a5 h5 a6 h6 a7 h7 x0 x1 x2 x3 x4)]
  funext y
  refine View.canon_apply_of_pieces _ _ ?_ y (cover4_A_6 c i a1 h1 a2 h2 a3 h3 a4 h4 a5 h5 a6 h6 a7 h7 x0 x1 x2 x3 x4 y)
  refine List.forall_mem_cons.2 ⟨?_, List.forall_mem_nil _⟩
  · exact lse_piece facts256 0 (by decide) rfl a3 h3 a4 h4 _ x2 x3 _ _ (by decide)

variable (V : (c : Dev nD) → (b : Ref sig .tc) → Buf (Elt Ideal) ((c : Thread nD τ).loc b))

theorem coords_eq (t : Fin cfg4.N) : (grid4.coords t 0).val = t.val := by
  have ht : t.val < 72 := t.isLt
  rw [Pipeline.Grid.coords_val (G := grid4) t 0 (S := 1) (B := 72) (by decide) rfl]; omega

theorem off_eq (t : Fin cfg4.N) : k4_off1 (grid4.coords t) 0 = t.val :=
  (word_val (grid4.coords t 0).isLt (by decide)).trans (coords_eq t)

theorem pos_eq (t : Fin cfg4.N) : (BitVec.ofNat 32 (grid4.coords t 0).val).toNat = t.val :=
  (word_val (grid4.coords t 0).isLt (by decide)).trans (coords_eq t)

theorem blk_qk (c : Dev nD) (t : Fin cfg4.N) (u : Fin 72) :
    iblk4 V c 0 t (ix2 u 0) = V c (Pipeline.arrRef spec4 0) (ix2 u 0) := by
  unfold iblk4
  exact congrArg (V c _) (whole_at u _ rfl rfl)

theorem blk_vs (c : Dev nD) (t : Fin cfg4.N) (u : Fin 72) :
    iblk4 V c 1 t (ix2 u 0) = V c (Pipeline.arrRef spec4 1) (ix2 u 0) := by
  unfold iblk4
  exact congrArg (V c _) (whole_at u _ rfl rfl)

theorem blk_q (c : Dev nD) (t : Fin cfg4.N) (s : Fin 256) (d : Fin 128) :
    iblk4 V c 2 t (ix3 0 s d) = V c (Pipeline.arrRef spec4 2) (ix3 (⟨t.val, t.isLt⟩ : Fin 72) s d) := by
  unfold iblk4
  exact congrArg (V c _) (blk_at ⟨t.val, t.isLt⟩ (pos_eq t) 0 s d _ rfl rfl rfl)

theorem blk_k (c : Dev nD) (t : Fin cfg4.N) (s : Fin 256) (d : Fin 128) :
    iblk4 V c 3 t (ix3 0 s d) = V c (Pipeline.arrRef spec4 3) (ix3 (⟨t.val, t.isLt⟩ : Fin 72) s d) := by
  unfold iblk4
  exact congrArg (V c _) (blk_at ⟨t.val, t.isLt⟩ (pos_eq t) 0 s d _ rfl rfl rfl)

theorem blk_v (c : Dev nD) (t : Fin cfg4.N) (s : Fin 256) (d : Fin 128) :
    iblk4 V c 4 t (ix3 0 s d) = V c (Pipeline.arrRef spec4 4) (ix3 (⟨t.val, t.isLt⟩ : Fin 72) s d) := by
  unfold iblk4
  exact congrArg (V c _) (blk_at ⟨t.val, t.isLt⟩ (pos_eq t) 0 s d _ rfl rfl rfl)

/-- The call's first result: every sequence's causal attention. -/
theorem arr_out (c : Dev nD) :
    (dat4 V c).arrAt 5 cfg4.N = regionOut (nb := 72) (n := 256) (V c (Pipeline.arrRef spec4 0)) (V c (Pipeline.arrRef spec4 1))
      (V c (Pipeline.arrRef spec4 2)) (V c (Pipeline.arrRef spec4 3)) (V c (Pipeline.arrRef spec4 4)) := by
  refine (dat4 V c).arrAt_eq_of_covers 5 _ (by decide +kernel) fun t hf y => ?_
  blk_simp
  rw [after4_5]
  unfold outsAt4
  dsimp only
  rw [run_out]
  refine (attnOut_region (nb := 72) (n := 256) (Qk := V c (Pipeline.arrRef spec4 0)) (Vs := V c (Pipeline.arrRef spec4 1))
    (Q := V c (Pipeline.arrRef spec4 2)) (K := V c (Pipeline.arrRef spec4 3)) (W := V c (Pipeline.arrRef spec4 4))
    ⟨t.val, t.isLt⟩ ?_ ?_ (blk_q V c t) (blk_k V c t) (blk_v V c t) y).trans ?_
  · exact (readAt_scale (nb := 72) _ _ _ _ _ ⟨t.val, t.isLt⟩ (off_eq t)).trans (blk_qk V c t _)
  · exact (readAt_scale (nb := 72) _ _ _ _ _ ⟨t.val, t.isLt⟩ (off_eq t)).trans (blk_vs V c t _)
  · exact congrArg _ (blk_at ⟨t.val, t.isLt⟩ (pos_eq t) (y 0) (y 1) (y 2) _ rfl rfl rfl).symm

/-- The call's second result: every sequence's log-sum-exps. -/
theorem arr_lse (c : Dev nD) :
    (dat4 V c).arrAt 6 cfg4.N = regionLse (nb := 72) (n := 256) (V c (Pipeline.arrRef spec4 0))
      (V c (Pipeline.arrRef spec4 2)) (V c (Pipeline.arrRef spec4 3)) := by
  refine (dat4 V c).arrAt_eq_of_covers 6 _ (by decide +kernel) fun t hf y => ?_
  blk_simp
  rw [after4_6]
  unfold outsAt4
  dsimp only
  rw [run_lse]
  refine (attnLse_region (nb := 72) (n := 256) (Qk := V c (Pipeline.arrRef spec4 0))
    (Q := V c (Pipeline.arrRef spec4 2)) (K := V c (Pipeline.arrRef spec4 3))
    ⟨t.val, t.isLt⟩ ?_ (blk_q V c t) (blk_k V c t) y).trans ?_
  · exact (readAt_scale (nb := 72) _ _ _ _ _ ⟨t.val, t.isLt⟩ (off_eq t)).trans (blk_qk V c t _)
  · exact congrArg _ (blk_at ⟨t.val, t.isLt⟩ (pos_eq t) (y 0) (y 1) (y 2) _ rfl rfl rfl).symm

end Cert.Dilated.Region4

end
-- ==== Proof.Chain.lean ====
/-
  The kernel's run from its arguments to its results, boundary by boundary: before and after each pallas_call the buffers hold
  the arrays of the patterns treated so far (`exit0_lse` … `out2a_276`), and at the end the two results are the three patterns' attention
  and log-sum-exps, combined (`kernel_out`, `kernel_lse`).
-/
module

public import proofs.«01_k».proof.Proof.Host0
public import proofs.«01_k».proof.Proof.Host1
public import proofs.«01_k».proof.Proof.Host2
public import proofs.«01_k».proof.Proof.Host3
public import proofs.«01_k».proof.Proof.Host4
public import proofs.«01_k».proof.Proof.Host5
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Gen.KernelIdeal.Frame

@[expose] public section

set_option maxRecDepth 16384
set_option maxHeartbeats 4000000

noncomputable section

namespace Cert.Dilated

open Idealize.ShloMosaic hiding ix1 ix2 ix3 ix4 ix5 ix6
open Idealize.ShloMosaic.TcCoe Idealize.SL Idealize.ShloMosaic.StableHlo
open Idealize.ShloMosaic.ValueIdx
open Cert.KernelIdeal Cert.KernelIdeal.Gen

/-- The kernel's contents hold the scales, queries, keys and values per head. -/
structure Base (c vs : FVec Ideal S2x36 .f32) (q k v : Codes S2x36x20480x128) (V : Contents) : Prop where
  qk : V (Proc.devRef .tc main_v11) = c
  vs : V (Proc.devRef .tc main_v18) = vs
  q : V (Proc.devRef .tc main_v19) = q
  k : V (Proc.devRef .tc main_v22) = k
  v : V (Proc.devRef .tc main_v25) = v

variable {c vs : FVec Ideal S2x36 .f32} {q k v : Codes S2x36x20480x128}

theorem Base.of {V V' : Contents} (h : Base c vs q k v V) (e : ∀ r ∈ [main_v11, main_v18, main_v19, main_v22, main_v25], V' (Proc.devRef .tc r) = V (Proc.devRef .tc r)) :
    Base c vs q k v V' :=
  ⟨(e _ (by decide)).trans h.qk, (e _ (by decide)).trans h.vs, (e _ (by decide)).trans h.q, (e _ (by decide)).trans h.k, (e _ (by decide)).trans h.v⟩

/-! ## The boundaries -/

variable (m : (ℓ : Loc nD τ sig) → Buf (Elt Ideal) ℓ) (ρ : Dev nD → PrngReg) (d : Dev nD)

theorem W3_runs : W3 m ρ d = runs steps0 (W0 m ρ d) := rfl
theorem W35_runs : W35 m ρ d = runs steps1 (W4 m ρ d) := rfl
theorem W67_runs : W67 m ρ d = runs steps2 (W36 m ρ d) := rfl
theorem W171_runs : W171 m ρ d = runs steps3 (W68 m ρ d) := rfl
theorem W275_runs : W275 m ρ d = runs steps4 (W172 m ρ d) := rfl
theorem W283_runs : W283 m ρ d = runs steps5 (W276 m ρ d) := rfl

/-- The scores' factors of the arguments, the values' scales, and the queries, keys and values by head. -/
abbrev argC := scaleQK (m ((d : Thread nD τ).loc main_arg3)) (m ((d : Thread nD τ).loc main_arg4))
abbrev argVs := scaleOfHead (m ((d : Thread nD τ).loc main_arg5))
abbrev argQ := byHead (m ((d : Thread nD τ).loc main_arg0))
abbrev argK := byHeadTwice (m ((d : Thread nD τ).loc main_arg1))
abbrev argV := byHeadTwice (m ((d : Thread nD τ).loc main_arg2))
abbrev BaseOf := Base (argC m d) (argVs m d) (argQ m d) (argK m d) (argV m d)

/-! ## The first pallas_call -/

theorem base3 : BaseOf m d (W3 m ρ d) := by
  rw [W3_runs]
  exact ⟨start_qk _, start_vs _, start_q _, start_k _, start_v _⟩
theorem firstHeads3 : W3 m ρ d (Proc.devRef .tc main_v26) = iotaInDim S36 32 0 := by
  rw [W3_runs]
  exact heads0 _
theorem exit0_lse : W4 m ρ d (Proc.devRef .tc main_v54_1) = regionLse0 (argC m d) (argQ m d) (argK m d) :=
  (W4_arr m ρ d 6).trans ((Region0.arr_lse (V3 m ρ) d).trans (regionLse_congr ((congrFun (W3_runs m ρ d) _).trans (operand0_c _))
    ((congrFun (W3_runs m ρ d) _).trans ((operand0_q _).trans (sparse0_eq _)))
    ((congrFun (W3_runs m ρ d) _).trans ((operand0_k _).trans (sparse0_eq _)))))
theorem exit0_out : W4 m ρ d (Proc.devRef .tc main_v54_0) = regionOut0 (argC m d) (argVs m d) (argQ m d) (argK m d) (argV m d) :=
  (W4_arr m ρ d 5).trans ((Region0.arr_out (V3 m ρ) d).trans (regionOut_congr ((congrFun (W3_runs m ρ d) _).trans (operand0_c _))
    ((congrFun (W3_runs m ρ d) _).trans (operand0_vs _))
    ((congrFun (W3_runs m ρ d) _).trans ((operand0_q _).trans (sparse0_eq _)))
    ((congrFun (W3_runs m ρ d) _).trans ((operand0_k _).trans (sparse0_eq _)))
    ((congrFun (W3_runs m ρ d) _).trans ((operand0_v _).trans (sparse0_eq _)))))
theorem base4 : BaseOf m d (W4 m ρ d) :=
  (base3 m ρ d).of fun r h => W4_of_ne m ρ d r (List.forall_iff_forall_mem.1 (show [main_v11, main_v18, main_v19, main_v22, main_v25].Forall (fun r => ∀ w, Pipeline.arrRef spec0 w ≠ r) by decide) r h)
theorem firstHeads4 : W4 m ρ d (Proc.devRef .tc main_v26) = iotaInDim S36 32 0 :=
  (W4_of_ne m ρ d main_v26 (by decide)).trans (firstHeads3 m ρ d)

/-! ## pallas_call 1 -/

theorem base35 : BaseOf m d (W35 m ρ d) := by
  rw [W35_runs]
  exact (base4 m ρ d).of fun r h => runs_of _ _ (List.forall_iff_forall_mem.1 (show [main_v11, main_v18, main_v19, main_v22, main_v25].Forall (· ∉ writtenBy steps1) by decide +kernel) r h)
theorem exit1_lse : W36 m ρ d (Proc.devRef .tc main_v146_1) = regionLse1 (argC m d) (argQ m d) (argK m d) :=
  (W36_arr m ρ d 6).trans ((Region1.arr_lse (V35 m ρ) d).trans (regionLse_congr ((congrFun (W35_runs m ρ d) _).trans ((operand1_c _).trans (congrArg _ (base4 m ρ d).qk)))
    ((congrFun (W35_runs m ρ d) _).trans ((operand1_q _).trans (congrArg _ (base4 m ρ d).q)))
    ((congrFun (W35_runs m ρ d) _).trans ((operand1_k _).trans (congrArg _ (base4 m ρ d).k)))))
theorem exit1_out : W36 m ρ d (Proc.devRef .tc main_v146_0) = regionOut1 (argC m d) (argVs m d) (argQ m d) (argK m d) (argV m d) :=
  (W36_arr m ρ d 5).trans ((Region1.arr_out (V35 m ρ) d).trans (regionOut_congr ((congrFun (W35_runs m ρ d) _).trans ((operand1_c _).trans (congrArg _ (base4 m ρ d).qk)))
    ((congrFun (W35_runs m ρ d) _).trans ((operand1_vs _).trans (congrArg _ (base4 m ρ d).vs)))
    ((congrFun (W35_runs m ρ d) _).trans ((operand1_q _).trans (congrArg _ (base4 m ρ d).q)))
    ((congrFun (W35_runs m ρ d) _).trans ((operand1_k _).trans (congrArg _ (base4 m ρ d).k)))
    ((congrFun (W35_runs m ρ d) _).trans ((operand1_v _).trans (congrArg _ (base4 m ρ d).v)))))
theorem base36 : BaseOf m d (W36 m ρ d) :=
  (base35 m ρ d).of fun r h => W36_of_ne m ρ d r (List.forall_iff_forall_mem.1 (show [main_v11, main_v18, main_v19, main_v22, main_v25].Forall (fun r => ∀ w, Pipeline.arrRef spec1 w ≠ r) by decide) r h)
theorem heads35 : W35 m ρ d (Proc.devRef .tc main_v70) = iotaInDim S36 32 0 :=
  (congrFun (W35_runs m ρ d) _).trans (heads1_all _)
theorem lse0_35 : W35 m ρ d (Proc.devRef .tc main_v66) = dilLse 2048 1 (argC m d) (argQ m d) (argK m d) :=
  (congrFun (W35_runs m ρ d) _).trans ((after1_lse _ (firstHeads4 m ρ d)).trans ((congrArg lseOf0 (exit0_lse m ρ d)).trans (pattern0_lse _ _ _)))
theorem out0_35 : W35 m ρ d (Proc.devRef .tc main_v69) = dilOut 2048 1 (argC m d) (argVs m d) (argQ m d) (argK m d) (argV m d) :=
  (congrFun (W35_runs m ρ d) _).trans ((after1_out _ (firstHeads4 m ρ d)).trans ((congrArg outOf0 (exit0_out m ρ d)).trans (pattern0_out _ _ _ _ _)))
theorem heads36 : W36 m ρ d (Proc.devRef .tc main_v70) = iotaInDim S36 32 0 :=
  (W36_of_ne m ρ d main_v70 (by decide)).trans (heads35 m ρ d)
theorem lse0_36 : W36 m ρ d (Proc.devRef .tc main_v66) = dilLse 2048 1 (argC m d) (argQ m d) (argK m d) :=
  (W36_of_ne m ρ d main_v66 (by decide)).trans (lse0_35 m ρ d)
theorem out0_36 : W36 m ρ d (Proc.devRef .tc main_v69) = dilOut 2048 1 (argC m d) (argVs m d) (argQ m d) (argK m d) (argV m d) :=
  (W36_of_ne m ρ d main_v69 (by decide)).trans (out0_35 m ρ d)

/-! ## pallas_call 2 -/

theorem base67 : BaseOf m d (W67 m ρ d) := by
  rw [W67_runs]
  exact (base36 m ρ d).of fun r h => runs_of _ _ (List.forall_iff_forall_mem.1 (show [main_v11, main_v18, main_v19, main_v22, main_v25].Forall (· ∉ writtenBy steps2) by decide +kernel) r h)
theorem exit2_lse : W68 m ρ d (Proc.devRef .tc main_v238_1) = regionLse2 (argC m d) (argQ m d) (argK m d) :=
  (W68_arr m ρ d 6).trans ((Region2.arr_lse (V67 m ρ) d).trans (regionLse_congr ((congrFun (W67_runs m ρ d) _).trans ((operand2_c _).trans (congrArg _ (base36 m ρ d).qk)))
    ((congrFun (W67_runs m ρ d) _).trans ((operand2_q _ (heads36 m ρ d)).trans (congrArg _ (base36 m ρ d).q)))
    ((congrFun (W67_runs m ρ d) _).trans ((operand2_k _ (heads36 m ρ d)).trans (congrArg _ (base36 m ρ d).k)))))
theorem exit2_out : W68 m ρ d (Proc.devRef .tc main_v238_0) = regionOut2 (argC m d) (argVs m d) (argQ m d) (argK m d) (argV m d) :=
  (W68_arr m ρ d 5).trans ((Region2.arr_out (V67 m ρ) d).trans (regionOut_congr ((congrFun (W67_runs m ρ d) _).trans ((operand2_c _).trans (congrArg _ (base36 m ρ d).qk)))
    ((congrFun (W67_runs m ρ d) _).trans ((operand2_vs _).trans (congrArg _ (base36 m ρ d).vs)))
    ((congrFun (W67_runs m ρ d) _).trans ((operand2_q _ (heads36 m ρ d)).trans (congrArg _ (base36 m ρ d).q)))
    ((congrFun (W67_runs m ρ d) _).trans ((operand2_k _ (heads36 m ρ d)).trans (congrArg _ (base36 m ρ d).k)))
    ((congrFun (W67_runs m ρ d) _).trans ((operand2_v _ (heads36 m ρ d)).trans (congrArg _ (base36 m ρ d).v)))))
theorem base68 : BaseOf m d (W68 m ρ d) :=
  (base67 m ρ d).of fun r h => W68_of_ne m ρ d r (List.forall_iff_forall_mem.1 (show [main_v11, main_v18, main_v19, main_v22, main_v25].Forall (fun r => ∀ w, Pipeline.arrRef spec2 w ≠ r) by decide) r h)
theorem heads67 : W67 m ρ d (Proc.devRef .tc main_v70) = iotaInDim S36 32 0 :=
  (congrFun (W67_runs m ρ d) _).trans ((keep2_v70 _).trans (heads36 m ρ d))
theorem lse0_67 : W67 m ρ d (Proc.devRef .tc main_v66) = dilLse 2048 1 (argC m d) (argQ m d) (argK m d) :=
  (congrFun (W67_runs m ρ d) _).trans ((keep2_v66 _).trans (lse0_36 m ρ d))
theorem out0_67 : W67 m ρ d (Proc.devRef .tc main_v69) = dilOut 2048 1 (argC m d) (argVs m d) (argQ m d) (argK m d) (argV m d) :=
  (congrFun (W67_runs m ρ d) _).trans ((keep2_v69 _).trans (out0_36 m ρ d))
theorem lse1a_67 : W67 m ρ d (Proc.devRef .tc main_v159) = lseOf1 (regionLse1 (argC m d) (argQ m d) (argK m d)) :=
  (congrFun (W67_runs m ρ d) _).trans ((after2_lse _ (heads36 m ρ d)).trans (congrArg lseOf1 (exit1_lse m ρ d)))
theorem out1a_67 : W67 m ρ d (Proc.devRef .tc main_v162) = outOf1 (regionOut1 (argC m d) (argVs m d) (argQ m d) (argK m d) (argV m d)) :=
  (congrFun (W67_runs m ρ d) _).trans ((after2_out _ (heads36 m ρ d)).trans (congrArg outOf1 (exit1_out m ρ d)))
theorem heads68 : W68 m ρ d (Proc.devRef .tc main_v70) = iotaInDim S36 32 0 :=
  (W68_of_ne m ρ d main_v70 (by decide)).trans (heads67 m ρ d)
theorem lse0_68 : W68 m ρ d (Proc.devRef .tc main_v66) = dilLse 2048 1 (argC m d) (argQ m d) (argK m d) :=
  (W68_of_ne m ρ d main_v66 (by decide)).trans (lse0_67 m ρ d)
theorem out0_68 : W68 m ρ d (Proc.devRef .tc main_v69) = dilOut 2048 1 (argC m d) (argVs m d) (argQ m d) (argK m d) (argV m d) :=
  (W68_of_ne m ρ d main_v69 (by decide)).trans (out0_67 m ρ d)
theorem lse1a_68 : W68 m ρ d (Proc.devRef .tc main_v159) = lseOf1 (regionLse1 (argC m d) (argQ m d) (argK m d)) :=
  (W68_of_ne m ρ d main_v159 (by decide)).trans (lse1a_67 m ρ d)
theorem out1a_68 : W68 m ρ d (Proc.devRef .tc main_v162) = outOf1 (regionOut1 (argC m d) (argVs m d) (argQ m d) (argK m d) (argV m d)) :=
  (W68_of_ne m ρ d main_v162 (by decide)).trans (out1a_67 m ρ d)

/-! ## pallas_call 3 -/

theorem base171 : BaseOf m d (W171 m ρ d) := by
  rw [W171_runs]
  exact (base68 m ρ d).of fun r h => runs_of _ _ (List.forall_iff_forall_mem.1 (show [main_v11, main_v18, main_v19, main_v22, main_v25].Forall (· ∉ writtenBy steps3) by decide +kernel) r h)
theorem exit3_lse : W172 m ρ d (Proc.devRef .tc main_v463_1) = regionLse3 (argC m d) (argQ m d) (argK m d) :=
  (W172_arr m ρ d 6).trans ((Region3.arr_lse (V171 m ρ) d).trans (regionLse_congr ((congrFun (W171_runs m ρ d) _).trans ((operand3_c _).trans (congrArg _ (base68 m ρ d).qk)))
    ((congrFun (W171_runs m ρ d) _).trans ((operand3_q _).trans (congrArg _ (base68 m ρ d).q)))
    ((congrFun (W171_runs m ρ d) _).trans ((operand3_k _).trans (congrArg _ (base68 m ρ d).k)))))
theorem exit3_out : W172 m ρ d (Proc.devRef .tc main_v463_0) = regionOut3 (argC m d) (argVs m d) (argQ m d) (argK m d) (argV m d) :=
  (W172_arr m ρ d 5).trans ((Region3.arr_out (V171 m ρ) d).trans (regionOut_congr ((congrFun (W171_runs m ρ d) _).trans ((operand3_c _).trans (congrArg _ (base68 m ρ d).qk)))
    ((congrFun (W171_runs m ρ d) _).trans ((operand3_vs _).trans (congrArg _ (base68 m ρ d).vs)))
    ((congrFun (W171_runs m ρ d) _).trans ((operand3_q _).trans (congrArg _ (base68 m ρ d).q)))
    ((congrFun (W171_runs m ρ d) _).trans ((operand3_k _).trans (congrArg _ (base68 m ρ d).k)))
    ((congrFun (W171_runs m ρ d) _).trans ((operand3_v _).trans (congrArg _ (base68 m ρ d).v)))))
theorem base172 : BaseOf m d (W172 m ρ d) :=
  (base171 m ρ d).of fun r h => W172_of_ne m ρ d r (List.forall_iff_forall_mem.1 (show [main_v11, main_v18, main_v19, main_v22, main_v25].Forall (fun r => ∀ w, Pipeline.arrRef spec3 w ≠ r) by decide) r h)
theorem heads171 : W171 m ρ d (Proc.devRef .tc main_v261) = iotaInDim S36 32 0 :=
  (congrFun (W171_runs m ρ d) _).trans (heads3_all _)
theorem lse0_171 : W171 m ρ d (Proc.devRef .tc main_v66) = dilLse 2048 1 (argC m d) (argQ m d) (argK m d) :=
  (congrFun (W171_runs m ρ d) _).trans ((keep3_v66 _).trans (lse0_68 m ρ d))
theorem out0_171 : W171 m ρ d (Proc.devRef .tc main_v69) = dilOut 2048 1 (argC m d) (argVs m d) (argQ m d) (argK m d) (argV m d) :=
  (congrFun (W171_runs m ρ d) _).trans ((keep3_v69 _).trans (out0_68 m ρ d))
theorem lse1_171 : W171 m ρ d (Proc.devRef .tc main_v260) = dilLse 6144 3 (argC m d) (argQ m d) (argK m d) :=
  (congrFun (W171_runs m ρ d) _).trans ((after3_lse _ (heads68 m ρ d)).trans ((congrArg₂ (joinLse slices_S2x36x2049_S2x36x2048_0_0_0) (lse1a_68 m ρ d) (congrArg lseOf2 (exit2_lse m ρ d))).trans (pattern1_lse _ _ _)))
theorem out1_171 : W171 m ρ d (Proc.devRef .tc main_v259) = dilOut 6144 3 (argC m d) (argVs m d) (argQ m d) (argK m d) (argV m d) :=
  (congrFun (W171_runs m ρ d) _).trans ((after3_out _ (heads68 m ρ d)).trans ((congrArg₂ (joinOut slices_S2x36x2049x128_S2x36x2048x128_0_0_0_0) (out1a_68 m ρ d) (congrArg outOf2 (exit2_out m ρ d))).trans (pattern1_out _ _ _ _ _)))
theorem heads172 : W172 m ρ d (Proc.devRef .tc main_v261) = iotaInDim S36 32 0 :=
  (W172_of_ne m ρ d main_v261 (by decide)).trans (heads171 m ρ d)
theorem lse0_172 : W172 m ρ d (Proc.devRef .tc main_v66) = dilLse 2048 1 (argC m d) (argQ m d) (argK m d) :=
  (W172_of_ne m ρ d main_v66 (by decide)).trans (lse0_171 m ρ d)
theorem out0_172 : W172 m ρ d (Proc.devRef .tc main_v69) = dilOut 2048 1 (argC m d) (argVs m d) (argQ m d) (argK m d) (argV m d) :=
  (W172_of_ne m ρ d main_v69 (by decide)).trans (out0_171 m ρ d)
theorem lse1_172 : W172 m ρ d (Proc.devRef .tc main_v260) = dilLse 6144 3 (argC m d) (argQ m d) (argK m d) :=
  (W172_of_ne m ρ d main_v260 (by decide)).trans (lse1_171 m ρ d)
theorem out1_172 : W172 m ρ d (Proc.devRef .tc main_v259) = dilOut 6144 3 (argC m d) (argVs m d) (argQ m d) (argK m d) (argV m d) :=
  (W172_of_ne m ρ d main_v259 (by decide)).trans (out1_171 m ρ d)

/-! ## pallas_call 4 -/

theorem base275 : BaseOf m d (W275 m ρ d) := by
  rw [W275_runs]
  exact (base172 m ρ d).of fun r h => runs_of _ _ (List.forall_iff_forall_mem.1 (show [main_v11, main_v18, main_v19, main_v22, main_v25].Forall (· ∉ writtenBy steps4) by decide +kernel) r h)
theorem exit4_lse : W276 m ρ d (Proc.devRef .tc main_v681_1) = regionLse4 (argC m d) (argQ m d) (argK m d) :=
  (W276_arr m ρ d 6).trans ((Region4.arr_lse (V275 m ρ) d).trans (regionLse_congr ((congrFun (W275_runs m ρ d) _).trans ((operand4_c _).trans (congrArg _ (base172 m ρ d).qk)))
    ((congrFun (W275_runs m ρ d) _).trans ((operand4_q _ (heads172 m ρ d)).trans (congrArg _ (base172 m ρ d).q)))
    ((congrFun (W275_runs m ρ d) _).trans ((operand4_k _ (heads172 m ρ d)).trans (congrArg _ (base172 m ρ d).k)))))
theorem exit4_out : W276 m ρ d (Proc.devRef .tc main_v681_0) = regionOut4 (argC m d) (argVs m d) (argQ m d) (argK m d) (argV m d) :=
  (W276_arr m ρ d 5).trans ((Region4.arr_out (V275 m ρ) d).trans (regionOut_congr ((congrFun (W275_runs m ρ d) _).trans ((operand4_c _).trans (congrArg _ (base172 m ρ d).qk)))
    ((congrFun (W275_runs m ρ d) _).trans ((operand4_vs _).trans (congrArg _ (base172 m ρ d).vs)))
    ((congrFun (W275_runs m ρ d) _).trans ((operand4_q _ (heads172 m ρ d)).trans (congrArg _ (base172 m ρ d).q)))
    ((congrFun (W275_runs m ρ d) _).trans ((operand4_k _ (heads172 m ρ d)).trans (congrArg _ (base172 m ρ d).k)))
    ((congrFun (W275_runs m ρ d) _).trans ((operand4_v _ (heads172 m ρ d)).trans (congrArg _ (base172 m ρ d).v)))))
theorem base276 : BaseOf m d (W276 m ρ d) :=
  (base275 m ρ d).of fun r h => W276_of_ne m ρ d r (List.forall_iff_forall_mem.1 (show [main_v11, main_v18, main_v19, main_v22, main_v25].Forall (fun r => ∀ w, Pipeline.arrRef spec4 w ≠ r) by decide) r h)
theorem heads275 : W275 m ρ d (Proc.devRef .tc main_v261) = iotaInDim S36 32 0 :=
  (congrFun (W275_runs m ρ d) _).trans ((keep4_v261 _).trans (heads172 m ρ d))
theorem lse0_275 : W275 m ρ d (Proc.devRef .tc main_v66) = dilLse 2048 1 (argC m d) (argQ m d) (argK m d) :=
  (congrFun (W275_runs m ρ d) _).trans ((keep4_v66 _).trans (lse0_172 m ρ d))
theorem out0_275 : W275 m ρ d (Proc.devRef .tc main_v69) = dilOut 2048 1 (argC m d) (argVs m d) (argQ m d) (argK m d) (argV m d) :=
  (congrFun (W275_runs m ρ d) _).trans ((keep4_v69 _).trans (out0_172 m ρ d))
theorem lse1_275 : W275 m ρ d (Proc.devRef .tc main_v260) = dilLse 6144 3 (argC m d) (argQ m d) (argK m d) :=
  (congrFun (W275_runs m ρ d) _).trans ((keep4_v260 _).trans (lse1_172 m ρ d))
theorem out1_275 : W275 m ρ d (Proc.devRef .tc main_v259) = dilOut 6144 3 (argC m d) (argVs m d) (argQ m d) (argK m d) (argV m d) :=
  (congrFun (W275_runs m ρ d) _).trans ((keep4_v259 _).trans (out1_172 m ρ d))
theorem lse2a_275 : W275 m ρ d (Proc.devRef .tc main_v476) = lseOf3 (regionLse3 (argC m d) (argQ m d) (argK m d)) :=
  (congrFun (W275_runs m ρ d) _).trans ((after4_lse _ (heads172 m ρ d)).trans (congrArg lseOf3 (exit3_lse m ρ d)))
theorem out2a_275 : W275 m ρ d (Proc.devRef .tc main_v479) = outOf3 (regionOut3 (argC m d) (argVs m d) (argQ m d) (argK m d) (argV m d)) :=
  (congrFun (W275_runs m ρ d) _).trans ((after4_out _ (heads172 m ρ d)).trans (congrArg outOf3 (exit3_out m ρ d)))
theorem heads276 : W276 m ρ d (Proc.devRef .tc main_v261) = iotaInDim S36 32 0 :=
  (W276_of_ne m ρ d main_v261 (by decide)).trans (heads275 m ρ d)
theorem lse0_276 : W276 m ρ d (Proc.devRef .tc main_v66) = dilLse 2048 1 (argC m d) (argQ m d) (argK m d) :=
  (W276_of_ne m ρ d main_v66 (by decide)).trans (lse0_275 m ρ d)
theorem out0_276 : W276 m ρ d (Proc.devRef .tc main_v69) = dilOut 2048 1 (argC m d) (argVs m d) (argQ m d) (argK m d) (argV m d) :=
  (W276_of_ne m ρ d main_v69 (by decide)).trans (out0_275 m ρ d)
theorem lse1_276 : W276 m ρ d (Proc.devRef .tc main_v260) = dilLse 6144 3 (argC m d) (argQ m d) (argK m d) :=
  (W276_of_ne m ρ d main_v260 (by decide)).trans (lse1_275 m ρ d)
theorem out1_276 : W276 m ρ d (Proc.devRef .tc main_v259) = dilOut 6144 3 (argC m d) (argVs m d) (argQ m d) (argK m d) (argV m d) :=
  (W276_of_ne m ρ d main_v259 (by decide)).trans (out1_275 m ρ d)
theorem lse2a_276 : W276 m ρ d (Proc.devRef .tc main_v476) = lseOf3 (regionLse3 (argC m d) (argQ m d) (argK m d)) :=
  (W276_of_ne m ρ d main_v476 (by decide)).trans (lse2a_275 m ρ d)
theorem out2a_276 : W276 m ρ d (Proc.devRef .tc main_v479) = outOf3 (regionOut3 (argC m d) (argVs m d) (argQ m d) (argK m d) (argV m d)) :=
  (W276_of_ne m ρ d main_v479 (by decide)).trans (out2a_275 m ρ d)

/-! ## The results -/

theorem join2_lse : joinLse slices_S2x36x2052_S2x36x2048_0_0_0 (W276 m ρ d (Proc.devRef .tc main_v476)) (lseOf4 (W276 m ρ d (Proc.devRef .tc main_v681_1)))
    = dilLse 18432 9 (argC m d) (argQ m d) (argK m d) :=
  (congrArg₂ (joinLse slices_S2x36x2052_S2x36x2048_0_0_0) (lse2a_276 m ρ d) (congrArg lseOf4 (exit4_lse m ρ d))).trans (pattern2_lse _ _ _)
theorem join2_out : joinOut slices_S2x36x2052x128_S2x36x2048x128_0_0_0_0 (W276 m ρ d (Proc.devRef .tc main_v479)) (outOf4 (W276 m ρ d (Proc.devRef .tc main_v681_0)))
    = dilOut 18432 9 (argC m d) (argVs m d) (argQ m d) (argK m d) (argV m d) :=
  (congrArg₂ (joinOut slices_S2x36x2052x128_S2x36x2048x128_0_0_0_0) (out2a_276 m ρ d) (congrArg outOf4 (exit4_out m ρ d))).trans (pattern2_out _ _ _ _ _)

theorem kernel_lse : W283 m ρ d (Proc.devRef .tc main_v746) = combineLse (dilLse 2048 1 (argC m d) (argQ m d) (argK m d))
    (dilLse 6144 3 (argC m d) (argQ m d) (argK m d)) (dilLse 18432 9 (argC m d) (argQ m d) (argK m d)) := by
  refine (congrFun (W283_runs m ρ d) _).trans ((last_lse _ (heads276 m ρ d)).trans ?_)
  rw [join2_lse, lse0_276, lse1_276]
theorem kernel_out : W283 m ρ d (Proc.devRef .tc main_v745) = combineOut (dilLse 2048 1 (argC m d) (argQ m d) (argK m d))
    (dilLse 6144 3 (argC m d) (argQ m d) (argK m d)) (dilLse 18432 9 (argC m d) (argQ m d) (argK m d))
    (dilOut 2048 1 (argC m d) (argVs m d) (argQ m d) (argK m d) (argV m d)) (dilOut 6144 3 (argC m d) (argVs m d) (argQ m d) (argK m d) (argV m d))
    (dilOut 18432 9 (argC m d) (argVs m d) (argQ m d) (argK m d) (argV m d)) := by
  refine (congrFun (W283_runs m ρ d) _).trans ((last_out _ (heads276 m ρ d)).trans ?_)
  rw [join2_lse, join2_out, lse0_276, lse1_276, out0_276, out1_276]

end Cert.Dilated

end
-- ==== Proof.KernelRun.lean ====
/-
  The kernel's run, with every buffer's contents at its end: the generated run of the kernel (`frame`) states of the end only
  that the arguments are unchanged, and this one states it of every array that is not a region's own (`run_contents`).
-/
module

public import proofs.«01_k».proof.Proof.Gen.KernelIdeal.Frame

@[expose] public section

set_option maxRecDepth 16384

noncomputable section

namespace Cert.Dilated

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_contents : θ_run defs (onTc (τ := τ) (main (F := F))) ⟨m, fun _ => 0, ρ⟩ (fun r => ∀ c : Dev nD,
      ∀ b ∈ Pipeline.ucRefs τ sig, r.2.mem (((c : Thread nD τ)).1, b) = W283 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W283 m ρ c b)
    (hfin := fun c s' => by
      iintro ⟨⟨Hh, -⟩, HSI⟩
      unfold StableHlo.held
      imodintro
      iapply (pointsTo_read_all (Pipeline.ucRefs τ sig) (fun b => (((c : Thread nD τ)).1, b)) (W283 m ρ c) s')
      isplitl [Hh] <;> iassumption)
    (hQ := fun s h hz => h)

/-- The two results and the arguments. -/
theorem run_results : θ_run defs (onTc (τ := τ) (main (F := F))) ⟨m, fun _ => 0, ρ⟩ (fun r => ∀ c : Dev nD,
      r.2.mem ((c.tc : Thread nD τ).loc main_v745) = W283 m ρ c (Proc.devRef .tc main_v745)
      ∧ r.2.mem ((c.tc : Thread nD τ).loc main_v746) = W283 m ρ c (Proc.devRef .tc main_v746)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c =>
    ⟨h c _ (mem_uc main_v745 (by decide)), h c _ (mem_uc main_v746 (by decide)),
     (h c _ (mem_uc main_arg0 (by decide))).trans (W283_main_arg0 m ρ c),
     (h c _ (mem_uc main_arg1 (by decide))).trans (W283_main_arg1 m ρ c),
     (h c _ (mem_uc main_arg2 (by decide))).trans (W283_main_arg2 m ρ c),
     (h c _ (mem_uc main_arg3 (by decide))).trans (W283_main_arg3 m ρ c),
     (h c _ (mem_uc main_arg4 (by decide))).trans (W283_main_arg4 m ρ c),
     (h c _ (mem_uc main_arg5 (by decide))).trans (W283_main_arg5 m ρ c)⟩) (run_contents m ρ)

end Cert.Dilated

end
-- ==== Proof.Widen.lean ====
/-
  The reference's widening of the codes to `f32`, which over the extended reals leaves them as they are.
-/
module

public import proofs.«01_k».proof.Proof.Pieces
public import Idealize.ShloMosaic.Lib.Pipeline.Value

@[expose] public section

noncomputable section

namespace Cert.Dilated

open Idealize.ShloMosaic hiding ix1 ix2 ix3 ix4 ix5
open Idealize.ShloMosaic.ValueIdx

/-- Codes stored widened to `f32` through one rectangle that covers the array are, over the extended reals, the codes. -/
theorem canon_widen {s : Shape} (R : Rect s) (x : Vec Ideal s .fp8e4m3) (hb : FTy.bits .fp8e4m3 < FTy.bits .f32) (y : s.Idx)
    (hy : ∃ p ∈ ([⟨R, (extf .f32 (View.ld x R : FVec Ideal R.shape .fp8e4m3) hb : FVec Ideal R.shape .f32)⟩] : List (View.Piece (Elt Ideal) s .f32)), y ∈ p.1.set) :
    View.canon ([⟨R, (extf .f32 (View.ld x R : FVec Ideal R.shape .fp8e4m3) hb : FVec Ideal R.shape .f32)⟩] : List (View.Piece (Elt Ideal) s .f32)) y = x y :=
  View.canon_apply_of_pieces (e := .f32) (fun y => x y) _ (List.forall_mem_cons.2 ⟨fun _ => rfl, List.forall_mem_nil _⟩) y hy

end Cert.Dilated

end
-- ==== Proof.RefPattern.lean ====
/-
  The whole reference's attention of one dilated pattern, for any segment and dilation: its operations (`refOut`,
  `refLse`) and their reading at an index, which is the pattern over the sequence's positions (`dilOut`, `dilLse`).
-/
module

public import proofs.«01_k».proof.Proof.Positions
public import proofs.«01_k».proof.Proof.Gen.ReferenceIdeal.Read
public import Idealize.ShloMosaic.Lib.Pipeline.Value
public import Idealize.ShloMosaic.Lib.IdealHost
public import Idealize.ShloMosaic.Lib.Routing.Words

@[expose] public section

set_option maxRecDepth 16384

noncomputable section

namespace Cert.Dilated

open Idealize.ShloMosaic hiding ix1 ix2 ix3 ix4 ix5
open Idealize.ShloMosaic.ValueIdx
open Cert.ReferenceIdeal Cert.ReferenceIdeal.Gen

/-! ## The operations -/

/-- A number for every head and position, and for every pair of positions. -/
def refWordH (w : BitVec 32) : IVec S36x20480 32 := broadcastInDim S36x20480 ![] bcast_S_S36x20480 (constantI S_ 32 w)
def refWordP (w : BitVec 32) : IVec S20480x20480 32 := broadcastInDim S20480x20480 ![] bcast_S_S20480x20480 (constantI S_ 32 w)

/-- Which positions each head takes. -/
def refTakes (sg dl : BitVec 32) : IVec S36x20480 1 :=
  cmpi .eq (Host.remsi (Host.remsi (iotaInDim S36x20480 32 1) (refWordH sg)) (refWordH dl)) (Host.remsi (iotaInDim S36x20480 32 0) (refWordH dl))
/-- Which pairs of positions are of one segment. -/
def refNear (sg : BitVec 32) : IVec S20480x20480 1 :=
  cmpi .eq (Host.divsi (iotaInDim S20480x20480 32 0) (refWordP sg)) (Host.divsi (iotaInDim S20480x20480 32 1) (refWordP sg))
/-- A condition on pairs of positions, for every head. -/
def refEach (x : IVec S20480x20480 1) : IVec S36x20480x20480 1 :=
  broadcastInDim S36x20480x20480 ![0, 1, 2] bcast_S1x20480x20480_S36x20480x20480_0_1_2
    (broadcastInDim S1x20480x20480 ![1, 2] bcast_S20480x20480_S1x20480x20480_1_2 x)
/-- Which pairs meet. -/
def refPair (sg dl : BitVec 32) : IVec S36x20480x20480 1 :=
  andi (andi (broadcastInDim S36x20480x20480 ![0, 1, 2] bcast_S36x20480x1_S36x20480x20480_0_1_2
        (broadcastInDim S36x20480x1 ![0, 1] bcast_S36x20480_S36x20480x1_0_1 (refTakes sg dl)))
      (broadcastInDim S36x20480x20480 ![0, 1, 2] bcast_S36x1x20480_S36x20480x20480_0_1_2
        (broadcastInDim S36x1x20480 ![0, 2] bcast_S36x20480_S36x1x20480_0_2 (refTakes sg dl))))
    (refEach (refNear sg))
/-- A condition on heads and pairs, for both batches. -/
def refBoth (x : IVec S36x20480x20480 1) : IVec S2x36x20480x20480 1 :=
  broadcastInDim S2x36x20480x20480 ![0, 1, 2, 3] bcast_S1x36x20480x20480_S2x36x20480x20480_0_1_2_3
    (broadcastInDim S1x36x20480x20480 ![1, 2, 3] bcast_S36x20480x20480_S1x36x20480x20480_1_2_3 x)
/-- The masked scores. -/
def refScores (sg dl : BitVec 32) (c : FVec Ideal S2x36 .f32) (q k : FVec Ideal S2x36x20480x128 .f32) : FVec Ideal S2x36x20480x20480 .f32 :=
  select (refBoth (andi (refPair sg dl) (refEach (cmpi .sle (iotaInDim S20480x20480 32 1) (iotaInDim S20480x20480 32 0)))))
    (mulf (Host.dotGeneral dot_S2x36x20480x128_S2x36x20480x128_S2x36x20480x20480_3_3_2_2_01_01 none q k)
      (broadcastInDim S2x36x20480x20480 ![0, 1, 2, 3] bcast_S2x36x1x1_S2x36x20480x20480_0_1_2_3
        (broadcastInDim S2x36x1x1 ![0, 1] bcast_S2x36_S2x36x1x1_0_1 c)))
    (broadcastInDim S2x36x20480x20480 ![] bcast_S_S2x36x20480x20480 (constant S_ .f32 0xFF800000#32))
/-- The rows' largest scores. -/
def refMax (s : FVec Ideal S2x36x20480x20480 .f32) : FVec Ideal S2x36x20480x1 .f32 :=
  broadcastInDim S2x36x20480x1 ![0, 1, 2] bcast_S2x36x20480_S2x36x20480x1_0_1_2
    (Host.reduce FloatOps.maximumf s (constant S_ .f32 0xFF800000#32) reducesTo_S2x36x20480x20480_S2x36x20480_d3 h_S_)
/-- A number for every row, along the row. -/
def refAlong (x : FVec Ideal S2x36x20480x1 .f32) : FVec Ideal S2x36x20480x20480 .f32 :=
  broadcastInDim S2x36x20480x20480 ![0, 1, 2, 3] bcast_S2x36x20480x1_S2x36x20480x20480_0_1_2_3 x
/-- The exponentials of the scores less the rows' largest. -/
def refExp (s : FVec Ideal S2x36x20480x20480 .f32) : FVec Ideal S2x36x20480x20480 .f32 := Host.exp (subf s (refAlong (refMax s)))
/-- The rows' softmax denominators. -/
def refSum (s : FVec Ideal S2x36x20480x20480 .f32) : FVec Ideal S2x36x20480x1 .f32 :=
  broadcastInDim S2x36x20480x1 ![0, 1, 2] bcast_S2x36x20480_S2x36x20480x1_0_1_2
    (Host.reduceAdd (refExp s) (constant S_ .f32 0x00000000#32) reducesTo_S2x36x20480x20480_S2x36x20480_d3 h_S_)
/-- The weights. -/
def refWeights (s : FVec Ideal S2x36x20480x20480 .f32) : FVec Ideal S2x36x20480x20480 .f32 := Host.divf (refExp s) (refAlong (refSum s))
/-- The pattern's attention. -/
def refOut (sg dl : BitVec 32) (c vs : FVec Ideal S2x36 .f32) (q k v : FVec Ideal S2x36x20480x128 .f32) : FVec Ideal S2x36x20480x128 .f32 :=
  select (broadcastInDim S2x36x20480x128 ![0, 1, 2, 3] bcast_S1x36x20480x1_S2x36x20480x128_0_1_2_3
      (broadcastInDim S1x36x20480x1 ![1, 2] bcast_S36x20480_S1x36x20480x1_1_2 (refTakes sg dl)))
    (mulf (Host.dotGeneral dot_S2x36x20480x20480_S2x36x20480x128_S2x36x20480x128_3_2_2_3_01_01 none
        (truncf .bf16 (refWeights (refScores sg dl c q k)) bitsLt_bf16_f32) (truncf .bf16 v bitsLt_bf16_f32))
      (broadcastInDim S2x36x20480x128 ![0, 1, 2, 3] bcast_S2x36x1x1_S2x36x20480x128_0_1_2_3
        (broadcastInDim S2x36x1x1 ![0, 1] bcast_S2x36_S2x36x1x1_0_1 vs)))
    (broadcastInDim S2x36x20480x128 ![] bcast_S_S2x36x20480x128 (constant S_ .f32 0x00000000#32))
/-- The pattern's log-sum-exps. -/
def refLse (sg dl : BitVec 32) (c : FVec Ideal S2x36 .f32) (q k : FVec Ideal S2x36x20480x128 .f32) : FVec Ideal S2x36x20480 .f32 :=
  select (broadcastInDim S2x36x20480 ![0, 1, 2] bcast_S1x36x20480_S2x36x20480_0_1_2
      (broadcastInDim S1x36x20480 ![1, 2] bcast_S36x20480_S1x36x20480_1_2 (refTakes sg dl)))
    (addf (shapeCast _ (refMax (refScores sg dl c q k)) shapeCasts_S2x36x20480x1_S2x36x20480)
      (Host.log (shapeCast _ (refSum (refScores sg dl c q k)) shapeCasts_S2x36x20480x1_S2x36x20480)))
    (broadcastInDim S2x36x20480 ![] bcast_S_S2x36x20480 (constant S_ .f32 0xFF800000#32))

/-! ## Layout -/

section Layout
variable {α : Type}

theorem refEach_apply (x : IVec S20480x20480 1) (h : Fin 36) (t u : Fin 20480) : refEach x (ix3 h t u) = x (ix2 t u) :=
  (broadcastInDim_apply _ bcast_S1x20480x20480_S36x20480x20480_0_1_2 _ _ (ix3 (0 : Fin 1) t u) fun a => match a with
    | ⟨0, _⟩ => rfl | ⟨1, _⟩ => rfl | ⟨2, _⟩ => rfl).trans
  (broadcastInDim_apply _ bcast_S20480x20480_S1x20480x20480_1_2 x _ (ix2 t u) fun a => match a with
    | ⟨0, _⟩ => rfl | ⟨1, _⟩ => rfl)

theorem refBoth_apply (x : IVec S36x20480x20480 1) (b : Fin 2) (h : Fin 36) (t u : Fin 20480) :
    refBoth x (ix4 b h t u) = x (ix3 h t u) :=
  (broadcastInDim_apply _ bcast_S1x36x20480x20480_S2x36x20480x20480_0_1_2_3 _ _ (ix4 (0 : Fin 1) h t u) fun a => match a with
    | ⟨0, _⟩ => rfl | ⟨1, _⟩ => rfl | ⟨2, _⟩ => rfl | ⟨3, _⟩ => rfl).trans
  (broadcastInDim_apply _ bcast_S36x20480x20480_S1x36x20480x20480_1_2_3 x _ (ix3 h t u) fun a => match a with
    | ⟨0, _⟩ => rfl | ⟨1, _⟩ => rfl | ⟨2, _⟩ => rfl)

theorem refRow_apply (x : S2x36x20480.Idx → α) (b : Fin 2) (h : Fin 36) (t : Fin 20480) (u : Fin 1) :
    broadcastInDim S2x36x20480x1 ![0, 1, 2] bcast_S2x36x20480_S2x36x20480x1_0_1_2 x (ix4 b h t u) = x (ix3 b h t) :=
  broadcastInDim_apply _ bcast_S2x36x20480_S2x36x20480x1_0_1_2 x _ (ix3 b h t) fun a => match a with
    | ⟨0, _⟩ => rfl | ⟨1, _⟩ => rfl | ⟨2, _⟩ => rfl

theorem refAlong_apply (x : FVec Ideal S2x36x20480x1 .f32) (b : Fin 2) (h : Fin 36) (t u : Fin 20480) :
    refAlong x (ix4 b h t u) = x (ix4 b h t 0) :=
  broadcastInDim_apply _ bcast_S2x36x20480x1_S2x36x20480x20480_0_1_2_3 x _ (ix4 b h t (0 : Fin 1)) fun a => match a with
    | ⟨0, _⟩ => rfl | ⟨1, _⟩ => rfl | ⟨2, _⟩ => rfl | ⟨3, _⟩ => rfl

theorem refScale_apply (x : S2x36.Idx → α) (b : Fin 2) (h : Fin 36) :
    broadcastInDim S2x36x1x1 ![0, 1] bcast_S2x36_S2x36x1x1_0_1 x (ix4 b h 0 0) = x (ix2 b h) :=
  broadcastInDim_apply _ bcast_S2x36_S2x36x1x1_0_1 x _ (ix2 b h) fun a => match a with
    | ⟨0, _⟩ => rfl | ⟨1, _⟩ => rfl

theorem refFlat_apply (x : S2x36x20480x1.Idx → α) (b : Fin 2) (h : Fin 36) (t : Fin 20480) :
    shapeCast S2x36x20480 x shapeCasts_S2x36x20480x1_S2x36x20480 (ix3 b h t) = x (ix4 b h t 0) :=
  shapeCast_apply x shapeCasts_S2x36x20480x1_S2x36x20480 _ _ (by
    rw [Shape.rowMajor_val_four, Shape.rowMajor_val_three]
    show ((b.val * 36 + h.val) * 20480 + t.val) * 1 + 0 = (b.val * 36 + h.val) * 20480 + t.val
    omega)

end Layout

/-! ## Conditions read at an index -/

theorem word_eq (a b : ℕ) (ha : a < 2 ^ 32) (hb : b < 2 ^ 32) : (BitVec.ofNat 32 a == BitVec.ofNat 32 b) = decide (a = b) := by
  rw [Bool.eq_iff_iff, beq_iff_eq, decide_eq_true_iff]
  refine ⟨fun e => ?_, fun e => by rw [e]⟩
  have := congrArg BitVec.toNat e
  simp only [BitVec.toNat_ofNat] at this
  omega

/-- A segment and dilation that are words and not 0. -/
structure PatternNumbers (sg dl : ℕ) : Prop where
  sg0 : 0 < sg
  sg1 : sg < 2 ^ 31
  dl0 : 0 < dl
  dl1 : dl < 2 ^ 31

variable {sg dl : ℕ}

theorem refTakes_apply (hp : PatternNumbers sg dl) (h : Fin 36) (t : Fin 20480) :
    refTakes (BitVec.ofNat 32 sg) (BitVec.ofNat 32 dl) (ix2 h t) = BitVec.ofBool (decide (Takes sg dl h.val t.val)) := by
  have hh := h.isLt
  have ht := t.isLt
  have e1 := Nat.mod_le (t.val % sg) dl
  have e2 := Nat.mod_le t.val sg
  have e3 := Nat.mod_le h.val dl
  show IntOp.cmpi .eq (IntOp.remsi .host (IntOp.remsi .host (BitVec.ofNat 32 t.val) (BitVec.ofNat 32 sg)) (BitVec.ofNat 32 dl))
    (IntOp.remsi .host (BitVec.ofNat 32 h.val) (BitVec.ofNat 32 dl)) = _
  rw [Routing.remsi_word .host (by omega) hp.sg0 hp.sg1, Routing.remsi_word .host (a := t.val % sg) (by omega) hp.dl0 hp.dl1,
    Routing.remsi_word .host (by omega) hp.dl0 hp.dl1]
  exact congrArg BitVec.ofBool (word_eq (t.val % sg % dl) (h.val % dl) (by omega) (by omega))

theorem refNear_apply (hp : PatternNumbers sg dl) (t u : Fin 20480) :
    refNear (BitVec.ofNat 32 sg) (ix2 t u) = BitVec.ofBool (decide (t.val / sg = u.val / sg)) := by
  have hu := u.isLt
  have ht := t.isLt
  have e1 := Nat.div_le_self t.val sg
  have e2 := Nat.div_le_self u.val sg
  show IntOp.cmpi .eq (IntOp.divsi .host (BitVec.ofNat 32 t.val) (BitVec.ofNat 32 sg)) (IntOp.divsi .host (BitVec.ofNat 32 u.val) (BitVec.ofNat 32 sg)) = _
  rw [Routing.divsi_word .host (by omega) hp.sg0 hp.sg1, Routing.divsi_word .host (by omega) hp.sg0 hp.sg1]
  exact congrArg BitVec.ofBool (word_eq (t.val / sg) (u.val / sg) (by omega) (by omega))

theorem ofBool_and (a b : Bool) : BitVec.ofBool a &&& BitVec.ofBool b = BitVec.ofBool (a && b) := by
  cases a <;> cases b <;> rfl

theorem refPair_apply (hp : PatternNumbers sg dl) (h : Fin 36) (t u : Fin 20480) :
    refPair (BitVec.ofNat 32 sg) (BitVec.ofNat 32 dl) (ix3 h t u) = BitVec.ofBool (decide (Meets sg dl h.val t.val u.val)) := by
  have e1 : broadcastInDim S36x20480x20480 ![0, 1, 2] bcast_S36x20480x1_S36x20480x20480_0_1_2
        (broadcastInDim S36x20480x1 ![0, 1] bcast_S36x20480_S36x20480x1_0_1 (refTakes (BitVec.ofNat 32 sg) (BitVec.ofNat 32 dl))) (ix3 h t u)
      = BitVec.ofBool (decide (Takes sg dl h.val t.val)) :=
    (broadcastInDim_apply _ bcast_S36x20480x1_S36x20480x20480_0_1_2 _ _ (ix3 h t (0 : Fin 1)) fun a => match a with
      | ⟨0, _⟩ => rfl | ⟨1, _⟩ => rfl | ⟨2, _⟩ => rfl).trans
    ((broadcastInDim_apply _ bcast_S36x20480_S36x20480x1_0_1 _ _ (ix2 h t) fun a => match a with
      | ⟨0, _⟩ => rfl | ⟨1, _⟩ => rfl).trans (refTakes_apply hp h t))
  have e2 : broadcastInDim S36x20480x20480 ![0, 1, 2] bcast_S36x1x20480_S36x20480x20480_0_1_2
        (broadcastInDim S36x1x20480 ![0, 2] bcast_S36x20480_S36x1x20480_0_2 (refTakes (BitVec.ofNat 32 sg) (BitVec.ofNat 32 dl))) (ix3 h t u)
      = BitVec.ofBool (decide (Takes sg dl h.val u.val)) :=
    (broadcastInDim_apply _ bcast_S36x1x20480_S36x20480x20480_0_1_2 _ _ (ix3 h (0 : Fin 1) u) fun a => match a with
      | ⟨0, _⟩ => rfl | ⟨1, _⟩ => rfl | ⟨2, _⟩ => rfl).trans
    ((broadcastInDim_apply _ bcast_S36x20480_S36x1x20480_0_2 _ _ (ix2 h u) fun a => match a with
      | ⟨0, _⟩ => rfl | ⟨1, _⟩ => rfl).trans (refTakes_apply hp h u))
  have e3 := (refEach_apply (refNear (BitVec.ofNat 32 sg)) h t u).trans (refNear_apply hp t u)
  refine (congrArg₂ (· &&& ·) (congrArg₂ (· &&& ·) e1 e2) e3).trans ?_
  beta_reduce
  rw [ofBool_and, ofBool_and, ← Bool.decide_and, ← Bool.decide_and]

/-! ## The two products -/

theorem refDotQK_apply (q k : FVec Ideal S2x36x20480x128 .f32) (b : Fin 2) (h : Fin 36) (t u : Fin 20480) :
    Host.dotGeneral dot_S2x36x20480x128_S2x36x20480x128_S2x36x20480x20480_3_3_2_2_01_01 none q k (ix4 b h t u)
      = ∑ d : Fin 128, q (ix4 b h t d) * k (ix4 b h u d) := by
  simp only [Host.dotGeneral]
  rw [Ideal.dotGeneral_apply, ← Equiv.sum_comp (ValueIdx.contrEquiv1 dot_S2x36x20480x128_S2x36x20480x128_S2x36x20480x20480_3_3_2_2_01_01 128 rfl rfl).symm]
  refine Finset.sum_congr rfl fun d _ => ?_
  have hd := ValueIdx.contrEquiv1_symm_val dot_S2x36x20480x128_S2x36x20480x128_S2x36x20480x20480_3_3_2_2_01_01 128 rfl rfl d
  have el : dot_S2x36x20480x128_S2x36x20480x128_S2x36x20480x20480_3_3_2_2_01_01.lhsIdx (ix4 b h t u) ((ValueIdx.contrEquiv1 dot_S2x36x20480x128_S2x36x20480x128_S2x36x20480x20480_3_3_2_2_01_01 128 rfl rfl).symm d) = ix4 b h t d := funext fun a => Fin.ext (by
    match a with
    | ⟨0, _⟩ => exact Read.lhs_main_v55_0 _ _
    | ⟨1, _⟩ => exact Read.lhs_main_v55_1 _ _
    | ⟨2, _⟩ => exact Read.lhs_main_v55_2 _ _
    | ⟨3, _⟩ => exact (Read.lhs_main_v55_3 _ _).trans hd)
  have er : dot_S2x36x20480x128_S2x36x20480x128_S2x36x20480x20480_3_3_2_2_01_01.rhsIdx (ix4 b h t u) ((ValueIdx.contrEquiv1 dot_S2x36x20480x128_S2x36x20480x128_S2x36x20480x20480_3_3_2_2_01_01 128 rfl rfl).symm d) = ix4 b h u d := funext fun a => Fin.ext (by
    match a with
    | ⟨0, _⟩ => exact Read.rhs_main_v55_0 _ _
    | ⟨1, _⟩ => exact Read.rhs_main_v55_1 _ _
    | ⟨2, _⟩ => exact Read.rhs_main_v55_2 _ _
    | ⟨3, _⟩ => exact (Read.rhs_main_v55_3 _ _).trans hd)
  rw [el, er]

theorem refDotPV_apply (p : FVec Ideal S2x36x20480x20480 .bf16) (v : FVec Ideal S2x36x20480x128 .bf16) (b : Fin 2) (h : Fin 36)
    (t : Fin 20480) (d : Fin 128) :
    (Host.dotGeneral dot_S2x36x20480x20480_S2x36x20480x128_S2x36x20480x128_3_2_2_3_01_01 none p v : FVec Ideal S2x36x20480x128 .f32) (ix4 b h t d)
      = ∑ u : Fin 20480, p (ix4 b h t u) * v (ix4 b h u d) := by
  simp only [Host.dotGeneral]
  rw [Ideal.dotGeneral_apply, ← Equiv.sum_comp (ValueIdx.contrEquiv1 dot_S2x36x20480x20480_S2x36x20480x128_S2x36x20480x128_3_2_2_3_01_01 20480 rfl rfl).symm]
  refine Finset.sum_congr rfl fun u _ => ?_
  have hu := ValueIdx.contrEquiv1_symm_val dot_S2x36x20480x20480_S2x36x20480x128_S2x36x20480x128_3_2_2_3_01_01 20480 rfl rfl u
  have el : dot_S2x36x20480x20480_S2x36x20480x128_S2x36x20480x128_3_2_2_3_01_01.lhsIdx (ix4 b h t d) ((ValueIdx.contrEquiv1 dot_S2x36x20480x20480_S2x36x20480x128_S2x36x20480x128_3_2_2_3_01_01 20480 rfl rfl).symm u) = ix4 b h t u := funext fun a => Fin.ext (by
    match a with
    | ⟨0, _⟩ => exact Read.lhs_main_v74_0 _ _
    | ⟨1, _⟩ => exact Read.lhs_main_v74_1 _ _
    | ⟨2, _⟩ => exact Read.lhs_main_v74_2 _ _
    | ⟨3, _⟩ => exact (Read.lhs_main_v74_3 _ _).trans hu)
  have er : dot_S2x36x20480x20480_S2x36x20480x128_S2x36x20480x128_3_2_2_3_01_01.rhsIdx (ix4 b h t d) ((ValueIdx.contrEquiv1 dot_S2x36x20480x20480_S2x36x20480x128_S2x36x20480x128_3_2_2_3_01_01 20480 rfl rfl).symm u) = ix4 b h u d := funext fun a => Fin.ext (by
    match a with
    | ⟨0, _⟩ => exact Read.rhs_main_v74_0 _ _
    | ⟨1, _⟩ => exact Read.rhs_main_v74_1 _ _
    | ⟨2, _⟩ => exact (Read.rhs_main_v74_2 _ _).trans hu
    | ⟨3, _⟩ => exact Read.rhs_main_v74_3 _ _)
  rw [el, er]

/-! ## The readings -/

section At
variable {s : Shape} {α : Type}
theorem select_at (c : IVec s 1) (a b : s.Idx → α) (i : s.Idx) : select c a b i = if c i = 1 then a i else b i := rfl
theorem div_at (a b : FVec Ideal s .f32) (i : s.Idx) : Host.divf a b i = Ideal.div (a i) (b i) := rfl
theorem trunc_at (a : FVec Ideal s .f32) (hb : FTy.bits .bf16 < FTy.bits .f32) (i : s.Idx) : truncf .bf16 a hb i = a i := rfl
theorem add_at (a b : FVec Ideal s .f32) (i : s.Idx) : addf a b i = a i + b i := rfl
theorem log_at (a : FVec Ideal s .f32) (i : s.Idx) : Host.log a i = Ideal.log (a i) := rfl
end At

theorem refScores_apply (hp : PatternNumbers sg dl) (c : FVec Ideal S2x36 .f32) (q k : FVec Ideal S2x36x20480x128 .f32)
    (b : Fin 2) (h : Fin 36) (t u : Fin 20480) :
    refScores (BitVec.ofNat 32 sg) (BitVec.ofNat 32 dl) c q k (ix4 b h t u)
      = posScore sg dl h.val (c (ix2 b h)) (fun t d => q (ix4 b h t d)) (fun t d => k (ix4 b h t d)) t u := by
  have ht := t.isLt
  have hu := u.isLt
  have hm : refBoth (andi (refPair (BitVec.ofNat 32 sg) (BitVec.ofNat 32 dl)) (refEach (cmpi .sle (iotaInDim S20480x20480 32 1) (iotaInDim S20480x20480 32 0))))
      (ix4 b h t u) = BitVec.ofBool (decide (Meets sg dl h.val t.val u.val ∧ u.val ≤ t.val)) := by
    refine (refBoth_apply _ b h t u).trans ?_
    refine (congrArg₂ (· &&& ·) (refPair_apply hp h t u) ((refEach_apply _ h t u).trans
      (congrArg BitVec.ofBool (sle_small u.val t.val (by omega) (by omega))))).trans ?_
    beta_reduce
    rw [ofBool_and, ← Bool.decide_and]
  have hc : broadcastInDim S2x36x20480x20480 ![0, 1, 2, 3] bcast_S2x36x1x1_S2x36x20480x20480_0_1_2_3
        (broadcastInDim S2x36x1x1 ![0, 1] bcast_S2x36_S2x36x1x1_0_1 c) (ix4 b h t u) = c (ix2 b h) :=
    (broadcastInDim_apply _ bcast_S2x36x1x1_S2x36x20480x20480_0_1_2_3 _ _ (ix4 b h (0 : Fin 1) (0 : Fin 1)) fun a => match a with
      | ⟨0, _⟩ => rfl | ⟨1, _⟩ => rfl | ⟨2, _⟩ => rfl | ⟨3, _⟩ => rfl).trans (refScale_apply c b h)
  show (if refBoth _ (ix4 b h t u) = 1 then
      Host.dotGeneral dot_S2x36x20480x128_S2x36x20480x128_S2x36x20480x20480_3_3_2_2_01_01 none q k (ix4 b h t u) * broadcastInDim S2x36x20480x20480 ![0, 1, 2, 3] bcast_S2x36x1x1_S2x36x20480x20480_0_1_2_3
        (broadcastInDim S2x36x1x1 ![0, 1] bcast_S2x36_S2x36x1x1_0_1 c) (ix4 b h t u)
    else Ideal.ofBits .f32 0xFF800000#32) = _
  rw [hm, hc, refDotQK_apply, negInf]
  unfold posScore
  by_cases hh : Meets sg dl h.val t.val u.val ∧ u.val ≤ t.val
  · rw [if_pos hh, if_pos (by rw [decide_eq_true hh]; rfl)]
  · rw [if_neg hh, if_neg (by rw [decide_eq_false hh]; decide)]

theorem refMax_apply (s : FVec Ideal S2x36x20480x20480 .f32) (b : Fin 2) (h : Fin 36) (t : Fin 20480) (u : Fin 1) :
    refMax s (ix4 b h t u) = rowMax fun u => s (ix4 b h t u) := by
  refine (refRow_apply _ b h t u).trans ((Host.reduce_eq_fold_single _ _ _ reducesTo_S2x36x20480x20480_S2x36x20480_d3 (by decide) h_S_ _).trans ?_)
  unfold rowMax
  rw [show (constant (F := Ideal) S_ .f32 0xFF800000#32) (Shape.Idx.first h_S_) = (⊥ : EReal) from negInf]
  refine congrArg (fun f => Finset.univ.fold max ⊥ f) (funext fun j => congrArg s (funext fun a => ?_))
  match a with
  | ⟨0, _⟩ => rfl
  | ⟨1, _⟩ => rfl
  | ⟨2, _⟩ => rfl
  | ⟨3, _⟩ => rfl

theorem refExp_apply (s : FVec Ideal S2x36x20480x20480 .f32) (b : Fin 2) (h : Fin 36) (t u : Fin 20480) :
    refExp s (ix4 b h t u) = Ideal.exp (s (ix4 b h t u) - rowMax fun u => s (ix4 b h t u)) := by
  show Ideal.exp (s (ix4 b h t u) - refAlong (refMax s) (ix4 b h t u)) = _
  rw [refAlong_apply, refMax_apply]

theorem refSum_apply (s : FVec Ideal S2x36x20480x20480 .f32) (b : Fin 2) (h : Fin 36) (t : Fin 20480) (u : Fin 1) :
    refSum s (ix4 b h t u) = rowSum fun u => s (ix4 b h t u) := by
  refine (refRow_apply _ b h t u).trans ?_
  simp only [Host.reduceAdd, Ideal.hostReduceAdd_def]
  rw [Ideal.hostReduceAdd_single reducesTo_S2x36x20480x20480_S2x36x20480_d3 (by decide),
    show (constant (F := Ideal) S_ .f32 0x00000000#32) (Shape.Idx.first h_S_) = (0 : EReal) from Ideal.ofBits_zero_f32, zero_add]
  unfold rowSum
  refine Finset.sum_congr rfl fun j _ => Eq.trans (congrArg (refExp s) (funext fun a => ?_)) (refExp_apply s b h t j)
  match a with
  | ⟨0, _⟩ => rfl
  | ⟨1, _⟩ => rfl
  | ⟨2, _⟩ => rfl
  | ⟨3, _⟩ => rfl

theorem refWeights_apply (s : FVec Ideal S2x36x20480x20480 .f32) (b : Fin 2) (h : Fin 36) (t u : Fin 20480) :
    refWeights s (ix4 b h t u) = rowWeight (fun u => s (ix4 b h t u)) u := by
  unfold refWeights
  rw [div_at, refExp_apply, refAlong_apply, refSum_apply]
  rfl

/-- Where the log-sum-exp of a position's scores is not `⊥`, neither later keys nor keys it does not meet have a weight. -/
theorem posOut_plain (sg dl h : ℕ) (c vs : EReal) (q k v : Fin 20480 → Fin 128 → EReal) (t : Fin 20480) (d : Fin 128)
    (hl : posLse sg dl h c q k t ≠ ⊥) :
    (∑ u, rowWeight (posScore sg dl h c q k t) u * v u d) * vs = posOut sg dl h c vs q k v t d := by
  unfold posLse at hl
  unfold posOut
  by_cases ht : Takes sg dl h t.val
  · rw [if_pos ht] at hl ⊢
    have h0 : rowSum (posScore sg dl h c q k t) ≠ 0 := fun e => hl (by
      unfold rowLse
      rw [e, show Ideal.log 0 = ⊥ from if_pos le_rfl, EReal.add_bot])
    refine congrArg (· * vs) (Finset.sum_congr rfl fun u _ => ?_)
    split
    · rfl
    · next hu =>
      have hb : posScore sg dl h c q k t u = ⊥ := if_neg fun hm => hu ⟨hm.1, by
        have e1 := Nat.div_add_mod t.val sg
        have e2 := Nat.div_add_mod u.val sg
        have e3 := hm.2
        rw [hm.1.2] at e1
        exact Nat.div_le_div_right (Nat.div_le_div_right (by omega))⟩
      unfold rowWeight Ideal.div
      rw [if_neg h0, hb, exp_bot_sub, zero_mul, zero_mul]
  · exact absurd (if_neg ht) hl

/-- The reference's attention of a pattern is the pattern's over the positions, where the log-sum-exp is not `⊥`. -/
theorem refOut_eq (hp : PatternNumbers sg dl) (c vs : FVec Ideal S2x36 .f32) (q k v : FVec Ideal S2x36x20480x128 .f32)
    (b : Fin 2) (h : Fin 36) (t : Fin 20480) (d : Fin 128) (hl : dilLse sg dl c q k (ix3 b h t) ≠ ⊥) :
    refOut (BitVec.ofNat 32 sg) (BitVec.ofNat 32 dl) c vs q k v (ix4 b h t d) = dilOut sg dl c vs q k v (ix4 b h t d) := by
  have hm : broadcastInDim S2x36x20480x128 ![0, 1, 2, 3] bcast_S1x36x20480x1_S2x36x20480x128_0_1_2_3
      (broadcastInDim S1x36x20480x1 ![1, 2] bcast_S36x20480_S1x36x20480x1_1_2 (refTakes (BitVec.ofNat 32 sg) (BitVec.ofNat 32 dl))) (ix4 b h t d)
      = BitVec.ofBool (decide (Takes sg dl h.val t.val)) :=
    (broadcastInDim_apply _ bcast_S1x36x20480x1_S2x36x20480x128_0_1_2_3 _ _ (ix4 (0 : Fin 1) h t (0 : Fin 1)) fun a => match a with
      | ⟨0, _⟩ => rfl | ⟨1, _⟩ => rfl | ⟨2, _⟩ => rfl | ⟨3, _⟩ => rfl).trans
    ((broadcastInDim_apply _ bcast_S36x20480_S1x36x20480x1_1_2 _ _ (ix2 h t) fun a => match a with
      | ⟨0, _⟩ => rfl | ⟨1, _⟩ => rfl).trans (refTakes_apply hp h t))
  have hc : broadcastInDim S2x36x20480x128 ![0, 1, 2, 3] bcast_S2x36x1x1_S2x36x20480x128_0_1_2_3
        (broadcastInDim S2x36x1x1 ![0, 1] bcast_S2x36_S2x36x1x1_0_1 vs) (ix4 b h t d) = vs (ix2 b h) :=
    (broadcastInDim_apply _ bcast_S2x36x1x1_S2x36x20480x128_0_1_2_3 _ _ (ix4 b h (0 : Fin 1) (0 : Fin 1)) fun a => match a with
      | ⟨0, _⟩ => rfl | ⟨1, _⟩ => rfl | ⟨2, _⟩ => rfl | ⟨3, _⟩ => rfl).trans (refScale_apply vs b h)
  have hs : (fun u => refScores (BitVec.ofNat 32 sg) (BitVec.ofNat 32 dl) c q k (ix4 b h t u))
      = posScore sg dl h.val (c (ix2 b h)) (fun t d => q (ix4 b h t d)) (fun t d => k (ix4 b h t d)) t :=
    funext fun u => refScores_apply hp c q k b h t u
  show (if broadcastInDim S2x36x20480x128 ![0, 1, 2, 3] bcast_S1x36x20480x1_S2x36x20480x128_0_1_2_3
      (broadcastInDim S1x36x20480x1 ![1, 2] bcast_S36x20480_S1x36x20480x1_1_2 (refTakes (BitVec.ofNat 32 sg) (BitVec.ofNat 32 dl))) (ix4 b h t d) = 1 then
      (Host.dotGeneral dot_S2x36x20480x20480_S2x36x20480x128_S2x36x20480x128_3_2_2_3_01_01 none
        (truncf .bf16 (refWeights (refScores (BitVec.ofNat 32 sg) (BitVec.ofNat 32 dl) c q k)) bitsLt_bf16_f32) (truncf .bf16 v bitsLt_bf16_f32) : FVec Ideal S2x36x20480x128 .f32) (ix4 b h t d)
      * broadcastInDim S2x36x20480x128 ![0, 1, 2, 3] bcast_S2x36x1x1_S2x36x20480x128_0_1_2_3
        (broadcastInDim S2x36x1x1 ![0, 1] bcast_S2x36_S2x36x1x1_0_1 vs) (ix4 b h t d)
    else Ideal.ofBits .f32 0x00000000#32)
    = posOut sg dl h.val (c (ix2 b h)) (vs (ix2 b h)) (fun t d => q (ix4 b h t d)) (fun t d => k (ix4 b h t d)) (fun t d => v (ix4 b h t d)) t d
  rw [hm, hc, refDotPV_apply, Ideal.ofBits_zero_f32]
  by_cases hh : Takes sg dl h.val t.val
  · rw [if_pos (by rw [decide_eq_true hh]; rfl), ← posOut_plain sg dl h.val _ _ _ _ _ t d hl]
    refine congrArg (· * vs (ix2 b h)) (Finset.sum_congr rfl fun u _ => congrArg (· * v (ix4 b h u d)) ?_)
    refine (trunc_at _ bitsLt_bf16_f32 _).trans ?_
    rw [refWeights_apply, hs]
  · exact absurd (if_neg hh) hl

/-- The reference's log-sum-exps of a pattern are the pattern's over the positions. -/
theorem refLse_eq (hp : PatternNumbers sg dl) (c : FVec Ideal S2x36 .f32) (q k : FVec Ideal S2x36x20480x128 .f32) :
    refLse (BitVec.ofNat 32 sg) (BitVec.ofNat 32 dl) c q k = dilLse sg dl c q k := by
  funext y
  obtain ⟨b, h, t, rfl⟩ : ∃ (b : Fin 2) (h : Fin 36) (t : Fin 20480), y = ix3 b h t := ⟨y 0, y 1, y 2, by
    funext a; match a with | ⟨0, _⟩ => rfl | ⟨1, _⟩ => rfl | ⟨2, _⟩ => rfl⟩
  have hm : broadcastInDim S2x36x20480 ![0, 1, 2] bcast_S1x36x20480_S2x36x20480_0_1_2
      (broadcastInDim S1x36x20480 ![1, 2] bcast_S36x20480_S1x36x20480_1_2 (refTakes (BitVec.ofNat 32 sg) (BitVec.ofNat 32 dl))) (ix3 b h t)
      = BitVec.ofBool (decide (Takes sg dl h.val t.val)) :=
    (broadcastInDim_apply _ bcast_S1x36x20480_S2x36x20480_0_1_2 _ _ (ix3 (0 : Fin 1) h t) fun a => match a with
      | ⟨0, _⟩ => rfl | ⟨1, _⟩ => rfl | ⟨2, _⟩ => rfl).trans
    ((broadcastInDim_apply _ bcast_S36x20480_S1x36x20480_1_2 _ _ (ix2 h t) fun a => match a with
      | ⟨0, _⟩ => rfl | ⟨1, _⟩ => rfl).trans (refTakes_apply hp h t))
  have hs : (fun u => refScores (BitVec.ofNat 32 sg) (BitVec.ofNat 32 dl) c q k (ix4 b h t u))
      = posScore sg dl h.val (c (ix2 b h)) (fun t d => q (ix4 b h t d)) (fun t d => k (ix4 b h t d)) t :=
    funext fun u => refScores_apply hp c q k b h t u
  have hz : broadcastInDim S2x36x20480 ![] bcast_S_S2x36x20480 (constant (F := Ideal) S_ .f32 0xFF800000#32) (ix3 b h t) = (⊥ : EReal) := negInf
  show _ = posLse sg dl h.val (c (ix2 b h)) (fun t d => q (ix4 b h t d)) (fun t d => k (ix4 b h t d)) t
  unfold refLse
  rw [select_at, hm, add_at, log_at, refFlat_apply, refFlat_apply, refMax_apply, refSum_apply, hs, hz]
  unfold posLse
  by_cases hh : Takes sg dl h.val t.val
  · rw [if_pos hh, if_pos (by rw [decide_eq_true hh]; rfl)]; rfl
  · rw [if_neg hh, if_neg (by rw [decide_eq_false hh]; decide)]

/-! ## The reference's three patterns -/

open Read in
/-- The three patterns' attentions and log-sum-exps in the whole reference. -/
theorem ref_pattern0 (r0 : FVec Ideal S2x20480x36x128 .f32) (r1 r2 : FVec Ideal S2x20480x18x128 .f32) (e0 e1 : FVec Ideal S2x36 .f32) :
    val_main_v85 (F := Ideal) r0 r1 r2 e0 e1 = refOut 2048#32 1#32 e0 e1 (val_main_v20 (F := Ideal) r0) (val_main_v23 (F := Ideal) r1) (val_main_v26 (F := Ideal) r2)
    ∧ val_main_v89 (F := Ideal) r0 r1 e0 = refLse 2048#32 1#32 e0 (val_main_v20 (F := Ideal) r0) (val_main_v23 (F := Ideal) r1) := ⟨rfl, rfl⟩

open Read in
theorem ref_pattern1 (r0 : FVec Ideal S2x20480x36x128 .f32) (r1 r2 : FVec Ideal S2x20480x18x128 .f32) (e0 e1 : FVec Ideal S2x36 .f32) :
    val_main_v148 (F := Ideal) r0 r1 r2 e0 e1 = refOut 6144#32 3#32 e0 e1 (val_main_v20 (F := Ideal) r0) (val_main_v23 (F := Ideal) r1) (val_main_v26 (F := Ideal) r2)
    ∧ val_main_v152 (F := Ideal) r0 r1 e0 = refLse 6144#32 3#32 e0 (val_main_v20 (F := Ideal) r0) (val_main_v23 (F := Ideal) r1) := ⟨rfl, rfl⟩

open Read in
theorem ref_pattern2 (r0 : FVec Ideal S2x20480x36x128 .f32) (r1 r2 : FVec Ideal S2x20480x18x128 .f32) (e0 e1 : FVec Ideal S2x36 .f32) :
    val_main_v211 (F := Ideal) r0 r1 r2 e0 e1 = refOut 18432#32 9#32 e0 e1 (val_main_v20 (F := Ideal) r0) (val_main_v23 (F := Ideal) r1) (val_main_v26 (F := Ideal) r2)
    ∧ val_main_v215 (F := Ideal) r0 r1 e0 = refLse 18432#32 9#32 e0 (val_main_v20 (F := Ideal) r0) (val_main_v23 (F := Ideal) r1) := ⟨rfl, rfl⟩

end Cert.Dilated

end
-- ==== Proof.RefWhole.lean ====
/-
  The whole kernel's reference, read: its two results are the patterns' attention and log-sum-exps over the whole sequence,
  combined (`ref_out`, `ref_lse`).
-/
module

public import proofs.«01_k».proof.Proof.Widen
public import proofs.«01_k».proof.Proof.RefPattern
public import proofs.«01_k».proof.Proof.Combine
public import proofs.«01_k».proof.Proof.Gen.ReferenceIdeal.Run
public import proofs.«01_k».proof.Proof.Gen.ReferenceIdeal.Read
public import Idealize.ShloMosaic.Lib.Pipeline.ValueKit

@[expose] public section

set_option maxRecDepth 16384
set_option maxHeartbeats 4000000

noncomputable section

namespace Cert.Dilated.Whole

open Idealize.ShloMosaic hiding ix1 ix2 ix3 ix4 ix5 ix6
open Idealize.ShloMosaic.ValueIdx Idealize.ShloMosaic.TcCoe Idealize.ShloMosaic.Tactic Idealize.SL Idealize.SL.Sem
open Cert.ReferenceIdeal Cert.ReferenceIdeal.Gen

variable (m : (ℓ : Loc nD τ sig) → Buf (Elt Ideal) ℓ)

/-! ## The widened codes are the codes -/

theorem out_q (x0 : Vec Ideal S2x20480x36x128 .fp8e4m3) (x1 x2 : Vec Ideal S2x20480x18x128 .fp8e4m3) :
    out0_3 x0 x1 x2 = (fun y => x0 y : Vec Ideal S2x20480x36x128 .f32) := by
  funext y
  unfold out0_3 k0_pay1
  exact canon_widen r0_0 x0 _ y (cover0_3 _ y)
theorem reg_q (c : Dev nD) : Value.reg_main_v19_0 m c = m ((c.tc : Thread nD τ).loc main_arg0) := by
  unfold Value.reg_main_v19_0
  refine (dats m 0 c).arrAt_eq_of_covers 3 _ (by decide +kernel) fun t hf y => ?_
  rw [after0_3, out_q]
  unfold iblk
  blk_simp
  exact congrFun (V_main_arg0 m c) _

theorem out_k (x0 : Vec Ideal S2x20480x36x128 .fp8e4m3) (x1 x2 : Vec Ideal S2x20480x18x128 .fp8e4m3) :
    out0_4 x0 x1 x2 = (fun y => x1 y : Vec Ideal S2x20480x18x128 .f32) := by
  funext y
  unfold out0_4 k0_pay2
  exact canon_widen r0_1 x1 _ y (cover0_4 _ y)
theorem reg_k (c : Dev nD) : Value.reg_main_v19_1 m c = m ((c.tc : Thread nD τ).loc main_arg1) := by
  unfold Value.reg_main_v19_1
  refine (dats m 0 c).arrAt_eq_of_covers 4 _ (by decide +kernel) fun t hf y => ?_
  rw [after0_4, out_k]
  unfold iblk
  blk_simp
  exact congrFun (V_main_arg1 m c) _

theorem out_v (x0 : Vec Ideal S2x20480x36x128 .fp8e4m3) (x1 x2 : Vec Ideal S2x20480x18x128 .fp8e4m3) :
    out0_5 x0 x1 x2 = (fun y => x2 y : Vec Ideal S2x20480x18x128 .f32) := by
  funext y
  unfold out0_5 k0_pay3
  exact canon_widen r0_1 x2 _ y (cover0_5 _ y)
theorem reg_v (c : Dev nD) : Value.reg_main_v19_2 m c = m ((c.tc : Thread nD τ).loc main_arg2) := by
  unfold Value.reg_main_v19_2
  refine (dats m 0 c).arrAt_eq_of_covers 5 _ (by decide +kernel) fun t hf y => ?_
  rw [after0_5, out_v]
  unfold iblk
  blk_simp
  exact congrFun (V_main_arg2 m c) _

/-! ## The results, of the patterns -/

variable (r0 : FVec Ideal S2x20480x36x128 .f32) (r1 r2 : FVec Ideal S2x20480x18x128 .f32) (e0 e1 : FVec Ideal S2x36 .f32)

theorem numbers0 : PatternNumbers 2048 1 := by constructor <;> decide
theorem numbers1 : PatternNumbers 6144 3 := by constructor <;> decide
theorem numbers2 : PatternNumbers 18432 9 := by constructor <;> decide

/-- The combination of the three patterns' attention and log-sum-exps over the whole sequence. -/
def wholeLse (c : FVec Ideal S2x36 .f32) (q k : FVec Ideal S2x36x20480x128 .f32) : FVec Ideal S2x20480x36 .f32 :=
  combineLse (dilLse 2048 1 c q k) (dilLse 6144 3 c q k) (dilLse 18432 9 c q k)
def wholeOut (c vs : FVec Ideal S2x36 .f32) (q k v : FVec Ideal S2x36x20480x128 .f32) : FVec Ideal S2x20480x4608 .bf16 :=
  combineOut (dilLse 2048 1 c q k) (dilLse 6144 3 c q k) (dilLse 18432 9 c q k)
    (dilOut 2048 1 c vs q k v) (dilOut 6144 3 c vs q k v) (dilOut 18432 9 c vs q k v)

open Read in
theorem joint_eq : val_main_v235 (F := Ideal) r0 r1 e0 = joint (val_main_v89 (F := Ideal) r0 r1 e0) (val_main_v152 (F := Ideal) r0 r1 e0) (val_main_v215 (F := Ideal) r0 r1 e0) := rfl

open Read in
theorem lse_eq : val_main_v258 (F := Ideal) r0 r1 e0 = combineLse (val_main_v89 (F := Ideal) r0 r1 e0) (val_main_v152 (F := Ideal) r0 r1 e0) (val_main_v215 (F := Ideal) r0 r1 e0) := by
  unfold val_main_v258 combineLse
  rw [joint_eq]

open Read in
theorem out_eq : val_main_v257 (F := Ideal) r0 r1 r2 e0 e1 = combineOut (val_main_v89 (F := Ideal) r0 r1 e0) (val_main_v152 (F := Ideal) r0 r1 e0) (val_main_v215 (F := Ideal) r0 r1 e0)
    (val_main_v85 (F := Ideal) r0 r1 r2 e0 e1) (val_main_v148 (F := Ideal) r0 r1 r2 e0 e1) (val_main_v211 (F := Ideal) r0 r1 r2 e0 e1) := by
  unfold combineOut weighted
  rw [← joint_eq]
  rfl

open Read in
theorem whole_lse : val_main_v258 (F := Ideal) r0 r1 e0 = wholeLse e0 (val_main_v20 (F := Ideal) r0) (val_main_v23 (F := Ideal) r1) := by
  rw [lse_eq, (ref_pattern0 r0 r1 r1 e0 e0).2, (ref_pattern1 r0 r1 r1 e0 e0).2, (ref_pattern2 r0 r1 r1 e0 e0).2]
  unfold wholeLse
  rw [← refLse_eq numbers0, ← refLse_eq numbers1, ← refLse_eq numbers2]

/-- A pattern's attention counts only where its log-sum-exp is not `⊥`. -/
theorem weighted_congr {o o' : Attention} {l L : Sums}
    (e : ∀ (b : Fin 2) (h : Fin 36) (t : Fin 20480) (d : Fin 128), l (ix3 b h t) ≠ ⊥ → o (ix4 b h t d) = o' (ix4 b h t d)) :
    weighted o l L = weighted o' l L := by
  funext y
  obtain ⟨b, h, t, d, rfl⟩ : ∃ (b : Fin 2) (h : Fin 36) (t : Fin 20480) (d : Fin 128), y = ix4 b h t d := ⟨y 0, y 1, y 2, y 3, by
    funext a; match a with | ⟨0, _⟩ => rfl | ⟨1, _⟩ => rfl | ⟨2, _⟩ => rfl | ⟨3, _⟩ => rfl⟩
  have hw : ∀ x : Attention, weighted x l L (ix4 b h t d) = x (ix4 b h t d) * Ideal.exp (l (ix3 b h t) - L (ix3 b h t)) := fun x =>
    congrArg (x (ix4 b h t d) * ·)
      ((broadcastInDim_apply _ Cert.KernelIdeal.Gen.bcast_S2x36x20480x1_S2x36x20480x128_0_1_2_3 _ _ (ix4 b h t (0 : Fin 1)) fun a => match a with
        | ⟨0, _⟩ => rfl | ⟨1, _⟩ => rfl | ⟨2, _⟩ => rfl | ⟨3, _⟩ => rfl).trans
      (broadcastInDim_apply _ Cert.KernelIdeal.Gen.bcast_S2x36x20480_S2x36x20480x1_0_1_2 _ _ (ix3 b h t) fun a => match a with
        | ⟨0, _⟩ => rfl | ⟨1, _⟩ => rfl | ⟨2, _⟩ => rfl))
  rw [hw, hw]
  by_cases hl : l (ix3 b h t) = ⊥
  · rw [hl, exp_bot_sub, mul_zero, mul_zero]
  · rw [e b h t d hl]

theorem combineOut_congr {l0 l1 l2 : Sums} {o0 o1 o2 o0' o1' o2' : Attention}
    (e0 : ∀ (b : Fin 2) (h : Fin 36) (t : Fin 20480) (d : Fin 128), l0 (ix3 b h t) ≠ ⊥ → o0 (ix4 b h t d) = o0' (ix4 b h t d))
    (e1 : ∀ (b : Fin 2) (h : Fin 36) (t : Fin 20480) (d : Fin 128), l1 (ix3 b h t) ≠ ⊥ → o1 (ix4 b h t d) = o1' (ix4 b h t d))
    (e2 : ∀ (b : Fin 2) (h : Fin 36) (t : Fin 20480) (d : Fin 128), l2 (ix3 b h t) ≠ ⊥ → o2 (ix4 b h t d) = o2' (ix4 b h t d)) :
    combineOut l0 l1 l2 o0 o1 o2 = combineOut l0 l1 l2 o0' o1' o2' := by
  unfold combineOut
  rw [weighted_congr e0, weighted_congr e1, weighted_congr e2]

open Read in
theorem whole_out : val_main_v257 (F := Ideal) r0 r1 r2 e0 e1 = wholeOut e0 e1 (val_main_v20 (F := Ideal) r0) (val_main_v23 (F := Ideal) r1) (val_main_v26 (F := Ideal) r2) := by
  rw [out_eq, (ref_pattern0 r0 r1 r2 e0 e1).1, (ref_pattern1 r0 r1 r2 e0 e1).1, (ref_pattern2 r0 r1 r2 e0 e1).1,
    (ref_pattern0 r0 r1 r1 e0 e0).2, (ref_pattern1 r0 r1 r1 e0 e0).2, (ref_pattern2 r0 r1 r1 e0 e0).2,
    refLse_eq numbers0, refLse_eq numbers1, refLse_eq numbers2]
  exact combineOut_congr (refOut_eq numbers0 _ _ _ _ _) (refOut_eq numbers1 _ _ _ _ _) (refOut_eq numbers2 _ _ _ _ _)

end Cert.Dilated.Whole

end
-- ==== Proof.Whole.lean ====
/-
  The whole kernel against the reference on the whole sequence: both compute the three patterns' attention and log-sum-exps,
  combined (`algebraic`).
-/
module

public import proofs.«01_k».proof.Defs
public import proofs.«01_k».proof.Proof.Chain
public import proofs.«01_k».proof.Proof.KernelRun
public import proofs.«01_k».proof.Proof.RefWhole

@[expose] public section

set_option maxRecDepth 16384
set_option maxHeartbeats 4000000

noncomputable section

namespace Cert.Dilated.Whole

open Idealize.ShloMosaic hiding ix1 ix2 ix3 ix4 ix5 ix6
open Idealize.ShloMosaic.ValueIdx Idealize.ShloMosaic.TcCoe Idealize.SL Idealize.SL.Sem
open Cert.ReferenceIdeal Cert.ReferenceIdeal.Gen

section Reference
variable (m : (ℓ : Loc nD τ sig) → Buf (Elt Ideal) ℓ)

/-! ## The reference's arrays per head are the kernel's -/

open Read in
theorem queries_eq (x : FVec Ideal S2x20480x36x128 .f32) : val_main_v20 (F := Ideal) x = byHead x := rfl
open Read in
theorem keys_eq (x : FVec Ideal S2x20480x18x128 .f32) : val_main_v23 (F := Ideal) x = byHeadTwice x := rfl
open Read in
theorem values_eq (x : FVec Ideal S2x20480x18x128 .f32) : val_main_v26 (F := Ideal) x = byHeadTwice x := rfl
theorem factor_eq (c : Dev nD) : Value.exitV m c (Proc.devRef .tc main_v11)
    = scaleQK (m ((c.tc : Thread nD τ).loc main_arg3)) (m ((c.tc : Thread nD τ).loc main_arg4)) := (Value.exit_main_v11 m c).trans rfl
theorem scale_eq (c : Dev nD) : Value.exitV m c (Proc.devRef .tc main_v18) = scaleOfHead (m ((c.tc : Thread nD τ).loc main_arg5)) :=
  (Value.exit_main_v18 m c).trans rfl

/-- The reference's first result, of its arguments. -/
theorem ref_out (c : Dev nD) :
    Pipeline.afterTail₀ cfgs (dats m) 0 (V0 m) [hostOps1] c main_v257
      = wholeOut (scaleQK (m ((c.tc : Thread nD τ).loc main_arg3)) (m ((c.tc : Thread nD τ).loc main_arg4))) (scaleOfHead (m ((c.tc : Thread nD τ).loc main_arg5)))
          (byHead (m ((c.tc : Thread nD τ).loc main_arg0))) (byHeadTwice (m ((c.tc : Thread nD τ).loc main_arg1))) (byHeadTwice (m ((c.tc : Thread nD τ).loc main_arg2))) := by
  have h := (Value.fin_main_v257 m c).trans (Read.val_main_v257_eq (Value.exitV m c))
  refine Eq.trans h ?_
  rw [factor_eq, scale_eq, Value.exit_main_v19_0, Value.exit_main_v19_1, Value.exit_main_v19_2, reg_q, reg_k, reg_v]
  exact whole_out _ _ _ _ _

/-- The reference's second result, of its arguments. -/
theorem ref_lse (c : Dev nD) :
    Pipeline.afterTail₀ cfgs (dats m) 0 (V0 m) [hostOps1] c main_v258
      = wholeLse (scaleQK (m ((c.tc : Thread nD τ).loc main_arg3)) (m ((c.tc : Thread nD τ).loc main_arg4)))
          (byHead (m ((c.tc : Thread nD τ).loc main_arg0))) (byHeadTwice (m ((c.tc : Thread nD τ).loc main_arg1))) := by
  have h := (Value.fin_main_v258 m c).trans (Read.val_main_v258_eq (Value.exitV m c))
  refine Eq.trans h ?_
  rw [factor_eq, Value.exit_main_v19_0, Value.exit_main_v19_1, reg_q, reg_k]
  exact whole_lse _ _ _

end Reference

theorem wholeOut_congr {x3 y3 : FVec Ideal S2x36 .f32} {x4 y4 x5 y5 : FVec Ideal S2x18 .f32} {x0 y0 : Codes S2x20480x36x128} {x1 y1 x2 y2 : Codes S2x20480x18x128}
    (e0 : y0 = x0) (e1 : y1 = x1) (e2 : y2 = x2) (e3 : y3 = x3) (e4 : y4 = x4) (e5 : y5 = x5) :
    wholeOut (scaleQK y3 y4) (scaleOfHead y5) (byHead y0) (byHeadTwice y1) (byHeadTwice y2)
      = wholeOut (scaleQK x3 x4) (scaleOfHead x5) (byHead x0) (byHeadTwice x1) (byHeadTwice x2) := by
  subst e0 e1 e2 e3 e4 e5; rfl
theorem wholeLse_congr {x3 y3 : FVec Ideal S2x36 .f32} {x4 y4 : FVec Ideal S2x18 .f32} {x0 y0 : Codes S2x20480x36x128} {x1 y1 : Codes S2x20480x18x128}
    (e0 : y0 = x0) (e1 : y1 = x1) (e3 : y3 = x3) (e4 : y4 = x4) :
    wholeLse (scaleQK y3 y4) (byHead y0) (byHeadTwice y1) = wholeLse (scaleQK x3 x4) (byHead x0) (byHeadTwice x1) := by
  subst e0 e1 e3 e4; rfl

/-- The kernel and the reference compute the same two results over the extended reals. -/
theorem algebraic : Cert.algebraic_KernelIdeal_ReferenceIdeal := by
  intro m g m' g' _ hargs
  refine ⟨fun c => wholeOut (argC m c) (argVs m c) (argQ m c) (argK m c) (argV m c), fun c => wholeLse (argC m c) (argQ m c) (argK m c),
    (θ_run _ _ _).mono (fun r h c => ?_) (run_results m g), (θ_run _ _ _).mono (fun r h c => ?_) (Value.run m' g')⟩
  · exact ⟨(h c).1.trans (kernel_out m g c), (h c).2.1.trans (kernel_lse m g c), (h c).2.2⟩
  · obtain ⟨e0, e1, e2, e3, e4, e5⟩ := hargs c
    refine ⟨(h c).1.trans ((Value.fin_main_v257 m' c).symm.trans ((ref_out m' c).trans ?_)), (h c).2.1.trans ((Value.fin_main_v258 m' c).symm.trans ((ref_lse m' c).trans ?_)), (h c).2.2⟩
    · exact wholeOut_congr e0 e1 e2 e3 e4 e5
    · exact wholeLse_congr e0 e1 e3 e4

end Cert.Dilated.Whole

end
-- ==== Proof.lean ====
/-
  The claims put together: the frames of the kernel, of its idealization and of the reference, and that the kernel computes
  the reference's two results over the extended reals (`Whole`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Whole

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial, Cert.Dilated.Whole.algebraic⟩

end Cert.Proof

end
